-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_and_keys [hPre_finite_queries_and_keys : Cert.Pre_finite_queries_and_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_and_keys [hPre_finite_queries_and_keys : Cert.Pre_finite_queries_and_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_queries_and_keys [hKernelIdeal : Cert.KernelIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_and_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_queries_and_keys [hReferenceIdeal : Cert.ReferenceIdeal.Facts] [hPre_finite_queries_and_keys : Cert.Pre_finite_queries_and_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_and_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def preserves_Kernel_KernelIdeal : Prop :=
  True

def algebraic_KernelIdeal_ReferenceIdeal_pre_finite_queries_and_keys [hKernelIdeal : Cert.KernelIdeal.Facts] [hReferenceIdeal : Cert.ReferenceIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_and_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_v23) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v46) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_queries_and_keys : Cert.Pre_finite_queries_and_keys.Facts),
    quiescent_Kernel (hKernel := hKernel)
    ∧ quiescent_KernelIdeal (hKernelIdeal := hKernelIdeal)
    ∧ quiescent_KernelIdeal_pre_finite_queries_and_keys (hKernelIdeal := hKernelIdeal) (hPre_finite_queries_and_keys := hPre_finite_queries_and_keys)
    ∧ quiescent_ReferenceIdeal (hReferenceIdeal := hReferenceIdeal)
    ∧ quiescent_ReferenceIdeal_pre_finite_queries_and_keys (hReferenceIdeal := hReferenceIdeal) (hPre_finite_queries_and_keys := hPre_finite_queries_and_keys)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_queries_and_keys (hKernelIdeal := hKernelIdeal) (hReferenceIdeal := hReferenceIdeal) (hPre_finite_queries_and_keys := hPre_finite_queries_and_keys)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_queries_and_keys.lean ====
abbrev S16896x6144 : Shape := ⟨2, ![16896, 6144]⟩
abbrev S1 : Shape := ⟨1, ![1]⟩
abbrev S16896x3072 : Shape := ⟨2, ![16896, 3072]⟩
abbrev S_ : Shape := ⟨0, ![]⟩

class Facts : Prop where
  slices_S16896x6144_S16896x3072_0_0 : S16896x6144.Slices ![0, 0] S16896x3072
  bitsLt_bf16_f32 : FTy.bits .bf16 < FTy.bits .f32
  bcast_S_S16896x3072 : S_.BroadcastsInDim S16896x3072 (![] : Fin 0 → Fin S16896x3072.rank)

variable [Facts]

def fn {F : FTy → Type} [FloatOps F] (main_arg0 : FVec F S16896x6144 .bf16) (main_arg1 : IVec S1 32) : IVec S16896x3072 1 :=
  let main_v0 : FVec F S16896x3072 .bf16 := (extractStridedSlice S16896x3072 ![0, 0] · slices_S16896x6144_S16896x3072_0_0) main_arg0
  let main_v1 : FVec F S16896x3072 .f32 := (extf .f32 · bitsLt_bf16_f32) main_v0
  let main_v2 : FVec F S16896x3072 .f32 := Host.absf main_v1
  let main_cst : FVec F S_ .f32 := constant S_ .f32 0x7F800000#32
  let main_v3 : FVec F S16896x3072 .f32 := broadcastInDim S16896x3072 ![] bcast_S_S16896x3072 main_cst
  let main_v4 : IVec S16896x3072 1 := cmpf .olt main_v2 main_v3
  main_v4
-- ==== Kernel.lean ====
abbrev S16896x6144 : Shape := ⟨2, ![16896, 6144]⟩
abbrev S1 : Shape := ⟨1, ![1]⟩
abbrev S16896x2048 : Shape := ⟨2, ![16896, 2048]⟩
abbrev S384x256 : Shape := ⟨2, ![384, 256]⟩
abbrev S4224x128 : Shape := ⟨2, ![4224, 128]⟩
abbrev S128x4224 : Shape := ⟨2, ![128, 4224]⟩
abbrev S1x768 : Shape := ⟨2, ![1, 768]⟩
abbrev S128x768 : Shape := ⟨2, ![128, 768]⟩
abbrev S1040x768 : Shape := ⟨2, ![1040, 768]⟩
abbrev S128x128 : Shape := ⟨2, ![128, 128]⟩
abbrev S384x128 : Shape := ⟨2, ![384, 128]⟩
abbrev S768x128 : Shape := ⟨2, ![768, 128]⟩
abbrev S1024x128 : Shape := ⟨2, ![1024, 128]⟩
abbrev S1024x768 : Shape := ⟨2, ![1024, 768]⟩
abbrev S768 : Shape := ⟨1, ![768]⟩
abbrev S128x1024 : Shape := ⟨2, ![128, 1024]⟩
abbrev S1040x128 : Shape := ⟨2, ![1040, 128]⟩
abbrev S128x1040 : Shape := ⟨2, ![128, 1040]⟩

abbrev nBuf : Space → Nat
  | .hbm => 3
  | .vmem => 18
  | .smem => 1
  | _ => 0

abbrev bufTy : (tb : Table) → Fin (tcTables nBuf tb) → BufTy
  | .hbm, ⟨0, _⟩ => ⟨S16896x6144, .bf16⟩
  | .hbm, ⟨1, _⟩ => ⟨S1, .i32⟩
  | .hbm, ⟨2, _⟩ => ⟨S16896x2048, .bf16⟩
  | .local _ .vmem, ⟨0, _⟩ => ⟨S384x256, .bf16⟩
  | .local _ .vmem, ⟨1, _⟩ => ⟨S384x256, .bf16⟩
  | .local _ .vmem, ⟨2, _⟩ => ⟨S4224x128, .bf16⟩
  | .local _ .vmem, ⟨3, _⟩ => ⟨S4224x128, .bf16⟩
  | .local _ .vmem, ⟨4, _⟩ => ⟨S4224x128, .bf16⟩
  | .local _ .vmem, ⟨5, _⟩ => ⟨S4224x128, .bf16⟩
  | .local _ .vmem, ⟨6, _⟩ => ⟨S384x256, .bf16⟩
  | .local _ .vmem, ⟨7, _⟩ => ⟨S384x256, .bf16⟩
  | .local _ .vmem, ⟨8, _⟩ => ⟨S384x256, .bf16⟩
  | .local _ .vmem, ⟨9, _⟩ => ⟨S384x256, .bf16⟩
  | .local _ .vmem, ⟨10, _⟩ => ⟨S128x4224, .bf16⟩
  | .local _ .vmem, ⟨11, _⟩ => ⟨S1x768, .f32⟩
  | .local _ .vmem, ⟨12, _⟩ => ⟨S1x768, .f32⟩
  | .local _ .vmem, ⟨13, _⟩ => ⟨S128x768, .f32⟩
  | .local _ .vmem, ⟨14, _⟩ => ⟨S1040x768, .f32⟩
  | .local _ .vmem, ⟨15, _⟩ => ⟨S1040x768, .f32⟩
  | .local _ .vmem, ⟨16, _⟩ => ⟨S1x768, .f32⟩
  | .local _ .vmem, ⟨17, _⟩ => ⟨S1x768, .f32⟩
  | .local _ .smem, ⟨0, _⟩ => ⟨S1, .i32⟩
  | _, _ => ⟨S16896x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![353], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c351_i32 : BitVec 32 := 351#32
  let v0 : BitVec 32 := Scalar.minsi arg0 c351_i32
  let c88_i32 : BitVec 32 := 88#32
  let v1 : BitVec 32 := Scalar.divsi v0 c88_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c88_i32 c0_i32_1
  let v8 : BitVec 32 := Scalar.extui v7
  let c0_i32_2 : BitVec 32 := 0#32
  let v9 : BitVec 1 := Scalar.cmpi .slt c88_i32 c0_i32_2
  let v10 : BitVec 32 := Scalar.extui v9
  let v11 : BitVec 32 := Scalar.subi v8 v10
  let v12 : BitVec 1 := Scalar.cmpi .ne v6 v11
  let v13 : BitVec 32 := Scalar.remsi v0 c88_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c11_i32 : BitVec 32 := 11#32
  let v18 : BitVec 32 := Scalar.divsi v0 c11_i32
  let c0_i32_4 : BitVec 32 := 0#32
  let v19 : BitVec 1 := Scalar.cmpi .sgt v0 c0_i32_4
  let v20 : BitVec 32 := Scalar.extui v19
  let c0_i32_5 : BitVec 32 := 0#32
  let v21 : BitVec 1 := Scalar.cmpi .slt v0 c0_i32_5
  let v22 : BitVec 32 := Scalar.extui v21
  let v23 : BitVec 32 := Scalar.subi v20 v22
  let c0_i32_6 : BitVec 32 := 0#32
  let v24 : BitVec 1 := Scalar.cmpi .sgt c11_i32 c0_i32_6
  let v25 : BitVec 32 := Scalar.extui v24
  let c0_i32_7 : BitVec 32 := 0#32
  let v26 : BitVec 1 := Scalar.cmpi .slt c11_i32 c0_i32_7
  let v27 : BitVec 32 := Scalar.extui v26
  let v28 : BitVec 32 := Scalar.subi v25 v27
  let v29 : BitVec 1 := Scalar.cmpi .ne v23 v28
  let v30 : BitVec 32 := Scalar.remsi v0 c11_i32
  let c0_i32_8 : BitVec 32 := 0#32
  let v31 : BitVec 1 := Scalar.cmpi .ne v30 c0_i32_8
  let v32 : BitVec 1 := Scalar.andi v29 v31
  let c1_i32_9 : BitVec 32 := 1#32
  let v33 : BitVec 32 := Scalar.subi v18 c1_i32_9
  let v34 : BitVec 32 := Scalar.select v32 v33 v18
  let c8_i32 : BitVec 32 := 8#32
  let c0_i32_10 : BitVec 32 := 0#32
  let v35 : BitVec 1 := Scalar.cmpi .eq c8_i32 c0_i32_10
  let c1_i32_11 : BitVec 32 := 1#32
  let v36 : BitVec 32 := Scalar.select v35 c1_i32_11 c8_i32
  let v37 : BitVec 32 := Scalar.remsi v34 v36
  let c0_i32_12 : BitVec 32 := 0#32
  let v38 : BitVec 1 := Scalar.cmpi .ne v37 c0_i32_12
  let c0_i32_13 : BitVec 32 := 0#32
  let v39 : BitVec 1 := Scalar.cmpi .slt v37 c0_i32_13
  let c0_i32_14 : BitVec 32 := 0#32
  let v40 : BitVec 1 := Scalar.cmpi .slt v36 c0_i32_14
  let v41 : BitVec 1 := Scalar.xori v39 v40
  let v42 : BitVec 1 := Scalar.andi v41 v38
  let v43 : BitVec 32 := Scalar.addi v37 v36
  let v44 : BitVec 32 := Scalar.select v42 v43 v37
  let c11_i32_15 : BitVec 32 := 11#32
  let c0_i32_16 : BitVec 32 := 0#32
  let v45 : BitVec 1 := Scalar.cmpi .eq c11_i32_15 c0_i32_16
  let c1_i32_17 : BitVec 32 := 1#32
  let v46 : BitVec 32 := Scalar.select v45 c1_i32_17 c11_i32_15
  let v47 : BitVec 32 := Scalar.remsi v0 v46
  let c0_i32_18 : BitVec 32 := 0#32
  let v48 : BitVec 1 := Scalar.cmpi .ne v47 c0_i32_18
  let c0_i32_19 : BitVec 32 := 0#32
  let v49 : BitVec 1 := Scalar.cmpi .slt v47 c0_i32_19
  let c0_i32_20 : BitVec 32 := 0#32
  let v50 : BitVec 1 := Scalar.cmpi .slt v46 c0_i32_20
  let v51 : BitVec 1 := Scalar.xori v49 v50
  let v52 : BitVec 1 := Scalar.andi v51 v48
  let v53 : BitVec 32 := Scalar.addi v47 v46
  let v54 : BitVec 32 := Scalar.select v52 v53 v47
  let c11_i32_21 : BitVec 32 := 11#32
  let v55 : BitVec 32 := Scalar.muli v17 c11_i32_21
  let v56 : BitVec 32 := Scalar.addi v55 v54
  let c0_i32_22 : BitVec 32 := 0#32
  ![v56.toNat, v44.toNat]

def cc0_transform_2 (i : grid0.Coords) : Fin 2 → Nat :=
  let arg0 : BitVec 32 := BitVec.ofNat 32 (i 0).val
  let c351_i32 : BitVec 32 := 351#32
  let v0 : BitVec 32 := Scalar.minsi arg0 c351_i32
  let c88_i32 : BitVec 32 := 88#32
  let v1 : BitVec 32 := Scalar.divsi v0 c88_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c88_i32 c0_i32_1
  let v8 : BitVec 32 := Scalar.extui v7
  let c0_i32_2 : BitVec 32 := 0#32
  let v9 : BitVec 1 := Scalar.cmpi .slt c88_i32 c0_i32_2
  let v10 : BitVec 32 := Scalar.extui v9
  let v11 : BitVec 32 := Scalar.subi v8 v10
  let v12 : BitVec 1 := Scalar.cmpi .ne v6 v11
  let v13 : BitVec 32 := Scalar.remsi v0 c88_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c11_i32 : BitVec 32 := 11#32
  let v18 : BitVec 32 := Scalar.divsi v0 c11_i32
  let c0_i32_4 : BitVec 32 := 0#32
  let v19 : BitVec 1 := Scalar.cmpi .sgt v0 c0_i32_4
  let v20 : BitVec 32 := Scalar.extui v19
  let c0_i32_5 : BitVec 32 := 0#32
  let v21 : BitVec 1 := Scalar.cmpi .slt v0 c0_i32_5
  let v22 : BitVec 32 := Scalar.extui v21
  let v23 : BitVec 32 := Scalar.subi v20 v22
  let c0_i32_6 : BitVec 32 := 0#32
  let v24 : BitVec 1 := Scalar.cmpi .sgt c11_i32 c0_i32_6
  let v25 : BitVec 32 := Scalar.extui v24
  let c0_i32_7 : BitVec 32 := 0#32
  let v26 : BitVec 1 := Scalar.cmpi .slt c11_i32 c0_i32_7
  let v27 : BitVec 32 := Scalar.extui v26
  let v28 : BitVec 32 := Scalar.subi v25 v27
  let v29 : BitVec 1 := Scalar.cmpi .ne v23 v28
  let v30 : BitVec 32 := Scalar.remsi v0 c11_i32
  let c0_i32_8 : BitVec 32 := 0#32
  let v31 : BitVec 1 := Scalar.cmpi .ne v30 c0_i32_8
  let v32 : BitVec 1 := Scalar.andi v29 v31
  let c1_i32_9 : BitVec 32 := 1#32
  let v33 : BitVec 32 := Scalar.subi v18 c1_i32_9
  let v34 : BitVec 32 := Scalar.select v32 v33 v18
  let c8_i32 : BitVec 32 := 8#32
  let c0_i32_10 : BitVec 32 := 0#32
  let v35 : BitVec 1 := Scalar.cmpi .eq c8_i32 c0_i32_10
  let c1_i32_11 : BitVec 32 := 1#32
  let v36 : BitVec 32 := Scalar.select v35 c1_i32_11 c8_i32
  let v37 : BitVec 32 := Scalar.remsi v34 v36
  let c0_i32_12 : BitVec 32 := 0#32
  let v38 : BitVec 1 := Scalar.cmpi .ne v37 c0_i32_12
  let c0_i32_13 : BitVec 32 := 0#32
  let v39 : BitVec 1 := Scalar.cmpi .slt v37 c0_i32_13
  let c0_i32_14 : BitVec 32 := 0#32
  let v40 : BitVec 1 := Scalar.cmpi .slt v36 c0_i32_14
  let v41 : BitVec 1 := Scalar.xori v39 v40
  let v42 : BitVec 1 := Scalar.andi v41 v38
  let v43 : BitVec 32 := Scalar.addi v37 v36
  let v44 : BitVec 32 := Scalar.select v42 v43 v37
  let c11_i32_15 : BitVec 32 := 11#32
  let c0_i32_16 : BitVec 32 := 0#32
  let v45 : BitVec 1 := Scalar.cmpi .eq c11_i32_15 c0_i32_16
  let c1_i32_17 : BitVec 32 := 1#32
  let v46 : BitVec 32 := Scalar.select v45 c1_i32_17 c11_i32_15
  let v47 : BitVec 32 := Scalar.remsi v0 v46
  let c0_i32_18 : BitVec 32 := 0#32
  let v48 : BitVec 1 := Scalar.cmpi .ne v47 c0_i32_18
  let c0_i32_19 : BitVec 32 := 0#32
  let v49 : BitVec 1 := Scalar.cmpi .slt v47 c0_i32_19
  let c0_i32_20 : BitVec 32 := 0#32
  let v50 : BitVec 1 := Scalar.cmpi .slt v46 c0_i32_20
  let v51 : BitVec 1 := Scalar.xori v49 v50
  let v52 : BitVec 1 := Scalar.andi v51 v48
  let v53 : BitVec 32 := Scalar.addi v47 v46
  let v54 : BitVec 32 := Scalar.select v52 v53 v47
  let c351_i32_21 : BitVec 32 := 351#32
  let v55 : BitVec 32 := Scalar.minsi arg0 c351_i32_21
  let c88_i32_22 : BitVec 32 := 88#32
  let v56 : BitVec 32 := Scalar.divsi v55 c88_i32_22
  let c0_i32_23 : BitVec 32 := 0#32
  let v57 : BitVec 1 := Scalar.cmpi .sgt v55 c0_i32_23
  let v58 : BitVec 32 := Scalar.extui v57
  let c0_i32_24 : BitVec 32 := 0#32
  let v59 : BitVec 1 := Scalar.cmpi .slt v55 c0_i32_24
  let v60 : BitVec 32 := Scalar.extui v59
  let v61 : BitVec 32 := Scalar.subi v58 v60
  let c0_i32_25 : BitVec 32 := 0#32
  let v62 : BitVec 1 := Scalar.cmpi .sgt c88_i32_22 c0_i32_25
  let v63 : BitVec 32 := Scalar.extui v62
  let c0_i32_26 : BitVec 32 := 0#32
  let v64 : BitVec 1 := Scalar.cmpi .slt c88_i32_22 c0_i32_26
  let v65 : BitVec 32 := Scalar.extui v64
  let v66 : BitVec 32 := Scalar.subi v63 v65
  let v67 : BitVec 1 := Scalar.cmpi .ne v61 v66
  let v68 : BitVec 32 := Scalar.remsi v55 c88_i32_22
  let c0_i32_27 : BitVec 32 := 0#32
  let v69 : BitVec 1 := Scalar.cmpi .ne v68 c0_i32_27
  let v70 : BitVec 1 := Scalar.andi v67 v69
  let c1_i32_28 : BitVec 32 := 1#32
  let v71 : BitVec 32 := Scalar.subi v56 c1_i32_28
  let v72 : BitVec 32 := Scalar.select v70 v71 v56
  let c11_i32_29 : BitVec 32 := 11#32
  let v73 : BitVec 32 := Scalar.divsi v55 c11_i32_29
  let c0_i32_30 : BitVec 32 := 0#32
  let v74 : BitVec 1 := Scalar.cmpi .sgt v55 c0_i32_30
  let v75 : BitVec 32 := Scalar.extui v74
  let c0_i32_31 : BitVec 32 := 0#32
  let v76 : BitVec 1 := Scalar.cmpi .slt v55 c0_i32_31
  let v77 : BitVec 32 := Scalar.extui v76
  let v78 : BitVec 32 := Scalar.subi v75 v77
  let c0_i32_32 : BitVec 32 := 0#32
  let v79 : BitVec 1 := Scalar.cmpi .sgt c11_i32_29 c0_i32_32
  let v80 : BitVec 32 := Scalar.extui v79
  let c0_i32_33 : BitVec 32 := 0#32
  let v81 : BitVec 1 := Scalar.cmpi .slt c11_i32_29 c0_i32_33
  let v82 : BitVec 32 := Scalar.extui v81
  let v83 : BitVec 32 := Scalar.subi v80 v82
  let v84 : BitVec 1 := Scalar.cmpi .ne v78 v83
  let v85 : BitVec 32 := Scalar.remsi v55 c11_i32_29
  let c0_i32_34 : BitVec 32 := 0#32
  let v86 : BitVec 1 := Scalar.cmpi .ne v85 c0_i32_34
  let v87 : BitVec 1 := Scalar.andi v84 v86
  let c1_i32_35 : BitVec 32 := 1#32
  let v88 : BitVec 32 := Scalar.subi v73 c1_i32_35
  let v89 : BitVec 32 := Scalar.select v87 v88 v73
  let c8_i32_36 : BitVec 32 := 8#32
  let c0_i32_37 : BitVec 32 := 0#32
  let v90 : BitVec 1 := Scalar.cmpi .eq c8_i32_36 c0_i32_37
  let c1_i32_38 : BitVec 32 := 1#32
  let v91 : BitVec 32 := Scalar.select v90 c1_i32_38 c8_i32_36
  let v92 : BitVec 32 := Scalar.remsi v89 v91
  let c0_i32_39 : BitVec 32 := 0#32
  let v93 : BitVec 1 := Scalar.cmpi .ne v92 c0_i32_39
  let c0_i32_40 : BitVec 32 := 0#32
  let v94 : BitVec 1 := Scalar.cmpi .slt v92 c0_i32_40
  let c0_i32_41 : BitVec 32 := 0#32
  let v95 : BitVec 1 := Scalar.cmpi .slt v91 c0_i32_41
  let v96 : BitVec 1 := Scalar.xori v94 v95
  let v97 : BitVec 1 := Scalar.andi v96 v93
  let v98 : BitVec 32 := Scalar.addi v92 v91
  let v99 : BitVec 32 := Scalar.select v97 v98 v92
  let c11_i32_42 : BitVec 32 := 11#32
  let c0_i32_43 : BitVec 32 := 0#32
  let v100 : BitVec 1 := Scalar.cmpi .eq c11_i32_42 c0_i32_43
  let c1_i32_44 : BitVec 32 := 1#32
  let v101 : BitVec 32 := Scalar.select v100 c1_i32_44 c11_i32_42
  let v102 : BitVec 32 := Scalar.remsi v55 v101
  let c0_i32_45 : BitVec 32 := 0#32
  let v103 : BitVec 1 := Scalar.cmpi .ne v102 c0_i32_45
  let c0_i32_46 : BitVec 32 := 0#32
  let v104 : BitVec 1 := Scalar.cmpi .slt v102 c0_i32_46
  let c0_i32_47 : BitVec 32 := 0#32
  let v105 : BitVec 1 := Scalar.cmpi .slt v101 c0_i32_47
  let v106 : BitVec 1 := Scalar.xori v104 v105
  let v107 : BitVec 1 := Scalar.andi v106 v103
  let v108 : BitVec 32 := Scalar.addi v102 v101
  let v109 : BitVec 32 := Scalar.select v107 v108 v102
  let c16_i32 : BitVec 32 := 16#32
  let v110 : BitVec 32 := Scalar.addi c16_i32 v99
  let c0_i32_48 : BitVec 32 := 0#32
  ![v17.toNat, v110.toNat]

def cc0_transform_3 (i : grid0.Coords) : Fin 2 → Nat :=
  let arg0 : BitVec 32 := BitVec.ofNat 32 (i 0).val
  let c351_i32 : BitVec 32 := 351#32
  let v0 : BitVec 32 := Scalar.minsi arg0 c351_i32
  let c88_i32 : BitVec 32 := 88#32
  let v1 : BitVec 32 := Scalar.divsi v0 c88_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c88_i32 c0_i32_1
  let v8 : BitVec 32 := Scalar.extui v7
  let c0_i32_2 : BitVec 32 := 0#32
  let v9 : BitVec 1 := Scalar.cmpi .slt c88_i32 c0_i32_2
  let v10 : BitVec 32 := Scalar.extui v9
  let v11 : BitVec 32 := Scalar.subi v8 v10
  let v12 : BitVec 1 := Scalar.cmpi .ne v6 v11
  let v13 : BitVec 32 := Scalar.remsi v0 c88_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c11_i32 : BitVec 32 := 11#32
  let v18 : BitVec 32 := Scalar.divsi v0 c11_i32
  let c0_i32_4 : BitVec 32 := 0#32
  let v19 : BitVec 1 := Scalar.cmpi .sgt v0 c0_i32_4
  let v20 : BitVec 32 := Scalar.extui v19
  let c0_i32_5 : BitVec 32 := 0#32
  let v21 : BitVec 1 := Scalar.cmpi .slt v0 c0_i32_5
  let v22 : BitVec 32 := Scalar.extui v21
  let v23 : BitVec 32 := Scalar.subi v20 v22
  let c0_i32_6 : BitVec 32 := 0#32
  let v24 : BitVec 1 := Scalar.cmpi .sgt c11_i32 c0_i32_6
  let v25 : BitVec 32 := Scalar.extui v24
  let c0_i32_7 : BitVec 32 := 0#32
  let v26 : BitVec 1 := Scalar.cmpi .slt c11_i32 c0_i32_7
  let v27 : BitVec 32 := Scalar.extui v26
  let v28 : BitVec 32 := Scalar.subi v25 v27
  let v29 : BitVec 1 := Scalar.cmpi .ne v23 v28
  let v30 : BitVec 32 := Scalar.remsi v0 c11_i32
  let c0_i32_8 : BitVec 32 := 0#32
  let v31 : BitVec 1 := Scalar.cmpi .ne v30 c0_i32_8
  let v32 : BitVec 1 := Scalar.andi v29 v31
  let c1_i32_9 : BitVec 32 := 1#32
  let v33 : BitVec 32 := Scalar.subi v18 c1_i32_9
  let v34 : BitVec 32 := Scalar.select v32 v33 v18
  let c8_i32 : BitVec 32 := 8#32
  let c0_i32_10 : BitVec 32 := 0#32
  let v35 : BitVec 1 := Scalar.cmpi .eq c8_i32 c0_i32_10
  let c1_i32_11 : BitVec 32 := 1#32
  let v36 : BitVec 32 := Scalar.select v35 c1_i32_11 c8_i32
  let v37 : BitVec 32 := Scalar.remsi v34 v36
  let c0_i32_12 : BitVec 32 := 0#32
  let v38 : BitVec 1 := Scalar.cmpi .ne v37 c0_i32_12
  let c0_i32_13 : BitVec 32 := 0#32
  let v39 : BitVec 1 := Scalar.cmpi .slt v37 c0_i32_13
  let c0_i32_14 : BitVec 32 := 0#32
  let v40 : BitVec 1 := Scalar.cmpi .slt v36 c0_i32_14
  let v41 : BitVec 1 := Scalar.xori v39 v40
  let v42 : BitVec 1 := Scalar.andi v41 v38
  let v43 : BitVec 32 := Scalar.addi v37 v36
  let v44 : BitVec 32 := Scalar.select v42 v43 v37
  let c11_i32_15 : BitVec 32 := 11#32
  let c0_i32_16 : BitVec 32 := 0#32
  let v45 : BitVec 1 := Scalar.cmpi .eq c11_i32_15 c0_i32_16
  let c1_i32_17 : BitVec 32 := 1#32
  let v46 : BitVec 32 := Scalar.select v45 c1_i32_17 c11_i32_15
  let v47 : BitVec 32 := Scalar.remsi v0 v46
  let c0_i32_18 : BitVec 32 := 0#32
  let v48 : BitVec 1 := Scalar.cmpi .ne v47 c0_i32_18
  let c0_i32_19 : BitVec 32 := 0#32
  let v49 : BitVec 1 := Scalar.cmpi .slt v47 c0_i32_19
  let c0_i32_20 : BitVec 32 := 0#32
  let v50 : BitVec 1 := Scalar.cmpi .slt v46 c0_i32_20
  let v51 : BitVec 1 := Scalar.xori v49 v50
  let v52 : BitVec 1 := Scalar.andi v51 v48
  let v53 : BitVec 32 := Scalar.addi v47 v46
  let v54 : BitVec 32 := Scalar.select v52 v53 v47
  let c351_i32_21 : BitVec 32 := 351#32
  let v55 : BitVec 32 := Scalar.minsi arg0 c351_i32_21
  let c88_i32_22 : BitVec 32 := 88#32
  let v56 : BitVec 32 := Scalar.divsi v55 c88_i32_22
  let c0_i32_23 : BitVec 32 := 0#32
  let v57 : BitVec 1 := Scalar.cmpi .sgt v55 c0_i32_23
  let v58 : BitVec 32 := Scalar.extui v57
  let c0_i32_24 : BitVec 32 := 0#32
  let v59 : BitVec 1 := Scalar.cmpi .slt v55 c0_i32_24
  let v60 : BitVec 32 := Scalar.extui v59
  let v61 : BitVec 32 := Scalar.subi v58 v60
  let c0_i32_25 : BitVec 32 := 0#32
  let v62 : BitVec 1 := Scalar.cmpi .sgt c88_i32_22 c0_i32_25
  let v63 : BitVec 32 := Scalar.extui v62
  let c0_i32_26 : BitVec 32 := 0#32
  let v64 : BitVec 1 := Scalar.cmpi .slt c88_i32_22 c0_i32_26
  let v65 : BitVec 32 := Scalar.extui v64
  let v66 : BitVec 32 := Scalar.subi v63 v65
  let v67 : BitVec 1 := Scalar.cmpi .ne v61 v66
  let v68 : BitVec 32 := Scalar.remsi v55 c88_i32_22
  let c0_i32_27 : BitVec 32 := 0#32
  let v69 : BitVec 1 := Scalar.cmpi .ne v68 c0_i32_27
  let v70 : BitVec 1 := Scalar.andi v67 v69
  let c1_i32_28 : BitVec 32 := 1#32
  let v71 : BitVec 32 := Scalar.subi v56 c1_i32_28
  let v72 : BitVec 32 := Scalar.select v70 v71 v56
  let c11_i32_29 : BitVec 32 := 11#32
  let v73 : BitVec 32 := Scalar.divsi v55 c11_i32_29
  let c0_i32_30 : BitVec 32 := 0#32
  let v74 : BitVec 1 := Scalar.cmpi .sgt v55 c0_i32_30
  let v75 : BitVec 32 := Scalar.extui v74
  let c0_i32_31 : BitVec 32 := 0#32
  let v76 : BitVec 1 := Scalar.cmpi .slt v55 c0_i32_31
  let v77 : BitVec 32 := Scalar.extui v76
  let v78 : BitVec 32 := Scalar.subi v75 v77
  let c0_i32_32 : BitVec 32 := 0#32
  let v79 : BitVec 1 := Scalar.cmpi .sgt c11_i32_29 c0_i32_32
  let v80 : BitVec 32 := Scalar.extui v79
  let c0_i32_33 : BitVec 32 := 0#32
  let v81 : BitVec 1 := Scalar.cmpi .slt c11_i32_29 c0_i32_33
  let v82 : BitVec 32 := Scalar.extui v81
  let v83 : BitVec 32 := Scalar.subi v80 v82
  let v84 : BitVec 1 := Scalar.cmpi .ne v78 v83
  let v85 : BitVec 32 := Scalar.remsi v55 c11_i32_29
  let c0_i32_34 : BitVec 32 := 0#32
  let v86 : BitVec 1 := Scalar.cmpi .ne v85 c0_i32_34
  let v87 : BitVec 1 := Scalar.andi v84 v86
  let c1_i32_35 : BitVec 32 := 1#32
  let v88 : BitVec 32 := Scalar.subi v73 c1_i32_35
  let v89 : BitVec 32 := Scalar.select v87 v88 v73
  let c8_i32_36 : BitVec 32 := 8#32
  let c0_i32_37 : BitVec 32 := 0#32
  let v90 : BitVec 1 := Scalar.cmpi .eq c8_i32_36 c0_i32_37
  let c1_i32_38 : BitVec 32 := 1#32
  let v91 : BitVec 32 := Scalar.select v90 c1_i32_38 c8_i32_36
  let v92 : BitVec 32 := Scalar.remsi v89 v91
  let c0_i32_39 : BitVec 32 := 0#32
  let v93 : BitVec 1 := Scalar.cmpi .ne v92 c0_i32_39
  let c0_i32_40 : BitVec 32 := 0#32
  let v94 : BitVec 1 := Scalar.cmpi .slt v92 c0_i32_40
  let c0_i32_41 : BitVec 32 := 0#32
  let v95 : BitVec 1 := Scalar.cmpi .slt v91 c0_i32_41
  let v96 : BitVec 1 := Scalar.xori v94 v95
  let v97 : BitVec 1 := Scalar.andi v96 v93
  let v98 : BitVec 32 := Scalar.addi v92 v91
  let v99 : BitVec 32 := Scalar.select v97 v98 v92
  let c11_i32_42 : BitVec 32 := 11#32
  let c0_i32_43 : BitVec 32 := 0#32
  let v100 : BitVec 1 := Scalar.cmpi .eq c11_i32_42 c0_i32_43
  let c1_i32_44 : BitVec 32 := 1#32
  let v101 : BitVec 32 := Scalar.select v100 c1_i32_44 c11_i32_42
  let v102 : BitVec 32 := Scalar.remsi v55 v101
  let c0_i32_45 : BitVec 32 := 0#32
  let v103 : BitVec 1 := Scalar.cmpi .ne v102 c0_i32_45
  let c0_i32_46 : BitVec 32 := 0#32
  let v104 : BitVec 1 := Scalar.cmpi .slt v102 c0_i32_46
  let c0_i32_47 : BitVec 32 := 0#32
  let v105 : BitVec 1 := Scalar.cmpi .slt v101 c0_i32_47
  let v106 : BitVec 1 := Scalar.xori v104 v105
  let v107 : BitVec 1 := Scalar.andi v106 v103
  let v108 : BitVec 32 := Scalar.addi v102 v101
  let v109 : BitVec 32 := Scalar.select v107 v108 v102
  let c24_i32 : BitVec 32 := 24#32
  let v110 : BitVec 32 := Scalar.addi c24_i32 v99
  let c0_i32_48 : BitVec 32 := 0#32
  ![v17.toNat, v110.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c351_i32 : BitVec 32 := 351#32
  let v2 : BitVec 32 := Scalar.minsi v1 c351_i32
  let c88_i32 : BitVec 32 := 88#32
  let v3 : BitVec 32 := Scalar.divsi v2 c88_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c88_i32 c0_i32_2
  let v10 : BitVec 32 := Scalar.extui v9
  let c0_i32_3 : BitVec 32 := 0#32
  let v11 : BitVec 1 := Scalar.cmpi .slt c88_i32 c0_i32_3
  let v12 : BitVec 32 := Scalar.extui v11
  let v13 : BitVec 32 := Scalar.subi v10 v12
  let v14 : BitVec 1 := Scalar.cmpi .ne v8 v13
  let v15 : BitVec 32 := Scalar.remsi v2 c88_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c11_i32 : BitVec 32 := 11#32
  let v20 : BitVec 32 := Scalar.divsi v2 c11_i32
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c0_i32_8 : BitVec 32 := 0#32
  let v26 : BitVec 1 := Scalar.cmpi .sgt c11_i32 c0_i32_8
  let v27 : BitVec 32 := Scalar.extui v26
  let c0_i32_9 : BitVec 32 := 0#32
  let v28 : BitVec 1 := Scalar.cmpi .slt c11_i32 c0_i32_9
  let v29 : BitVec 32 := Scalar.extui v28
  let v30 : BitVec 32 := Scalar.subi v27 v29
  let v31 : BitVec 1 := Scalar.cmpi .ne v25 v30
  let v32 : BitVec 32 := Scalar.remsi v2 c11_i32
  let c0_i32_10 : BitVec 32 := 0#32
  let v33 : BitVec 1 := Scalar.cmpi .ne v32 c0_i32_10
  let v34 : BitVec 1 := Scalar.andi v31 v33
  let c1_i32_11 : BitVec 32 := 1#32
  let v35 : BitVec 32 := Scalar.subi v20 c1_i32_11
  let v36 : BitVec 32 := Scalar.select v34 v35 v20
  let c8_i32 : BitVec 32 := 8#32
  let c0_i32_12 : BitVec 32 := 0#32
  let v37 : BitVec 1 := Scalar.cmpi .eq c8_i32 c0_i32_12
  let c1_i32_13 : BitVec 32 := 1#32
  let v38 : BitVec 32 := Scalar.select v37 c1_i32_13 c8_i32
  let v39 : BitVec 32 := Scalar.remsi v36 v38
  let c0_i32_14 : BitVec 32 := 0#32
  let v40 : BitVec 1 := Scalar.cmpi .ne v39 c0_i32_14
  let c0_i32_15 : BitVec 32 := 0#32
  let v41 : BitVec 1 := Scalar.cmpi .slt v39 c0_i32_15
  let c0_i32_16 : BitVec 32 := 0#32
  let v42 : BitVec 1 := Scalar.cmpi .slt v38 c0_i32_16
  let v43 : BitVec 1 := Scalar.xori v41 v42
  let v44 : BitVec 1 := Scalar.andi v43 v40
  let v45 : BitVec 32 := Scalar.addi v39 v38
  let v46 : BitVec 32 := Scalar.select v44 v45 v39
  let c11_i32_17 : BitVec 32 := 11#32
  let c0_i32_18 : BitVec 32 := 0#32
  let v47 : BitVec 1 := Scalar.cmpi .eq c11_i32_17 c0_i32_18
  let c1_i32_19 : BitVec 32 := 1#32
  let v48 : BitVec 32 := Scalar.select v47 c1_i32_19 c11_i32_17
  let v49 : BitVec 32 := Scalar.remsi v2 v48
  let c0_i32_20 : BitVec 32 := 0#32
  let v50 : BitVec 1 := Scalar.cmpi .ne v49 c0_i32_20
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let v54 : BitVec 1 := Scalar.andi v53 v50
  let v55 : BitVec 32 := Scalar.addi v49 v48
  let v56 : BitVec 32 := Scalar.select v54 v55 v49
  let c11_i32_23 : BitVec 32 := 11#32
  let v57 : BitVec 32 := Scalar.muli v19 c11_i32_23
  let v58 : BitVec 32 := Scalar.addi v57 v56
  let c16_i32 : BitVec 32 := 16#32
  let v59 : BitVec 32 := Scalar.addi c16_i32 v46
  let c0_i32_24 : BitVec 32 := 0#32
  ![v58.toNat, v59.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c351_i32 : BitVec 32 := 351#32
  let v2 : BitVec 32 := Scalar.minsi v1 c351_i32
  let c88_i32 : BitVec 32 := 88#32
  let v3 : BitVec 32 := Scalar.divsi v2 c88_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c88_i32 c0_i32_2
  let v10 : BitVec 32 := Scalar.extui v9
  let c0_i32_3 : BitVec 32 := 0#32
  let v11 : BitVec 1 := Scalar.cmpi .slt c88_i32 c0_i32_3
  let v12 : BitVec 32 := Scalar.extui v11
  let v13 : BitVec 32 := Scalar.subi v10 v12
  let v14 : BitVec 1 := Scalar.cmpi .ne v8 v13
  let v15 : BitVec 32 := Scalar.remsi v2 c88_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c11_i32 : BitVec 32 := 11#32
  let v20 : BitVec 32 := Scalar.divsi v2 c11_i32
  let c0_i32_6 : BitVec 32 := 0#32
  let v21 : BitVec 1 := Scalar.cmpi .sgt v2 c0_i32_6
  let v22 : BitVec 32 := Scalar.extui v21
  let c0_i32_7 : BitVec 32 := 0#32
  let v23 : BitVec 1 := Scalar.cmpi .slt v2 c0_i32_7
  let v24 : BitVec 32 := Scalar.extui v23
  let v25 : BitVec 32 := Scalar.subi v22 v24
  let c0_i32_8 : BitVec 32 := 0#32
  let v26 : BitVec 1 := Scalar.cmpi .sgt c11_i32 c0_i32_8
  let v27 : BitVec 32 := Scalar.extui v26
  let c0_i32_9 : BitVec 32 := 0#32
  let v28 : BitVec 1 := Scalar.cmpi .slt c11_i32 c0_i32_9
  let v29 : BitVec 32 := Scalar.extui v28
  let v30 : BitVec 32 := Scalar.subi v27 v29
  let v31 : BitVec 1 := Scalar.cmpi .ne v25 v30
  let v32 : BitVec 32 := Scalar.remsi v2 c11_i32
  let c0_i32_10 : BitVec 32 := 0#32
  let v33 : BitVec 1 := Scalar.cmpi .ne v32 c0_i32_10
  let v34 : BitVec 1 := Scalar.andi v31 v33
  let c1_i32_11 : BitVec 32 := 1#32
  let v35 : BitVec 32 := Scalar.subi v20 c1_i32_11
  let v36 : BitVec 32 := Scalar.select v34 v35 v20
  let c8_i32 : BitVec 32 := 8#32
  let c0_i32_12 : BitVec 32 := 0#32
  let v37 : BitVec 1 := Scalar.cmpi .eq c8_i32 c0_i32_12
  let c1_i32_13 : BitVec 32 := 1#32
  let v38 : BitVec 32 := Scalar.select v37 c1_i32_13 c8_i32
  let v39 : BitVec 32 := Scalar.remsi v36 v38
  let c0_i32_14 : BitVec 32 := 0#32
  let v40 : BitVec 1 := Scalar.cmpi .ne v39 c0_i32_14
  let c0_i32_15 : BitVec 32 := 0#32
  let v41 : BitVec 1 := Scalar.cmpi .slt v39 c0_i32_15
  let c0_i32_16 : BitVec 32 := 0#32
  let v42 : BitVec 1 := Scalar.cmpi .slt v38 c0_i32_16
  let v43 : BitVec 1 := Scalar.xori v41 v42
  let v44 : BitVec 1 := Scalar.andi v43 v40
  let v45 : BitVec 32 := Scalar.addi v39 v38
  let v46 : BitVec 32 := Scalar.select v44 v45 v39
  let c11_i32_17 : BitVec 32 := 11#32
  let c0_i32_18 : BitVec 32 := 0#32
  let v47 : BitVec 1 := Scalar.cmpi .eq c11_i32_17 c0_i32_18
  let c1_i32_19 : BitVec 32 := 1#32
  let v48 : BitVec 32 := Scalar.select v47 c1_i32_19 c11_i32_17
  let v49 : BitVec 32 := Scalar.remsi v2 v48
  let c0_i32_20 : BitVec 32 := 0#32
  let v50 : BitVec 1 := Scalar.cmpi .ne v49 c0_i32_20
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let v54 : BitVec 1 := Scalar.andi v53 v50
  let v55 : BitVec 32 := Scalar.addi v49 v48
  let v56 : BitVec 32 := Scalar.select v54 v55 v49
  let c11_i32_23 : BitVec 32 := 11#32
  let v57 : BitVec 32 := Scalar.muli v19 c11_i32_23
  let v58 : BitVec 32 := Scalar.addi v57 v56
  let c0_i32_24 : BitVec 32 := 0#32
  let v59 : BitVec 32 := Scalar.addi c0_i32_24 v46
  let c0_i32_25 : BitVec 32 := 0#32
  ![v58.toNat, v59.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S384x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4224x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4224x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S16896x6144 : Shape := ⟨2, ![16896, 6144]⟩
abbrev S1 : Shape := ⟨1, ![1]⟩
abbrev S4x4224x6144 : Shape := ⟨3, ![4, 4224, 6144]⟩
abbrev S4x4224x2048 : Shape := ⟨3, ![4, 4224, 2048]⟩
abbrev S4x4224x1024 : Shape := ⟨3, ![4, 4224, 1024]⟩
abbrev S4x4224x8x2x128 : Shape := ⟨5, ![4, 4224, 8, 2, 128]⟩
abbrev S4x4112x1024 : Shape := ⟨3, ![4, 4112, 1024]⟩
abbrev S4x4112x8x128 : Shape := ⟨4, ![4, 4112, 8, 128]⟩
abbrev S4x8x4112x4224x2 : Shape := ⟨5, ![4, 8, 4112, 4224, 2]⟩
abbrev S4x8x2x4224x4112 : Shape := ⟨5, ![4, 8, 2, 4224, 4112]⟩
abbrev S_ : Shape := ⟨0, ![]⟩
abbrev S4x8x2x4224 : Shape := ⟨4, ![4, 8, 2, 4224]⟩
abbrev S4x8x2x4224x1 : Shape := ⟨5, ![4, 8, 2, 4224, 1]⟩
abbrev S4x8x128x2x4224 : Shape := ⟨5, ![4, 8, 128, 2, 4224]⟩
abbrev S16896x2048 : Shape := ⟨2, ![16896, 2048]⟩

abbrev nBuf : Space → Nat
  | .hbm => 48
  | .vmem => 0
  | .smem => 0
  | _ => 0

abbrev bufTy : (tb : Table) → Fin (tcTables nBuf tb) → BufTy
  | .hbm, ⟨0, _⟩ => ⟨S16896x6144, .bf16⟩
  | .hbm, ⟨1, _⟩ => ⟨S1, .i32⟩
  | .hbm, ⟨2, _⟩ => ⟨S16896x6144, .f32⟩
  | .hbm, ⟨3, _⟩ => ⟨S4x4224x6144, .f32⟩
  | .hbm, ⟨4, _⟩ => ⟨S4x4224x2048, .f32⟩
  | .hbm, ⟨5, _⟩ => ⟨S4x4224x1024, .f32⟩
  | .hbm, ⟨6, _⟩ => ⟨S4x4224x1024, .f32⟩
  | .hbm, ⟨7, _⟩ => ⟨S4x4224x2048, .f32⟩
  | .hbm, ⟨8, _⟩ => ⟨S4x4224x8x2x128, .f32⟩
  | .hbm, ⟨9, _⟩ => ⟨S4x4112x1024, .f32⟩
  | .hbm, ⟨10, _⟩ => ⟨S4x4112x8x128, .f32⟩
  | .hbm, ⟨11, _⟩ => ⟨S4x4112x1024, .f32⟩
  | .hbm, ⟨12, _⟩ => ⟨S4x4112x8x128, .f32⟩
  | .hbm, ⟨13, _⟩ => ⟨S4x8x4112x4224x2, .f32⟩
  | .hbm, ⟨14, _⟩ => ⟨S4x8x2x4224x4112, .f32⟩
  | .hbm, ⟨15, _⟩ => ⟨S_, .f32⟩
  | .hbm, ⟨16, _⟩ => ⟨S_, .f32⟩
  | .hbm, ⟨17, _⟩ => ⟨S4x8x2x4224x4112, .f32⟩
  | .hbm, ⟨18, _⟩ => ⟨S4x8x2x4224x4112, .f32⟩
  | .hbm, ⟨19, _⟩ => ⟨S_, .f32⟩
  | .hbm, ⟨20, _⟩ => ⟨S4x8x2x4224, .f32⟩
  | .hbm, ⟨21, _⟩ => ⟨S_, .f32⟩
  | .hbm, ⟨22, _⟩ => ⟨S4x8x2x4224, .f32⟩
  | .hbm, ⟨23, _⟩ => ⟨S4x8x2x4224, .f32⟩
  | .hbm, ⟨24, _⟩ => ⟨S4x8x2x4224x1, .f32⟩
  | .hbm, ⟨25, _⟩ => ⟨S4x8x2x4224x4112, .f32⟩
  | .hbm, ⟨26, _⟩ => ⟨S4x8x2x4224x4112, .f32⟩
  | .hbm, ⟨27, _⟩ => ⟨S4x8x2x4224x4112, .f32⟩
  | .hbm, ⟨28, _⟩ => ⟨S_, .f32⟩
  | .hbm, ⟨29, _⟩ => ⟨S4x8x2x4224, .f32⟩
  | .hbm, ⟨30, _⟩ => ⟨S4x8x2x4224x1, .f32⟩
  | .hbm, ⟨31, _⟩ => ⟨S4x8x2x4224x4112, .f32⟩
  | .hbm, ⟨32, _⟩ => ⟨S4x8x2x4224x4112, .f32⟩
  | .hbm, ⟨33, _⟩ => ⟨S4x8x128x2x4224, .f32⟩
  | .hbm, ⟨34, _⟩ => ⟨S4x4224x8x2x128, .f32⟩
  | .hbm, ⟨35, _⟩ => ⟨S4x4224x2048, .f32⟩
  | .hbm, ⟨36, _⟩ => ⟨S4x4224x2048, .f32⟩
  | .hbm, ⟨37, _⟩ => ⟨S4x4224x2048, .f32⟩
  | .hbm, ⟨38, _⟩ => ⟨S_, .f32⟩
  | .hbm, ⟨39, _⟩ => ⟨S4x4224x2048, .f32⟩
  | .hbm, ⟨40, _⟩ => ⟨S4x4224x2048, .f32⟩
  | .hbm, ⟨41, _⟩ => ⟨S_, .f32⟩
  | .hbm, ⟨42, _⟩ => ⟨S4x4224x2048, .f32⟩
  | .hbm, ⟨43, _⟩ => ⟨S4x4224x2048, .f32⟩
  | .hbm, ⟨44, _⟩ => ⟨S4x4224x2048, .f32⟩
  | .hbm, ⟨45, _⟩ => ⟨S4x4224x2048, .f32⟩
  | .hbm, ⟨46, _⟩ => ⟨S4x4224x2048, .bf16⟩
  | .hbm, ⟨47, _⟩ => ⟨S16896x2048, .bf16⟩
  | _, _ => ⟨S16896x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst_0 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_2 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]
-- ==== Kernel2.lean ====
abbrev S16896x2048 : Shape := ⟨2, ![16896, 2048]⟩
abbrev S2x2048x2048 : Shape := ⟨3, ![2, 2048, 2048]⟩
abbrev S2048 : Shape := ⟨1, ![2048]⟩
abbrev S4x4224x2048 : Shape := ⟨3, ![4, 4224, 2048]⟩
abbrev S1x2048 : Shape := ⟨2, ![1, 2048]⟩
abbrev S1x384x2048 : Shape := ⟨3, ![1, 384, 2048]⟩
abbrev S1x2048x2048 : Shape := ⟨3, ![1, 2048, 2048]⟩
abbrev S384x2048 : Shape := ⟨2, ![384, 2048]⟩
abbrev S2048x2048 : Shape := ⟨2, ![2048, 2048]⟩
abbrev S384 : Shape := ⟨1, ![384]⟩
abbrev S384x1 : Shape := ⟨2, ![384, 1]⟩

abbrev nBuf : Space → Nat
  | .hbm => 8
  | .vmem => 8
  | .smem => 0
  | _ => 0

abbrev bufTy : (tb : Table) → Fin (tcTables nBuf tb) → BufTy
  | .hbm, ⟨0, _⟩ => ⟨S16896x2048, .bf16⟩
  | .hbm, ⟨1, _⟩ => ⟨S2x2048x2048, .bf16⟩
  | .hbm, ⟨2, _⟩ => ⟨S16896x2048, .f32⟩
  | .hbm, ⟨3, _⟩ => ⟨S2048, .f32⟩
  | .hbm, ⟨4, _⟩ => ⟨S4x4224x2048, .bf16⟩
  | .hbm, ⟨5, _⟩ => ⟨S4x4224x2048, .f32⟩
  | .hbm, ⟨6, _⟩ => ⟨S1x2048, .f32⟩
  | .hbm, ⟨7, _⟩ => ⟨S4x4224x2048, .f32⟩
  | .local _ .vmem, ⟨0, _⟩ => ⟨S1x384x2048, .bf16⟩
  | .local _ .vmem, ⟨1, _⟩ => ⟨S1x384x2048, .bf16⟩
  | .local _ .vmem, ⟨2, _⟩ => ⟨S1x2048x2048, .bf16⟩
  | .local _ .vmem, ⟨3, _⟩ => ⟨S1x384x2048, .f32⟩
  | .local _ .vmem, ⟨4, _⟩ => ⟨S1x384x2048, .f32⟩
  | .local _ .vmem, ⟨5, _⟩ => ⟨S1x2048, .f32⟩
  | .local _ .vmem, ⟨6, _⟩ => ⟨S1x384x2048, .f32⟩
  | .local _ .vmem, ⟨7, _⟩ => ⟨S1x384x2048, .f32⟩
  | _, _ => ⟨S16896x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 11], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x384x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x384x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x384x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S16896x2048 : Shape := ⟨2, ![16896, 2048]⟩
abbrev S2x2048x2048 : Shape := ⟨3, ![2, 2048, 2048]⟩
abbrev S2048 : Shape := ⟨1, ![2048]⟩
abbrev S4x4224x2048 : Shape := ⟨3, ![4, 4224, 2048]⟩
abbrev S1x2048x2048 : Shape := ⟨3, ![1, 2048, 2048]⟩
abbrev S2048x2048 : Shape := ⟨2, ![2048, 2048]⟩
abbrev S_ : Shape := ⟨0, ![]⟩
abbrev S4x4224 : Shape := ⟨2, ![4, 4224]⟩
abbrev S4x4224x1 : Shape := ⟨3, ![4, 4224, 1]⟩
abbrev S1x1x2048 : Shape := ⟨3, ![1, 1, 2048]⟩

abbrev nBuf : Space → Nat
  | .hbm => 28
  | .vmem => 0
  | .smem => 0
  | _ => 0

abbrev bufTy : (tb : Table) → Fin (tcTables nBuf tb) → BufTy
  | .hbm, ⟨0, _⟩ => ⟨S16896x2048, .bf16⟩
  | .hbm, ⟨1, _⟩ => ⟨S2x2048x2048, .bf16⟩
  | .hbm, ⟨2, _⟩ => ⟨S16896x2048, .f32⟩
  | .hbm, ⟨3, _⟩ => ⟨S2048, .f32⟩
  | .hbm, ⟨4, _⟩ => ⟨S16896x2048, .f32⟩
  | .hbm, ⟨5, _⟩ => ⟨S4x4224x2048, .f32⟩
  | .hbm, ⟨6, _⟩ => ⟨S1x2048x2048, .bf16⟩
  | .hbm, ⟨7, _⟩ => ⟨S2048x2048, .bf16⟩
  | .hbm, ⟨8, _⟩ => ⟨S2048x2048, .f32⟩
  | .hbm, ⟨9, _⟩ => ⟨S4x4224x2048, .f32⟩
  | .hbm, ⟨10, _⟩ => ⟨S4x4224x2048, .f32⟩
  | .hbm, ⟨11, _⟩ => ⟨S4x4224x2048, .f32⟩
  | .hbm, ⟨12, _⟩ => ⟨S_, .f32⟩
  | .hbm, ⟨13, _⟩ => ⟨S4x4224, .f32⟩
  | .hbm, ⟨14, _⟩ => ⟨S4x4224x1, .f32⟩
  | .hbm, ⟨15, _⟩ => ⟨S_, .f32⟩
  | .hbm, ⟨16, _⟩ => ⟨S4x4224x1, .f32⟩
  | .hbm, ⟨17, _⟩ => ⟨S4x4224x1, .f32⟩
  | .hbm, ⟨18, _⟩ => ⟨S_, .f32⟩
  | .hbm, ⟨19, _⟩ => ⟨S4x4224x1, .f32⟩
  | .hbm, ⟨20, _⟩ => ⟨S4x4224x1, .f32⟩
  | .hbm, ⟨21, _⟩ => ⟨S4x4224x1, .f32⟩
  | .hbm, ⟨22, _⟩ => ⟨S4x4224x2048, .f32⟩
  | .hbm, ⟨23, _⟩ => ⟨S4x4224x2048, .f32⟩
  | .hbm, ⟨24, _⟩ => ⟨S1x1x2048, .f32⟩
  | .hbm, ⟨25, _⟩ => ⟨S4x4224x2048, .f32⟩
  | .hbm, ⟨26, _⟩ => ⟨S4x4224x2048, .f32⟩
  | .hbm, ⟨27, _⟩ => ⟨S4x4224x2048, .f32⟩
  | _, _ => ⟨S16896x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel3.lean ====
abbrev S16896x2048 : Shape := ⟨2, ![16896, 2048]⟩
abbrev S2048 : Shape := ⟨1, ![2048]⟩
abbrev S2x6144x2048 : Shape := ⟨3, ![2, 6144, 2048]⟩
abbrev S2x128x2048 : Shape := ⟨3, ![2, 128, 2048]⟩
abbrev S1x2048 : Shape := ⟨2, ![1, 2048]⟩
abbrev S16896x6144 : Shape := ⟨2, ![16896, 6144]⟩
abbrev S16896x128 : Shape := ⟨2, ![16896, 128]⟩
abbrev S128x2048 : Shape := ⟨2, ![128, 2048]⟩
abbrev S1x1024x2048 : Shape := ⟨3, ![1, 1024, 2048]⟩
abbrev S1x128x2048 : Shape := ⟨3, ![1, 128, 2048]⟩
abbrev S1408x1024 : Shape := ⟨2, ![1408, 1024]⟩
abbrev S1408x128 : Shape := ⟨2, ![1408, 128]⟩
abbrev S1408x2048 : Shape := ⟨2, ![1408, 2048]⟩
abbrev S128 : Shape := ⟨1, ![128]⟩
abbrev S128x1 : Shape := ⟨2, ![128, 1]⟩
abbrev S128x128 : Shape := ⟨2, ![128, 128]⟩
abbrev S1024x2048 : Shape := ⟨2, ![1024, 2048]⟩

abbrev nBuf : Space → Nat
  | .hbm => 7
  | .vmem => 15
  | .smem => 0
  | _ => 0

abbrev bufTy : (tb : Table) → Fin (tcTables nBuf tb) → BufTy
  | .hbm, ⟨0, _⟩ => ⟨S16896x2048, .f32⟩
  | .hbm, ⟨1, _⟩ => ⟨S2048, .f32⟩
  | .hbm, ⟨2, _⟩ => ⟨S2x6144x2048, .bf16⟩
  | .hbm, ⟨3, _⟩ => ⟨S2x128x2048, .bf16⟩
  | .hbm, ⟨4, _⟩ => ⟨S1x2048, .f32⟩
  | .hbm, ⟨5, _⟩ => ⟨S16896x6144, .bf16⟩
  | .hbm, ⟨6, _⟩ => ⟨S16896x128, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S1x2048, .f32⟩
  | .local _ .vmem, ⟨5, _⟩ => ⟨S1x1024x2048, .bf16⟩
  | .local _ .vmem, ⟨6, _⟩ => ⟨S1x1024x2048, .bf16⟩
  | .local _ .vmem, ⟨7, _⟩ => ⟨S1x128x2048, .bf16⟩
  | .local _ .vmem, ⟨8, _⟩ => ⟨S1408x1024, .bf16⟩
  | .local _ .vmem, ⟨9, _⟩ => ⟨S1408x1024, .bf16⟩
  | .local _ .vmem, ⟨10, _⟩ => ⟨S1408x128, .f32⟩
  | .local _ .vmem, ⟨11, _⟩ => ⟨S1408x128, .f32⟩
  | .local _ .vmem, ⟨12, _⟩ => ⟨S1408x2048, .bf16⟩
  | .local _ .vmem, ⟨13, _⟩ => ⟨S1408x2048, .bf16⟩
  | .local _ .vmem, ⟨14, _⟩ => ⟨S1408x1024, .f32⟩
  | _, _ => ⟨S16896x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![79], ![false]⟩

def k0_cond2 (i : grid0.Coords) : BitVec 1 :=
  let arg0 : BitVec 32 := BitVec.ofNat 32 (i 0).val
  let c6_i32 : BitVec 32 := 6#32
  let v0 : BitVec 32 := Scalar.subi arg0 c6_i32
  let c0_i32_1 : BitVec 32 := 0#32
  let v4 : BitVec 1 := Scalar.cmpi .slt v0 c0_i32_1
  let v5 : BitVec 32 := Scalar.extui v4
  let c0_i32_2 : BitVec 32 := 0#32
  let v6 : BitVec 1 := Scalar.cmpi .ne v5 c0_i32_2
  v6

def k0_mult1 (i : grid0.Coords) : BitVec 32 :=
  let arg0 : BitVec 32 := BitVec.ofNat 32 (i 0).val
  let c6_i32_23 : BitVec 32 := 6#32
  let c0_i32_24 : BitVec 32 := 0#32
  let v44 : BitVec 1 := Scalar.cmpi .eq c6_i32_23 c0_i32_24
  let c1_i32_25 : BitVec 32 := 1#32
  let v45 : BitVec 32 := Scalar.select v44 c1_i32_25 c6_i32_23
  let v46 : BitVec 32 := Scalar.remsi arg0 v45
  let c0_i32_27 : BitVec 32 := 0#32
  let v48 : BitVec 1 := Scalar.cmpi .slt v46 c0_i32_27
  let c0_i32_28 : BitVec 32 := 0#32
  let v49 : BitVec 1 := Scalar.cmpi .slt v45 c0_i32_28
  let v50 : BitVec 1 := Scalar.xori v48 v49
  let c0_i32_26 : BitVec 32 := 0#32
  let v47 : BitVec 1 := Scalar.cmpi .ne v46 c0_i32_26
  let v51 : BitVec 1 := Scalar.andi v50 v47
  let v52 : BitVec 32 := Scalar.addi v46 v45
  let v53 : BitVec 32 := Scalar.select v51 v52 v46
  let c2_i32 : BitVec 32 := 2#32
  let v54 : BitVec 32 := Scalar.muli v53 c2_i32
  let c0_i32_29 : BitVec 32 := 0#32
  let v55 : BitVec 32 := Scalar.addi v54 c0_i32_29
  let c10_i32 : BitVec 32 := 10#32
  let v56 : BitVec 32 := Scalar.minsi v55 c10_i32
  let c128_i32 : BitVec 32 := 128#32
  let v57 : BitVec 32 := Scalar.muli v56 c128_i32
  v57
def k0_off1 (i : grid0.Coords) (c0_i32_29 : BitVec 32) : Fin 2 → Nat :=
  let arg0 : BitVec 32 := BitVec.ofNat 32 (i 0).val
  let c6_i32_23 : BitVec 32 := 6#32
  let c0_i32_24 : BitVec 32 := 0#32
  let v44 : BitVec 1 := Scalar.cmpi .eq c6_i32_23 c0_i32_24
  let c1_i32_25 : BitVec 32 := 1#32
  let v45 : BitVec 32 := Scalar.select v44 c1_i32_25 c6_i32_23
  let v46 : BitVec 32 := Scalar.remsi arg0 v45
  let c0_i32_27 : BitVec 32 := 0#32
  let v48 : BitVec 1 := Scalar.cmpi .slt v46 c0_i32_27
  let c0_i32_28 : BitVec 32 := 0#32
  let v49 : BitVec 1 := Scalar.cmpi .slt v45 c0_i32_28
  let v50 : BitVec 1 := Scalar.xori v48 v49
  let c0_i32_26 : BitVec 32 := 0#32
  let v47 : BitVec 1 := Scalar.cmpi .ne v46 c0_i32_26
  let v51 : BitVec 1 := Scalar.andi v50 v47
  let v52 : BitVec 32 := Scalar.addi v46 v45
  let v53 : BitVec 32 := Scalar.select v51 v52 v46
  let c2_i32 : BitVec 32 := 2#32
  let v54 : BitVec 32 := Scalar.muli v53 c2_i32
  let v55 : BitVec 32 := Scalar.addi v54 c0_i32_29
  let c10_i32 : BitVec 32 := 10#32
  let v56 : BitVec 32 := Scalar.minsi v55 c10_i32
  let c128_i32 : BitVec 32 := 128#32
  let v57 : BitVec 32 := Scalar.muli v56 c128_i32
  let v58 : BitVec 32 := v57
  let v75 : Index := Scalar.indexCast v58
  let c0_35 : Index := 0#32
  ![v75.toNat, 0]
def k0_off2 (i : grid0.Coords) (c0_i32_29 : BitVec 32) : Fin 2 → Nat :=
  let arg0 : BitVec 32 := BitVec.ofNat 32 (i 0).val
  let c6_i32_23 : BitVec 32 := 6#32
  let c0_i32_24 : BitVec 32 := 0#32
  let v44 : BitVec 1 := Scalar.cmpi .eq c6_i32_23 c0_i32_24
  let c1_i32_25 : BitVec 32 := 1#32
  let v45 : BitVec 32 := Scalar.select v44 c1_i32_25 c6_i32_23
  let v46 : BitVec 32 := Scalar.remsi arg0 v45
  let c0_i32_27 : BitVec 32 := 0#32
  let v48 : BitVec 1 := Scalar.cmpi .slt v46 c0_i32_27
  let c0_i32_28 : BitVec 32 := 0#32
  let v49 : BitVec 1 := Scalar.cmpi .slt v45 c0_i32_28
  let v50 : BitVec 1 := Scalar.xori v48 v49
  let c0_i32_26 : BitVec 32 := 0#32
  let v47 : BitVec 1 := Scalar.cmpi .ne v46 c0_i32_26
  let v51 : BitVec 1 := Scalar.andi v50 v47
  let v52 : BitVec 32 := Scalar.addi v46 v45
  let v53 : BitVec 32 := Scalar.select v51 v52 v46
  let c2_i32 : BitVec 32 := 2#32
  let v54 : BitVec 32 := Scalar.muli v53 c2_i32
  let v55 : BitVec 32 := Scalar.addi v54 c0_i32_29
  let c10_i32 : BitVec 32 := 10#32
  let v56 : BitVec 32 := Scalar.minsi v55 c10_i32
  let c128_i32 : BitVec 32 := 128#32
  let v57 : BitVec 32 := Scalar.muli v56 c128_i32
  let v58 : BitVec 32 := v57
  let v82 : Index := Scalar.indexCast v58
  let c0_40 : Index := 0#32
  ![v82.toNat, 0]
def k0_mult2 (i : grid0.Coords) : BitVec 32 :=
  let arg0 : BitVec 32 := BitVec.ofNat 32 (i 0).val
  let c6_i32_41 : BitVec 32 := 6#32
  let c0_i32_42 : BitVec 32 := 0#32
  let v84 : BitVec 1 := Scalar.cmpi .eq c6_i32_41 c0_i32_42
  let c1_i32_43 : BitVec 32 := 1#32
  let v85 : BitVec 32 := Scalar.select v84 c1_i32_43 c6_i32_41
  let v86 : BitVec 32 := Scalar.remsi arg0 v85
  let c0_i32_45 : BitVec 32 := 0#32
  let v88 : BitVec 1 := Scalar.cmpi .slt v86 c0_i32_45
  let c0_i32_46 : BitVec 32 := 0#32
  let v89 : BitVec 1 := Scalar.cmpi .slt v85 c0_i32_46
  let v90 : BitVec 1 := Scalar.xori v88 v89
  let c0_i32_44 : BitVec 32 := 0#32
  let v87 : BitVec 1 := Scalar.cmpi .ne v86 c0_i32_44
  let v91 : BitVec 1 := Scalar.andi v90 v87
  let v92 : BitVec 32 := Scalar.addi v86 v85
  let v93 : BitVec 32 := Scalar.select v91 v92 v86
  let c2_i32_47 : BitVec 32 := 2#32
  let v94 : BitVec 32 := Scalar.muli v93 c2_i32_47
  let c1_i32_48 : BitVec 32 := 1#32
  let v95 : BitVec 32 := Scalar.addi v94 c1_i32_48
  let c10_i32_49 : BitVec 32 := 10#32
  let v96 : BitVec 32 := Scalar.minsi v95 c10_i32_49
  let c128_i32_50 : BitVec 32 := 128#32
  let v97 : BitVec 32 := Scalar.muli v96 c128_i32_50
  v97
def k0_cond4 (i : grid0.Coords) : BitVec 1 :=
  let arg0 : BitVec 32 := BitVec.ofNat 32 (i 0).val
  let c6_i32 : BitVec 32 := 6#32
  let v0 : BitVec 32 := Scalar.subi arg0 c6_i32
  let c0_i32_3 : BitVec 32 := 0#32
  let v7 : BitVec 1 := Scalar.cmpi .sge v0 c0_i32_3
  let c72_i32 : BitVec 32 := 72#32
  let v8 : BitVec 1 := Scalar.cmpi .slt v0 c72_i32
  let v9 : BitVec 1 := Scalar.andi v7 v8
  let c1_i32_11 : BitVec 32 := 1#32
  let v24 : BitVec 32 := Scalar.subi v0 c1_i32_11
  let c0_i32_12 : BitVec 32 := 0#32
  let v25 : BitVec 32 := Scalar.maxsi v24 c0_i32_12
  let c6_i32_13 : BitVec 32 := 6#32
  let c0_i32_14 : BitVec 32 := 0#32
  let v26 : BitVec 1 := Scalar.cmpi .eq c6_i32_13 c0_i32_14
  let c1_i32_15 : BitVec 32 := 1#32
  let v27 : BitVec 32 := Scalar.select v26 c1_i32_15 c6_i32_13
  let v28 : BitVec 32 := Scalar.remsi v25 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let c0_i32_19 : BitVec 32 := 0#32
  let v36 : BitVec 1 := Scalar.cmpi .slt v35 c0_i32_19
  let v_true : BitVec 1 := 1#1
  let v37 : BitVec 1 := Scalar.xori v36 v_true
  let v38 : BitVec 1 := Scalar.andi v9 v37
  let v39 : BitVec 32 := Scalar.extui v38
  let c0_i32_20 : BitVec 32 := 0#32
  let v40 : BitVec 1 := Scalar.cmpi .ne v39 c0_i32_20
  v40

def k0_mult3 (i : grid0.Coords) : BitVec 32 :=
  let arg0 : BitVec 32 := BitVec.ofNat 32 (i 0).val
  let c6_i32_33 : BitVec 32 := 6#32
  let c0_i32_34 : BitVec 32 := 0#32
  let v54 : BitVec 1 := Scalar.cmpi .eq c6_i32_33 c0_i32_34
  let c1_i32_35 : BitVec 32 := 1#32
  let v55 : BitVec 32 := Scalar.select v54 c1_i32_35 c6_i32_33
  let v56 : BitVec 32 := Scalar.remsi arg0 v55
  let c0_i32_37 : BitVec 32 := 0#32
  let v58 : BitVec 1 := Scalar.cmpi .slt v56 c0_i32_37
  let c0_i32_38 : BitVec 32 := 0#32
  let v59 : BitVec 1 := Scalar.cmpi .slt v55 c0_i32_38
  let v60 : BitVec 1 := Scalar.xori v58 v59
  let c0_i32_36 : BitVec 32 := 0#32
  let v57 : BitVec 1 := Scalar.cmpi .ne v56 c0_i32_36
  let v61 : BitVec 1 := Scalar.andi v60 v57
  let v62 : BitVec 32 := Scalar.addi v56 v55
  let v63 : BitVec 32 := Scalar.select v61 v62 v56
  let c2_i32 : BitVec 32 := 2#32
  let v64 : BitVec 32 := Scalar.muli v63 c2_i32
  let c0_i32_39 : BitVec 32 := 0#32
  let v65 : BitVec 32 := Scalar.addi v64 c0_i32_39
  let c10_i32 : BitVec 32 := 10#32
  let v66 : BitVec 32 := Scalar.minsi v65 c10_i32
  let c128_i32 : BitVec 32 := 128#32
  let v67 : BitVec 32 := Scalar.muli v66 c128_i32
  v67
def k0_off3 (i : grid0.Coords) (c0_i32_39 : BitVec 32) : Fin 2 → Nat :=
  let arg0 : BitVec 32 := BitVec.ofNat 32 (i 0).val
  let c6_i32_33 : BitVec 32 := 6#32
  let c0_i32_34 : BitVec 32 := 0#32
  let v54 : BitVec 1 := Scalar.cmpi .eq c6_i32_33 c0_i32_34
  let c1_i32_35 : BitVec 32 := 1#32
  let v55 : BitVec 32 := Scalar.select v54 c1_i32_35 c6_i32_33
  let v56 : BitVec 32 := Scalar.remsi arg0 v55
  let c0_i32_37 : BitVec 32 := 0#32
  let v58 : BitVec 1 := Scalar.cmpi .slt v56 c0_i32_37
  let c0_i32_38 : BitVec 32 := 0#32
  let v59 : BitVec 1 := Scalar.cmpi .slt v55 c0_i32_38
  let v60 : BitVec 1 := Scalar.xori v58 v59
  let c0_i32_36 : BitVec 32 := 0#32
  let v57 : BitVec 1 := Scalar.cmpi .ne v56 c0_i32_36
  let v61 : BitVec 1 := Scalar.andi v60 v57
  let v62 : BitVec 32 := Scalar.addi v56 v55
  let v63 : BitVec 32 := Scalar.select v61 v62 v56
  let c2_i32 : BitVec 32 := 2#32
  let v64 : BitVec 32 := Scalar.muli v63 c2_i32
  let v65 : BitVec 32 := Scalar.addi v64 c0_i32_39
  let c10_i32 : BitVec 32 := 10#32
  let v66 : BitVec 32 := Scalar.minsi v65 c10_i32
  let c128_i32 : BitVec 32 := 128#32
  let v67 : BitVec 32 := Scalar.muli v66 c128_i32
  let v68 : BitVec 32 := v67
  let v85 : Index := Scalar.indexCast v68
  let c0_47 : Index := 0#32
  ![v85.toNat, 0]
def k0_off4 (i : grid0.Coords) (c0_i32_39 : BitVec 32) : Fin 2 → Nat :=
  let arg0 : BitVec 32 := BitVec.ofNat 32 (i 0).val
  let c6_i32_33 : BitVec 32 := 6#32
  let c0_i32_34 : BitVec 32 := 0#32
  let v54 : BitVec 1 := Scalar.cmpi .eq c6_i32_33 c0_i32_34
  let c1_i32_35 : BitVec 32 := 1#32
  let v55 : BitVec 32 := Scalar.select v54 c1_i32_35 c6_i32_33
  let v56 : BitVec 32 := Scalar.remsi arg0 v55
  let c0_i32_37 : BitVec 32 := 0#32
  let v58 : BitVec 1 := Scalar.cmpi .slt v56 c0_i32_37
  let c0_i32_38 : BitVec 32 := 0#32
  let v59 : BitVec 1 := Scalar.cmpi .slt v55 c0_i32_38
  let v60 : BitVec 1 := Scalar.xori v58 v59
  let c0_i32_36 : BitVec 32 := 0#32
  let v57 : BitVec 1 := Scalar.cmpi .ne v56 c0_i32_36
  let v61 : BitVec 1 := Scalar.andi v60 v57
  let v62 : BitVec 32 := Scalar.addi v56 v55
  let v63 : BitVec 32 := Scalar.select v61 v62 v56
  let c2_i32 : BitVec 32 := 2#32
  let v64 : BitVec 32 := Scalar.muli v63 c2_i32
  let v65 : BitVec 32 := Scalar.addi v64 c0_i32_39
  let c10_i32 : BitVec 32 := 10#32
  let v66 : BitVec 32 := Scalar.minsi v65 c10_i32
  let c128_i32 : BitVec 32 := 128#32
  let v67 : BitVec 32 := Scalar.muli v66 c128_i32
  let v68 : BitVec 32 := v67
  let v92 : Index := Scalar.indexCast v68
  let c0_52 : Index := 0#32
  ![v92.toNat, 0]
def k0_mult4 (i : grid0.Coords) : BitVec 32 :=
  let arg0 : BitVec 32 := BitVec.ofNat 32 (i 0).val
  let c6_i32_53 : BitVec 32 := 6#32
  let c0_i32_54 : BitVec 32 := 0#32
  let v94 : BitVec 1 := Scalar.cmpi .eq c6_i32_53 c0_i32_54
  let c1_i32_55 : BitVec 32 := 1#32
  let v95 : BitVec 32 := Scalar.select v94 c1_i32_55 c6_i32_53
  let v96 : BitVec 32 := Scalar.remsi arg0 v95
  let c0_i32_57 : BitVec 32 := 0#32
  let v98 : BitVec 1 := Scalar.cmpi .slt v96 c0_i32_57
  let c0_i32_58 : BitVec 32 := 0#32
  let v99 : BitVec 1 := Scalar.cmpi .slt v95 c0_i32_58
  let v100 : BitVec 1 := Scalar.xori v98 v99
  let c0_i32_56 : BitVec 32 := 0#32
  let v97 : BitVec 1 := Scalar.cmpi .ne v96 c0_i32_56
  let v101 : BitVec 1 := Scalar.andi v100 v97
  let v102 : BitVec 32 := Scalar.addi v96 v95
  let v103 : BitVec 32 := Scalar.select v101 v102 v96
  let c2_i32_59 : BitVec 32 := 2#32
  let v104 : BitVec 32 := Scalar.muli v103 c2_i32_59
  let c1_i32_60 : BitVec 32 := 1#32
  let v105 : BitVec 32 := Scalar.addi v104 c1_i32_60
  let c10_i32_61 : BitVec 32 := 10#32
  let v106 : BitVec 32 := Scalar.minsi v105 c10_i32_61
  let c128_i32_62 : BitVec 32 := 128#32
  let v107 : BitVec 32 := Scalar.muli v106 c128_i32_62
  v107
def k0_cond5 (i : grid0.Coords) : BitVec 1 :=
  let arg0 : BitVec 32 := BitVec.ofNat 32 (i 0).val
  let c6_i32 : BitVec 32 := 6#32
  let v0 : BitVec 32 := Scalar.subi arg0 c6_i32
  let c72_i32_21 : BitVec 32 := 72#32
  let v41 : BitVec 1 := Scalar.cmpi .eq v0 c72_i32_21
  let v42 : BitVec 32 := Scalar.extui v41
  let c0_i32_22 : BitVec 32 := 0#32
  let v43 : BitVec 1 := Scalar.cmpi .ne v42 c0_i32_22
  v43

def cc0_transform_0 (i : grid0.Coords) : Fin 2 → Nat :=
  let arg0 : BitVec 32 := BitVec.ofNat 32 (i 0).val
  let c6_i32 : BitVec 32 := 6#32
  let c0_i32 : BitVec 32 := 0#32
  let v0 : BitVec 1 := Scalar.cmpi .eq c6_i32 c0_i32
  let c1_i32 : BitVec 32 := 1#32
  let v1 : BitVec 32 := Scalar.select v0 c1_i32 c6_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32 : BitVec 32 := 2#32
  let v10 : BitVec 32 := Scalar.muli v9 c2_i32
  let c0_i32_3 : BitVec 32 := 0#32
  let v11 : BitVec 32 := Scalar.addi v10 c0_i32_3
  let c10_i32 : BitVec 32 := 10#32
  let v12 : BitVec 32 := Scalar.minsi v11 c10_i32
  let c6_i32_4 : BitVec 32 := 6#32
  let v13 : BitVec 32 := Scalar.divsi arg0 c6_i32_4
  let c0_i32_5 : BitVec 32 := 0#32
  let v14 : BitVec 1 := Scalar.cmpi .sgt arg0 c0_i32_5
  let v15 : BitVec 32 := Scalar.extui v14
  let c0_i32_6 : BitVec 32 := 0#32
  let v16 : BitVec 1 := Scalar.cmpi .slt arg0 c0_i32_6
  let v17 : BitVec 32 := Scalar.extui v16
  let v18 : BitVec 32 := Scalar.subi v15 v17
  let c0_i32_7 : BitVec 32 := 0#32
  let v19 : BitVec 1 := Scalar.cmpi .sgt c6_i32_4 c0_i32_7
  let v20 : BitVec 32 := Scalar.extui v19
  let c0_i32_8 : BitVec 32 := 0#32
  let v21 : BitVec 1 := Scalar.cmpi .slt c6_i32_4 c0_i32_8
  let v22 : BitVec 32 := Scalar.extui v21
  let v23 : BitVec 32 := Scalar.subi v20 v22
  let v24 : BitVec 1 := Scalar.cmpi .ne v18 v23
  let v25 : BitVec 32 := Scalar.remsi arg0 c6_i32_4
  let c0_i32_9 : BitVec 32 := 0#32
  let v26 : BitVec 1 := Scalar.cmpi .ne v25 c0_i32_9
  let v27 : BitVec 1 := Scalar.andi v24 v26
  let c1_i32_10 : BitVec 32 := 1#32
  let v28 : BitVec 32 := Scalar.subi v13 c1_i32_10
  let v29 : BitVec 32 := Scalar.select v27 v28 v13
  let c11_i32 : BitVec 32 := 11#32
  let v30 : BitVec 32 := Scalar.minsi v29 c11_i32
  let c11_i32_11 : BitVec 32 := 11#32
  let v31 : BitVec 32 := Scalar.muli v30 c11_i32_11
  let v32 : BitVec 32 := Scalar.addi v31 v12
  let c0_i32_12 : BitVec 32 := 0#32
  let c0_i32_13 : BitVec 32 := 0#32
  ![v32.toNat, c0_i32_12.toNat]

def cc0_transform_1 (i : grid0.Coords) : Fin 2 → Nat :=
  let arg0 : BitVec 32 := BitVec.ofNat 32 (i 0).val
  let c6_i32 : BitVec 32 := 6#32
  let c0_i32 : BitVec 32 := 0#32
  let v0 : BitVec 1 := Scalar.cmpi .eq c6_i32 c0_i32
  let c1_i32 : BitVec 32 := 1#32
  let v1 : BitVec 32 := Scalar.select v0 c1_i32 c6_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32 : BitVec 32 := 2#32
  let v10 : BitVec 32 := Scalar.muli v9 c2_i32
  let c1_i32_3 : BitVec 32 := 1#32
  let v11 : BitVec 32 := Scalar.addi v10 c1_i32_3
  let c10_i32 : BitVec 32 := 10#32
  let v12 : BitVec 32 := Scalar.minsi v11 c10_i32
  let c6_i32_4 : BitVec 32 := 6#32
  let v13 : BitVec 32 := Scalar.divsi arg0 c6_i32_4
  let c0_i32_5 : BitVec 32 := 0#32
  let v14 : BitVec 1 := Scalar.cmpi .sgt arg0 c0_i32_5
  let v15 : BitVec 32 := Scalar.extui v14
  let c0_i32_6 : BitVec 32 := 0#32
  let v16 : BitVec 1 := Scalar.cmpi .slt arg0 c0_i32_6
  let v17 : BitVec 32 := Scalar.extui v16
  let v18 : BitVec 32 := Scalar.subi v15 v17
  let c0_i32_7 : BitVec 32 := 0#32
  let v19 : BitVec 1 := Scalar.cmpi .sgt c6_i32_4 c0_i32_7
  let v20 : BitVec 32 := Scalar.extui v19
  let c0_i32_8 : BitVec 32 := 0#32
  let v21 : BitVec 1 := Scalar.cmpi .slt c6_i32_4 c0_i32_8
  let v22 : BitVec 32 := Scalar.extui v21
  let v23 : BitVec 32 := Scalar.subi v20 v22
  let v24 : BitVec 1 := Scalar.cmpi .ne v18 v23
  let v25 : BitVec 32 := Scalar.remsi arg0 c6_i32_4
  let c0_i32_9 : BitVec 32 := 0#32
  let v26 : BitVec 1 := Scalar.cmpi .ne v25 c0_i32_9
  let v27 : BitVec 1 := Scalar.andi v24 v26
  let c1_i32_10 : BitVec 32 := 1#32
  let v28 : BitVec 32 := Scalar.subi v13 c1_i32_10
  let v29 : BitVec 32 := Scalar.select v27 v28 v13
  let c11_i32 : BitVec 32 := 11#32
  let v30 : BitVec 32 := Scalar.minsi v29 c11_i32
  let c11_i32_11 : BitVec 32 := 11#32
  let v31 : BitVec 32 := Scalar.muli v30 c11_i32_11
  let v32 : BitVec 32 := Scalar.addi v31 v12
  let c0_i32_12 : BitVec 32 := 0#32
  let c0_i32_13 : BitVec 32 := 0#32
  ![v32.toNat, c0_i32_12.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c6_i32 : BitVec 32 := 6#32
  let v0 : BitVec 32 := Scalar.subi arg0 c6_i32
  let c0_i32 : BitVec 32 := 0#32
  let c71_i32 : BitVec 32 := 71#32
  let v1 : BitVec 32 := Scalar.maxsi c0_i32 v0
  let v2 : BitVec 32 := Scalar.minsi c71_i32 v1
  let c6_i32_0 : BitVec 32 := 6#32
  let v3 : BitVec 32 := Scalar.divsi v2 c6_i32_0
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c6_i32_0 c0_i32_3
  let v10 : BitVec 32 := Scalar.extui v9
  let c0_i32_4 : BitVec 32 := 0#32
  let v11 : BitVec 1 := Scalar.cmpi .slt c6_i32_0 c0_i32_4
  let v12 : BitVec 32 := Scalar.extui v11
  let v13 : BitVec 32 := Scalar.subi v10 v12
  let v14 : BitVec 1 := Scalar.cmpi .ne v8 v13
  let v15 : BitVec 32 := Scalar.remsi v2 c6_i32_0
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c6_i32_6 : BitVec 32 := 6#32
  let c0_i32_7 : BitVec 32 := 0#32
  let v20 : BitVec 1 := Scalar.cmpi .eq c6_i32_6 c0_i32_7
  let c1_i32_8 : BitVec 32 := 1#32
  let v21 : BitVec 32 := Scalar.select v20 c1_i32_8 c6_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let c0_i32_13 : BitVec 32 := 0#32
  let c0_i32_14 : BitVec 32 := 0#32
  ![c0_i32_12.toNat, v29.toNat, c0_i32_13.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c6_i32 : BitVec 32 := 6#32
  let v0 : BitVec 32 := Scalar.subi arg0 c6_i32
  let c1_i32 : BitVec 32 := 1#32
  let v1 : BitVec 32 := Scalar.subi v0 c1_i32
  let c0_i32 : BitVec 32 := 0#32
  let c71_i32 : BitVec 32 := 71#32
  let v2 : BitVec 32 := Scalar.maxsi c0_i32 v1
  let v3 : BitVec 32 := Scalar.minsi c71_i32 v2
  let c6_i32_0 : BitVec 32 := 6#32
  let v4 : BitVec 32 := Scalar.divsi v3 c6_i32_0
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c0_i32_3 : BitVec 32 := 0#32
  let v10 : BitVec 1 := Scalar.cmpi .sgt c6_i32_0 c0_i32_3
  let v11 : BitVec 32 := Scalar.extui v10
  let c0_i32_4 : BitVec 32 := 0#32
  let v12 : BitVec 1 := Scalar.cmpi .slt c6_i32_0 c0_i32_4
  let v13 : BitVec 32 := Scalar.extui v12
  let v14 : BitVec 32 := Scalar.subi v11 v13
  let v15 : BitVec 1 := Scalar.cmpi .ne v9 v14
  let v16 : BitVec 32 := Scalar.remsi v3 c6_i32_0
  let c0_i32_5 : BitVec 32 := 0#32
  let v17 : BitVec 1 := Scalar.cmpi .ne v16 c0_i32_5
  let v18 : BitVec 1 := Scalar.andi v15 v17
  let c1_i32_6 : BitVec 32 := 1#32
  let v19 : BitVec 32 := Scalar.subi v4 c1_i32_6
  let v20 : BitVec 32 := Scalar.select v18 v19 v4
  let c6_i32_7 : BitVec 32 := 6#32
  let c0_i32_8 : BitVec 32 := 0#32
  let v21 : BitVec 1 := Scalar.cmpi .eq c6_i32_7 c0_i32_8
  let c1_i32_9 : BitVec 32 := 1#32
  let v22 : BitVec 32 := Scalar.select v21 c1_i32_9 c6_i32_7
  let v23 : BitVec 32 := Scalar.remsi v3 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c0_i32_13 : BitVec 32 := 0#32
  ![v20.toNat, v30.toNat]

def cc0_transform_6 (i : grid0.Coords) : Fin 2 → Nat :=
  let arg0 : BitVec 32 := BitVec.ofNat 32 (i 0).val
  let c6_i32 : BitVec 32 := 6#32
  let v0 : BitVec 32 := Scalar.divsi arg0 c6_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg0 c6_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c11_i32 : BitVec 32 := 11#32
  let v17 : BitVec 32 := Scalar.minsi v16 c11_i32
  let c0_i32_4 : BitVec 32 := 0#32
  let c0_i32_5 : BitVec 32 := 0#32
  ![v17.toNat, c0_i32_4.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1408x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1408x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S16896x2048 : Shape := ⟨2, ![16896, 2048]⟩
abbrev S2048 : Shape := ⟨1, ![2048]⟩
abbrev S2x6144x2048 : Shape := ⟨3, ![2, 6144, 2048]⟩
abbrev S2x128x2048 : Shape := ⟨3, ![2, 128, 2048]⟩
abbrev S_ : Shape := ⟨0, ![]⟩
abbrev S16896 : Shape := ⟨1, ![16896]⟩
abbrev S16896x1 : Shape := ⟨2, ![16896, 1]⟩
abbrev S1x2048 : Shape := ⟨2, ![1, 2048]⟩
abbrev S1x6144x2048 : Shape := ⟨3, ![1, 6144, 2048]⟩
abbrev S6144x2048 : Shape := ⟨2, ![6144, 2048]⟩
abbrev S2048x6144 : Shape := ⟨2, ![2048, 6144]⟩
abbrev S16896x6144 : Shape := ⟨2, ![16896, 6144]⟩
abbrev S1x128x2048 : Shape := ⟨3, ![1, 128, 2048]⟩
abbrev S128x2048 : Shape := ⟨2, ![128, 2048]⟩
abbrev S2048x128 : Shape := ⟨2, ![2048, 128]⟩
abbrev S16896x128 : Shape := ⟨2, ![16896, 128]⟩

abbrev nBuf : Space → Nat
  | .hbm => 31
  | .vmem => 0
  | .smem => 0
  | _ => 0

abbrev bufTy : (tb : Table) → Fin (tcTables nBuf tb) → BufTy
  | .hbm, ⟨0, _⟩ => ⟨S16896x2048, .f32⟩
  | .hbm, ⟨1, _⟩ => ⟨S2048, .f32⟩
  | .hbm, ⟨2, _⟩ => ⟨S2x6144x2048, .bf16⟩
  | .hbm, ⟨3, _⟩ => ⟨S2x128x2048, .bf16⟩
  | .hbm, ⟨4, _⟩ => ⟨S16896x2048, .f32⟩
  | .hbm, ⟨5, _⟩ => ⟨S_, .f32⟩
  | .hbm, ⟨6, _⟩ => ⟨S16896, .f32⟩
  | .hbm, ⟨7, _⟩ => ⟨S16896x1, .f32⟩
  | .hbm, ⟨8, _⟩ => ⟨S_, .f32⟩
  | .hbm, ⟨9, _⟩ => ⟨S16896x1, .f32⟩
  | .hbm, ⟨10, _⟩ => ⟨S16896x1, .f32⟩
  | .hbm, ⟨11, _⟩ => ⟨S_, .f32⟩
  | .hbm, ⟨12, _⟩ => ⟨S16896x1, .f32⟩
  | .hbm, ⟨13, _⟩ => ⟨S16896x1, .f32⟩
  | .hbm, ⟨14, _⟩ => ⟨S16896x1, .f32⟩
  | .hbm, ⟨15, _⟩ => ⟨S16896x2048, .f32⟩
  | .hbm, ⟨16, _⟩ => ⟨S16896x2048, .f32⟩
  | .hbm, ⟨17, _⟩ => ⟨S1x2048, .f32⟩
  | .hbm, ⟨18, _⟩ => ⟨S16896x2048, .f32⟩
  | .hbm, ⟨19, _⟩ => ⟨S16896x2048, .f32⟩
  | .hbm, ⟨20, _⟩ => ⟨S1x6144x2048, .bf16⟩
  | .hbm, ⟨21, _⟩ => ⟨S6144x2048, .bf16⟩
  | .hbm, ⟨22, _⟩ => ⟨S6144x2048, .f32⟩
  | .hbm, ⟨23, _⟩ => ⟨S2048x6144, .f32⟩
  | .hbm, ⟨24, _⟩ => ⟨S16896x6144, .f32⟩
  | .hbm, ⟨25, _⟩ => ⟨S16896x6144, .bf16⟩
  | .hbm, ⟨26, _⟩ => ⟨S1x128x2048, .bf16⟩
  | .hbm, ⟨27, _⟩ => ⟨S128x2048, .bf16⟩
  | .hbm, ⟨28, _⟩ => ⟨S128x2048, .f32⟩
  | .hbm, ⟨29, _⟩ => ⟨S2048x128, .f32⟩
  | .hbm, ⟨30, _⟩ => ⟨S16896x128, .f32⟩
  | _, _ => ⟨S16896x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Kernel4.lean ====
abbrev S16896x2048 : Shape := ⟨2, ![16896, 2048]⟩
abbrev S2048 : Shape := ⟨1, ![2048]⟩
abbrev S2x2048x6144 : Shape := ⟨3, ![2, 2048, 6144]⟩
abbrev S1x3072 : Shape := ⟨2, ![1, 3072]⟩
abbrev S4224x128 : Shape := ⟨2, ![4224, 128]⟩
abbrev S1x2048 : Shape := ⟨2, ![1, 2048]⟩
abbrev S16896x6144 : Shape := ⟨2, ![16896, 6144]⟩
abbrev S128x2048 : Shape := ⟨2, ![128, 2048]⟩
abbrev S1x2048x1024 : Shape := ⟨3, ![1, 2048, 1024]⟩
abbrev S1x1024 : Shape := ⟨2, ![1, 1024]⟩
abbrev S1408x128 : Shape := ⟨2, ![1408, 128]⟩
abbrev S1408x1024 : Shape := ⟨2, ![1408, 1024]⟩
abbrev S1408x2048 : Shape := ⟨2, ![1408, 2048]⟩
abbrev S128 : Shape := ⟨1, ![128]⟩
abbrev S128x1 : Shape := ⟨2, ![128, 1]⟩
abbrev S2048x1024 : Shape := ⟨2, ![2048, 1024]⟩
abbrev S1408 : Shape := ⟨1, ![1408]⟩
abbrev S1408x1 : Shape := ⟨2, ![1408, 1]⟩
abbrev S1x128 : Shape := ⟨2, ![1, 128]⟩

abbrev nBuf : Space → Nat
  | .hbm => 8
  | .vmem => 18
  | .smem => 0
  | _ => 0

abbrev bufTy : (tb : Table) → Fin (tcTables nBuf tb) → BufTy
  | .hbm, ⟨0, _⟩ => ⟨S16896x2048, .f32⟩
  | .hbm, ⟨1, _⟩ => ⟨S2048, .f32⟩
  | .hbm, ⟨2, _⟩ => ⟨S2x2048x6144, .bf16⟩
  | .hbm, ⟨3, _⟩ => ⟨S1x3072, .f32⟩
  | .hbm, ⟨4, _⟩ => ⟨S4224x128, .f32⟩
  | .hbm, ⟨5, _⟩ => ⟨S4224x128, .f32⟩
  | .hbm, ⟨6, _⟩ => ⟨S1x2048, .f32⟩
  | .hbm, ⟨7, _⟩ => ⟨S16896x6144, .bf16⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S1x2048, .f32⟩
  | .local _ .vmem, ⟨5, _⟩ => ⟨S1x2048x1024, .bf16⟩
  | .local _ .vmem, ⟨6, _⟩ => ⟨S1x2048x1024, .bf16⟩
  | .local _ .vmem, ⟨7, _⟩ => ⟨S1x1024, .f32⟩
  | .local _ .vmem, ⟨8, _⟩ => ⟨S1x1024, .f32⟩
  | .local _ .vmem, ⟨9, _⟩ => ⟨S1408x128, .f32⟩
  | .local _ .vmem, ⟨10, _⟩ => ⟨S1408x128, .f32⟩
  | .local _ .vmem, ⟨11, _⟩ => ⟨S1408x128, .f32⟩
  | .local _ .vmem, ⟨12, _⟩ => ⟨S1408x128, .f32⟩
  | .local _ .vmem, ⟨13, _⟩ => ⟨S1408x1024, .bf16⟩
  | .local _ .vmem, ⟨14, _⟩ => ⟨S1408x1024, .bf16⟩
  | .local _ .vmem, ⟨15, _⟩ => ⟨S1408x2048, .bf16⟩
  | .local _ .vmem, ⟨16, _⟩ => ⟨S1408x2048, .bf16⟩
  | .local _ .vmem, ⟨17, _⟩ => ⟨S1408x1024, .f32⟩
  | _, _ => ⟨S16896x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![79], ![false]⟩

def k0_cond2 (i : grid0.Coords) : BitVec 1 :=
  let arg0 : BitVec 32 := BitVec.ofNat 32 (i 0).val
  let c6_i32 : BitVec 32 := 6#32
  let v0 : BitVec 32 := Scalar.subi arg0 c6_i32
  let c0_i32_1 : BitVec 32 := 0#32
  let v4 : BitVec 1 := Scalar.cmpi .slt v0 c0_i32_1
  let v5 : BitVec 32 := Scalar.extui v4
  let c0_i32_2 : BitVec 32 := 0#32
  let v6 : BitVec 1 := Scalar.cmpi .ne v5 c0_i32_2
  v6

def k0_mult1 (i : grid0.Coords) : BitVec 32 :=
  let arg0 : BitVec 32 := BitVec.ofNat 32 (i 0).val
  let c6_i32_23 : BitVec 32 := 6#32
  let c0_i32_24 : BitVec 32 := 0#32
  let v47 : BitVec 1 := Scalar.cmpi .eq c6_i32_23 c0_i32_24
  let c1_i32_25 : BitVec 32 := 1#32
  let v48 : BitVec 32 := Scalar.select v47 c1_i32_25 c6_i32_23
  let v49 : BitVec 32 := Scalar.remsi arg0 v48
  let c0_i32_27 : BitVec 32 := 0#32
  let v51 : BitVec 1 := Scalar.cmpi .slt v49 c0_i32_27
  let c0_i32_28 : BitVec 32 := 0#32
  let v52 : BitVec 1 := Scalar.cmpi .slt v48 c0_i32_28
  let v53 : BitVec 1 := Scalar.xori v51 v52
  let c0_i32_26 : BitVec 32 := 0#32
  let v50 : BitVec 1 := Scalar.cmpi .ne v49 c0_i32_26
  let v54 : BitVec 1 := Scalar.andi v53 v50
  let v55 : BitVec 32 := Scalar.addi v49 v48
  let v56 : BitVec 32 := Scalar.select v54 v55 v49
  let c2_i32 : BitVec 32 := 2#32
  let v57 : BitVec 32 := Scalar.muli v56 c2_i32
  let c0_i32_29 : BitVec 32 := 0#32
  let v58 : BitVec 32 := Scalar.addi v57 c0_i32_29
  let c10_i32 : BitVec 32 := 10#32
  let v59 : BitVec 32 := Scalar.minsi v58 c10_i32
  let c128_i32 : BitVec 32 := 128#32
  let v60 : BitVec 32 := Scalar.muli v59 c128_i32
  v60
def k0_off1 (i : grid0.Coords) (c0_i32_29 : BitVec 32) : Fin 2 → Nat :=
  let arg0 : BitVec 32 := BitVec.ofNat 32 (i 0).val
  let c6_i32_23 : BitVec 32 := 6#32
  let c0_i32_24 : BitVec 32 := 0#32
  let v47 : BitVec 1 := Scalar.cmpi .eq c6_i32_23 c0_i32_24
  let c1_i32_25 : BitVec 32 := 1#32
  let v48 : BitVec 32 := Scalar.select v47 c1_i32_25 c6_i32_23
  let v49 : BitVec 32 := Scalar.remsi arg0 v48
  let c0_i32_27 : BitVec 32 := 0#32
  let v51 : BitVec 1 := Scalar.cmpi .slt v49 c0_i32_27
  let c0_i32_28 : BitVec 32 := 0#32
  let v52 : BitVec 1 := Scalar.cmpi .slt v48 c0_i32_28
  let v53 : BitVec 1 := Scalar.xori v51 v52
  let c0_i32_26 : BitVec 32 := 0#32
  let v50 : BitVec 1 := Scalar.cmpi .ne v49 c0_i32_26
  let v54 : BitVec 1 := Scalar.andi v53 v50
  let v55 : BitVec 32 := Scalar.addi v49 v48
  let v56 : BitVec 32 := Scalar.select v54 v55 v49
  let c2_i32 : BitVec 32 := 2#32
  let v57 : BitVec 32 := Scalar.muli v56 c2_i32
  let v58 : BitVec 32 := Scalar.addi v57 c0_i32_29
  let c10_i32 : BitVec 32 := 10#32
  let v59 : BitVec 32 := Scalar.minsi v58 c10_i32
  let c128_i32 : BitVec 32 := 128#32
  let v60 : BitVec 32 := Scalar.muli v59 c128_i32
  let v61 : BitVec 32 := v60
  let v78 : Index := Scalar.indexCast v61
  let c0_35 : Index := 0#32
  ![v78.toNat, 0]
def k0_mult2 (i : grid0.Coords) : BitVec 32 :=
  let arg0 : BitVec 32 := BitVec.ofNat 32 (i 0).val
  let c6_i32_36 : BitVec 32 := 6#32
  let c0_i32_37 : BitVec 32 := 0#32
  let v82 : BitVec 1 := Scalar.cmpi .eq c6_i32_36 c0_i32_37
  let c1_i32_38 : BitVec 32 := 1#32
  let v83 : BitVec 32 := Scalar.select v82 c1_i32_38 c6_i32_36
  let v84 : BitVec 32 := Scalar.remsi arg0 v83
  let c0_i32_40 : BitVec 32 := 0#32
  let v86 : BitVec 1 := Scalar.cmpi .slt v84 c0_i32_40
  let c0_i32_41 : BitVec 32 := 0#32
  let v87 : BitVec 1 := Scalar.cmpi .slt v83 c0_i32_41
  let v88 : BitVec 1 := Scalar.xori v86 v87
  let c0_i32_39 : BitVec 32 := 0#32
  let v85 : BitVec 1 := Scalar.cmpi .ne v84 c0_i32_39
  let v89 : BitVec 1 := Scalar.andi v88 v85
  let v90 : BitVec 32 := Scalar.addi v84 v83
  let v91 : BitVec 32 := Scalar.select v89 v90 v84
  let c2_i32_42 : BitVec 32 := 2#32
  let v92 : BitVec 32 := Scalar.muli v91 c2_i32_42
  let c1_i32_43 : BitVec 32 := 1#32
  let v93 : BitVec 32 := Scalar.addi v92 c1_i32_43
  let c10_i32_44 : BitVec 32 := 10#32
  let v94 : BitVec 32 := Scalar.minsi v93 c10_i32_44
  let c128_i32_45 : BitVec 32 := 128#32
  let v95 : BitVec 32 := Scalar.muli v94 c128_i32_45
  v95
def k0_cond4 (i : grid0.Coords) : BitVec 1 :=
  let arg0 : BitVec 32 := BitVec.ofNat 32 (i 0).val
  let c6_i32 : BitVec 32 := 6#32
  let v0 : BitVec 32 := Scalar.subi arg0 c6_i32
  let c0_i32_3 : BitVec 32 := 0#32
  let v7 : BitVec 1 := Scalar.cmpi .sge v0 c0_i32_3
  let c72_i32 : BitVec 32 := 72#32
  let v8 : BitVec 1 := Scalar.cmpi .slt v0 c72_i32
  let v9 : BitVec 1 := Scalar.andi v7 v8
  let c1_i32_11 : BitVec 32 := 1#32
  let v24 : BitVec 32 := Scalar.subi v0 c1_i32_11
  let c0_i32_12 : BitVec 32 := 0#32
  let v25 : BitVec 32 := Scalar.maxsi v24 c0_i32_12
  let c6_i32_13 : BitVec 32 := 6#32
  let c0_i32_14 : BitVec 32 := 0#32
  let v26 : BitVec 1 := Scalar.cmpi .eq c6_i32_13 c0_i32_14
  let c1_i32_15 : BitVec 32 := 1#32
  let v27 : BitVec 32 := Scalar.select v26 c1_i32_15 c6_i32_13
  let v28 : BitVec 32 := Scalar.remsi v25 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let c3_i32 : BitVec 32 := 3#32
  let v36 : BitVec 1 := Scalar.cmpi .slt v35 c3_i32
  let v37 : BitVec 1 := Scalar.andi v9 v36
  let v38 : BitVec 32 := Scalar.extui v37
  let c0_i32_19 : BitVec 32 := 0#32
  let v39 : BitVec 1 := Scalar.cmpi .ne v38 c0_i32_19
  v39

def k0_mult3 (i : grid0.Coords) : BitVec 32 :=
  let arg0 : BitVec 32 := BitVec.ofNat 32 (i 0).val
  let c6_i32_91 : BitVec 32 := 6#32
  let c0_i32_92 : BitVec 32 := 0#32
  let v217 : BitVec 1 := Scalar.cmpi .eq c6_i32_91 c0_i32_92
  let c1_i32_93 : BitVec 32 := 1#32
  let v218 : BitVec 32 := Scalar.select v217 c1_i32_93 c6_i32_91
  let v219 : BitVec 32 := Scalar.remsi arg0 v218
  let c0_i32_95 : BitVec 32 := 0#32
  let v221 : BitVec 1 := Scalar.cmpi .slt v219 c0_i32_95
  let c0_i32_96 : BitVec 32 := 0#32
  let v222 : BitVec 1 := Scalar.cmpi .slt v218 c0_i32_96
  let v223 : BitVec 1 := Scalar.xori v221 v222
  let c0_i32_94 : BitVec 32 := 0#32
  let v220 : BitVec 1 := Scalar.cmpi .ne v219 c0_i32_94
  let v224 : BitVec 1 := Scalar.andi v223 v220
  let v225 : BitVec 32 := Scalar.addi v219 v218
  let v226 : BitVec 32 := Scalar.select v224 v225 v219
  let c2_i32 : BitVec 32 := 2#32
  let v227 : BitVec 32 := Scalar.muli v226 c2_i32
  let c0_i32_97 : BitVec 32 := 0#32
  let v228 : BitVec 32 := Scalar.addi v227 c0_i32_97
  let c10_i32 : BitVec 32 := 10#32
  let v229 : BitVec 32 := Scalar.minsi v228 c10_i32
  let c128_i32 : BitVec 32 := 128#32
  let v230 : BitVec 32 := Scalar.muli v229 c128_i32
  v230
def k0_off2 (i : grid0.Coords) (c0_i32_97 : BitVec 32) : Fin 2 → Nat :=
  let arg0 : BitVec 32 := BitVec.ofNat 32 (i 0).val
  let c6_i32_91 : BitVec 32 := 6#32
  let c0_i32_92 : BitVec 32 := 0#32
  let v217 : BitVec 1 := Scalar.cmpi .eq c6_i32_91 c0_i32_92
  let c1_i32_93 : BitVec 32 := 1#32
  let v218 : BitVec 32 := Scalar.select v217 c1_i32_93 c6_i32_91
  let v219 : BitVec 32 := Scalar.remsi arg0 v218
  let c0_i32_95 : BitVec 32 := 0#32
  let v221 : BitVec 1 := Scalar.cmpi .slt v219 c0_i32_95
  let c0_i32_96 : BitVec 32 := 0#32
  let v222 : BitVec 1 := Scalar.cmpi .slt v218 c0_i32_96
  let v223 : BitVec 1 := Scalar.xori v221 v222
  let c0_i32_94 : BitVec 32 := 0#32
  let v220 : BitVec 1 := Scalar.cmpi .ne v219 c0_i32_94
  let v224 : BitVec 1 := Scalar.andi v223 v220
  let v225 : BitVec 32 := Scalar.addi v219 v218
  let v226 : BitVec 32 := Scalar.select v224 v225 v219
  let c2_i32 : BitVec 32 := 2#32
  let v227 : BitVec 32 := Scalar.muli v226 c2_i32
  let v228 : BitVec 32 := Scalar.addi v227 c0_i32_97
  let c10_i32 : BitVec 32 := 10#32
  let v229 : BitVec 32 := Scalar.minsi v228 c10_i32
  let c128_i32 : BitVec 32 := 128#32
  let v230 : BitVec 32 := Scalar.muli v229 c128_i32
  let v231 : BitVec 32 := v230
  let v248 : Index := Scalar.indexCast v231
  let c0_105 : Index := 0#32
  ![v248.toNat, 0]
def k0_mult4 (i : grid0.Coords) : BitVec 32 :=
  let arg0 : BitVec 32 := BitVec.ofNat 32 (i 0).val
  let c6_i32_106 : BitVec 32 := 6#32
  let c0_i32_107 : BitVec 32 := 0#32
  let v252 : BitVec 1 := Scalar.cmpi .eq c6_i32_106 c0_i32_107
  let c1_i32_108 : BitVec 32 := 1#32
  let v253 : BitVec 32 := Scalar.select v252 c1_i32_108 c6_i32_106
  let v254 : BitVec 32 := Scalar.remsi arg0 v253
  let c0_i32_110 : BitVec 32 := 0#32
  let v256 : BitVec 1 := Scalar.cmpi .slt v254 c0_i32_110
  let c0_i32_111 : BitVec 32 := 0#32
  let v257 : BitVec 1 := Scalar.cmpi .slt v253 c0_i32_111
  let v258 : BitVec 1 := Scalar.xori v256 v257
  let c0_i32_109 : BitVec 32 := 0#32
  let v255 : BitVec 1 := Scalar.cmpi .ne v254 c0_i32_109
  let v259 : BitVec 1 := Scalar.andi v258 v255
  let v260 : BitVec 32 := Scalar.addi v254 v253
  let v261 : BitVec 32 := Scalar.select v259 v260 v254
  let c2_i32_112 : BitVec 32 := 2#32
  let v262 : BitVec 32 := Scalar.muli v261 c2_i32_112
  let c1_i32_113 : BitVec 32 := 1#32
  let v263 : BitVec 32 := Scalar.addi v262 c1_i32_113
  let c10_i32_114 : BitVec 32 := 10#32
  let v264 : BitVec 32 := Scalar.minsi v263 c10_i32_114
  let c128_i32_115 : BitVec 32 := 128#32
  let v265 : BitVec 32 := Scalar.muli v264 c128_i32_115
  v265
def k0_cond5 (i : grid0.Coords) : BitVec 1 :=
  let arg0 : BitVec 32 := BitVec.ofNat 32 (i 0).val
  let c6_i32 : BitVec 32 := 6#32
  let v0 : BitVec 32 := Scalar.subi arg0 c6_i32
  let c0_i32_3 : BitVec 32 := 0#32
  let v7 : BitVec 1 := Scalar.cmpi .sge v0 c0_i32_3
  let c72_i32 : BitVec 32 := 72#32
  let v8 : BitVec 1 := Scalar.cmpi .slt v0 c72_i32
  let v9 : BitVec 1 := Scalar.andi v7 v8
  let c1_i32_11 : BitVec 32 := 1#32
  let v24 : BitVec 32 := Scalar.subi v0 c1_i32_11
  let c0_i32_12 : BitVec 32 := 0#32
  let v25 : BitVec 32 := Scalar.maxsi v24 c0_i32_12
  let c6_i32_13 : BitVec 32 := 6#32
  let c0_i32_14 : BitVec 32 := 0#32
  let v26 : BitVec 1 := Scalar.cmpi .eq c6_i32_13 c0_i32_14
  let c1_i32_15 : BitVec 32 := 1#32
  let v27 : BitVec 32 := Scalar.select v26 c1_i32_15 c6_i32_13
  let v28 : BitVec 32 := Scalar.remsi v25 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let c3_i32 : BitVec 32 := 3#32
  let v36 : BitVec 1 := Scalar.cmpi .slt v35 c3_i32
  let v_true : BitVec 1 := 1#1
  let v40 : BitVec 1 := Scalar.xori v36 v_true
  let v41 : BitVec 1 := Scalar.andi v9 v40
  let v42 : BitVec 32 := Scalar.extui v41
  let c0_i32_20 : BitVec 32 := 0#32
  let v43 : BitVec 1 := Scalar.cmpi .ne v42 c0_i32_20
  v43

def k0_mult5 (i : grid0.Coords) : BitVec 32 :=
  let arg0 : BitVec 32 := BitVec.ofNat 32 (i 0).val
  let c6_i32_33 : BitVec 32 := 6#32
  let c0_i32_34 : BitVec 32 := 0#32
  let v57 : BitVec 1 := Scalar.cmpi .eq c6_i32_33 c0_i32_34
  let c1_i32_35 : BitVec 32 := 1#32
  let v58 : BitVec 32 := Scalar.select v57 c1_i32_35 c6_i32_33
  let v59 : BitVec 32 := Scalar.remsi arg0 v58
  let c0_i32_37 : BitVec 32 := 0#32
  let v61 : BitVec 1 := Scalar.cmpi .slt v59 c0_i32_37
  let c0_i32_38 : BitVec 32 := 0#32
  let v62 : BitVec 1 := Scalar.cmpi .slt v58 c0_i32_38
  let v63 : BitVec 1 := Scalar.xori v61 v62
  let c0_i32_36 : BitVec 32 := 0#32
  let v60 : BitVec 1 := Scalar.cmpi .ne v59 c0_i32_36
  let v64 : BitVec 1 := Scalar.andi v63 v60
  let v65 : BitVec 32 := Scalar.addi v59 v58
  let v66 : BitVec 32 := Scalar.select v64 v65 v59
  let c2_i32 : BitVec 32 := 2#32
  let v67 : BitVec 32 := Scalar.muli v66 c2_i32
  let c0_i32_39 : BitVec 32 := 0#32
  let v68 : BitVec 32 := Scalar.addi v67 c0_i32_39
  let c10_i32 : BitVec 32 := 10#32
  let v69 : BitVec 32 := Scalar.minsi v68 c10_i32
  let c128_i32 : BitVec 32 := 128#32
  let v70 : BitVec 32 := Scalar.muli v69 c128_i32
  v70
def k0_off3 (i : grid0.Coords) (c0_i32_39 : BitVec 32) : Fin 2 → Nat :=
  let arg0 : BitVec 32 := BitVec.ofNat 32 (i 0).val
  let c6_i32_33 : BitVec 32 := 6#32
  let c0_i32_34 : BitVec 32 := 0#32
  let v57 : BitVec 1 := Scalar.cmpi .eq c6_i32_33 c0_i32_34
  let c1_i32_35 : BitVec 32 := 1#32
  let v58 : BitVec 32 := Scalar.select v57 c1_i32_35 c6_i32_33
  let v59 : BitVec 32 := Scalar.remsi arg0 v58
  let c0_i32_37 : BitVec 32 := 0#32
  let v61 : BitVec 1 := Scalar.cmpi .slt v59 c0_i32_37
  let c0_i32_38 : BitVec 32 := 0#32
  let v62 : BitVec 1 := Scalar.cmpi .slt v58 c0_i32_38
  let v63 : BitVec 1 := Scalar.xori v61 v62
  let c0_i32_36 : BitVec 32 := 0#32
  let v60 : BitVec 1 := Scalar.cmpi .ne v59 c0_i32_36
  let v64 : BitVec 1 := Scalar.andi v63 v60
  let v65 : BitVec 32 := Scalar.addi v59 v58
  let v66 : BitVec 32 := Scalar.select v64 v65 v59
  let c2_i32 : BitVec 32 := 2#32
  let v67 : BitVec 32 := Scalar.muli v66 c2_i32
  let v68 : BitVec 32 := Scalar.addi v67 c0_i32_39
  let c10_i32 : BitVec 32 := 10#32
  let v69 : BitVec 32 := Scalar.minsi v68 c10_i32
  let c128_i32 : BitVec 32 := 128#32
  let v70 : BitVec 32 := Scalar.muli v69 c128_i32
  let v71 : BitVec 32 := v70
  let v88 : Index := Scalar.indexCast v71
  let c0_47 : Index := 0#32
  ![v88.toNat, 0]
def k0_mult6 (i : grid0.Coords) : BitVec 32 :=
  let arg0 : BitVec 32 := BitVec.ofNat 32 (i 0).val
  let c6_i32_48 : BitVec 32 := 6#32
  let c0_i32_49 : BitVec 32 := 0#32
  let v92 : BitVec 1 := Scalar.cmpi .eq c6_i32_48 c0_i32_49
  let c1_i32_50 : BitVec 32 := 1#32
  let v93 : BitVec 32 := Scalar.select v92 c1_i32_50 c6_i32_48
  let v94 : BitVec 32 := Scalar.remsi arg0 v93
  let c0_i32_52 : BitVec 32 := 0#32
  let v96 : BitVec 1 := Scalar.cmpi .slt v94 c0_i32_52
  let c0_i32_53 : BitVec 32 := 0#32
  let v97 : BitVec 1 := Scalar.cmpi .slt v93 c0_i32_53
  let v98 : BitVec 1 := Scalar.xori v96 v97
  let c0_i32_51 : BitVec 32 := 0#32
  let v95 : BitVec 1 := Scalar.cmpi .ne v94 c0_i32_51
  let v99 : BitVec 1 := Scalar.andi v98 v95
  let v100 : BitVec 32 := Scalar.addi v94 v93
  let v101 : BitVec 32 := Scalar.select v99 v100 v94
  let c2_i32_54 : BitVec 32 := 2#32
  let v102 : BitVec 32 := Scalar.muli v101 c2_i32_54
  let c1_i32_55 : BitVec 32 := 1#32
  let v103 : BitVec 32 := Scalar.addi v102 c1_i32_55
  let c10_i32_56 : BitVec 32 := 10#32
  let v104 : BitVec 32 := Scalar.minsi v103 c10_i32_56
  let c128_i32_57 : BitVec 32 := 128#32
  let v105 : BitVec 32 := Scalar.muli v104 c128_i32_57
  v105
def k0_cond6 (i : grid0.Coords) : BitVec 1 :=
  let arg0 : BitVec 32 := BitVec.ofNat 32 (i 0).val
  let c6_i32 : BitVec 32 := 6#32
  let v0 : BitVec 32 := Scalar.subi arg0 c6_i32
  let c72_i32_21 : BitVec 32 := 72#32
  let v44 : BitVec 1 := Scalar.cmpi .eq v0 c72_i32_21
  let v45 : BitVec 32 := Scalar.extui v44
  let c0_i32_22 : BitVec 32 := 0#32
  let v46 : BitVec 1 := Scalar.cmpi .ne v45 c0_i32_22
  v46

def cc0_transform_0 (i : grid0.Coords) : Fin 2 → Nat :=
  let arg0 : BitVec 32 := BitVec.ofNat 32 (i 0).val
  let c6_i32 : BitVec 32 := 6#32
  let c0_i32 : BitVec 32 := 0#32
  let v0 : BitVec 1 := Scalar.cmpi .eq c6_i32 c0_i32
  let c1_i32 : BitVec 32 := 1#32
  let v1 : BitVec 32 := Scalar.select v0 c1_i32 c6_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32 : BitVec 32 := 2#32
  let v10 : BitVec 32 := Scalar.muli v9 c2_i32
  let c0_i32_3 : BitVec 32 := 0#32
  let v11 : BitVec 32 := Scalar.addi v10 c0_i32_3
  let c10_i32 : BitVec 32 := 10#32
  let v12 : BitVec 32 := Scalar.minsi v11 c10_i32
  let c6_i32_4 : BitVec 32 := 6#32
  let v13 : BitVec 32 := Scalar.divsi arg0 c6_i32_4
  let c0_i32_5 : BitVec 32 := 0#32
  let v14 : BitVec 1 := Scalar.cmpi .sgt arg0 c0_i32_5
  let v15 : BitVec 32 := Scalar.extui v14
  let c0_i32_6 : BitVec 32 := 0#32
  let v16 : BitVec 1 := Scalar.cmpi .slt arg0 c0_i32_6
  let v17 : BitVec 32 := Scalar.extui v16
  let v18 : BitVec 32 := Scalar.subi v15 v17
  let c0_i32_7 : BitVec 32 := 0#32
  let v19 : BitVec 1 := Scalar.cmpi .sgt c6_i32_4 c0_i32_7
  let v20 : BitVec 32 := Scalar.extui v19
  let c0_i32_8 : BitVec 32 := 0#32
  let v21 : BitVec 1 := Scalar.cmpi .slt c6_i32_4 c0_i32_8
  let v22 : BitVec 32 := Scalar.extui v21
  let v23 : BitVec 32 := Scalar.subi v20 v22
  let v24 : BitVec 1 := Scalar.cmpi .ne v18 v23
  let v25 : BitVec 32 := Scalar.remsi arg0 c6_i32_4
  let c0_i32_9 : BitVec 32 := 0#32
  let v26 : BitVec 1 := Scalar.cmpi .ne v25 c0_i32_9
  let v27 : BitVec 1 := Scalar.andi v24 v26
  let c1_i32_10 : BitVec 32 := 1#32
  let v28 : BitVec 32 := Scalar.subi v13 c1_i32_10
  let v29 : BitVec 32 := Scalar.select v27 v28 v13
  let c11_i32 : BitVec 32 := 11#32
  let v30 : BitVec 32 := Scalar.minsi v29 c11_i32
  let c11_i32_11 : BitVec 32 := 11#32
  let v31 : BitVec 32 := Scalar.muli v30 c11_i32_11
  let v32 : BitVec 32 := Scalar.addi v31 v12
  let c0_i32_12 : BitVec 32 := 0#32
  let c0_i32_13 : BitVec 32 := 0#32
  ![v32.toNat, c0_i32_12.toNat]

def cc0_transform_1 (i : grid0.Coords) : Fin 2 → Nat :=
  let arg0 : BitVec 32 := BitVec.ofNat 32 (i 0).val
  let c6_i32 : BitVec 32 := 6#32
  let c0_i32 : BitVec 32 := 0#32
  let v0 : BitVec 1 := Scalar.cmpi .eq c6_i32 c0_i32
  let c1_i32 : BitVec 32 := 1#32
  let v1 : BitVec 32 := Scalar.select v0 c1_i32 c6_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32 : BitVec 32 := 2#32
  let v10 : BitVec 32 := Scalar.muli v9 c2_i32
  let c1_i32_3 : BitVec 32 := 1#32
  let v11 : BitVec 32 := Scalar.addi v10 c1_i32_3
  let c10_i32 : BitVec 32 := 10#32
  let v12 : BitVec 32 := Scalar.minsi v11 c10_i32
  let c6_i32_4 : BitVec 32 := 6#32
  let v13 : BitVec 32 := Scalar.divsi arg0 c6_i32_4
  let c0_i32_5 : BitVec 32 := 0#32
  let v14 : BitVec 1 := Scalar.cmpi .sgt arg0 c0_i32_5
  let v15 : BitVec 32 := Scalar.extui v14
  let c0_i32_6 : BitVec 32 := 0#32
  let v16 : BitVec 1 := Scalar.cmpi .slt arg0 c0_i32_6
  let v17 : BitVec 32 := Scalar.extui v16
  let v18 : BitVec 32 := Scalar.subi v15 v17
  let c0_i32_7 : BitVec 32 := 0#32
  let v19 : BitVec 1 := Scalar.cmpi .sgt c6_i32_4 c0_i32_7
  let v20 : BitVec 32 := Scalar.extui v19
  let c0_i32_8 : BitVec 32 := 0#32
  let v21 : BitVec 1 := Scalar.cmpi .slt c6_i32_4 c0_i32_8
  let v22 : BitVec 32 := Scalar.extui v21
  let v23 : BitVec 32 := Scalar.subi v20 v22
  let v24 : BitVec 1 := Scalar.cmpi .ne v18 v23
  let v25 : BitVec 32 := Scalar.remsi arg0 c6_i32_4
  let c0_i32_9 : BitVec 32 := 0#32
  let v26 : BitVec 1 := Scalar.cmpi .ne v25 c0_i32_9
  let v27 : BitVec 1 := Scalar.andi v24 v26
  let c1_i32_10 : BitVec 32 := 1#32
  let v28 : BitVec 32 := Scalar.subi v13 c1_i32_10
  let v29 : BitVec 32 := Scalar.select v27 v28 v13
  let c11_i32 : BitVec 32 := 11#32
  let v30 : BitVec 32 := Scalar.minsi v29 c11_i32
  let c11_i32_11 : BitVec 32 := 11#32
  let v31 : BitVec 32 := Scalar.muli v30 c11_i32_11
  let v32 : BitVec 32 := Scalar.addi v31 v12
  let c0_i32_12 : BitVec 32 := 0#32
  let c0_i32_13 : BitVec 32 := 0#32
  ![v32.toNat, c0_i32_12.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c6_i32 : BitVec 32 := 6#32
  let v0 : BitVec 32 := Scalar.subi arg0 c6_i32
  let c0_i32 : BitVec 32 := 0#32
  let c71_i32 : BitVec 32 := 71#32
  let v1 : BitVec 32 := Scalar.maxsi c0_i32 v0
  let v2 : BitVec 32 := Scalar.minsi c71_i32 v1
  let c6_i32_0 : BitVec 32 := 6#32
  let v3 : BitVec 32 := Scalar.divsi v2 c6_i32_0
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c6_i32_0 c0_i32_3
  let v10 : BitVec 32 := Scalar.extui v9
  let c0_i32_4 : BitVec 32 := 0#32
  let v11 : BitVec 1 := Scalar.cmpi .slt c6_i32_0 c0_i32_4
  let v12 : BitVec 32 := Scalar.extui v11
  let v13 : BitVec 32 := Scalar.subi v10 v12
  let v14 : BitVec 1 := Scalar.cmpi .ne v8 v13
  let v15 : BitVec 32 := Scalar.remsi v2 c6_i32_0
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c6_i32_6 : BitVec 32 := 6#32
  let c0_i32_7 : BitVec 32 := 0#32
  let v20 : BitVec 1 := Scalar.cmpi .eq c6_i32_6 c0_i32_7
  let c1_i32_8 : BitVec 32 := 1#32
  let v21 : BitVec 32 := Scalar.select v20 c1_i32_8 c6_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let c0_i32_13 : BitVec 32 := 0#32
  let c0_i32_14 : BitVec 32 := 0#32
  ![c0_i32_12.toNat, c0_i32_13.toNat, v29.toNat]

def cc0_transform_4 (i : grid0.Coords) : Fin 2 → Nat :=
  let arg0 : BitVec 32 := BitVec.ofNat 32 (i 0).val
  let c6_i32 : BitVec 32 := 6#32
  let v0 : BitVec 32 := Scalar.subi arg0 c6_i32
  let c1_i32 : BitVec 32 := 1#32
  let v1 : BitVec 32 := Scalar.subi v0 c1_i32
  let c0_i32 : BitVec 32 := 0#32
  let c71_i32 : BitVec 32 := 71#32
  let v2 : BitVec 32 := Scalar.maxsi c0_i32 v1
  let v3 : BitVec 32 := Scalar.minsi c71_i32 v2
  let c6_i32_0 : BitVec 32 := 6#32
  let v4 : BitVec 32 := Scalar.divsi v3 c6_i32_0
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c0_i32_3 : BitVec 32 := 0#32
  let v10 : BitVec 1 := Scalar.cmpi .sgt c6_i32_0 c0_i32_3
  let v11 : BitVec 32 := Scalar.extui v10
  let c0_i32_4 : BitVec 32 := 0#32
  let v12 : BitVec 1 := Scalar.cmpi .slt c6_i32_0 c0_i32_4
  let v13 : BitVec 32 := Scalar.extui v12
  let v14 : BitVec 32 := Scalar.subi v11 v13
  let v15 : BitVec 1 := Scalar.cmpi .ne v9 v14
  let v16 : BitVec 32 := Scalar.remsi v3 c6_i32_0
  let c0_i32_5 : BitVec 32 := 0#32
  let v17 : BitVec 1 := Scalar.cmpi .ne v16 c0_i32_5
  let v18 : BitVec 1 := Scalar.andi v15 v17
  let c1_i32_6 : BitVec 32 := 1#32
  let v19 : BitVec 32 := Scalar.subi v4 c1_i32_6
  let v20 : BitVec 32 := Scalar.select v18 v19 v4
  let c6_i32_7 : BitVec 32 := 6#32
  let c0_i32_8 : BitVec 32 := 0#32
  let v21 : BitVec 1 := Scalar.cmpi .eq c6_i32_7 c0_i32_8
  let c1_i32_9 : BitVec 32 := 1#32
  let v22 : BitVec 32 := Scalar.select v21 c1_i32_9 c6_i32_7
  let v23 : BitVec 32 := Scalar.remsi v3 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c2_i32 : BitVec 32 := 2#32
  let v31 : BitVec 32 := Scalar.minsi v30 c2_i32
  let c0_i32_13 : BitVec 32 := 0#32
  let c0_i32_14 : BitVec 32 := 0#32
  ![c0_i32_13.toNat, v31.toNat]

def cc0_transform_5 (i : grid0.Coords) : Fin 2 → Nat :=
  let arg0 : BitVec 32 := BitVec.ofNat 32 (i 0).val
  let c6_i32 : BitVec 32 := 6#32
  let v0 : BitVec 32 := Scalar.subi arg0 c6_i32
  let c1_i32 : BitVec 32 := 1#32
  let v1 : BitVec 32 := Scalar.subi v0 c1_i32
  let c0_i32 : BitVec 32 := 0#32
  let c71_i32 : BitVec 32 := 71#32
  let v2 : BitVec 32 := Scalar.maxsi c0_i32 v1
  let v3 : BitVec 32 := Scalar.minsi c71_i32 v2
  let c6_i32_0 : BitVec 32 := 6#32
  let v4 : BitVec 32 := Scalar.divsi v3 c6_i32_0
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c0_i32_3 : BitVec 32 := 0#32
  let v10 : BitVec 1 := Scalar.cmpi .sgt c6_i32_0 c0_i32_3
  let v11 : BitVec 32 := Scalar.extui v10
  let c0_i32_4 : BitVec 32 := 0#32
  let v12 : BitVec 1 := Scalar.cmpi .slt c6_i32_0 c0_i32_4
  let v13 : BitVec 32 := Scalar.extui v12
  let v14 : BitVec 32 := Scalar.subi v11 v13
  let v15 : BitVec 1 := Scalar.cmpi .ne v9 v14
  let v16 : BitVec 32 := Scalar.remsi v3 c6_i32_0
  let c0_i32_5 : BitVec 32 := 0#32
  let v17 : BitVec 1 := Scalar.cmpi .ne v16 c0_i32_5
  let v18 : BitVec 1 := Scalar.andi v15 v17
  let c1_i32_6 : BitVec 32 := 1#32
  let v19 : BitVec 32 := Scalar.subi v4 c1_i32_6
  let v20 : BitVec 32 := Scalar.select v18 v19 v4
  let c6_i32_7 : BitVec 32 := 6#32
  let c0_i32_8 : BitVec 32 := 0#32
  let v21 : BitVec 1 := Scalar.cmpi .eq c6_i32_7 c0_i32_8
  let c1_i32_9 : BitVec 32 := 1#32
  let v22 : BitVec 32 := Scalar.select v21 c1_i32_9 c6_i32_7
  let v23 : BitVec 32 := Scalar.remsi v3 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c3_i32 : BitVec 32 := 3#32
  let c0_i32_13 : BitVec 32 := 0#32
  let v31 : BitVec 1 := Scalar.cmpi .eq c3_i32 c0_i32_13
  let c1_i32_14 : BitVec 32 := 1#32
  let v32 : BitVec 32 := Scalar.select v31 c1_i32_14 c3_i32
  let v33 : BitVec 32 := Scalar.remsi v20 v32
  let c0_i32_15 : BitVec 32 := 0#32
  let v34 : BitVec 1 := Scalar.cmpi .ne v33 c0_i32_15
  let c0_i32_16 : BitVec 32 := 0#32
  let v35 : BitVec 1 := Scalar.cmpi .slt v33 c0_i32_16
  let c0_i32_17 : BitVec 32 := 0#32
  let v36 : BitVec 1 := Scalar.cmpi .slt v32 c0_i32_17
  let v37 : BitVec 1 := Scalar.xori v35 v36
  let v38 : BitVec 1 := Scalar.andi v37 v34
  let v39 : BitVec 32 := Scalar.addi v33 v32
  let v40 : BitVec 32 := Scalar.select v38 v39 v33
  let c0_i32_18 : BitVec 32 := 0#32
  let c0_i32_19 : BitVec 32 := 0#32
  ![v40.toNat, c0_i32_18.toNat]

def cc0_transform_6 (i : grid0.Coords) : Fin 2 → Nat :=
  let arg0 : BitVec 32 := BitVec.ofNat 32 (i 0).val
  let c6_i32 : BitVec 32 := 6#32
  let v0 : BitVec 32 := Scalar.subi arg0 c6_i32
  let c1_i32 : BitVec 32 := 1#32
  let v1 : BitVec 32 := Scalar.subi v0 c1_i32
  let c0_i32 : BitVec 32 := 0#32
  let c71_i32 : BitVec 32 := 71#32
  let v2 : BitVec 32 := Scalar.maxsi c0_i32 v1
  let v3 : BitVec 32 := Scalar.minsi c71_i32 v2
  let c6_i32_0 : BitVec 32 := 6#32
  let v4 : BitVec 32 := Scalar.divsi v3 c6_i32_0
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c0_i32_3 : BitVec 32 := 0#32
  let v10 : BitVec 1 := Scalar.cmpi .sgt c6_i32_0 c0_i32_3
  let v11 : BitVec 32 := Scalar.extui v10
  let c0_i32_4 : BitVec 32 := 0#32
  let v12 : BitVec 1 := Scalar.cmpi .slt c6_i32_0 c0_i32_4
  let v13 : BitVec 32 := Scalar.extui v12
  let v14 : BitVec 32 := Scalar.subi v11 v13
  let v15 : BitVec 1 := Scalar.cmpi .ne v9 v14
  let v16 : BitVec 32 := Scalar.remsi v3 c6_i32_0
  let c0_i32_5 : BitVec 32 := 0#32
  let v17 : BitVec 1 := Scalar.cmpi .ne v16 c0_i32_5
  let v18 : BitVec 1 := Scalar.andi v15 v17
  let c1_i32_6 : BitVec 32 := 1#32
  let v19 : BitVec 32 := Scalar.subi v4 c1_i32_6
  let v20 : BitVec 32 := Scalar.select v18 v19 v4
  let c6_i32_7 : BitVec 32 := 6#32
  let c0_i32_8 : BitVec 32 := 0#32
  let v21 : BitVec 1 := Scalar.cmpi .eq c6_i32_7 c0_i32_8
  let c1_i32_9 : BitVec 32 := 1#32
  let v22 : BitVec 32 := Scalar.select v21 c1_i32_9 c6_i32_7
  let v23 : BitVec 32 := Scalar.remsi v3 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c3_i32 : BitVec 32 := 3#32
  let c0_i32_13 : BitVec 32 := 0#32
  let v31 : BitVec 1 := Scalar.cmpi .eq c3_i32 c0_i32_13
  let c1_i32_14 : BitVec 32 := 1#32
  let v32 : BitVec 32 := Scalar.select v31 c1_i32_14 c3_i32
  let v33 : BitVec 32 := Scalar.remsi v20 v32
  let c0_i32_15 : BitVec 32 := 0#32
  let v34 : BitVec 1 := Scalar.cmpi .ne v33 c0_i32_15
  let c0_i32_16 : BitVec 32 := 0#32
  let v35 : BitVec 1 := Scalar.cmpi .slt v33 c0_i32_16
  let c0_i32_17 : BitVec 32 := 0#32
  let v36 : BitVec 1 := Scalar.cmpi .slt v32 c0_i32_17
  let v37 : BitVec 1 := Scalar.xori v35 v36
  let v38 : BitVec 1 := Scalar.andi v37 v34
  let v39 : BitVec 32 := Scalar.addi v33 v32
  let v40 : BitVec 32 := Scalar.select v38 v39 v33
  let c0_i32_18 : BitVec 32 := 0#32
  let c0_i32_19 : BitVec 32 := 0#32
  ![v40.toNat, c0_i32_18.toNat]

def cc0_transform_7 (i : grid0.Coords) : Fin 2 → Nat :=
  let arg0 : BitVec 32 := BitVec.ofNat 32 (i 0).val
  let c6_i32 : BitVec 32 := 6#32
  let v0 : BitVec 32 := Scalar.subi arg0 c6_i32
  let c1_i32 : BitVec 32 := 1#32
  let v1 : BitVec 32 := Scalar.subi v0 c1_i32
  let c0_i32 : BitVec 32 := 0#32
  let c71_i32 : BitVec 32 := 71#32
  let v2 : BitVec 32 := Scalar.maxsi c0_i32 v1
  let v3 : BitVec 32 := Scalar.minsi c71_i32 v2
  let c6_i32_0 : BitVec 32 := 6#32
  let v4 : BitVec 32 := Scalar.divsi v3 c6_i32_0
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c0_i32_3 : BitVec 32 := 0#32
  let v10 : BitVec 1 := Scalar.cmpi .sgt c6_i32_0 c0_i32_3
  let v11 : BitVec 32 := Scalar.extui v10
  let c0_i32_4 : BitVec 32 := 0#32
  let v12 : BitVec 1 := Scalar.cmpi .slt c6_i32_0 c0_i32_4
  let v13 : BitVec 32 := Scalar.extui v12
  let v14 : BitVec 32 := Scalar.subi v11 v13
  let v15 : BitVec 1 := Scalar.cmpi .ne v9 v14
  let v16 : BitVec 32 := Scalar.remsi v3 c6_i32_0
  let c0_i32_5 : BitVec 32 := 0#32
  let v17 : BitVec 1 := Scalar.cmpi .ne v16 c0_i32_5
  let v18 : BitVec 1 := Scalar.andi v15 v17
  let c1_i32_6 : BitVec 32 := 1#32
  let v19 : BitVec 32 := Scalar.subi v4 c1_i32_6
  let v20 : BitVec 32 := Scalar.select v18 v19 v4
  let c6_i32_7 : BitVec 32 := 6#32
  let c0_i32_8 : BitVec 32 := 0#32
  let v21 : BitVec 1 := Scalar.cmpi .eq c6_i32_7 c0_i32_8
  let c1_i32_9 : BitVec 32 := 1#32
  let v22 : BitVec 32 := Scalar.select v21 c1_i32_9 c6_i32_7
  let v23 : BitVec 32 := Scalar.remsi v3 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c0_i32_13 : BitVec 32 := 0#32
  ![v20.toNat, v30.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1408x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1408x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1408x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S16896x2048 : Shape := ⟨2, ![16896, 2048]⟩
abbrev S2048 : Shape := ⟨1, ![2048]⟩
abbrev S2x2048x6144 : Shape := ⟨3, ![2, 2048, 6144]⟩
abbrev S1x3072 : Shape := ⟨2, ![1, 3072]⟩
abbrev S4224x128 : Shape := ⟨2, ![4224, 128]⟩
abbrev S_ : Shape := ⟨0, ![]⟩
abbrev S16896 : Shape := ⟨1, ![16896]⟩
abbrev S16896x1 : Shape := ⟨2, ![16896, 1]⟩
abbrev S1x2048 : Shape := ⟨2, ![1, 2048]⟩
abbrev S1x2048x6144 : Shape := ⟨3, ![1, 2048, 6144]⟩
abbrev S2048x6144 : Shape := ⟨2, ![2048, 6144]⟩
abbrev S16896x6144 : Shape := ⟨2, ![16896, 6144]⟩
abbrev S16896x3072 : Shape := ⟨2, ![16896, 3072]⟩
abbrev S4x4224x24x128 : Shape := ⟨4, ![4, 4224, 24, 128]⟩
abbrev S24x128 : Shape := ⟨2, ![24, 128]⟩
abbrev S4x4224x24 : Shape := ⟨3, ![4, 4224, 24]⟩
abbrev S4x4224x24x1 : Shape := ⟨4, ![4, 4224, 24, 1]⟩
abbrev S1x1x24x128 : Shape := ⟨4, ![1, 1, 24, 128]⟩
abbrev S4x4224x24x64 : Shape := ⟨4, ![4, 4224, 24, 64]⟩
abbrev S1x4224x1x128 : Shape := ⟨4, ![1, 4224, 1, 128]⟩

abbrev nBuf : Space → Nat
  | .hbm => 59
  | .vmem => 0
  | .smem => 0
  | _ => 0

abbrev bufTy : (tb : Table) → Fin (tcTables nBuf tb) → BufTy
  | .hbm, ⟨0, _⟩ => ⟨S16896x2048, .f32⟩
  | .hbm, ⟨1, _⟩ => ⟨S2048, .f32⟩
  | .hbm, ⟨2, _⟩ => ⟨S2x2048x6144, .bf16⟩
  | .hbm, ⟨3, _⟩ => ⟨S1x3072, .f32⟩
  | .hbm, ⟨4, _⟩ => ⟨S4224x128, .f32⟩
  | .hbm, ⟨5, _⟩ => ⟨S4224x128, .f32⟩
  | .hbm, ⟨6, _⟩ => ⟨S16896x2048, .f32⟩
  | .hbm, ⟨7, _⟩ => ⟨S_, .f32⟩
  | .hbm, ⟨8, _⟩ => ⟨S16896, .f32⟩
  | .hbm, ⟨9, _⟩ => ⟨S16896x1, .f32⟩
  | .hbm, ⟨10, _⟩ => ⟨S_, .f32⟩
  | .hbm, ⟨11, _⟩ => ⟨S16896x1, .f32⟩
  | .hbm, ⟨12, _⟩ => ⟨S16896x1, .f32⟩
  | .hbm, ⟨13, _⟩ => ⟨S_, .f32⟩
  | .hbm, ⟨14, _⟩ => ⟨S16896x1, .f32⟩
  | .hbm, ⟨15, _⟩ => ⟨S16896x1, .f32⟩
  | .hbm, ⟨16, _⟩ => ⟨S16896x1, .f32⟩
  | .hbm, ⟨17, _⟩ => ⟨S16896x2048, .f32⟩
  | .hbm, ⟨18, _⟩ => ⟨S16896x2048, .f32⟩
  | .hbm, ⟨19, _⟩ => ⟨S1x2048, .f32⟩
  | .hbm, ⟨20, _⟩ => ⟨S16896x2048, .f32⟩
  | .hbm, ⟨21, _⟩ => ⟨S16896x2048, .f32⟩
  | .hbm, ⟨22, _⟩ => ⟨S1x2048x6144, .bf16⟩
  | .hbm, ⟨23, _⟩ => ⟨S2048x6144, .bf16⟩
  | .hbm, ⟨24, _⟩ => ⟨S2048x6144, .f32⟩
  | .hbm, ⟨25, _⟩ => ⟨S16896x6144, .f32⟩
  | .hbm, ⟨26, _⟩ => ⟨S16896x3072, .f32⟩
  | .hbm, ⟨27, _⟩ => ⟨S4x4224x24x128, .f32⟩
  | .hbm, ⟨28, _⟩ => ⟨S24x128, .f32⟩
  | .hbm, ⟨29, _⟩ => ⟨S4x4224x24x128, .f32⟩
  | .hbm, ⟨30, _⟩ => ⟨S_, .f32⟩
  | .hbm, ⟨31, _⟩ => ⟨S4x4224x24, .f32⟩
  | .hbm, ⟨32, _⟩ => ⟨S4x4224x24x1, .f32⟩
  | .hbm, ⟨33, _⟩ => ⟨S_, .f32⟩
  | .hbm, ⟨34, _⟩ => ⟨S4x4224x24x1, .f32⟩
  | .hbm, ⟨35, _⟩ => ⟨S4x4224x24x1, .f32⟩
  | .hbm, ⟨36, _⟩ => ⟨S_, .f32⟩
  | .hbm, ⟨37, _⟩ => ⟨S4x4224x24x1, .f32⟩
  | .hbm, ⟨38, _⟩ => ⟨S4x4224x24x1, .f32⟩
  | .hbm, ⟨39, _⟩ => ⟨S4x4224x24x1, .f32⟩
  | .hbm, ⟨40, _⟩ => ⟨S4x4224x24x128, .f32⟩
  | .hbm, ⟨41, _⟩ => ⟨S4x4224x24x128, .f32⟩
  | .hbm, ⟨42, _⟩ => ⟨S1x1x24x128, .f32⟩
  | .hbm, ⟨43, _⟩ => ⟨S4x4224x24x128, .f32⟩
  | .hbm, ⟨44, _⟩ => ⟨S4x4224x24x128, .f32⟩
  | .hbm, ⟨45, _⟩ => ⟨S4x4224x24x64, .f32⟩
  | .hbm, ⟨46, _⟩ => ⟨S4x4224x24x64, .f32⟩
  | .hbm, ⟨47, _⟩ => ⟨S1x4224x1x128, .f32⟩
  | .hbm, ⟨48, _⟩ => ⟨S4x4224x24x128, .f32⟩
  | .hbm, ⟨49, _⟩ => ⟨S4x4224x24x128, .f32⟩
  | .hbm, ⟨50, _⟩ => ⟨S4x4224x24x128, .f32⟩
  | .hbm, ⟨51, _⟩ => ⟨S1x4224x1x128, .f32⟩
  | .hbm, ⟨52, _⟩ => ⟨S4x4224x24x128, .f32⟩
  | .hbm, ⟨53, _⟩ => ⟨S4x4224x24x128, .f32⟩
  | .hbm, ⟨54, _⟩ => ⟨S4x4224x24x128, .f32⟩
  | .hbm, ⟨55, _⟩ => ⟨S16896x3072, .f32⟩
  | .hbm, ⟨56, _⟩ => ⟨S16896x3072, .f32⟩
  | .hbm, ⟨57, _⟩ => ⟨S16896x6144, .f32⟩
  | .hbm, ⟨58, _⟩ => ⟨S16896x6144, .bf16⟩
  | _, _ => ⟨S16896x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩

abbrev nD : Nat := 1
abbrev τ : Topo := Topo.v7x

variable {F : FTy → Type} [FloatOps F]
-- ==== Proof.Segs.lean ====
module

public import proofs.«01_k».proof.Proof.Gen.KernelIdeal.Skeleton

/-! The kernel's body as five segments, one after another: each is one conditional of the body. -/

@[expose] public section

set_option maxRecDepth 65536

noncomputable section

namespace Cert.KernelIdeal.Body

open Idealize.ShloMosaic Idealize.SL.Sem Cert.KernelIdeal Cert.KernelIdeal.Gen

variable {F : FTy → Type} [FloatOps F]

/-- The first segment: at the first grid point the running sum and product are reset. -/
noncomputable def seg1 (i : grid0.Coords) (arg1 : Memref sig .tc .smem S1 .i32) (harg1 : arg1.IsWhole) (arg2 : Memref sig .tc .vmem S384x256 .bf16) (harg2 : arg2.IsWhole) (arg3 : Memref sig .tc .vmem S4224x128 .bf16) (harg3 : arg3.IsWhole) (arg4 : Memref sig .tc .vmem S4224x128 .bf16) (harg4 : arg4.IsWhole) (arg5 : Memref sig .tc .vmem S384x256 .bf16) (harg5 : arg5.IsWhole) (arg6 : Memref sig .tc .vmem S384x256 .bf16) (harg6 : arg6.IsWhole) (arg7 : Memref sig .tc .vmem S128x4224 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S128x768 .f32) (harg10 : arg10.IsWhole) (arg11 : Memref sig .tc .vmem S1040x768 .f32) (harg11 : arg11.IsWhole) (arg12 : Memref sig .tc .vmem S1040x768 .f32) (harg12 : arg12.IsWhole) (arg13 : Memref sig .tc .vmem S1x768 .f32) (harg13 : arg13.IsWhole) (arg14 : Memref sig .tc .vmem S1x768 .f32) (harg14 : arg14.IsWhole) :
    Prog (TpuEff nD τ sig (Elt F) Λ₀ .tc) PUnit := do
  let arg0 : BitVec 32 := BitVec.ofNat 32 (i 0).val
  let v0 : BitVec 1 := Scalar.cmpi .eq arg0 0#32
  let v1 : BitVec 32 := Scalar.extui v0
  let v2 : BitVec 1 := Scalar.cmpi .ne v1 0#32
  if v2 = 1#1 then do
    let v34 : Vec F S128x768 .f32 ← Prog.lift (.load arg10 (Rect.unit (s := S128x768) ![0, 0] S128x768.size inb_S128x768_S128x768_0_0).toLoadRect (View.loadsAt_vmem h_S128x768))
    Prog.lift (.store arg10 (Rect.unit (s := S128x768) ![0, 0] S128x768.size inb_S128x768_S128x768_0_0) (k0_pay89 (F := F)) Finset.univ (View.stores_vmem_bits_univ h_S128x768 rfl) (.inl rfl))
    let v38 : Vec F S1x768 .f32 ← Prog.lift (.load arg9 (Rect.unit (s := S1x768) ![0, 0] S1x768.size inb_S1x768_S1x768_0_0).toLoadRect (View.loadsAt_vmem h_S1x768))
    Prog.lift (.store arg9 (Rect.unit (s := S1x768) ![0, 0] S1x768.size inb_S1x768_S1x768_0_0) (k0_pay90 (F := F)) Finset.univ (View.stores_vmem_bits_univ h_S1x768 rfl) (.inl rfl))
    pure ⟨⟩
  else do
    pure ⟨⟩

/-- The second segment: at the first query tile of a head the transposed values are stored. -/
noncomputable def seg2 (i : grid0.Coords) (arg1 : Memref sig .tc .smem S1 .i32) (harg1 : arg1.IsWhole) (arg2 : Memref sig .tc .vmem S384x256 .bf16) (harg2 : arg2.IsWhole) (arg3 : Memref sig .tc .vmem S4224x128 .bf16) (harg3 : arg3.IsWhole) (arg4 : Memref sig .tc .vmem S4224x128 .bf16) (harg4 : arg4.IsWhole) (arg5 : Memref sig .tc .vmem S384x256 .bf16) (harg5 : arg5.IsWhole) (arg6 : Memref sig .tc .vmem S384x256 .bf16) (harg6 : arg6.IsWhole) (arg7 : Memref sig .tc .vmem S128x4224 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S128x768 .f32) (harg10 : arg10.IsWhole) (arg11 : Memref sig .tc .vmem S1040x768 .f32) (harg11 : arg11.IsWhole) (arg12 : Memref sig .tc .vmem S1040x768 .f32) (harg12 : arg12.IsWhole) (arg13 : Memref sig .tc .vmem S1x768 .f32) (harg13 : arg13.IsWhole) (arg14 : Memref sig .tc .vmem S1x768 .f32) (harg14 : arg14.IsWhole) :
    Prog (TpuEff nD τ sig (Elt F) Λ₀ .tc) PUnit := do
  let arg0 : BitVec 32 := BitVec.ofNat 32 (i 0).val
  let v3 : BitVec 1 := Scalar.cmpi .eq 11#32 0#32
  let v4 : BitVec 32 := Scalar.select v3 1#32 11#32
  let v5 : BitVec 32 := Scalar.remsi arg0 v4
  let v6 : BitVec 1 := Scalar.cmpi .ne v5 0#32
  let v7 : BitVec 1 := Scalar.cmpi .slt v5 0#32
  let v8 : BitVec 1 := Scalar.cmpi .slt v4 0#32
  let v9 : BitVec 1 := Scalar.xori v7 v8
  let v10 : BitVec 1 := Scalar.andi v9 v6
  let v11 : BitVec 32 := Scalar.addi v5 v4
  let v12 : BitVec 32 := Scalar.select v10 v11 v5
  let v13 : BitVec 1 := Scalar.cmpi .eq v12 0#32
  let v14 : BitVec 1 := Scalar.cmpi .slt arg0 352#32
  let v15 : BitVec 1 := Scalar.andi v13 v14
  let v16 : BitVec 32 := Scalar.extui v15
  let v17 : BitVec 1 := Scalar.cmpi .ne v16 0#32
  if v17 = 1#1 then do
    k0_part1 i arg1 harg1 arg2 harg2 arg3 harg3 arg4 harg4 arg5 harg5 arg6 harg6 arg7 harg7 arg8 harg8 arg9 harg9 arg10 harg10 arg11 harg11 arg12 harg12 arg13 harg13 arg14 harg14
    k0_part2 i arg1 harg1 arg2 harg2 arg3 harg3 arg4 harg4 arg5 harg5 arg6 harg6 arg7 harg7 arg8 harg8 arg9 harg9 arg10 harg10 arg11 harg11 arg12 harg12 arg13 harg13 arg14 harg14
    k0_part3 i arg1 harg1 arg2 harg2 arg3 harg3 arg4 harg4 arg5 harg5 arg6 harg6 arg7 harg7 arg8 harg8 arg9 harg9 arg10 harg10 arg11 harg11 arg12 harg12 arg13 harg13 arg14 harg14
    k0_part4 i arg1 harg1 arg2 harg2 arg3 harg3 arg4 harg4 arg5 harg5 arg6 harg6 arg7 harg7 arg8 harg8 arg9 harg9 arg10 harg10 arg11 harg11 arg12 harg12 arg13 harg13 arg14 harg14
    k0_part5 i arg1 harg1 arg2 harg2 arg3 harg3 arg4 harg4 arg5 harg5 arg6 harg6 arg7 harg7 arg8 harg8 arg9 harg9 arg10 harg10 arg11 harg11 arg12 harg12 arg13 harg13 arg14 harg14
    k0_part6 i arg1 harg1 arg2 harg2 arg3 harg3 arg4 harg4 arg5 harg5 arg6 harg6 arg7 harg7 arg8 harg8 arg9 harg9 arg10 harg10 arg11 harg11 arg12 harg12 arg13 harg13 arg14 harg14
    let v243 : Vec F S128x128 .bf16 ← Prog.lift (.load arg4 (Rect.unit (s := S4224x128) ![3840, 0] S128x128.size inb_S4224x128_S128x128_3840_0).toLoadRect (View.loadsAt_vmem h_S128x128))
    let v247 : Vec F S128x128 .bf16 ← Prog.lift (.load arg7 (Rect.unit (s := S128x4224) ![0, 3840] S128x128.size inb_S128x4224_S128x128_0_3840).toLoadRect (View.loadsAt_vmem h_S128x128))
    Prog.lift (.store arg7 (Rect.unit (s := S128x4224) ![0, 3840] S128x128.size inb_S128x4224_S128x128_0_3840) (k0_pay91 v243) Finset.univ (View.stores_vmem h_S128x128 (harg7.storeExact_slice rfl _ packedbf16_S128x4224_S128x128_0_3840) (fun _ => rfl)) (.inl rfl))
    let v250 : Vec F S128x128 .bf16 ← Prog.lift (.load arg4 (Rect.unit (s := S4224x128) ![3968, 0] S128x128.size inb_S4224x128_S128x128_3968_0).toLoadRect (View.loadsAt_vmem h_S128x128))
    let v254 : Vec F S128x128 .bf16 ← Prog.lift (.load arg7 (Rect.unit (s := S128x4224) ![0, 3968] S128x128.size inb_S128x4224_S128x128_0_3968).toLoadRect (View.loadsAt_vmem h_S128x128))
    Prog.lift (.store arg7 (Rect.unit (s := S128x4224) ![0, 3968] S128x128.size inb_S128x4224_S128x128_0_3968) (k0_pay92 v250) Finset.univ (View.stores_vmem h_S128x128 (harg7.storeExact_slice rfl _ packedbf16_S128x4224_S128x128_0_3968) (fun _ => rfl)) (.inl rfl))
    let v257 : Vec F S128x128 .bf16 ← Prog.lift (.load arg4 (Rect.unit (s := S4224x128) ![4096, 0] S128x128.size inb_S4224x128_S128x128_4096_0).toLoadRect (View.loadsAt_vmem h_S128x128))
    let v261 : Vec F S128x128 .bf16 ← Prog.lift (.load arg7 (Rect.unit (s := S128x4224) ![0, 4096] S128x128.size inb_S128x4224_S128x128_0_4096).toLoadRect (View.loadsAt_vmem h_S128x128))
    Prog.lift (.store arg7 (Rect.unit (s := S128x4224) ![0, 4096] S128x128.size inb_S128x4224_S128x128_0_4096) (k0_pay93 v257) Finset.univ (View.stores_vmem h_S128x128 (harg7.storeExact_slice rfl _ packedbf16_S128x4224_S128x128_0_4096) (fun _ => rfl)) (.inl rfl))
    pure ⟨⟩
  else do
    pure ⟨⟩

/-- The third segment: the bounded step, writing out the tile before and computing this one. -/
noncomputable def seg3 (i : grid0.Coords) (arg1 : Memref sig .tc .smem S1 .i32) (harg1 : arg1.IsWhole) (arg2 : Memref sig .tc .vmem S384x256 .bf16) (harg2 : arg2.IsWhole) (arg3 : Memref sig .tc .vmem S4224x128 .bf16) (harg3 : arg3.IsWhole) (arg4 : Memref sig .tc .vmem S4224x128 .bf16) (harg4 : arg4.IsWhole) (arg5 : Memref sig .tc .vmem S384x256 .bf16) (harg5 : arg5.IsWhole) (arg6 : Memref sig .tc .vmem S384x256 .bf16) (harg6 : arg6.IsWhole) (arg7 : Memref sig .tc .vmem S128x4224 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S128x768 .f32) (harg10 : arg10.IsWhole) (arg11 : Memref sig .tc .vmem S1040x768 .f32) (harg11 : arg11.IsWhole) (arg12 : Memref sig .tc .vmem S1040x768 .f32) (harg12 : arg12.IsWhole) (arg13 : Memref sig .tc .vmem S1x768 .f32) (harg13 : arg13.IsWhole) (arg14 : Memref sig .tc .vmem S1x768 .f32) (harg14 : arg14.IsWhole) :
    Prog (TpuEff nD τ sig (Elt F) Λ₀ .tc) PUnit := do
  let arg0 : BitVec 32 := BitVec.ofNat 32 (i 0).val
  let v18 : Elt F .i32 ← smemLoad arg1 (Rect.unit (s := S1) ![0] S1.size inb_S1_S1_0) numel1_S1 rfl
  let v19 : BitVec 1 := Scalar.cmpi .ne v18 0#32
  let v20 : BitVec 1 := Scalar.cmpi .slt arg0 352#32
  let v21 : BitVec 1 := Scalar.andi v19 v20
  let v22 : BitVec 32 := Scalar.extui v21
  let v23 : BitVec 1 := Scalar.cmpi .ne v22 0#32
  if v23 = 1#1 then do
    let ⟨v33, v34, v37, v55, v59, v62, v64⟩ : Σ' (v33 : Vec F S128x768 .f32) (v34 : Vec F S1x768 .f32) (v37 : FVec F S768x128 .bf16) (v55 : FVec F S1x768 .f32) (v59 : FVec F S128x768 .f32) (v62 : FVec F S1024x768 .f32), FVec F S1x768 .f32 ← k0_part7 i arg1 harg1 arg2 harg2 arg3 harg3 arg4 harg4 arg5 harg5 arg6 harg6 arg7 harg7 arg8 harg8 arg9 harg9 arg10 harg10 arg11 harg11 arg12 harg12 arg13 harg13 arg14 harg14
    let ⟨v99, v101⟩ : Σ' (v99 : FVec F S384x128 .f32), FVec F S384x128 .f32 ← k0_part8 i arg1 harg1 arg2 harg2 arg3 harg3 arg4 harg4 arg5 harg5 arg6 harg6 arg7 harg7 arg8 harg8 arg9 harg9 arg10 harg10 arg11 harg11 arg12 harg12 arg13 harg13 arg14 harg14 v33 v34 v37 v55 v59 v62 v64
    let v104 : Vec F S384x128 .bf16 ← Prog.lift (.load arg6 (Rect.unit (s := S384x256) ![0, 128] S384x128.size inb_S384x256_S384x128_0_128).toLoadRect (View.loadsAt_vmem h_S384x128))
    Prog.lift (.store arg6 (Rect.unit (s := S384x256) ![0, 128] S384x128.size inb_S384x256_S384x128_0_128) (k0_pay94 v99 v101) Finset.univ (View.stores_vmem h_S384x128 (harg6.storeExact_slice rfl _ packedbf16_S384x256_S384x128_0_128) (fun _ => rfl)) (.inl rfl))
    pure ⟨⟩
  else do
    pure ⟨⟩

/-- The fourth segment: the unbounded step, with a running maximum. -/
noncomputable def seg4 (i : grid0.Coords) (arg1 : Memref sig .tc .smem S1 .i32) (harg1 : arg1.IsWhole) (arg2 : Memref sig .tc .vmem S384x256 .bf16) (harg2 : arg2.IsWhole) (arg3 : Memref sig .tc .vmem S4224x128 .bf16) (harg3 : arg3.IsWhole) (arg4 : Memref sig .tc .vmem S4224x128 .bf16) (harg4 : arg4.IsWhole) (arg5 : Memref sig .tc .vmem S384x256 .bf16) (harg5 : arg5.IsWhole) (arg6 : Memref sig .tc .vmem S384x256 .bf16) (harg6 : arg6.IsWhole) (arg7 : Memref sig .tc .vmem S128x4224 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S128x768 .f32) (harg10 : arg10.IsWhole) (arg11 : Memref sig .tc .vmem S1040x768 .f32) (harg11 : arg11.IsWhole) (arg12 : Memref sig .tc .vmem S1040x768 .f32) (harg12 : arg12.IsWhole) (arg13 : Memref sig .tc .vmem S1x768 .f32) (harg13 : arg13.IsWhole) (arg14 : Memref sig .tc .vmem S1x768 .f32) (harg14 : arg14.IsWhole) :
    Prog (TpuEff nD τ sig (Elt F) Λ₀ .tc) PUnit := do
  let arg0 : BitVec 32 := BitVec.ofNat 32 (i 0).val
  let v24 : Elt F .i32 ← smemLoad arg1 (Rect.unit (s := S1) ![0] S1.size inb_S1_S1_0) numel1_S1 rfl
  let v25 : BitVec 1 := Scalar.cmpi .eq v24 0#32
  let v26 : BitVec 1 := Scalar.cmpi .slt arg0 352#32
  let v27 : BitVec 1 := Scalar.andi v25 v26
  let v28 : BitVec 32 := Scalar.extui v27
  let v29 : BitVec 1 := Scalar.cmpi .ne v28 0#32
  if v29 = 1#1 then do
    let ⟨v201, v226⟩ : Σ' (v201 : FVec F S1x768 .f32), Vec F S1x768 .f32 ← k0_part14 i arg1 harg1 arg2 harg2 arg3 harg3 arg4 harg4 arg5 harg5 arg6 harg6 arg7 harg7 arg8 harg8 arg9 harg9 arg10 harg10 arg11 harg11 arg12 harg12 arg13 harg13 arg14 harg14
    Prog.lift (.store arg8 (Rect.unit (s := S1x768) ![0, 0] S1x768.size inb_S1x768_S1x768_0_0) (k0_pay95 v201) Finset.univ (View.stores_vmem_bits_univ h_S1x768 rfl) (.inl rfl))
    pure ⟨⟩
  else do
    pure ⟨⟩

/-- The fifth segment: the last grid point writes out the last tile. -/
noncomputable def seg5 (i : grid0.Coords) (arg1 : Memref sig .tc .smem S1 .i32) (harg1 : arg1.IsWhole) (arg2 : Memref sig .tc .vmem S384x256 .bf16) (harg2 : arg2.IsWhole) (arg3 : Memref sig .tc .vmem S4224x128 .bf16) (harg3 : arg3.IsWhole) (arg4 : Memref sig .tc .vmem S4224x128 .bf16) (harg4 : arg4.IsWhole) (arg5 : Memref sig .tc .vmem S384x256 .bf16) (harg5 : arg5.IsWhole) (arg6 : Memref sig .tc .vmem S384x256 .bf16) (harg6 : arg6.IsWhole) (arg7 : Memref sig .tc .vmem S128x4224 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S128x768 .f32) (harg10 : arg10.IsWhole) (arg11 : Memref sig .tc .vmem S1040x768 .f32) (harg11 : arg11.IsWhole) (arg12 : Memref sig .tc .vmem S1040x768 .f32) (harg12 : arg12.IsWhole) (arg13 : Memref sig .tc .vmem S1x768 .f32) (harg13 : arg13.IsWhole) (arg14 : Memref sig .tc .vmem S1x768 .f32) (harg14 : arg14.IsWhole) :
    Prog (TpuEff nD τ sig (Elt F) Λ₀ .tc) PUnit := do
  let arg0 : BitVec 32 := BitVec.ofNat 32 (i 0).val
  let v30 : BitVec 1 := Scalar.cmpi .eq arg0 352#32
  let v31 : BitVec 32 := Scalar.extui v30
  let v32 : BitVec 1 := Scalar.cmpi .ne v31 0#32
  if v32 = 1#1 then do
    let v33 : Vec F S128x768 .f32 ← Prog.lift (.load arg10 (Rect.unit (s := S128x768) ![0, 0] S128x768.size inb_S128x768_S128x768_0_0).toLoadRect (View.loadsAt_vmem h_S128x768))
    let v34 : Vec F S1x768 .f32 ← Prog.lift (.load arg9 (Rect.unit (s := S1x768) ![0, 0] S1x768.size inb_S1x768_S1x768_0_0).toLoadRect (View.loadsAt_vmem h_S1x768))
    let v38 : Vec F S384x128 .bf16 ← Prog.lift (.load arg5 (Rect.unit (s := S384x256) ![0, 0] S384x128.size inb_S384x256_S384x128_0_0).toLoadRect (View.loadsAt_vmem h_S384x128))
    let v45 : Vec F S384x128 .bf16 ← Prog.lift (.load arg6 (Rect.unit (s := S384x256) ![0, 0] S384x128.size inb_S384x256_S384x128_0_0).toLoadRect (View.loadsAt_vmem h_S384x128))
    Prog.lift (.store arg6 (Rect.unit (s := S384x256) ![0, 0] S384x128.size inb_S384x256_S384x128_0_0) (k0_pay97 v33 v34 v38) Finset.univ (View.stores_vmem h_S384x128 (harg6.storeExact_slice rfl _ packedbf16_S384x256_S384x128_0_0) (fun _ => rfl)) (.inl rfl))
    let v46 : Vec F S384x128 .bf16 ← Prog.lift (.load arg5 (Rect.unit (s := S384x256) ![0, 128] S384x128.size inb_S384x256_S384x128_0_128).toLoadRect (View.loadsAt_vmem h_S384x128))
    let v53 : Vec F S384x128 .bf16 ← Prog.lift (.load arg6 (Rect.unit (s := S384x256) ![0, 128] S384x128.size inb_S384x256_S384x128_0_128).toLoadRect (View.loadsAt_vmem h_S384x128))
    Prog.lift (.store arg6 (Rect.unit (s := S384x256) ![0, 128] S384x128.size inb_S384x256_S384x128_0_128) (k0_pay98 v33 v34 v46) Finset.univ (View.stores_vmem h_S384x128 (harg6.storeExact_slice rfl _ packedbf16_S384x256_S384x128_0_128) (fun _ => rfl)) (.inl rfl))
    pure ⟨⟩
  else do
    pure ⟨⟩

/-- A conditional whose two branches end by the same continuation is the conditional followed by it. -/
theorem ite_then.{v} {E : Type → Type v} {c : Prop} [Decidable c] {α : Type} (a : Prog E PUnit) (k : PUnit → Prog E α) :
    (if c then a >>= k else k ⟨⟩) = (if c then a else pure ⟨⟩) >>= k := by
  split
  · rfl
  · exact (pure_bind _ _).symm

/-- The body is its five segments in order. -/
theorem body_eq (i : grid0.Coords) (arg1 : Memref sig .tc .smem S1 .i32) (harg1 : arg1.IsWhole) (arg2 : Memref sig .tc .vmem S384x256 .bf16) (harg2 : arg2.IsWhole) (arg3 : Memref sig .tc .vmem S4224x128 .bf16) (harg3 : arg3.IsWhole) (arg4 : Memref sig .tc .vmem S4224x128 .bf16) (harg4 : arg4.IsWhole) (arg5 : Memref sig .tc .vmem S384x256 .bf16) (harg5 : arg5.IsWhole) (arg6 : Memref sig .tc .vmem S384x256 .bf16) (harg6 : arg6.IsWhole) (arg7 : Memref sig .tc .vmem S128x4224 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S128x768 .f32) (harg10 : arg10.IsWhole) (arg11 : Memref sig .tc .vmem S1040x768 .f32) (harg11 : arg11.IsWhole) (arg12 : Memref sig .tc .vmem S1040x768 .f32) (harg12 : arg12.IsWhole) (arg13 : Memref sig .tc .vmem S1x768 .f32) (harg13 : arg13.IsWhole) (arg14 : Memref sig .tc .vmem S1x768 .f32) (harg14 : arg14.IsWhole) :
    cc0_attention (F := F) i arg1 harg1 arg2 harg2 arg3 harg3 arg4 harg4 arg5 harg5 arg6 harg6 arg7 harg7 arg8 harg8 arg9 harg9 arg10 harg10 arg11 harg11 arg12 harg12 arg13 harg13 arg14 harg14 = (do
      seg1 i arg1 harg1 arg2 harg2 arg3 harg3 arg4 harg4 arg5 harg5 arg6 harg6 arg7 harg7 arg8 harg8 arg9 harg9 arg10 harg10 arg11 harg11 arg12 harg12 arg13 harg13 arg14 harg14
      seg2 i arg1 harg1 arg2 harg2 arg3 harg3 arg4 harg4 arg5 harg5 arg6 harg6 arg7 harg7 arg8 harg8 arg9 harg9 arg10 harg10 arg11 harg11 arg12 harg12 arg13 harg13 arg14 harg14
      seg3 i arg1 harg1 arg2 harg2 arg3 harg3 arg4 harg4 arg5 harg5 arg6 harg6 arg7 harg7 arg8 harg8 arg9 harg9 arg10 harg10 arg11 harg11 arg12 harg12 arg13 harg13 arg14 harg14
      seg4 i arg1 harg1 arg2 harg2 arg3 harg3 arg4 harg4 arg5 harg5 arg6 harg6 arg7 harg7 arg8 harg8 arg9 harg9 arg10 harg10 arg11 harg11 arg12 harg12 arg13 harg13 arg14 harg14
      seg5 i arg1 harg1 arg2 harg2 arg3 harg3 arg4 harg4 arg5 harg5 arg6 harg6 arg7 harg7 arg8 harg8 arg9 harg9 arg10 harg10 arg11 harg11 arg12 harg12 arg13 harg13 arg14 harg14) := by
  rw [cc0_attention_eq_skeleton]
  unfold cc0_attention_skel
  refine (bind_pure _).trans ?_
  rw [k0_part15_eq_skeleton]
  unfold k0_part15_skel seg1 seg2 seg3 seg4 seg5
  simp only [← ite_then, dite_eq_ite, bind_assoc, pure_bind]

end Cert.KernelIdeal.Body

end
-- ==== Proof.Held.lean ====
module

public import proofs.«01_k».proof.Proof.Segs
public import proofs.«01_k».proof.Proof.Gen.KernelIdeal.Frame

/-! What the body holds while it runs: the five input blocks, the output block, and its scratch buffers. -/

@[expose] public section

set_option maxRecDepth 65536

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-- What a grid point may change: its output block, the transposed values, the running sums and the running products. -/
structure St (F : FTy → Type) where
  o : Vec F S384x256 .bf16
  vt : Vec F S128x4224 .bf16
  l : Vec F S1x768 .f32
  acc : Vec F S128x768 .f32

variable (c : Dev nD) (i : grid0.Coords) (arg1 : Memref sig .tc .smem S1 .i32) (harg1 : arg1.IsWhole) (arg2 : Memref sig .tc .vmem S384x256 .bf16) (harg2 : arg2.IsWhole) (arg3 : Memref sig .tc .vmem S4224x128 .bf16) (harg3 : arg3.IsWhole) (arg4 : Memref sig .tc .vmem S4224x128 .bf16) (harg4 : arg4.IsWhole) (arg5 : Memref sig .tc .vmem S384x256 .bf16) (harg5 : arg5.IsWhole) (arg6 : Memref sig .tc .vmem S384x256 .bf16) (harg6 : arg6.IsWhole) (arg7 : Memref sig .tc .vmem S128x4224 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S128x768 .f32) (harg10 : arg10.IsWhole) (arg11 : Memref sig .tc .vmem S1040x768 .f32) (harg11 : arg11.IsWhole) (arg12 : Memref sig .tc .vmem S1040x768 .f32) (harg12 : arg12.IsWhole) (arg13 : Memref sig .tc .vmem S1x768 .f32) (harg13 : arg13.IsWhole) (arg14 : Memref sig .tc .vmem S1x768 .f32) (harg14 : arg14.IsWhole)

/-- The five input blocks at their contents, the output block and the three carried scratch buffers at the state's,
the other scratch buffers at anything. -/
def Held (w : Vec F S1 .i32) (q : Vec F S384x256 .bf16) (k v : Vec F S4224x128 .bf16) (g : Vec F S384x256 .bf16) (s : St F) : sProp 𝕄 :=
  iprop(owns (c : Thread nD τ) arg1 fullShare w ∗ owns (c : Thread nD τ) arg2 fullShare q ∗ owns (c : Thread nD τ) arg3 fullShare k
    ∗ owns (c : Thread nD τ) arg4 fullShare v ∗ owns (c : Thread nD τ) arg5 fullShare g ∗ owns (c : Thread nD τ) arg6 fullShare s.o
    ∗ owns (c : Thread nD τ) arg7 fullShare s.vt ∗ (∃ d, owns (c : Thread nD τ) arg8 fullShare d) ∗ owns (c : Thread nD τ) arg9 fullShare s.l
    ∗ owns (c : Thread nD τ) arg10 fullShare s.acc ∗ (∃ d, owns (c : Thread nD τ) arg11 fullShare d) ∗ (∃ d, owns (c : Thread nD τ) arg12 fullShare d)
    ∗ (∃ d, owns (c : Thread nD τ) arg13 fullShare d) ∗ (∃ d, owns (c : Thread nD τ) arg14 fullShare d))

/-- The fourteen buffers at given contents. -/
abbrev Cells (f1 : arg1.view.ty.Contents (Elt F)) (f2 : arg2.view.ty.Contents (Elt F)) (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) (f11 : arg11.view.ty.Contents (Elt F)) (f12 : arg12.view.ty.Contents (Elt F)) (f13 : arg13.view.ty.Contents (Elt F)) (f14 : arg14.view.ty.Contents (Elt F)) : sProp 𝕄 :=
  iprop((View.loc (c : Thread nD τ) arg1.view ↦[arg1.view.set]{fullShare} f1)
    ∗ (View.loc (c : Thread nD τ) arg2.view ↦[arg2.view.set]{fullShare} f2)
    ∗ (View.loc (c : Thread nD τ) arg3.view ↦[arg3.view.set]{fullShare} f3)
    ∗ (View.loc (c : Thread nD τ) arg4.view ↦[arg4.view.set]{fullShare} f4)
    ∗ (View.loc (c : Thread nD τ) arg5.view ↦[arg5.view.set]{fullShare} f5)
    ∗ (View.loc (c : Thread nD τ) arg6.view ↦[arg6.view.set]{fullShare} f6)
    ∗ (View.loc (c : Thread nD τ) arg7.view ↦[arg7.view.set]{fullShare} f7)
    ∗ (View.loc (c : Thread nD τ) arg8.view ↦[arg8.view.set]{fullShare} f8)
    ∗ (View.loc (c : Thread nD τ) arg9.view ↦[arg9.view.set]{fullShare} f9)
    ∗ (View.loc (c : Thread nD τ) arg10.view ↦[arg10.view.set]{fullShare} f10)
    ∗ (View.loc (c : Thread nD τ) arg11.view ↦[arg11.view.set]{fullShare} f11)
    ∗ (View.loc (c : Thread nD τ) arg12.view ↦[arg12.view.set]{fullShare} f12)
    ∗ (View.loc (c : Thread nD τ) arg13.view ↦[arg13.view.set]{fullShare} f13)
    ∗ (View.loc (c : Thread nD τ) arg14.view ↦[arg14.view.set]{fullShare} f14))

variable (w : Vec F S1 .i32) (q : Vec F S384x256 .bf16) (k v : Vec F S4224x128 .bf16) (g : Vec F S384x256 .bf16) (s : St F)

/-- Whatever follows from the buffers at contents that read as the state follows from the state. -/
theorem held_elim {Q : sProp 𝕄} (h : ∀ (f1 : arg1.view.ty.Contents (Elt F)) (f2 : arg2.view.ty.Contents (Elt F)) (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) (f11 : arg11.view.ty.Contents (Elt F)) (f12 : arg12.view.ty.Contents (Elt F)) (f13 : arg13.view.ty.Contents (Elt F)) (f14 : arg14.view.ty.Contents (Elt F)), arg1.view.read (Elt F) f1 = w → arg2.view.read (Elt F) f2 = q → arg3.view.read (Elt F) f3 = k → arg4.view.read (Elt F) f4 = v → arg5.view.read (Elt F) f5 = g → arg6.view.read (Elt F) f6 = s.o → arg7.view.read (Elt F) f7 = s.vt → arg9.view.read (Elt F) f9 = s.l → arg10.view.read (Elt F) f10 = s.acc → (Cells c arg1 arg2 arg3 arg4 arg5 arg6 arg7 arg8 arg9 arg10 arg11 arg12 arg13 arg14 f1 f2 f3 f4 f5 f6 f7 f8 f9 f10 f11 f12 f13 f14 ⊢ Q)) :
    Held c arg1 arg2 arg3 arg4 arg5 arg6 arg7 arg8 arg9 arg10 arg11 arg12 arg13 arg14 w q k v g s ⊢ Q := by
  unfold Held owns
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%d8, %f8, -, H8⟩, ⟨%f9, %h9, H9⟩, ⟨%f10, %h10, H10⟩, ⟨%d11, %f11, -, H11⟩, ⟨%d12, %f12, -, H12⟩, ⟨%d13, %f13, -, H13⟩, ⟨%d14, %f14, -, H14⟩⟩
  iapply (h f1 f2 f3 f4 f5 f6 f7 f8 f9 f10 f11 f12 f13 f14 h1 h2 h3 h4 h5 h6 h7 h9 h10)
  iframe H1 H2 H3 H4 H5 H6 H7 H8 H9 H10 H11 H12 H13 H14

/-- The buffers at contents that read as the state are the state. -/
theorem held_intro (f1 : arg1.view.ty.Contents (Elt F)) (f2 : arg2.view.ty.Contents (Elt F)) (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) (f11 : arg11.view.ty.Contents (Elt F)) (f12 : arg12.view.ty.Contents (Elt F)) (f13 : arg13.view.ty.Contents (Elt F)) (f14 : arg14.view.ty.Contents (Elt F)) (h1 : arg1.view.read (Elt F) f1 = w) (h2 : arg2.view.read (Elt F) f2 = q) (h3 : arg3.view.read (Elt F) f3 = k) (h4 : arg4.view.read (Elt F) f4 = v) (h5 : arg5.view.read (Elt F) f5 = g) (h6 : arg6.view.read (Elt F) f6 = s.o) (h7 : arg7.view.read (Elt F) f7 = s.vt) (h9 : arg9.view.read (Elt F) f9 = s.l) (h10 : arg10.view.read (Elt F) f10 = s.acc) :
    Cells c arg1 arg2 arg3 arg4 arg5 arg6 arg7 arg8 arg9 arg10 arg11 arg12 arg13 arg14 f1 f2 f3 f4 f5 f6 f7 f8 f9 f10 f11 f12 f13 f14 ⊢ Held c arg1 arg2 arg3 arg4 arg5 arg6 arg7 arg8 arg9 arg10 arg11 arg12 arg13 arg14 w q k v g s := by
  unfold Held owns
  iintro ⟨H1, H2, H3, H4, H5, H6, H7, H8, H9, H10, H11, H12, H13, H14⟩
  isplitl [H1]
  · iexists _; isplitr; · ipureintro; exact h1
    iexact H1
  isplitl [H2]
  · iexists _; isplitr; · ipureintro; exact h2
    iexact H2
  isplitl [H3]
  · iexists _; isplitr; · ipureintro; exact h3
    iexact H3
  isplitl [H4]
  · iexists _; isplitr; · ipureintro; exact h4
    iexact H4
  isplitl [H5]
  · iexists _; isplitr; · ipureintro; exact h5
    iexact H5
  isplitl [H6]
  · iexists _; isplitr; · ipureintro; exact h6
    iexact H6
  isplitl [H7]
  · iexists _; isplitr; · ipureintro; exact h7
    iexact H7
  isplitl [H8]
  · iexists _, _; isplitr; swap; · iexact H8
    ipureintro; rfl
  isplitl [H9]
  · iexists _; isplitr; · ipureintro; exact h9
    iexact H9
  isplitl [H10]
  · iexists _; isplitr; · ipureintro; exact h10
    iexact H10
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  · iexists _, _; isplitr; swap; · iexact H14
    ipureintro; rfl

/-- The same, with the equations asked for last. -/
theorem held_intro' (f1 : arg1.view.ty.Contents (Elt F)) (f2 : arg2.view.ty.Contents (Elt F)) (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) (f11 : arg11.view.ty.Contents (Elt F)) (f12 : arg12.view.ty.Contents (Elt F)) (f13 : arg13.view.ty.Contents (Elt F)) (f14 : arg14.view.ty.Contents (Elt F)) :
    iprop((Cells c arg1 arg2 arg3 arg4 arg5 arg6 arg7 arg8 arg9 arg10 arg11 arg12 arg13 arg14 f1 f2 f3 f4 f5 f6 f7 f8 f9 f10 f11 f12 f13 f14) ∗ ⌜arg1.view.read (Elt F) f1 = w ∧ arg2.view.read (Elt F) f2 = q ∧ arg3.view.read (Elt F) f3 = k ∧ arg4.view.read (Elt F) f4 = v ∧ arg5.view.read (Elt F) f5 = g ∧ arg6.view.read (Elt F) f6 = s.o ∧ arg7.view.read (Elt F) f7 = s.vt ∧ arg9.view.read (Elt F) f9 = s.l ∧ arg10.view.read (Elt F) f10 = s.acc⌝) ⊢ Held c arg1 arg2 arg3 arg4 arg5 arg6 arg7 arg8 arg9 arg10 arg11 arg12 arg13 arg14 w q k v g s := by
  iintro ⟨H, %h⟩
  iapply (held_intro c arg1 arg2 arg3 arg4 arg5 arg6 arg7 arg8 arg9 arg10 arg11 arg12 arg13 arg14 w q k v g s f1 f2 f3 f4 f5 f6 f7 f8 f9 f10 f11 f12 f13 f14 h.1 h.2.1 h.2.2.1 h.2.2.2.1 h.2.2.2.2.1 h.2.2.2.2.2.1 h.2.2.2.2.2.2.1 h.2.2.2.2.2.2.2.1 h.2.2.2.2.2.2.2.2)
  iexact H

end Cert.KernelIdeal.Body

end
-- ==== Proof.Triple1.lean ====
module

public import proofs.«01_k».proof.Proof.Held
public import Idealize.ShloMosaic.Lib.VecWindow

/-! The first segment: the reset at the first grid point. -/

@[expose] public section

set_option maxRecDepth 65536

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (c : Dev nD) (i : grid0.Coords) (arg1 : Memref sig .tc .smem S1 .i32) (harg1 : arg1.IsWhole) (arg2 : Memref sig .tc .vmem S384x256 .bf16) (harg2 : arg2.IsWhole) (arg3 : Memref sig .tc .vmem S4224x128 .bf16) (harg3 : arg3.IsWhole) (arg4 : Memref sig .tc .vmem S4224x128 .bf16) (harg4 : arg4.IsWhole) (arg5 : Memref sig .tc .vmem S384x256 .bf16) (harg5 : arg5.IsWhole) (arg6 : Memref sig .tc .vmem S384x256 .bf16) (harg6 : arg6.IsWhole) (arg7 : Memref sig .tc .vmem S128x4224 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S128x768 .f32) (harg10 : arg10.IsWhole) (arg11 : Memref sig .tc .vmem S1040x768 .f32) (harg11 : arg11.IsWhole) (arg12 : Memref sig .tc .vmem S1040x768 .f32) (harg12 : arg12.IsWhole) (arg13 : Memref sig .tc .vmem S1x768 .f32) (harg13 : arg13.IsWhole) (arg14 : Memref sig .tc .vmem S1x768 .f32) (harg14 : arg14.IsWhole)
variable (w : Vec F S1 .i32) (q : Vec F S384x256 .bf16) (k v : Vec F S4224x128 .bf16) (g : Vec F S384x256 .bf16)

/-- The condition of the first segment. -/
abbrev cond1 (i : grid0.Coords) : Prop :=
  Scalar.cmpi .ne (Scalar.extui (Scalar.cmpi .eq (BitVec.ofNat 32 (i 0).val) 0#32) : BitVec 32) 0#32 = 1#1

/-- The state after the first segment. -/
def St.step1 (s : St F) (i : grid0.Coords) : St F :=
  if cond1 i then { s with l := k0_pay90 (F := F), acc := k0_pay89 (F := F) } else s

/-- What the state is after the segment. -/
theorem triple1 (E : Set ℕ) (s : St F) :
    Held c arg1 arg2 arg3 arg4 arg5 arg6 arg7 arg8 arg9 arg10 arg11 arg12 arg13 arg14 w q k v g s
      ⊢ wp frame (wpE (defs₀ (F := F)) Variants.none c none) E (seg1 i arg1 harg1 arg2 harg2 arg3 harg3 arg4 harg4 arg5 harg5 arg6 harg6 arg7 harg7 arg8 harg8 arg9 harg9 arg10 harg10 arg11 harg11 arg12 harg12 arg13 harg13 arg14 harg14)
          (fun _ => Held c arg1 arg2 arg3 arg4 arg5 arg6 arg7 arg8 arg9 arg10 arg11 arg12 arg13 arg14 w q k v g (s.step1 i)) := by
  refine held_elim c arg1 arg2 arg3 arg4 arg5 arg6 arg7 arg8 arg9 arg10 arg11 arg12 arg13 arg14 w q k v g s fun f1 f2 f3 f4 f5 f6 f7 f8 f9 f10 f11 f12 f13 f14 h1 h2 h3 h4 h5 h6 h7 h9 h10 => ?_
  iintro ⟨H1, H2, H3, H4, H5, H6, H7, H8, H9, H10, H11, H12, H13, H14⟩
  unfold seg1
  unfold St.step1
  by_cases hc : cond1 i
  · sl_exec (disch := sl_exact hc)
    sl_step
    rw [if_pos hc]
    iapply (held_intro c arg1 arg2 arg3 arg4 arg5 arg6 arg7 arg8 arg9 arg10 arg11 arg12 arg13 arg14 w q k v g { s with l := k0_pay90 (F := F), acc := k0_pay89 (F := F) } _ _ _ _ _ _ _ _ _ _ _ _ _ _ h1 h2 h3 h4 h5 h6 h7 (View.read_writes_full _ _ _ _ _) (View.read_writes_full _ _ _ _ _))
    iframe H1 H2 H3 H4 H5 H6 H7 H8 H9 H10 H11 H12 H13 H14
  · sl_exec (disch := sl_exact hc)
    sl_step
    rw [if_neg hc]
    iapply (held_intro c arg1 arg2 arg3 arg4 arg5 arg6 arg7 arg8 arg9 arg10 arg11 arg12 arg13 arg14 w q k v g _ _ _ _ _ _ _ _ _ _ _ _ _ _ _ h1 h2 h3 h4 h5 h6 h7 h9 h10)
    iframe H1 H2 H3 H4 H5 H6 H7 H8 H9 H10 H11 H12 H13 H14

end Cert.KernelIdeal.Body

end
-- ==== Proof.Transposed.lean ====
module

public import proofs.«01_k».proof.Proof.Held
public import Idealize.ShloMosaic.Lib.VecWindow
public import Idealize.ShloMosaic.Lib.Pipeline.ReadBack
public import Idealize.ShloMosaic.Lib.Pointwise

/-! The stored transpose: 33 square blocks, each transposed, are the transposed values. -/

@[expose] public section

set_option maxRecDepth 65536

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-- The values with their two axes exchanged, through the wider format and back. -/
def vtOf (v : Vec F S4224x128 .bf16) : Vec F S128x4224 .bf16 :=
  fun j => FloatOps.truncf .bf16 bitsLt_bf16_f32 (FloatOps.extf .f32 bitsLt_bf16_f32 (v (ix2 (j 1) (j 0))))

/-- One transposed block of the values is the block of the transpose at the exchanged offsets. -/
theorem block_transposed (v : Vec F S4224x128 .bf16) (o : ℕ) (h : ∀ a, (![o, 0] : Fin 2 → ℕ) a + S128x128.size a ≤ S4224x128.size a)
    (h' : ∀ a, (![0, o] : Fin 2 → ℕ) a + S128x128.size a ≤ S128x4224.size a) (x : S128x128.Idx) :
    k0_pay1 (View.ld v (Rect.unit (s := S4224x128) ![o, 0] S128x128.size h)) x
      = vtOf v ((Rect.unit (s := S128x4224) ![0, o] S128x128.size h').emb x) := by
  unfold k0_pay1 vtOf
  idx_vars x
  pointwise
  refine congrArg (fun z => FloatOps.truncf .bf16 bitsLt_bf16_f32 (FloatOps.extf .f32 bitsLt_bf16_f32 (v z))) (funext fun a => Fin.ext ?_)
  match a with
  | ⟨0, _⟩ => show o + x1.val = o + 1 * x1.val; rw [Nat.one_mul]
  | ⟨1, _⟩ => show x0.val = 0 + 1 * x0.val; rw [Nat.one_mul, Nat.zero_add]

/-- A transposed block put before blocks of the transpose. -/
theorem pieces_transposed (v : Vec F S4224x128 .bf16) (o : ℕ) (h : ∀ a, (![o, 0] : Fin 2 → ℕ) a + S128x128.size a ≤ S4224x128.size a)
    (h' : ∀ a, (![0, o] : Fin 2 → ℕ) a + S128x128.size a ≤ S128x4224.size a) (L : List (View.Piece (Elt F) S128x4224 .bf16))
    (hL : View.PiecesOf (vtOf v) L) :
    View.PiecesOf (vtOf v) (⟨Rect.unit (s := S128x4224) ![0, o] S128x128.size h',
      k0_pay1 (View.ld v (Rect.unit (s := S4224x128) ![o, 0] S128x128.size h))⟩ :: L) :=
  And.intro (fun x => block_transposed v o h h' x) hL

/-- A buffer stored block by block, each a block of one array and together all of it, reads as that array. -/
theorem read_writes_of_blocks {sp : Space} {S : Shape} {e : EltTy} (u : View sig .tc sp S e) (f : u.ty.Contents (Elt F))
    (L : List (View.Piece (Elt F) S e)) (G : S.Idx → Elt F e) (hG : View.PiecesOf G L) (hL : ∀ y, ∃ p ∈ L, y ∈ p.1.set) :
    u.read (Elt F) (u.writes (Elt F) f L) = G := by
  rw [View.read_writes_eq_canon u f L hL]
  funext y
  have h := View.canon_append_of_piecesOf G [] L hG y (hL y)
  rwa [List.append_nil] at h

end Cert.KernelIdeal.Body

end
-- ==== Proof.Triple2.lean ====
module

public import proofs.«01_k».proof.Proof.Transposed

/-! The second segment: at the first query tile of a head the transposed values are stored. -/

@[expose] public section

set_option maxRecDepth 65536

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (c : Dev nD) (i : grid0.Coords) (arg1 : Memref sig .tc .smem S1 .i32) (harg1 : arg1.IsWhole) (arg2 : Memref sig .tc .vmem S384x256 .bf16) (harg2 : arg2.IsWhole) (arg3 : Memref sig .tc .vmem S4224x128 .bf16) (harg3 : arg3.IsWhole) (arg4 : Memref sig .tc .vmem S4224x128 .bf16) (harg4 : arg4.IsWhole) (arg5 : Memref sig .tc .vmem S384x256 .bf16) (harg5 : arg5.IsWhole) (arg6 : Memref sig .tc .vmem S384x256 .bf16) (harg6 : arg6.IsWhole) (arg7 : Memref sig .tc .vmem S128x4224 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S128x768 .f32) (harg10 : arg10.IsWhole) (arg11 : Memref sig .tc .vmem S1040x768 .f32) (harg11 : arg11.IsWhole) (arg12 : Memref sig .tc .vmem S1040x768 .f32) (harg12 : arg12.IsWhole) (arg13 : Memref sig .tc .vmem S1x768 .f32) (harg13 : arg13.IsWhole) (arg14 : Memref sig .tc .vmem S1x768 .f32) (harg14 : arg14.IsWhole)
variable (w : Vec F S1 .i32) (q : Vec F S384x256 .bf16) (k v : Vec F S4224x128 .bf16) (g : Vec F S384x256 .bf16)

/-- The condition of the second segment: a head's first query tile. -/
abbrev cond2 (i : grid0.Coords) : Prop :=
  let arg0 : BitVec 32 := BitVec.ofNat 32 (i 0).val
  let v4 : BitVec 32 := Scalar.select (Scalar.cmpi .eq 11#32 0#32) 1#32 11#32
  let v5 : BitVec 32 := Scalar.remsi arg0 v4
  let v12 : BitVec 32 := Scalar.select (Scalar.andi (Scalar.xori (Scalar.cmpi .slt v5 0#32) (Scalar.cmpi .slt v4 0#32)) (Scalar.cmpi .ne v5 0#32)) (Scalar.addi v5 v4) v5
  Scalar.cmpi .ne (Scalar.extui (Scalar.andi (Scalar.cmpi .eq v12 0#32) (Scalar.cmpi .slt arg0 352#32)) : BitVec 32) 0#32 = 1#1

/-- The state after the second segment. -/
def St.step2 (s : St F) (i : grid0.Coords) (v : Vec F S4224x128 .bf16) : St F :=
  if cond2 i then { s with vt := vtOf v } else s

/-- What the state is after the segment. -/
theorem triple2 (E : Set ℕ) (s : St F) :
    Held c arg1 arg2 arg3 arg4 arg5 arg6 arg7 arg8 arg9 arg10 arg11 arg12 arg13 arg14 w q k v g s
      ⊢ wp frame (wpE (defs₀ (F := F)) Variants.none c none) E (seg2 i arg1 harg1 arg2 harg2 arg3 harg3 arg4 harg4 arg5 harg5 arg6 harg6 arg7 harg7 arg8 harg8 arg9 harg9 arg10 harg10 arg11 harg11 arg12 harg12 arg13 harg13 arg14 harg14)
          (fun _ => Held c arg1 arg2 arg3 arg4 arg5 arg6 arg7 arg8 arg9 arg10 arg11 arg12 arg13 arg14 w q k v g (s.step2 i v)) := by
  refine held_elim c arg1 arg2 arg3 arg4 arg5 arg6 arg7 arg8 arg9 arg10 arg11 arg12 arg13 arg14 w q k v g s fun f1 f2 f3 f4 f5 f6 f7 f8 f9 f10 f11 f12 f13 f14 h1 h2 h3 h4 h5 h6 h7 h9 h10 => ?_
  iintro ⟨H1, H2, H3, H4, H5, H6, H7, H8, H9, H10, H11, H12, H13, H14⟩
  unfold seg2
  unfold St.step2
  simp only [k0_part1_eq_skeleton, k0_part2_eq_skeleton, k0_part3_eq_skeleton, k0_part4_eq_skeleton, k0_part5_eq_skeleton, k0_part6_eq_skeleton]
  by_cases hc : cond2 i
  · sl_exec (disch := sl_exact hc)
    sl_step
    rw [if_pos hc]
    iapply (held_intro' c arg1 arg2 arg3 arg4 arg5 arg6 arg7 arg8 arg9 arg10 arg11 arg12 arg13 arg14 w q k v g { s with vt := vtOf v } _ _ _ _ _ _ _ _ _ _ _ _ _ _)
    isplitl
    · iframe H1 H2 H3 H4 H5 H6 H7 H8 H9 H10 H11 H12 H13 H14
    ipureintro
    refine ⟨h1, h2, h3, h4, h5, h6, ?_, h9, h10⟩
    subst h4
    refine read_writes_of_blocks _ _ _ _ ?_ (View.cover_of_tiledL _ S128x128.size (by sl_kernel_rfl))
    show View.PiecesOf (vtOf (arg4.view.read (Elt F) f4)) _
    repeat' first | exact trivial | refine pieces_transposed _ _ _ _ _ ?_
  · sl_exec (disch := sl_exact hc)
    sl_step
    rw [if_neg hc]
    iapply (held_intro c arg1 arg2 arg3 arg4 arg5 arg6 arg7 arg8 arg9 arg10 arg11 arg12 arg13 arg14 w q k v g _ _ _ _ _ _ _ _ _ _ _ _ _ _ _ h1 h2 h3 h4 h5 h6 h7 h9 h10)
    iframe H1 H2 H3 H4 H5 H6 H7 H8 H9 H10 H11 H12 H13 H14

end Cert.KernelIdeal.Body

end
-- ==== Proof.Values.lean ====
module

public import proofs.«01_k».proof.Proof.Held
public import Idealize.ShloMosaic.Lib.VecWindow
public import Idealize.ShloMosaic.Lib.Pipeline.ReadBack

/-! What the third, fourth and fifth segments compute. -/

@[expose] public section

set_option maxRecDepth 65536

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-- A block of 384 rows and 128 columns of a query or gate block. -/
abbrev half0 (x : Vec F S384x256 .bf16) : Vec F S384x128 .bf16 := View.ld x (Rect.unit (s := S384x256) ![0, 0] S384x128.size inb_S384x256_S384x128_0_0)
abbrev half1 (x : Vec F S384x256 .bf16) : Vec F S384x128 .bf16 := View.ld x (Rect.unit (s := S384x256) ![0, 128] S384x128.size inb_S384x256_S384x128_0_128)

/-- The four chunks of the keys. -/
abbrev key0 (k : Vec F S4224x128 .bf16) : Vec F S1024x128 .bf16 := View.ld k (Rect.unit (s := S4224x128) ![0, 0] S1024x128.size inb_S4224x128_S1024x128_0_0)
abbrev key1 (k : Vec F S4224x128 .bf16) : Vec F S1024x128 .bf16 := View.ld k (Rect.unit (s := S4224x128) ![1024, 0] S1024x128.size inb_S4224x128_S1024x128_1024_0)
abbrev key2 (k : Vec F S4224x128 .bf16) : Vec F S1024x128 .bf16 := View.ld k (Rect.unit (s := S4224x128) ![2048, 0] S1024x128.size inb_S4224x128_S1024x128_2048_0)
abbrev key3 (k : Vec F S4224x128 .bf16) : Vec F S1040x128 .bf16 := View.ld k (Rect.unit (s := S4224x128) ![3072, 0] S1040x128.size inb_S4224x128_S1040x128_3072_0)

/-- The four chunks of the transposed values. -/
abbrev val0 (vt : Vec F S128x4224 .bf16) : Vec F S128x1024 .bf16 := View.ld vt (Rect.unit (s := S128x4224) ![0, 0] S128x1024.size inb_S128x4224_S128x1024_0_0)
abbrev val1 (vt : Vec F S128x4224 .bf16) : Vec F S128x1024 .bf16 := View.ld vt (Rect.unit (s := S128x4224) ![0, 1024] S128x1024.size inb_S128x4224_S128x1024_0_1024)
abbrev val2 (vt : Vec F S128x4224 .bf16) : Vec F S128x1024 .bf16 := View.ld vt (Rect.unit (s := S128x4224) ![0, 2048] S128x1024.size inb_S128x4224_S128x1024_0_2048)
abbrev val3 (vt : Vec F S128x4224 .bf16) : Vec F S128x1040 .bf16 := View.ld vt (Rect.unit (s := S128x4224) ![0, 3072] S128x1040.size inb_S128x4224_S128x1040_0_3072)

/-- A finished tile: the product over the sum, transposed back, times the gated gate, head by head. -/
def finished (acc : Vec F S128x768 .f32) (l : Vec F S1x768 .f32) (g : Vec F S384x256 .bf16) : Vec F S384x256 .bf16 :=
  View.canon [⟨Rect.unit (s := S384x256) ![0, 128] S384x128.size inb_S384x256_S384x128_0_128, k0_pay98 acc l (half1 g)⟩,
    ⟨Rect.unit (s := S384x256) ![0, 0] S384x128.size inb_S384x256_S384x128_0_0, k0_pay97 acc l (half0 g)⟩]

/-- The bounded tile's sums of exponentials. -/
def boundedSum (q : Vec F S384x256 .bf16) (k : Vec F S4224x128 .bf16) : Vec F S1x768 .f32 :=
  k0_pay40 (k0_pay31 (half0 q) (half1 q)) (k0_pay34 (half0 q) (half1 q) (key0 k) (key1 k)) (k0_pay37 (half0 q) (half1 q) (key2 k)) (key3 k)

/-- The bounded tile's products of exponentials and values. -/
def boundedProd (q : Vec F S384x256 .bf16) (k : Vec F S4224x128 .bf16) (vt : Vec F S128x4224 .bf16) : Vec F S128x768 .f32 :=
  k0_pay39 (k0_pay31 (half0 q) (half1 q)) (k0_pay35 (half0 q) (half1 q) (key0 k) (val0 vt) (key1 k) (val1 vt)) (k0_pay36 (half0 q) (half1 q) (key2 k)) (val2 vt) (key3 k) (val3 vt)

/-- The word of the tile: whether its scores are bounded. -/
abbrev word (w : Vec F S1 .i32) : BitVec 32 := w (Shape.Idx.first (numel1_S1.symm ▸ Nat.one_pos))

/-- What the load of the word gives. -/
theorem word_load (arg1 : Memref sig .tc .smem S1 .i32) (f1 : arg1.view.ty.Contents (Elt F)) :
    word (arg1.view.read (Elt F) f1) = arg1.view.readAt (Elt F) (Rect.unit (s := S1) ![0] S1.size inb_S1_S1_0).toLoadRect f1 (Shape.Idx.first (numel1_S1.symm ▸ Nat.one_pos)) :=
  congrArg (arg1.view.read (Elt F) f1) (funext fun a => Fin.ext (by
    match a with
    | ⟨0, _⟩ => exact (Nat.lt_one_iff.mp (Fin.isLt _)).trans (Nat.lt_one_iff.mp (Fin.isLt _)).symm))

/-- The two halves cover the output block. -/
theorem halves_cover (p0 p1 : Vec F S384x128 .bf16) (y : S384x256.Idx) :
    ∃ p ∈ ([⟨Rect.unit (s := S384x256) ![0, 128] S384x128.size inb_S384x256_S384x128_0_128, p1⟩,
      ⟨Rect.unit (s := S384x256) ![0, 0] S384x128.size inb_S384x256_S384x128_0_0, p0⟩] : List (View.Piece (Elt F) S384x256 .bf16)), y ∈ p.1.set :=
  View.cover_of_tiledL (s := S384x256) _ S384x128.size (by sl_kernel_rfl) y

/-- The output block stored half by half reads as the finished tile. -/
theorem read_finished (acc : Vec F S128x768 .f32) (l : Vec F S1x768 .f32) (g : Vec F S384x256 .bf16) (u : View sig .tc .vmem S384x256 .bf16) (f : u.ty.Contents (Elt F)) :
    u.read (Elt F) (u.writes (Elt F) f [⟨Rect.unit (s := S384x256) ![0, 128] S384x128.size inb_S384x256_S384x128_0_128, k0_pay98 acc l (half1 g)⟩,
      ⟨Rect.unit (s := S384x256) ![0, 0] S384x128.size inb_S384x256_S384x128_0_0, k0_pay97 acc l (half0 g)⟩]) = finished acc l g :=
  View.read_writes_eq_canon u f _ (halves_cover _ _)

end Cert.KernelIdeal.Body

end
-- ==== Proof.Triple3.lean ====
module

public import proofs.«01_k».proof.Proof.Values

/-! The third segment: the bounded step. -/

@[expose] public section

set_option maxRecDepth 65536

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (c : Dev nD) (i : grid0.Coords) (arg1 : Memref sig .tc .smem S1 .i32) (harg1 : arg1.IsWhole) (arg2 : Memref sig .tc .vmem S384x256 .bf16) (harg2 : arg2.IsWhole) (arg3 : Memref sig .tc .vmem S4224x128 .bf16) (harg3 : arg3.IsWhole) (arg4 : Memref sig .tc .vmem S4224x128 .bf16) (harg4 : arg4.IsWhole) (arg5 : Memref sig .tc .vmem S384x256 .bf16) (harg5 : arg5.IsWhole) (arg6 : Memref sig .tc .vmem S384x256 .bf16) (harg6 : arg6.IsWhole) (arg7 : Memref sig .tc .vmem S128x4224 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S128x768 .f32) (harg10 : arg10.IsWhole) (arg11 : Memref sig .tc .vmem S1040x768 .f32) (harg11 : arg11.IsWhole) (arg12 : Memref sig .tc .vmem S1040x768 .f32) (harg12 : arg12.IsWhole) (arg13 : Memref sig .tc .vmem S1x768 .f32) (harg13 : arg13.IsWhole) (arg14 : Memref sig .tc .vmem S1x768 .f32) (harg14 : arg14.IsWhole)
variable (w : Vec F S1 .i32) (q : Vec F S384x256 .bf16) (k v : Vec F S4224x128 .bf16) (g : Vec F S384x256 .bf16)

/-- The condition of the third segment: the scores are bounded, and a tile is left. -/
abbrev cond3 (i : grid0.Coords) (v : BitVec 32) : Prop :=
  Scalar.cmpi .ne (Scalar.extui (Scalar.andi (Scalar.cmpi .ne v 0#32) (Scalar.cmpi .slt (BitVec.ofNat 32 (i 0).val) 352#32)) : BitVec 32) 0#32 = 1#1

/-- The state after the third segment. -/
def St.step3 (s : St F) (i : grid0.Coords) (w : Vec F S1 .i32) (q : Vec F S384x256 .bf16) (k : Vec F S4224x128 .bf16) (g : Vec F S384x256 .bf16) : St F :=
  if cond3 i (word w) then { s with o := finished s.acc s.l g, l := boundedSum q k, acc := boundedProd q k s.vt } else s
set_option maxHeartbeats 1000000 in

/-- What the state is after the segment. -/
theorem triple3 (E : Set ℕ) (s : St F) :
    Held c arg1 arg2 arg3 arg4 arg5 arg6 arg7 arg8 arg9 arg10 arg11 arg12 arg13 arg14 w q k v g s
      ⊢ wp frame (wpE (defs₀ (F := F)) Variants.none c none) E (seg3 i arg1 harg1 arg2 harg2 arg3 harg3 arg4 harg4 arg5 harg5 arg6 harg6 arg7 harg7 arg8 harg8 arg9 harg9 arg10 harg10 arg11 harg11 arg12 harg12 arg13 harg13 arg14 harg14)
          (fun _ => Held c arg1 arg2 arg3 arg4 arg5 arg6 arg7 arg8 arg9 arg10 arg11 arg12 arg13 arg14 w q k v g (s.step3 i w q k g)) := by
  refine held_elim c arg1 arg2 arg3 arg4 arg5 arg6 arg7 arg8 arg9 arg10 arg11 arg12 arg13 arg14 w q k v g s fun f1 f2 f3 f4 f5 f6 f7 f8 f9 f10 f11 f12 f13 f14 h1 h2 h3 h4 h5 h6 h7 h9 h10 => ?_
  iintro ⟨H1, H2, H3, H4, H5, H6, H7, H8, H9, H10, H11, H12, H13, H14⟩
  unfold seg3
  unfold St.step3
  simp only [k0_part7_eq_skeleton, k0_part8_eq_skeleton]
  subst h1
  rw [word_load arg1 f1]
  by_cases hc : cond3 i (arg1.view.readAt (Elt F) (Rect.unit (s := S1) ![0] S1.size inb_S1_S1_0).toLoadRect f1 (Shape.Idx.first (numel1_S1.symm ▸ Nat.one_pos)))
  · sl_exec (disch := sl_exact hc)
    sl_step
    rw [if_pos hc]
    iapply (held_intro' c arg1 arg2 arg3 arg4 arg5 arg6 arg7 arg8 arg9 arg10 arg11 arg12 arg13 arg14 _ q k v g { s with o := finished s.acc s.l g, l := boundedSum q k, acc := boundedProd q k s.vt } _ _ _ _ _ _ _ _ _ _ _ _ _ _)
    isplitl
    · iframe H1 H2 H3 H4 H5 H6 H7 H8 H9 H10 H11 H12 H13 H14
    ipureintro
    refine ⟨rfl, h2, h3, h4, h5, ?_, h7, ?_, ?_⟩
    · rw [← h5, ← h9, ← h10]
      have e9 : arg9.view.readAt (Elt F) (Rect.unit (s := S1x768) ![0, 0] S1x768.size inb_S1x768_S1x768_0_0).toLoadRect f9 = arg9.view.read (Elt F) f9 := View.readAt_full _ _ _
      have e10 : arg10.view.readAt (Elt F) (Rect.unit (s := S128x768) ![0, 0] S128x768.size inb_S128x768_S128x768_0_0).toLoadRect f10 = arg10.view.read (Elt F) f10 := View.readAt_full _ _ _
      rw [← e9, ← e10]
      exact read_finished (F := F) _ _ _ _ _
    · subst h2 h3
      exact View.read_writes_full _ _ _ _ _
    · rw [← h7]
      subst h2 h3
      exact View.read_writes_full _ _ _ _ _
  · sl_exec (disch := sl_exact hc)
    sl_step
    rw [if_neg hc]
    iapply (held_intro c arg1 arg2 arg3 arg4 arg5 arg6 arg7 arg8 arg9 arg10 arg11 arg12 arg13 arg14 _ q k v g _ _ _ _ _ _ _ _ _ _ _ _ _ _ _ rfl h2 h3 h4 h5 h6 h7 h9 h10)
    iframe H1 H2 H3 H4 H5 H6 H7 H8 H9 H10 H11 H12 H13 H14

end Cert.KernelIdeal.Body

end
-- ==== Proof.Online.lean ====
module

public import proofs.«01_k».proof.Proof.Values

/-! What the unbounded step computes: a running maximum, a running sum and a running product over the four chunks of keys. -/

@[expose] public section

set_option maxRecDepth 65536

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-- Both query heads, one above the other. -/
def heads (q : Vec F S384x256 .bf16) : FVec F S768x128 .bf16 := k0_pay48 (half0 q) (half1 q)

/-- The scores of each chunk of keys. -/
def score0 (q : Vec F S384x256 .bf16) (k : Vec F S4224x128 .bf16) : FVec F S1024x768 .f32 := k0_pay54 (heads q) (key0 k)
def score1 (q : Vec F S384x256 .bf16) (k : Vec F S4224x128 .bf16) : FVec F S1024x768 .f32 := k0_pay57 (heads q) (key1 k)
def score2 (q : Vec F S384x256 .bf16) (k : Vec F S4224x128 .bf16) : FVec F S1024x768 .f32 := k0_pay67 (heads q) (key2 k)
def score3 (q : Vec F S384x256 .bf16) (k : Vec F S4224x128 .bf16) : FVec F S1040x768 .f32 := k0_pay76 (k0_pay75 (heads q) (key3 k))

/-- The greatest score of each chunk. -/
def top0 (q : Vec F S384x256 .bf16) (k : Vec F S4224x128 .bf16) : FVec F S1x768 .f32 := k0_pay55 (heads q) (key0 k)
def top1 (q : Vec F S384x256 .bf16) (k : Vec F S4224x128 .bf16) : FVec F S1x768 .f32 := k0_pay58 (heads q) (key1 k)
def top2 (q : Vec F S384x256 .bf16) (k : Vec F S4224x128 .bf16) : FVec F S1x768 .f32 := k0_pay68 (heads q) (key2 k)
def top3 (q : Vec F S384x256 .bf16) (k : Vec F S4224x128 .bf16) : FVec F S1x768 .f32 := k0_pay77 (k0_pay75 (heads q) (key3 k))

/-- The running maximum before each chunk. -/
def max0 : FVec F S1x768 .f32 := k0_pay49
def max1 (q : Vec F S384x256 .bf16) (k : Vec F S4224x128 .bf16) : FVec F S1x768 .f32 := k0_pay65 (k0_pay59 max0 (top0 q k))
def max2 (q : Vec F S384x256 .bf16) (k : Vec F S4224x128 .bf16) : FVec F S1x768 .f32 := k0_pay74 (max1 q k) (top1 q k)
def max3 (q : Vec F S384x256 .bf16) (k : Vec F S4224x128 .bf16) : FVec F S1x768 .f32 := k0_pay83 (k0_pay78 (max2 q k) (top2 q k))

/-- The running sum after each chunk. -/
def sum1 (q : Vec F S384x256 .bf16) (k : Vec F S4224x128 .bf16) : FVec F S1x768 .f32 :=
  k0_pay63 (k0_pay60 max0 (top0 q k)) (k0_pay61 max0 (top0 q k) (score0 q k)) k0_pay50
def sum2 (q : Vec F S384x256 .bf16) (k : Vec F S4224x128 .bf16) : FVec F S1x768 .f32 := k0_pay72 (max1 q k) (top1 q k) (score1 q k) (sum1 q k)
def sum3 (q : Vec F S384x256 .bf16) (k : Vec F S4224x128 .bf16) : FVec F S1x768 .f32 := k0_pay81 (max2 q k) (top2 q k) (score2 q k) (sum2 q k)
def sum4 (q : Vec F S384x256 .bf16) (k : Vec F S4224x128 .bf16) : FVec F S1x768 .f32 := k0_pay87 (max3 q k) (top3 q k) (score3 q k) (sum3 q k)

/-- The running product after each chunk. -/
def prod1 (q : Vec F S384x256 .bf16) (k : Vec F S4224x128 .bf16) (vt : Vec F S128x4224 .bf16) : FVec F S128x768 .f32 :=
  k0_pay64 (k0_pay60 max0 (top0 q k)) (k0_pay61 max0 (top0 q k) (score0 q k)) (k0_pay52 k0_pay51) (val0 vt)
def prod2 (q : Vec F S384x256 .bf16) (k : Vec F S4224x128 .bf16) (vt : Vec F S128x4224 .bf16) : FVec F S128x768 .f32 := k0_pay73 (max1 q k) (top1 q k) (score1 q k) (prod1 q k vt) (val1 vt)
def prod3 (q : Vec F S384x256 .bf16) (k : Vec F S4224x128 .bf16) (vt : Vec F S128x4224 .bf16) : FVec F S128x768 .f32 := k0_pay82 (max2 q k) (top2 q k) (score2 q k) (prod2 q k vt) (val2 vt)
def prod4 (q : Vec F S384x256 .bf16) (k : Vec F S4224x128 .bf16) (vt : Vec F S128x4224 .bf16) : FVec F S128x768 .f32 := k0_pay88 (max3 q k) (top3 q k) (score3 q k) (prod3 q k vt) (val3 vt)

end Cert.KernelIdeal.Body

end
-- ==== Proof.Triple4.lean ====
module

public import proofs.«01_k».proof.Proof.Online

/-! The fourth segment: the unbounded step. -/

@[expose] public section

set_option maxRecDepth 65536

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (c : Dev nD) (i : grid0.Coords) (arg1 : Memref sig .tc .smem S1 .i32) (harg1 : arg1.IsWhole) (arg2 : Memref sig .tc .vmem S384x256 .bf16) (harg2 : arg2.IsWhole) (arg3 : Memref sig .tc .vmem S4224x128 .bf16) (harg3 : arg3.IsWhole) (arg4 : Memref sig .tc .vmem S4224x128 .bf16) (harg4 : arg4.IsWhole) (arg5 : Memref sig .tc .vmem S384x256 .bf16) (harg5 : arg5.IsWhole) (arg6 : Memref sig .tc .vmem S384x256 .bf16) (harg6 : arg6.IsWhole) (arg7 : Memref sig .tc .vmem S128x4224 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S128x768 .f32) (harg10 : arg10.IsWhole) (arg11 : Memref sig .tc .vmem S1040x768 .f32) (harg11 : arg11.IsWhole) (arg12 : Memref sig .tc .vmem S1040x768 .f32) (harg12 : arg12.IsWhole) (arg13 : Memref sig .tc .vmem S1x768 .f32) (harg13 : arg13.IsWhole) (arg14 : Memref sig .tc .vmem S1x768 .f32) (harg14 : arg14.IsWhole)
variable (w : Vec F S1 .i32) (q : Vec F S384x256 .bf16) (k v : Vec F S4224x128 .bf16) (g : Vec F S384x256 .bf16)

/-- The condition of the fourth segment: the scores may be large, and a tile is left. -/
abbrev cond4 (i : grid0.Coords) (v : BitVec 32) : Prop :=
  Scalar.cmpi .ne (Scalar.extui (Scalar.andi (Scalar.cmpi .eq v 0#32) (Scalar.cmpi .slt (BitVec.ofNat 32 (i 0).val) 352#32)) : BitVec 32) 0#32 = 1#1

/-- The state after the fourth segment. -/
def St.step4 (s : St F) (i : grid0.Coords) (w : Vec F S1 .i32) (q : Vec F S384x256 .bf16) (k : Vec F S4224x128 .bf16) (g : Vec F S384x256 .bf16) : St F :=
  if cond4 i (word w) then { s with o := finished s.acc s.l g, l := sum4 q k, acc := prod4 q k s.vt } else s

set_option maxHeartbeats 2000000 in
/-- What the state is after the segment. -/
theorem triple4 (E : Set ℕ) (s : St F) :
    Held c arg1 arg2 arg3 arg4 arg5 arg6 arg7 arg8 arg9 arg10 arg11 arg12 arg13 arg14 w q k v g s
      ⊢ wp frame (wpE (defs₀ (F := F)) Variants.none c none) E (seg4 i arg1 harg1 arg2 harg2 arg3 harg3 arg4 harg4 arg5 harg5 arg6 harg6 arg7 harg7 arg8 harg8 arg9 harg9 arg10 harg10 arg11 harg11 arg12 harg12 arg13 harg13 arg14 harg14)
          (fun _ => Held c arg1 arg2 arg3 arg4 arg5 arg6 arg7 arg8 arg9 arg10 arg11 arg12 arg13 arg14 w q k v g (s.step4 i w q k g)) := by
  refine held_elim c arg1 arg2 arg3 arg4 arg5 arg6 arg7 arg8 arg9 arg10 arg11 arg12 arg13 arg14 w q k v g s fun f1 f2 f3 f4 f5 f6 f7 f8 f9 f10 f11 f12 f13 f14 h1 h2 h3 h4 h5 h6 h7 h9 h10 => ?_
  iintro ⟨H1, H2, H3, H4, H5, H6, H7, H8, H9, H10, H11, H12, H13, H14⟩
  unfold seg4
  unfold St.step4
  simp only [k0_part14_eq_skeleton]
  unfold k0_part14_skel
  simp only [k0_part9_eq_skeleton, k0_part10_eq_skeleton, k0_part11_eq_skeleton, k0_part12_eq_skeleton, k0_part13_eq_skeleton]
  subst h1
  rw [word_load arg1 f1]
  by_cases hc : cond4 i (arg1.view.readAt (Elt F) (Rect.unit (s := S1) ![0] S1.size inb_S1_S1_0).toLoadRect f1 (Shape.Idx.first (numel1_S1.symm ▸ Nat.one_pos)))
  · sl_exec (disch := sl_exact hc)
    sl_step
    rw [if_pos hc]

    iapply (held_intro' c arg1 arg2 arg3 arg4 arg5 arg6 arg7 arg8 arg9 arg10 arg11 arg12 arg13 arg14 _ q k v g { s with o := finished s.acc s.l g, l := sum4 q k, acc := prod4 q k s.vt } _ _ _ _ _ _ _ _ _ _ _ _ _ _)
    isplitl
    · iframe H1 H2 H3 H4 H5 H6 H7 H8 H9 H10 H11 H12 H13 H14
    ipureintro
    refine ⟨rfl, h2, h3, h4, h5, ?_, h7, ?_, ?_⟩
    · rw [← h5, ← h9, ← h10]
      have e9 : arg9.view.readAt (Elt F) (Rect.unit (s := S1x768) ![0, 0] S1x768.size inb_S1x768_S1x768_0_0).toLoadRect f9 = arg9.view.read (Elt F) f9 := View.readAt_full _ _ _
      have e10 : arg10.view.readAt (Elt F) (Rect.unit (s := S128x768) ![0, 0] S128x768.size inb_S128x768_S128x768_0_0).toLoadRect f10 = arg10.view.read (Elt F) f10 := View.readAt_full _ _ _
      rw [← e9, ← e10]
      exact read_finished (F := F) _ _ _ _ _
    · subst h2 h3
      refine (View.read_writes_full _ _ _ _ _).trans ?_
      repeat first | unfold triple4.sl.H10_1 | unfold triple4.sl.H10_2 | unfold triple4.sl.H10_3 | unfold triple4.sl.H10_4 | unfold triple4.sl.H11_1 | unfold triple4.sl.H11_2 | unfold triple4.sl.H12_1 | unfold triple4.sl.H12_2 | unfold triple4.sl.H13_1 | unfold triple4.sl.H13_2 | unfold triple4.sl.H14_1 | unfold triple4.sl.H14_2 | unfold triple4.sl.H8_1 | unfold triple4.sl.H8_2 | unfold triple4.sl.H8_3 | unfold triple4.sl.H8_4 | unfold triple4.sl.H9_1 | unfold triple4.sl.H9_2 | unfold triple4.sl.H9_3 | unfold triple4.sl.H9_4 | unfold triple4.sl.r_1 | unfold triple4.sl.r_2 | unfold triple4.sl.r_3 | unfold triple4.sl.r_4 | unfold triple4.sl.r_5 | unfold triple4.sl.r_7 | unfold triple4.sl.v106 | unfold triple4.sl.v129 | unfold triple4.sl.v130 | unfold triple4.sl.v134 | unfold triple4.sl.v138 | unfold triple4.sl.v146 | unfold triple4.sl.v169 | unfold triple4.sl.v170 | unfold triple4.sl.v174 | unfold triple4.sl.v178 | unfold triple4.sl.v186 | unfold triple4.sl.v199 | unfold triple4.sl.v200 | unfold triple4.sl.v204 | unfold triple4.sl.v208 | unfold triple4.sl.v216 | unfold triple4.sl.v89 | unfold triple4.sl.v90 | unfold triple4.sl.v94 | unfold triple4.sl.v98
      simp only [View.readCov_cons_toLoadRect]
      unfold sum4 sum3 sum2 sum1
      rfl
    · rw [← h7]
      subst h2 h3
      refine (View.read_writes_full _ _ _ _ _).trans ?_
      repeat first | unfold triple4.sl.H10_1 | unfold triple4.sl.H10_2 | unfold triple4.sl.H10_3 | unfold triple4.sl.H10_4 | unfold triple4.sl.H11_1 | unfold triple4.sl.H11_2 | unfold triple4.sl.H12_1 | unfold triple4.sl.H12_2 | unfold triple4.sl.H13_1 | unfold triple4.sl.H13_2 | unfold triple4.sl.H14_1 | unfold triple4.sl.H14_2 | unfold triple4.sl.H8_1 | unfold triple4.sl.H8_2 | unfold triple4.sl.H8_3 | unfold triple4.sl.H8_4 | unfold triple4.sl.H9_1 | unfold triple4.sl.H9_2 | unfold triple4.sl.H9_3 | unfold triple4.sl.H9_4 | unfold triple4.sl.r_1 | unfold triple4.sl.r_2 | unfold triple4.sl.r_3 | unfold triple4.sl.r_4 | unfold triple4.sl.r_5 | unfold triple4.sl.r_7 | unfold triple4.sl.v106 | unfold triple4.sl.v129 | unfold triple4.sl.v130 | unfold triple4.sl.v134 | unfold triple4.sl.v138 | unfold triple4.sl.v146 | unfold triple4.sl.v169 | unfold triple4.sl.v170 | unfold triple4.sl.v174 | unfold triple4.sl.v178 | unfold triple4.sl.v186 | unfold triple4.sl.v199 | unfold triple4.sl.v200 | unfold triple4.sl.v204 | unfold triple4.sl.v208 | unfold triple4.sl.v216 | unfold triple4.sl.v89 | unfold triple4.sl.v90 | unfold triple4.sl.v94 | unfold triple4.sl.v98
      simp only [View.readCov_cons_toLoadRect]
      unfold prod4 prod3 prod2 prod1
      rfl
  · sl_exec (disch := sl_exact hc)
    sl_step
    rw [if_neg hc]
    iapply (held_intro c arg1 arg2 arg3 arg4 arg5 arg6 arg7 arg8 arg9 arg10 arg11 arg12 arg13 arg14 _ q k v g _ _ _ _ _ _ _ _ _ _ _ _ _ _ _ rfl h2 h3 h4 h5 h6 h7 h9 h10)
    iframe H1 H2 H3 H4 H5 H6 H7 H8 H9 H10 H11 H12 H13 H14

end Cert.KernelIdeal.Body

end
-- ==== Proof.Triple5.lean ====
module

public import proofs.«01_k».proof.Proof.Values

/-! The fifth segment: the last grid point writes out the last tile. -/

@[expose] public section

set_option maxRecDepth 65536

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (c : Dev nD) (i : grid0.Coords) (arg1 : Memref sig .tc .smem S1 .i32) (harg1 : arg1.IsWhole) (arg2 : Memref sig .tc .vmem S384x256 .bf16) (harg2 : arg2.IsWhole) (arg3 : Memref sig .tc .vmem S4224x128 .bf16) (harg3 : arg3.IsWhole) (arg4 : Memref sig .tc .vmem S4224x128 .bf16) (harg4 : arg4.IsWhole) (arg5 : Memref sig .tc .vmem S384x256 .bf16) (harg5 : arg5.IsWhole) (arg6 : Memref sig .tc .vmem S384x256 .bf16) (harg6 : arg6.IsWhole) (arg7 : Memref sig .tc .vmem S128x4224 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S128x768 .f32) (harg10 : arg10.IsWhole) (arg11 : Memref sig .tc .vmem S1040x768 .f32) (harg11 : arg11.IsWhole) (arg12 : Memref sig .tc .vmem S1040x768 .f32) (harg12 : arg12.IsWhole) (arg13 : Memref sig .tc .vmem S1x768 .f32) (harg13 : arg13.IsWhole) (arg14 : Memref sig .tc .vmem S1x768 .f32) (harg14 : arg14.IsWhole)
variable (w : Vec F S1 .i32) (q : Vec F S384x256 .bf16) (k v : Vec F S4224x128 .bf16) (g : Vec F S384x256 .bf16)

/-- The condition of the fifth segment: the last grid point. -/
abbrev cond5 (i : grid0.Coords) : Prop :=
  Scalar.cmpi .ne (Scalar.extui (Scalar.cmpi .eq (BitVec.ofNat 32 (i 0).val) 352#32) : BitVec 32) 0#32 = 1#1

/-- The state after the fifth segment. -/
def St.step5 (s : St F) (i : grid0.Coords) (g : Vec F S384x256 .bf16) : St F :=
  if cond5 i then { s with o := finished s.acc s.l g } else s

/-- What the state is after the segment. -/
theorem triple5 (E : Set ℕ) (s : St F) :
    Held c arg1 arg2 arg3 arg4 arg5 arg6 arg7 arg8 arg9 arg10 arg11 arg12 arg13 arg14 w q k v g s
      ⊢ wp frame (wpE (defs₀ (F := F)) Variants.none c none) E (seg5 i arg1 harg1 arg2 harg2 arg3 harg3 arg4 harg4 arg5 harg5 arg6 harg6 arg7 harg7 arg8 harg8 arg9 harg9 arg10 harg10 arg11 harg11 arg12 harg12 arg13 harg13 arg14 harg14)
          (fun _ => Held c arg1 arg2 arg3 arg4 arg5 arg6 arg7 arg8 arg9 arg10 arg11 arg12 arg13 arg14 w q k v g (s.step5 i g)) := by
  refine held_elim c arg1 arg2 arg3 arg4 arg5 arg6 arg7 arg8 arg9 arg10 arg11 arg12 arg13 arg14 w q k v g s fun f1 f2 f3 f4 f5 f6 f7 f8 f9 f10 f11 f12 f13 f14 h1 h2 h3 h4 h5 h6 h7 h9 h10 => ?_
  iintro ⟨H1, H2, H3, H4, H5, H6, H7, H8, H9, H10, H11, H12, H13, H14⟩
  unfold seg5
  unfold St.step5
  by_cases hc : cond5 i
  · sl_exec (disch := sl_exact hc)
    sl_step
    rw [if_pos hc]
    iapply (held_intro' c arg1 arg2 arg3 arg4 arg5 arg6 arg7 arg8 arg9 arg10 arg11 arg12 arg13 arg14 w q k v g { s with o := finished s.acc s.l g } _ _ _ _ _ _ _ _ _ _ _ _ _ _)
    isplitl
    · iframe H1 H2 H3 H4 H5 H6 H7 H8 H9 H10 H11 H12 H13 H14
    ipureintro
    refine ⟨h1, h2, h3, h4, h5, ?_, h7, h9, h10⟩
    rw [← h5, ← h9, ← h10]
    have e9 : arg9.view.readAt (Elt F) (Rect.unit (s := S1x768) ![0, 0] S1x768.size inb_S1x768_S1x768_0_0).toLoadRect f9 = arg9.view.read (Elt F) f9 := View.readAt_full _ _ _
    have e10 : arg10.view.readAt (Elt F) (Rect.unit (s := S128x768) ![0, 0] S128x768.size inb_S128x768_S128x768_0_0).toLoadRect f10 = arg10.view.read (Elt F) f10 := View.readAt_full _ _ _
    rw [← e9, ← e10]
    exact read_finished (F := F) _ _ _ _ _
  · sl_exec (disch := sl_exact hc)
    sl_step
    rw [if_neg hc]
    iapply (held_intro c arg1 arg2 arg3 arg4 arg5 arg6 arg7 arg8 arg9 arg10 arg11 arg12 arg13 arg14 w q k v g _ _ _ _ _ _ _ _ _ _ _ _ _ _ _ h1 h2 h3 h4 h5 h6 h7 h9 h10)
    iframe H1 H2 H3 H4 H5 H6 H7 H8 H9 H10 H11 H12 H13 H14

end Cert.KernelIdeal.Body

end
-- ==== Proof.Body.lean ====
module

public import proofs.«01_k».proof.Proof.Triple1
public import proofs.«01_k».proof.Proof.Triple2
public import proofs.«01_k».proof.Proof.Triple3
public import proofs.«01_k».proof.Proof.Triple4
public import proofs.«01_k».proof.Proof.Triple5

/-! The whole body at a grid point, from its five segments, and what it leaves in closed form. -/

@[expose] public section

set_option maxRecDepth 65536

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (c : Dev nD) (i : grid0.Coords) (arg1 : Memref sig .tc .smem S1 .i32) (harg1 : arg1.IsWhole) (arg2 : Memref sig .tc .vmem S384x256 .bf16) (harg2 : arg2.IsWhole) (arg3 : Memref sig .tc .vmem S4224x128 .bf16) (harg3 : arg3.IsWhole) (arg4 : Memref sig .tc .vmem S4224x128 .bf16) (harg4 : arg4.IsWhole) (arg5 : Memref sig .tc .vmem S384x256 .bf16) (harg5 : arg5.IsWhole) (arg6 : Memref sig .tc .vmem S384x256 .bf16) (harg6 : arg6.IsWhole) (arg7 : Memref sig .tc .vmem S128x4224 .bf16) (harg7 : arg7.IsWhole) (arg8 : Memref sig .tc .vmem S1x768 .f32) (harg8 : arg8.IsWhole) (arg9 : Memref sig .tc .vmem S1x768 .f32) (harg9 : arg9.IsWhole) (arg10 : Memref sig .tc .vmem S128x768 .f32) (harg10 : arg10.IsWhole) (arg11 : Memref sig .tc .vmem S1040x768 .f32) (harg11 : arg11.IsWhole) (arg12 : Memref sig .tc .vmem S1040x768 .f32) (harg12 : arg12.IsWhole) (arg13 : Memref sig .tc .vmem S1x768 .f32) (harg13 : arg13.IsWhole) (arg14 : Memref sig .tc .vmem S1x768 .f32) (harg14 : arg14.IsWhole)
variable (w : Vec F S1 .i32) (q : Vec F S384x256 .bf16) (k v : Vec F S4224x128 .bf16) (g : Vec F S384x256 .bf16)

/-- What the body makes of the state. -/
def St.step (s : St F) (i : grid0.Coords) (w : Vec F S1 .i32) (q : Vec F S384x256 .bf16) (k v : Vec F S4224x128 .bf16) (g : Vec F S384x256 .bf16) : St F :=
  ((((s.step1 i).step2 i v).step3 i w q k g).step4 i w q k g).step5 i g

/-- The body's triple: the five segments' in order. -/
theorem body_triple (E : Set ℕ) (s : St F) :
    Held c arg1 arg2 arg3 arg4 arg5 arg6 arg7 arg8 arg9 arg10 arg11 arg12 arg13 arg14 w q k v g s
      ⊢ wp frame (wpE (defs₀ (F := F)) Variants.none c none) E (cc0_attention i arg1 harg1 arg2 harg2 arg3 harg3 arg4 harg4 arg5 harg5 arg6 harg6 arg7 harg7 arg8 harg8 arg9 harg9 arg10 harg10 arg11 harg11 arg12 harg12 arg13 harg13 arg14 harg14)
          (fun _ => Held c arg1 arg2 arg3 arg4 arg5 arg6 arg7 arg8 arg9 arg10 arg11 arg12 arg13 arg14 w q k v g (s.step i w q k v g)) := by
  rw [body_eq, wp_bind]
  refine (triple1 c i arg1 harg1 arg2 harg2 arg3 harg3 arg4 harg4 arg5 harg5 arg6 harg6 arg7 harg7 arg8 harg8 arg9 harg9 arg10 harg10 arg11 harg11 arg12 harg12 arg13 harg13 arg14 harg14 w q k v g E s).trans (wp_mono _ _ _ fun _ => ?_)
  rw [wp_bind]
  refine (triple2 c i arg1 harg1 arg2 harg2 arg3 harg3 arg4 harg4 arg5 harg5 arg6 harg6 arg7 harg7 arg8 harg8 arg9 harg9 arg10 harg10 arg11 harg11 arg12 harg12 arg13 harg13 arg14 harg14 w q k v g E _).trans (wp_mono _ _ _ fun _ => ?_)
  rw [wp_bind]
  refine (triple3 c i arg1 harg1 arg2 harg2 arg3 harg3 arg4 harg4 arg5 harg5 arg6 harg6 arg7 harg7 arg8 harg8 arg9 harg9 arg10 harg10 arg11 harg11 arg12 harg12 arg13 harg13 arg14 harg14 w q k v g E _).trans (wp_mono _ _ _ fun _ => ?_)
  rw [wp_bind]
  refine (triple4 c i arg1 harg1 arg2 harg2 arg3 harg3 arg4 harg4 arg5 harg5 arg6 harg6 arg7 harg7 arg8 harg8 arg9 harg9 arg10 harg10 arg11 harg11 arg12 harg12 arg13 harg13 arg14 harg14 w q k v g E _).trans (wp_mono _ _ _ fun _ => ?_)
  exact triple5 c i arg1 harg1 arg2 harg2 arg3 harg3 arg4 harg4 arg5 harg5 arg6 harg6 arg7 harg7 arg8 harg8 arg9 harg9 arg10 harg10 arg11 harg11 arg12 harg12 arg13 harg13 arg14 harg14 w q k v g E _

end Cert.KernelIdeal.Body

end
-- ==== Proof.Closed.lean ====
module

public import proofs.«01_k».proof.Proof.Body

/-! The conditions of the body at a grid point in closed form, and what the body leaves there. -/

@[expose] public section

set_option maxRecDepth 65536

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

theorem cond1_iff : ∀ t : Fin grid0.N, cond1 (grid0.coords t) ↔ t.val = 0 := by decide +kernel
theorem cond2_iff : ∀ t : Fin grid0.N, cond2 (grid0.coords t) ↔ (t.val % 11 = 0 ∧ t.val < 352) := by decide +kernel
theorem cond5_iff : ∀ t : Fin grid0.N, cond5 (grid0.coords t) ↔ t.val = 352 := by decide +kernel
theorem left_eq : ∀ t : Fin grid0.N, Scalar.cmpi .slt (BitVec.ofNat 32 (grid0.coords t 0).val) 352#32 = if t.val < 352 then 1#1 else 0#1 := by decide +kernel

theorem bit_and : ∀ a b : BitVec 1, Scalar.cmpi .ne (Scalar.extui (Scalar.andi a b) : BitVec 32) 0#32 = 1#1 ↔ (a = 1#1 ∧ b = 1#1) := by decide

theorem cond3_iff (t : Fin grid0.N) (v : BitVec 32) : cond3 (grid0.coords t) v ↔ (v ≠ 0#32 ∧ t.val < 352) := by
  refine (bit_and _ _).trans (and_congr ?_ ?_)
  · show BitVec.ofBool (v != 0#32) = 1#1 ↔ _
    by_cases h : v = 0#32
    · subst h; decide
    · rw [bne_iff_ne.mpr h]; exact iff_of_true rfl h
  · rw [left_eq]; split <;> simp_all

theorem cond4_iff (t : Fin grid0.N) (v : BitVec 32) : cond4 (grid0.coords t) v ↔ (v = 0#32 ∧ t.val < 352) := by
  refine (bit_and _ _).trans (and_congr ?_ ?_)
  · show BitVec.ofBool (v == 0#32) = 1#1 ↔ _
    by_cases h : v = 0#32
    · subst h; decide
    · rw [beq_false_of_ne h]; exact iff_of_false (by decide) h
  · rw [left_eq]; split <;> simp_all

/-- A tile's sums of exponentials, by whichever step its word calls for. -/
def sumOf (w : Vec F S1 .i32) (q : Vec F S384x256 .bf16) (k : Vec F S4224x128 .bf16) : Vec F S1x768 .f32 :=
  if word w = 0#32 then sum4 q k else boundedSum q k

/-- A tile's products of exponentials and values, likewise. -/
def prodOf (w : Vec F S1 .i32) (q : Vec F S384x256 .bf16) (k : Vec F S4224x128 .bf16) (vt : Vec F S128x4224 .bf16) : Vec F S128x768 .f32 :=
  if word w = 0#32 then prod4 q k vt else boundedProd q k vt

/-- What the first point finds in the running sum and the running product. -/
def start (s : St F) (n : ℕ) : St F := if n = 0 then { s with l := k0_pay90 (F := F), acc := k0_pay89 (F := F) } else s

theorem step_left (t : Fin grid0.N) (ht : t.val < 352) (s : St F) (w : Vec F S1 .i32) (q : Vec F S384x256 .bf16) (k v : Vec F S4224x128 .bf16) (g : Vec F S384x256 .bf16) :
    s.step (grid0.coords t) w q k v g
      = { o := finished (start s t.val).acc (start s t.val).l g, vt := if t.val % 11 = 0 then vtOf v else s.vt,
          l := sumOf w q k, acc := prodOf w q k (if t.val % 11 = 0 then vtOf v else s.vt) } := by
  have h5 : ¬ cond5 (grid0.coords t) := fun h => absurd ((cond5_iff t).mp h) (by omega)
  have e2 : cond2 (grid0.coords t) ↔ t.val % 11 = 0 := (cond2_iff t).trans (and_iff_left ht)
  unfold St.step St.step5
  rw [if_neg h5]
  have e1 : s.step1 (grid0.coords t) = start s t.val := by
    unfold St.step1 start
    by_cases h : t.val = 0
    · rw [if_pos ((cond1_iff t).mpr h), if_pos h]
    · rw [if_neg (fun h' => h ((cond1_iff t).mp h')), if_neg h]
  rw [e1]
  have ev : (start s t.val).vt = s.vt := by unfold start; split <;> rfl
  generalize hs : start s t.val = s1 at ev
  have e2' : s1.step2 (grid0.coords t) v = { s1 with vt := if t.val % 11 = 0 then vtOf v else s.vt } := by
    unfold St.step2
    by_cases h : t.val % 11 = 0
    · rw [if_pos (e2.mpr h), if_pos h]
    · rw [if_neg (fun h' => h (e2.mp h')), if_neg h, ← ev]
  rw [e2']
  unfold St.step3 St.step4 sumOf prodOf
  by_cases h : word w = 0#32
  · rw [if_neg (fun h' => ((cond3_iff t _).mp h').1 h), if_pos ((cond4_iff t _).mpr ⟨h, ht⟩), if_pos h, if_pos h]
  · rw [if_pos ((cond3_iff t _).mpr ⟨h, ht⟩), if_neg (fun h' => h ((cond4_iff t _).mp h').1), if_neg h, if_neg h]

theorem step_last (t : Fin grid0.N) (ht : t.val = 352) (s : St F) (w : Vec F S1 .i32) (q : Vec F S384x256 .bf16) (k v : Vec F S4224x128 .bf16) (g : Vec F S384x256 .bf16) :
    s.step (grid0.coords t) w q k v g = { s with o := finished s.acc s.l g } := by
  unfold St.step St.step1 St.step2 St.step3 St.step4 St.step5
  rw [if_neg (fun h => absurd ((cond1_iff t).mp h) (by omega)), if_neg (fun h => absurd ((cond2_iff t).mp h) (by omega)),
    if_neg (fun h => absurd ((cond3_iff t _).mp h) (by omega)), if_neg (fun h => absurd ((cond4_iff t _).mp h) (by omega)),
    if_pos ((cond5_iff t).mpr ht)]

end Cert.KernelIdeal.Body

end
-- ==== Proof.Blocks.lean ====
module

public import proofs.«01_k».proof.Proof.Gen.KernelIdeal.Frame
public import proofs.«01_k».proof.Proof.Closed

/-! The blocks that the body is called with. -/

@[expose] public section

set_option maxRecDepth 65536

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-! ## Where each window's block lies -/

/-- The number of the tile that point `t` reads: the last point reads the last tile again. -/
def tile (n : ℕ) : ℕ := min n 351

theorem index1 : ∀ t : Fin cfg0.N, win0_1.index t = ![tile t.val / 88 * 11 + tile t.val % 11, tile t.val / 11 % 8] :=
  (by decide +kernel : ∀ t : Fin grid0.N, _)
theorem index2 : ∀ t : Fin cfg0.N, win0_2.index t = ![tile t.val / 88, 16 + tile t.val / 11 % 8] :=
  (by decide +kernel : ∀ t : Fin grid0.N, _)
theorem index3 : ∀ t : Fin cfg0.N, win0_3.index t = ![tile t.val / 88, 24 + tile t.val / 11 % 8] :=
  (by decide +kernel : ∀ t : Fin grid0.N, _)
theorem index4 : ∀ t : Fin cfg0.N, win0_4.index t = ![(t.val - 1) / 88 * 11 + (t.val - 1) % 11, 16 + (t.val - 1) / 11 % 8] :=
  (by decide +kernel : ∀ t : Fin grid0.N, _)
theorem index5 : ∀ t : Fin cfg0.N, win0_5.index t = ![(t.val - 1) / 88 * 11 + (t.val - 1) % 11, (t.val - 1) / 11 % 8] :=
  (by decide +kernel : ∀ t : Fin grid0.N, _)

variable (m : (ℓ : Loc nD τ sig) → Buf (Elt F) ℓ) (ρ : Dev nD → PrngReg)

/-- The five blocks at a point, at the body's own types. -/
def blkW (c : Dev nD) (t : Fin cfg0.N) : Vec F S1 .i32 := iblk m c 0 t
def blkQ (c : Dev nD) (t : Fin cfg0.N) : Vec F S384x256 .bf16 := iblk m c 1 t
def blkK (c : Dev nD) (t : Fin cfg0.N) : Vec F S4224x128 .bf16 := iblk m c 2 t
def blkV (c : Dev nD) (t : Fin cfg0.N) : Vec F S4224x128 .bf16 := iblk m c 3 t
def blkG (c : Dev nD) (t : Fin cfg0.N) : Vec F S384x256 .bf16 := iblk m c 4 t

/-- The point before (the first point's is itself). -/
def prev (t : Fin cfg0.N) : Fin cfg0.N := ⟨t.val - 1, lt_of_le_of_lt (Nat.sub_le _ _) t.isLt⟩

/-- A coordinate of a block's element in its array. -/
theorem rect_val (t : Fin cfg0.N) (y : S4224x128.Idx) (a : Fin 2) :
    ((win0_3.blk t).view.emb y a).val = win0_3.index t a * win0_3.size a + 1 * (y a).val := rfl

/-- Within a head the block of values does not move. -/
theorem blkV_prev (c : Dev nD) (t : Fin cfg0.N) (h : t.val % 11 ≠ 0) (ht : t.val < 352) : blkV m c (prev t) = blkV m c t := by
  funext y
  show V m c main_arg0 ((win0_3.blk (prev t)).view.emb y) = V m c main_arg0 ((win0_3.blk t).view.emb y)
  refine congrArg _ ?_
  have e1 : tile (t.val - 1) / 88 = tile t.val / 88 := by unfold tile; omega
  have e2 : tile (t.val - 1) / 11 % 8 = tile t.val / 11 % 8 := by unfold tile; omega
  have e3 := index3 (prev t)
  rw [show (prev t).val = t.val - 1 from rfl, e1, e2, ← index3 t] at e3
  funext a
  apply Fin.ext
  rw [rect_val, rect_val, e3]

end Cert.KernelIdeal.Body

end
-- ==== Proof.Launched.lean ====
module

public import proofs.«01_k».proof.Proof.Blocks
public import Idealize.ShloMosaic.Lib.Claim

/-! The launch: what holds between two points, the body at a point, and the run. -/

@[expose] public section

set_option maxRecDepth 65536

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev scM0_0 : Memref sig .tc .vmem S128x4224 .bf16 := Memref.whole cc0_scratch0
abbrev scM0_1 : Memref sig .tc .vmem S1x768 .f32 := Memref.whole cc0_scratch1
abbrev scM0_2 : Memref sig .tc .vmem S1x768 .f32 := Memref.whole cc0_scratch2
abbrev scM0_3 : Memref sig .tc .vmem S128x768 .f32 := Memref.whole cc0_scratch3
abbrev scM0_4 : Memref sig .tc .vmem S1040x768 .f32 := Memref.whole cc0_scratch4
abbrev scM0_5 : Memref sig .tc .vmem S1040x768 .f32 := Memref.whole cc0_scratch5
abbrev scM0_6 : Memref sig .tc .vmem S1x768 .f32 := Memref.whole cc0_scratch6
abbrev scM0_7 : Memref sig .tc .vmem S1x768 .f32 := Memref.whole cc0_scratch7

theorem PhiA0_eq (c : Dev nD) : (Pipeline.ΦA spec0 c : sProp 𝕄)
    = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := by
  unfold Pipeline.ΦA
  rw [scopedRest0_eq]
  simp only [scM0_0, scM0_1, scM0_2, scM0_3, scM0_4, scM0_5, scM0_6, scM0_7, owns_whole]
  try rfl

/-- The scratch buffers, the three carried ones at a state's. -/
def Rest (c : Dev nD) (s : St F) : sProp 𝕄 :=
  iprop(owns (c : Thread nD τ) scM0_0 fullShare s.vt ∗ (∃ d, owns (c : Thread nD τ) scM0_1 fullShare d) ∗ owns (c : Thread nD τ) scM0_2 fullShare s.l ∗ owns (c : Thread nD τ) scM0_3 fullShare s.acc ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d))

/-- What the state carries after `n` points: what the last of them computed. -/
def Good (c : Dev nD) (n : ℕ) (s : St F) : Prop :=
  ∀ p : Fin cfg0.N, p.val + 1 = n → p.val < 352 →
    s.vt = vtOf (blkV m c p) ∧ s.l = sumOf (blkW m c p) (blkQ m c p) (blkK m c p)
      ∧ s.acc = prodOf (blkW m c p) (blkQ m c p) (blkK m c p) (vtOf (blkV m c p))

/-- What holds after `n` points. -/
def PhiS (c : Dev nD) (n : ℕ) (_ : n ≤ cfg0.N) : sProp 𝕄 :=
  iprop((∃ s : St F, iprop(⌜Good m c n s⌝ ∗ Rest c s)) ∗ (∃ r, prngReg c r))

/-- The tile that is finished at a point: the one before's. -/
def outBlk (c : Dev nD) (t : Fin cfg0.N) : Vec F S384x256 .bf16 :=
  if t.val = 0 then finished (k0_pay89 (F := F)) (k0_pay90 (F := F)) (blkG m c t)
  else finished (prodOf (blkW m c (prev t)) (blkQ m c (prev t)) (blkK m c (prev t)) (vtOf (blkV m c (prev t))))
    (sumOf (blkW m c (prev t)) (blkQ m c (prev t)) (blkK m c (prev t))) (blkG m c t)

/-- A good state steps to a good state, and the body leaves the finished tile. -/
theorem good_step (c : Dev nD) (t : Fin cfg0.N) (s : St F) (hs : Good m c t.val s) :
    Good m c (t.val + 1) (s.step (grid0.coords t) (blkW m c t) (blkQ m c t) (blkK m c t) (blkV m c t) (blkG m c t))
      ∧ (s.step (grid0.coords t) (blkW m c t) (blkQ m c t) (blkK m c t) (blkV m c t) (blkG m c t)).o = outBlk m c t := by
  have hN : t.val < 353 := lt_of_lt_of_eq t.isLt (show cfg0.N = 353 from N_0)
  have hp : t.val ≠ 0 → (prev t).val + 1 = t.val := fun h => by show t.val - 1 + 1 = t.val; omega
  have hp' : (prev t).val < 352 := by show t.val - 1 < 352; omega
  by_cases ht : t.val < 352
  · rw [step_left t ht]
    refine ⟨fun p hpe _ => ?_, ?_⟩
    · obtain rfl : p = t := Fin.ext (by omega)
      have hv : (if p.val % 11 = 0 then vtOf (blkV m c p) else s.vt) = vtOf (blkV m c p) := by
        split
        · rfl
        · next h =>
          rw [(hs (prev p) (hp (by omega)) hp').1, blkV_prev m c p h ht]
      refine ⟨hv, rfl, ?_⟩
      show prodOf _ _ _ _ = _
      rw [hv]
    · unfold outBlk start
      by_cases h0 : t.val = 0
      · rw [if_pos h0, if_pos h0]
      · rw [if_neg h0, if_neg h0]
        have hh := hs (prev t) (hp h0) hp'
        show finished s.acc s.l _ = _
        rw [hh.2.1, hh.2.2]
  · have ht' : t.val = 352 := by omega
    rw [step_last t ht']
    refine ⟨fun p hpe hlt => absurd hpe (by omega), ?_⟩
    unfold outBlk
    have h0 : t.val ≠ 0 := by omega
    rw [if_neg h0]
    have hh := hs (prev t) (hp h0) hp'
    show finished s.acc s.l _ = _
    rw [hh.2.1, hh.2.2]

/-- The proof data: each input's buffer at its block, the output's at the finished tile. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outBlk m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5, PhiS_castSucc]
  rw [show (dats m 0 c).Φ t.succ = PhiS m c (t.val + 1) t.isLt from rfl]
  unfold PhiS Rest
  iintro ⟨⟨⟨%s, %hs, H0, H1, H2, H3, H4, H5, H6, H7⟩, Hg⟩, Ho, ⟨%d0, A0⟩, ⟨%d1, A1⟩, ⟨%d2, A2⟩, ⟨%d3, A3⟩, ⟨%d4, A4⟩, ⟨%d5, A5⟩⟩
  have hstep := good_step m c t { s with o := (dats m 0 c).before 5 t d5 } hs
  iapply (wp_wand_r (Q := fun _ => Held c _ _ _ _ _ _ _ _ _ _ _ _ _ _ (blkW m c t) (blkQ m c t) (blkK m c t) (blkV m c t) (blkG m c t) (St.step (F := F) { s with o := (dats m 0 c).before 5 t d5 } (grid0.coords t) (blkW m c t) (blkQ m c t) (blkK m c t) (blkV m c t) (blkG m c t))) frame (wpE (defs₀ (F := F)) Variants.none c none) Set.univ)
  isplitl [A0 A1 A2 A3 A4 A5 H0 H1 H2 H3 H4 H5 H6 H7]
  · iapply (body_triple c (grid0.coords t) _ _ _ _ _ _ _ _ _ _ _ _ _ _ _ _ _ _ _ _ _ _ _ _ _ _ _ _ (blkW m c t) (blkQ m c t) (blkK m c t) (blkV m c t) (blkG m c t) Set.univ { s with o := (dats m 0 c).before 5 t d5 })
    unfold Held
    isplitl [A0]; · iexact A0
    isplitl [A1]; · iexact A1
    isplitl [A2]; · iexact A2
    isplitl [A3]; · iexact A3
    isplitl [A4]; · iexact A4
    isplitl [A5]; · iexact A5
    iframe H0 H1 H2 H3 H4 H5 H6 H7
  · generalize St.step (F := F) _ _ _ _ _ _ _ = s' at hstep ⊢
    iintro %_ HH
    unfold Held
    icases HH with ⟨A0, A1, A2, A3, A4, A5, H0, H1, H2, H3, H4, H5, H6, H7⟩
    isplitl [Hg H0 H1 H2 H3 H4 H5 H6 H7]
    · isplitr [Hg]
      · iexists s'
        isplitr
        · ipureintro; exact hstep.1
        · iframe H0 H1 H2 H3 H4 H5 H6 H7
      · iexact Hg
    isplitl [Ho]; · iexact Ho
    isplitl [A0]; · iexact A0
    isplitl [A1]; · iexact A1
    isplitl [A2]; · iexact A2
    isplitl [A3]; · iexact A3
    isplitl [A4]; · iexact A4
    rw [← hstep.2]
    iexact A5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiA0_eq]
  unfold PhiS Rest
  iintro ⟨⟨⟨%d0, H0⟩, H1, ⟨%d2, H2⟩, ⟨%d3, H3⟩, H4, H5, H6, H7⟩, Hg⟩
  isplitr [Hg]
  · iexists (⟨blkG m c ⟨0, by rw [show cfg0.N = 353 from N_0]; decide⟩, d0, d2, d3⟩ : St F)
    isplitr
    · ipureintro
      exact fun p hp _ => absurd hp (Nat.succ_ne_zero _)
    · iframe H0 H1 H2 H3 H4 H5 H6 H7
  · iexact Hg

theorem hout (c : Dev nD) : (dats m 0 c).Φ (Fin.last cfg0.N) ⊢ Pipeline.ΦA spec0 c := by
  rw [show (dats m 0 c).Φ (Fin.last cfg0.N) = PhiS m c cfg0.N le_rfl from rfl, PhiA0_eq]
  unfold PhiS Rest
  iintro ⟨⟨%s, -, H0, H1, H2, H3, H4, H5, H6, H7⟩, Hg⟩
  iframe H1 H4 H5 H6 H7 Hg
  isplitl [H0]
  · iexists _; iexact H0
  isplitl [H2]
  · iexists _; iexact H2
  iexists _; iexact H3

set_option backward.isDefEq.respectTransparency.types false in
/-- The run: every array at what the points wrote back to it, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged, and every counter at zero. -/
theorem frame_quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_main_quiescent m ρ))

end Cert.KernelIdeal.Body

end
-- ==== Proof.Same.lean ====
module

public import proofs.«01_k».proof.Proof.Gen.Kernel.Frame
public import proofs.«01_k».proof.Proof.Launched

/-! The kernel and its idealisation are one program text: the frame of the one is the frame of the other. -/

@[expose] public section

set_option maxRecDepth 65536

noncomputable section

namespace Cert.KernelIdeal.Body

open Idealize.ShloMosaic Idealize.SL.Sem

variable {F : FTy → Type} [FloatOps F]

theorem same_bodies : (Cert.KernelIdeal.defs₀ (F := F)) = (Cert.Kernel.defs₀ (F := F)) := by
  unfold Cert.KernelIdeal.defs₀ Cert.Kernel.defs₀
  refine congrArg (Defs.onTc (sig := Cert.Kernel.sig)) ?_
  funext x y
  match x, y with
  | ⟨0, _⟩, (t, s) => rfl
  | ⟨_ + 1, h⟩, _ => exact absurd h (Nat.not_lt.2 (Nat.le_add_left _ _))

theorem same_defs : (Cert.KernelIdeal.defs (F := F)) = (Cert.Kernel.defs (F := F)) := by
  unfold Cert.KernelIdeal.defs Cert.Kernel.defs
  exact congrArg (Idealize.ShloMosaic.Pipeline.defs Cert.Kernel.pcfgs) same_bodies

theorem same_main : (Cert.KernelIdeal.main (F := F)) = (Cert.Kernel.main (F := F)) := rfl

/-- The kernel's arguments end unchanged, and every counter at zero. -/
theorem frame_kernel (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) := by
  rw [← same_defs, ← same_main]
  exact frame_quiescent m ρ

end Cert.KernelIdeal.Body

end
-- ==== Proof.Softmax.lean ====
module

public import Idealize.ShloMosaic.Lib.Pointwise

/-! Weighted means by exponentials over the extended reals: scores are real numbers, weights anything. -/

@[expose] public section

set_option maxRecDepth 65536

noncomputable section

namespace Cert.Softmax

open Idealize.ShloMosaic

/-- A nonnegative real factor goes into any sum of extended reals. -/
theorem real_mul_sum {ι : Type} (c : ℝ) (hc : 0 ≤ c) (s : Finset ι) (f : ι → EReal) : (c : EReal) * ∑ i ∈ s, f i = ∑ i ∈ s, (c : EReal) * f i := by
  classical
  induction s using Finset.induction_on with
  | empty => simp
  | insert a s ha ih =>
    rw [Finset.sum_insert ha, Finset.sum_insert ha, ← ih]
    exact EReal.left_distrib_of_nonneg_of_ne_top (by exact_mod_cast hc) (EReal.coe_ne_top c) _ _

/-- The factor `2 ^ (-r)`. -/
def scale (r : ℝ) : ℝ := Real.rpow 2 (-r)

theorem scale_pos (r : ℝ) : 0 < scale r := Real.rpow_pos_of_pos two_pos _

/-- Subtracting a real from the exponent multiplies by its factor. -/
theorem exp2_sub (x r : ℝ) : Ideal.exp2 ((x : EReal) - (r : EReal)) = (scale r : EReal) * Ideal.exp2 (x : EReal) := by
  rw [← EReal.coe_sub, Ideal.exp2_coe, Ideal.exp2_coe, ← EReal.coe_mul]
  congr 1
  show (2 : ℝ) ^ (x - r) = (2 : ℝ) ^ (-r) * (2 : ℝ) ^ x
  rw [← Real.rpow_add two_pos]
  congr 1
  ring

/-- A sum of reals is a real. -/
theorem sum_coe {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The greatest of finitely many reals, taken from `⊥`, is a real once there is one of them. -/
theorem fold_max_real {ι : Type} (s : Finset ι) (hs : s.Nonempty) (f : ι → ℝ) : ∃ r : ℝ, s.fold max (⊥ : EReal) (fun i => (f i : EReal)) = (r : EReal) := by
  classical
  induction hs using Finset.Nonempty.cons_induction with
  | singleton a => exact ⟨f a, by simp⟩
  | cons a s ha hs ih =>
    obtain ⟨r, hr⟩ := ih
    refine ⟨max (f a) r, ?_⟩
    rw [Finset.fold_cons, hr]
    exact (EReal.coe_strictMono.monotone.map_max).symm

/-- `l` is the total `S` scaled down by the running maximum `M`, a real. -/
def Scaled (M l S : EReal) : Prop := ∃ r : ℝ, M = (r : EReal) ∧ l = (scale r : EReal) * S

/-- The terms of one chunk, scaled by the maximum. -/
theorem chunk_scaled {n : ℕ} (x : Fin n → ℝ) (w : Fin n → EReal) (r : ℝ) :
    (∑ s, w s * Ideal.exp2 ((x s : EReal) - (r : EReal))) = (scale r : EReal) * ∑ s, w s * Ideal.exp2 (x s : EReal) := by
  rw [real_mul_sum _ (scale_pos r).le]
  refine Finset.sum_congr rfl fun s _ => ?_
  rw [exp2_sub, mul_left_comm]

/-- The first chunk: the running maximum is still `⊥`, and what is carried in does not count. -/
theorem scaled_first {n : ℕ} (x : Fin n → ℝ) (w : Fin n → EReal) (M : EReal) (t r : ℝ) (hM : M = max ⊥ (t : EReal)) (a : EReal) :
    Scaled M (Ideal.exp2 (⊥ - M) * a + ∑ s, w s * Ideal.exp2 ((x s : EReal) - M)) (∑ s, w s * Ideal.exp2 (x s : EReal)) := by
  obtain rfl : M = (t : EReal) := by rw [hM]; exact max_eq_right bot_le
  refine ⟨t, rfl, ?_⟩
  rw [chunk_scaled, EReal.bot_sub, Ideal.exp2_bot, zero_mul, zero_add]

/-- A later chunk: what is carried in is scaled down further and the chunk's terms are added. -/
theorem scaled_next {n : ℕ} (x : Fin n → ℝ) (w : Fin n → EReal) (M M' l S : EReal) (t : ℝ) (hM : M' = max M (t : EReal)) (h : Scaled M l S) :
    Scaled M' (Ideal.exp2 (M - M') * l + ∑ s, w s * Ideal.exp2 ((x s : EReal) - M')) (S + ∑ s, w s * Ideal.exp2 (x s : EReal)) := by
  obtain ⟨r, rfl, rfl⟩ := h
  obtain rfl : M' = ((max r t : ℝ) : EReal) := by rw [hM]; exact (EReal.coe_strictMono.monotone.map_max).symm
  refine ⟨max r t, rfl, ?_⟩
  rw [chunk_scaled, EReal.left_distrib_of_nonneg_of_ne_top (by exact_mod_cast (scale_pos _).le) (EReal.coe_ne_top _), ← mul_assoc]
  congr 2
  rw [exp2_sub, Ideal.exp2_coe, ← EReal.coe_mul, ← EReal.coe_mul]
  congr 1
  show _ * _ * ((2 : ℝ) ^ (-r)) = _
  rw [mul_assoc]
  show _ * ((2 : ℝ) ^ r * (2 : ℝ) ^ (-r)) = _
  rw [← Real.rpow_add two_pos, add_neg_cancel, Real.rpow_zero, mul_one]

/-- The chunks as the step takes them: scores that are the reals `x`, the next maximum from the chunk's own. -/
theorem first_prod {n : ℕ} (X W w : Fin n → EReal) (x : Fin n → ℝ) (hX : ∀ s, X s = (x s : EReal)) (hW : ∀ s, W s = w s) (M t a : EReal) (hM : M = ⊥) (ht : ∃ r : ℝ, t = (r : EReal)) :
    Scaled (max M t) (Ideal.exp2 (M - max M t) * a + ∑ s, W s * Ideal.exp2 (X s - max M t)) (∑ s, w s * Ideal.exp2 (x s : EReal)) := by
  obtain ⟨r, rfl⟩ := ht
  subst hM
  simp only [hX, hW]
  exact scaled_first x w _ r r rfl a

theorem first_sum {n : ℕ} (X : Fin n → EReal) (x : Fin n → ℝ) (hX : ∀ s, X s = (x s : EReal)) (M t a : EReal) (hM : M = ⊥) (ht : ∃ r : ℝ, t = (r : EReal)) :
    Scaled (max M t) (Ideal.exp2 (M - max M t) * a + ∑ s, Ideal.exp2 (X s - max M t)) (∑ s, Ideal.exp2 (x s : EReal)) := by
  simpa only [one_mul] using first_prod X (fun _ => 1) (fun _ => 1) x hX (fun _ => rfl) M t a hM ht

theorem next_prod {n : ℕ} (X W w : Fin n → EReal) (x : Fin n → ℝ) (hX : ∀ s, X s = (x s : EReal)) (hW : ∀ s, W s = w s) (M t l S : EReal) (ht : ∃ r : ℝ, t = (r : EReal)) (h : Scaled M l S) :
    Scaled (max M t) (Ideal.exp2 (M - max M t) * l + ∑ s, W s * Ideal.exp2 (X s - max M t)) (S + ∑ s, w s * Ideal.exp2 (x s : EReal)) := by
  obtain ⟨r, rfl⟩ := ht
  simp only [hX, hW]
  exact scaled_next x w M _ l S r rfl h

theorem next_sum {n : ℕ} (X : Fin n → EReal) (x : Fin n → ℝ) (hX : ∀ s, X s = (x s : EReal)) (M t l S : EReal) (ht : ∃ r : ℝ, t = (r : EReal)) (h : Scaled M l S) :
    Scaled (max M t) (Ideal.exp2 (M - max M t) * l + ∑ s, Ideal.exp2 (X s - max M t)) (S + ∑ s, Ideal.exp2 (x s : EReal)) := by
  simpa only [one_mul] using next_prod X (fun _ => 1) (fun _ => 1) x hX (fun _ => rfl) M t l S ht h

/-- Dividing by a positive real. -/
theorem div_pos_real (a : EReal) (s : ℝ) (hs : 0 < s) : Ideal.div a (s : EReal) = a * ((s⁻¹ : ℝ) : EReal) := by
  rw [Ideal.div_coe hs.ne', one_div]

/-- The quotient of two totals scaled alike is the quotient of the totals. -/
theorem scaled_div (M l a A : EReal) (s : ℝ) (hs : 0 < s) (hl : Scaled M l (s : EReal)) (ha : Scaled M a A) :
    Ideal.div a l = A * ((s⁻¹ : ℝ) : EReal) := by
  obtain ⟨r, rfl, rfl⟩ := hl
  obtain ⟨r', hr, rfl⟩ := ha
  obtain rfl : r = r' := EReal.coe_injective hr
  rw [← EReal.coe_mul, div_pos_real _ _ (mul_pos (scale_pos r) hs), mul_comm (scale r : EReal) A, mul_assoc, ← EReal.coe_mul]
  congr 2
  have := (scale_pos r).ne'
  field_simp

/-- A total of exponentials is a positive real. -/
theorem total_pos {n : ℕ} (hn : 0 < n) (x : Fin n → ℝ) : ∃ s : ℝ, 0 < s ∧ (∑ i, Ideal.exp2 (x i : EReal)) = (s : EReal) := by
  haveI : Nonempty (Fin n) := ⟨⟨0, hn⟩⟩
  exact ⟨∑ i, Real.rpow 2 (x i), Finset.sum_pos (fun i _ => Real.rpow_pos_of_pos two_pos _) Finset.univ_nonempty,
    by rw [← sum_coe]; rfl⟩

theorem log_two : Ideal.log ((2 : ℝ) : EReal) = ((Real.log 2 : ℝ) : EReal) := by
  show (if (2 : ℝ) ≤ 0 then (⊥ : EReal) else ((Real.log 2 : ℝ) : EReal)) = _
  exact if_neg (by norm_num)

/-- The natural exponential of a score times `log 2`, less a real, is the power of two times a positive factor. -/
theorem exp_scaled (x r : ℝ) : Ideal.exp ((x : EReal) * Ideal.log ((2 : ℝ) : EReal) - (r : EReal)) = ((Real.exp (-r) : ℝ) : EReal) * Ideal.exp2 (x : EReal) := by
  rw [log_two, ← EReal.coe_mul, ← EReal.coe_sub, Ideal.exp_coe, Ideal.exp2_coe, ← EReal.coe_mul]
  congr 1
  show _ = _ * (2 : ℝ) ^ x
  rw [Real.rpow_def_of_pos two_pos, ← Real.exp_add]
  congr 1
  ring

/-- The plain softmax with its greatest score subtracted, weighting anything: the same quotient of totals. -/
theorem softmax_mean {n : ℕ} (x : Fin n → ℝ) (w : Fin n → EReal) (r s : ℝ) (hs : 0 < s) (hS : (∑ i, Ideal.exp2 (x i : EReal)) = (s : EReal)) :
    (∑ i, w i * Ideal.div (Ideal.exp ((x i : EReal) * Ideal.log ((2 : ℝ) : EReal) - (r : EReal)))
      (∑ j, Ideal.exp ((x j : EReal) * Ideal.log ((2 : ℝ) : EReal) - (r : EReal))))
      = (∑ i, w i * Ideal.exp2 (x i : EReal)) * ((s⁻¹ : ℝ) : EReal) := by
  have hL : (∑ j, Ideal.exp ((x j : EReal) * Ideal.log ((2 : ℝ) : EReal) - (r : EReal))) = ((Real.exp (-r) * s : ℝ) : EReal) := by
    rw [EReal.coe_mul, ← hS, real_mul_sum _ (Real.exp_pos _).le]
    exact Finset.sum_congr rfl fun i _ => exp_scaled _ _
  rw [hL, mul_comm _ ((s⁻¹ : ℝ) : EReal), real_mul_sum _ (inv_pos.mpr hs).le]
  refine Finset.sum_congr rfl fun i _ => ?_
  rw [div_pos_real _ _ (mul_pos (Real.exp_pos _) hs), exp_scaled, mul_left_comm ((s⁻¹ : ℝ) : EReal)]
  congr 1
  rw [Ideal.exp2_coe, ← EReal.coe_mul, ← EReal.coe_mul, ← EReal.coe_mul]
  congr 1
  have := (Real.exp_pos (-r)).ne'
  field_simp

end Cert.Softmax

end
-- ==== Proof.Attention.lean ====
module

public import proofs.«01_k».proof.Proof.Softmax

/-! Attention over the projection, entry by entry: scores, weights by powers of two, the weighted mean of the values, the gate. -/

@[expose] public section

set_option maxRecDepth 65536

noncomputable section

namespace Cert.Softmax

open Idealize.ShloMosaic

/-- The projection as a function of its row and column. -/
abbrev Proj := (⟨2, ![16896, 6144]⟩ : Shape).Idx → EReal

/-- The score of key `s` of the batch of row `R`, for the query of row `R` and the head of column `C`. -/
def score (a : Proj) (R : Fin 16896) (C : Fin 2048) (s : Fin 4112) : EReal :=
  ∑ d : Fin 128, a (ix2 ⟨R.val / 4224 * 4224 + s.val, by omega⟩ ⟨2048 + (C.val / 256 * 128 + d.val), by omega⟩) * a (ix2 R ⟨C.val / 128 * 128 + d.val, by omega⟩)

/-- Column `C` of the value of key `s`. -/
def value (a : Proj) (R : Fin 16896) (C : Fin 2048) (s : Fin 4112) : EReal :=
  a (ix2 ⟨R.val / 4224 * 4224 + s.val, by omega⟩ ⟨3072 + (C.val / 256 * 128 + C.val % 128), by omega⟩)

/-- The gate of an entry. -/
def gate (a : Proj) (R : Fin 16896) (C : Fin 2048) : EReal := a (ix2 R ⟨4096 + C.val, by omega⟩)

/-- The attention's entry. -/
def entry (a : Proj) (R : Fin 16896) (C : Fin 2048) : EReal :=
  Ideal.div (∑ s, value a R C s * Ideal.exp2 (score a R C s)) (∑ s, Ideal.exp2 (score a R C s)) * (gate a R C * Ideal.logistic (gate a R C))

/-- Queries and keys are real. -/
def Finite (a : Proj) : Prop := ∀ (R : Fin 16896) (C : Fin 6144), C.val < 3072 → ∃ x : ℝ, a (ix2 R C) = (x : EReal)

/-- Then so are the scores. -/
theorem score_real (a : Proj) (h : Finite a) : ∃ x : Fin 16896 → Fin 2048 → Fin 4112 → ℝ, ∀ R C s, score a R C s = (x R C s : EReal) := by
  choose f hf using h
  refine ⟨fun R C s => ∑ d : Fin 128, f ⟨R.val / 4224 * 4224 + s.val, by omega⟩ ⟨2048 + (C.val / 256 * 128 + d.val), by omega⟩ (show 2048 + (C.val / 256 * 128 + d.val) < 3072 by omega)
    * f R ⟨C.val / 128 * 128 + d.val, by omega⟩ (show C.val / 128 * 128 + d.val < 3072 by omega), fun R C s => ?_⟩
  unfold score
  rw [← sum_coe]
  refine Finset.sum_congr rfl fun d _ => ?_
  rw [hf _ _ (show 2048 + (C.val / 256 * 128 + d.val) < 3072 by omega), hf R _ (show C.val / 128 * 128 + d.val < 3072 by omega), EReal.coe_mul]

end Cert.Softmax

end
-- ==== Proof.Reference.lean ====
module

public import proofs.«01_k».proof.Proof.Attention
public import proofs.«01_k».proof.Proof.Gen.ReferenceIdeal.Run
public import Idealize.ShloMosaic.Lib.Pointwise

/-! The plain attention read at one entry. -/

@[expose] public section

set_option maxRecDepth 65536

noncomputable section

namespace Cert.ReferenceIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ReferenceIdeal Cert.ReferenceIdeal.Gen

variable {F : FTy → Type} [FloatOps F]

/-- The projection by batch and row. -/
def proj (a : Vec F S16896x6144 .bf16) : Vec F S4x4224x6144 .f32 := shapeCast _ (extf .f32 a bitsLt_bf16_f32) shapeCasts_S16896x6144_S4x4224x6144

/-- The scores times `log 2`. -/
def scores (p : Vec F S4x4224x6144 .f32) : Vec F S4x8x2x4224x4112 .f32 :=
  mulf (transpose S4x8x2x4224x4112 [0, 1, 4, 3, 2] (Host.dotGeneral dot_S4x4112x8x128_S4x4224x8x2x128_S4x8x4112x4224x2_3_4_1_13_02_02 none (shapeCast _ (extractStridedSlice S4x4112x1024 ![0, 0, 0] (extractStridedSlice S4x4224x1024 ![0, 0, 2048] p slices_S4x4224x6144_S4x4224x1024_0_0_2048) slices_S4x4224x1024_S4x4112x1024_0_0_0) shapeCasts_S4x4112x1024_S4x4112x8x128) (shapeCast _ (extractStridedSlice S4x4224x2048 ![0, 0, 0] p slices_S4x4224x6144_S4x4224x2048_0_0_0) shapeCasts_S4x4224x2048_S4x4224x8x2x128)) transposes_S4x8x4112x4224x2_S4x8x2x4224x4112_0_1_4_3_2) (broadcastInDim S4x8x2x4224x4112 ![] bcast_S_S4x8x2x4224x4112 (Host.log (constant S_ .f32 0x40000000#32)))

/-- The greatest score of each query. -/
def tops (s : Vec F S4x8x2x4224x4112 .f32) : Vec F S4x8x2x4224 .f32 :=
  maximumf (broadcastInDim S4x8x2x4224 ![] bcast_S_S4x8x2x4224 (constant S_ .f32 0xFF800000#32)) (Host.reduce FloatOps.maximumf s (constant S_ .f32 0xFF800000#32) reducesTo_S4x8x2x4224x4112_S4x8x2x4224_d4 h_S_)

/-- The exponentials of the scores less the greatest. -/
def exps (s : Vec F S4x8x2x4224x4112 .f32) (t : Vec F S4x8x2x4224 .f32) : Vec F S4x8x2x4224x4112 .f32 :=
  Host.exp (subf s (broadcastInDim S4x8x2x4224x4112 ![0, 1, 2, 3, 4] bcast_S4x8x2x4224x1_S4x8x2x4224x4112_0_1_2_3_4 (broadcastInDim S4x8x2x4224x1 ![0, 1, 2, 3] bcast_S4x8x2x4224_S4x8x2x4224x1_0_1_2_3 t)))

/-- The weights. -/
def weights (e : Vec F S4x8x2x4224x4112 .f32) : Vec F S4x8x2x4224x4112 .f32 :=
  Host.divf e (broadcastInDim S4x8x2x4224x4112 ![0, 1, 2, 3, 4] bcast_S4x8x2x4224x1_S4x8x2x4224x4112_0_1_2_3_4 (broadcastInDim S4x8x2x4224x1 ![0, 1, 2, 3] bcast_S4x8x2x4224_S4x8x2x4224x1_0_1_2_3 (Host.reduceAdd e (constant S_ .f32 0x00000000#32) reducesTo_S4x8x2x4224x4112_S4x8x2x4224_d4 h_S_)))

/-- The weighted values. -/
def means (p : Vec F S4x4224x6144 .f32) (w : Vec F S4x8x2x4224x4112 .f32) : Vec F S4x4224x8x2x128 .f32 :=
  transpose S4x4224x8x2x128 [0, 4, 1, 3, 2] (Host.dotGeneral dot_S4x4112x8x128_S4x8x2x4224x4112_S4x8x128x2x4224_1_4_3_23_02_01 none (shapeCast _ (extractStridedSlice S4x4112x1024 ![0, 0, 0] (extractStridedSlice S4x4224x1024 ![0, 0, 3072] p slices_S4x4224x6144_S4x4224x1024_0_0_3072) slices_S4x4224x1024_S4x4112x1024_0_0_0) shapeCasts_S4x4112x1024_S4x4112x8x128) w) transposes_S4x8x128x2x4224_S4x4224x8x2x128_0_4_1_3_2

/-- The weighted values times the gated gate. -/
def gated (p : Vec F S4x4224x6144 .f32) (o : Vec F S4x4224x8x2x128 .f32) : Vec F S16896x2048 .bf16 :=
  shapeCast _ (truncf .bf16 (mulf (shapeCast _ o shapeCasts_S4x4224x8x2x128_S4x4224x2048) (mulf (extractStridedSlice S4x4224x2048 ![0, 0, 4096] p slices_S4x4224x6144_S4x4224x2048_0_0_4096) (Host.divf (broadcastInDim S4x4224x2048 ![] bcast_S_S4x4224x2048 (constant S_ .f32 0x3F800000#32)) (addf (broadcastInDim S4x4224x2048 ![] bcast_S_S4x4224x2048 (constant S_ .f32 0x3F800000#32)) (Host.exp (Host.negf (extractStridedSlice S4x4224x2048 ![0, 0, 4096] p slices_S4x4224x6144_S4x4224x2048_0_0_4096))))))) bitsLt_bf16_f32) shapeCasts_S4x4224x2048_S16896x2048

/-- The whole result of the projection. -/
theorem result_eq (m : (ℓ : Loc nD τ sig) → Buf (Elt F) ℓ) (c : Dev nD) :
    res_main_v33 m c = gated (proj (m ((c.tc : Thread nD τ).loc main_arg0)))
      (means (proj (m ((c.tc : Thread nD τ).loc main_arg0))) (weights (exps (scores (proj (m ((c.tc : Thread nD τ).loc main_arg0)))) (tops (scores (proj (m ((c.tc : Thread nD τ).loc main_arg0)))))))) := rfl

theorem proj_at (a : Vec Ideal S16896x6144 .bf16) (b : Fin 4) (r : Fin 4224) (C : Fin 6144) : proj a (ix3 b r C) = a (ix2 ⟨b.val * 4224 + r.val, by omega⟩ C) := by
  pointwise [proj]

theorem scores_at (p : Vec Ideal S4x4224x6144 .f32) (b : Fin 4) (h : Fin 8) (g : Fin 2) (r : Fin 4224) (s : Fin 4112) :
    scores p (ix5 b h g r s) = (∑ d : Fin 128, (p (ix3 b ⟨s.val, by omega⟩ ⟨2048 + (h.val * 128 + d.val), by omega⟩) : EReal) * p (ix3 b r ⟨h.val * 256 + g.val * 128 + d.val, by omega⟩))
      * Ideal.log (Ideal.ofBits .f32 0x40000000#32) := by
  pointwise [scores]

theorem exps_at (p : Vec Ideal S4x8x2x4224x4112 .f32) (t : Vec Ideal S4x8x2x4224 .f32) (b : Fin 4) (h : Fin 8) (g : Fin 2) (r : Fin 4224) (s : Fin 4112) :
    exps p t (ix5 b h g r s) = Ideal.exp ((p (ix5 b h g r s) : EReal) - t (ix4 b h g r)) := by
  pointwise [exps]

theorem weights_at (p : Vec Ideal S4x8x2x4224x4112 .f32) (b : Fin 4) (h : Fin 8) (g : Fin 2) (r : Fin 4224) (s : Fin 4112) :
    weights p (ix5 b h g r s) = Ideal.div (p (ix5 b h g r s)) (∑ j : Fin 4112, (p (ix5 b h g r j) : EReal)) := by
  pointwise [weights]

theorem means_at (p : Vec Ideal S4x4224x6144 .f32) (w : Vec Ideal S4x8x2x4224x4112 .f32) (b : Fin 4) (h : Fin 8) (g : Fin 2) (r : Fin 4224) (d : Fin 128) :
    means p w (ix5 b r h g d) = ∑ s : Fin 4112, (p (ix3 b ⟨s.val, by omega⟩ ⟨3072 + (h.val * 128 + d.val), by omega⟩) : EReal) * w (ix5 b h g r s) := by
  pointwise [means]

theorem gated_at (p : Vec Ideal S4x4224x6144 .f32) (o : Vec Ideal S4x4224x8x2x128 .f32) (R : Fin 16896) (C : Fin 2048) :
    gated p o (ix2 R C) = (o (ix5 ⟨R.val / 4224, by omega⟩ ⟨R.val % 4224, by omega⟩ ⟨C.val / 256, by omega⟩ ⟨C.val / 128 % 2, by omega⟩ ⟨C.val % 128, by omega⟩) : EReal)
      * ((p (ix3 ⟨R.val / 4224, by omega⟩ ⟨R.val % 4224, by omega⟩ ⟨4096 + C.val, by omega⟩) : EReal)
        * Ideal.logistic (p (ix3 ⟨R.val / 4224, by omega⟩ ⟨R.val % 4224, by omega⟩ ⟨4096 + C.val, by omega⟩))) := by
  pointwise [gated]
  rfl

theorem negInf : Ideal.ofBits .f32 0xFF800000#32 = (⊥ : EReal) := by
  simp [Ideal.ofBits, Ideal.ieee]

theorem two : Ideal.ofBits .f32 0x40000000#32 = ((2 : ℝ) : EReal) := by
  simp [Ideal.ofBits, Ideal.ieee, -EReal.coe_mul]
  norm_num

/-- A reduction by `max` from `⊥` over one axis of real entries is real. -/
theorem reduce_real {s t u : Shape} {a : Fin s.rank} (y : s.Idx → ℝ) (init : u.Idx → EReal) (h' : s.ReducesTo [a] t) (h : s.Reduces [a] t)
    (hu : 0 < u.numel) (hi : init (Shape.Idx.first hu) = ⊥) (ha : 0 < s.size a) (j : t.Idx) :
    ∃ r : ℝ, Host.reduce (FloatOps.maximumf (F := Ideal) (φ := .f32)) (fun i => (y i : EReal)) init h' hu j = (r : EReal) := by
  rw [Host.reduce_eq_fold_single _ _ _ h' h, hi]
  exact Softmax.fold_max_real (Finset.univ : Finset (Fin (s.size a))) ⟨⟨0, ha⟩, Finset.mem_univ _⟩ (fun k => y (h.lift j k))

/-- The greatest of real scores is real. -/
theorem tops_real (y : S4x8x2x4224x4112.Idx → ℝ) (j : S4x8x2x4224.Idx) :
    ∃ r : ℝ, tops (F := Ideal) (fun i => (y i : EReal)) j = (r : EReal) := by
  obtain ⟨r, hr⟩ := reduce_real y (constant (F := Ideal) S_ .f32 0xFF800000#32) reducesTo_S4x8x2x4224x4112_S4x8x2x4224_d4 (by decide) h_S_ negInf (by decide) j
  refine ⟨r, ?_⟩
  unfold tops
  rw [maximumf_apply, hr]
  exact max_eq_right ((le_of_eq negInf).trans bot_le)

/-- The scores of the projection, by head and by any column of the head. -/
theorem scores_eq (a : Vec Ideal S16896x6144 .bf16) (b : Fin 4) (h : Fin 8) (g : Fin 2) (r : Fin 4224) (s : Fin 4112) (d : Fin 128) :
    scores (proj a) (ix5 b h g r s) = Softmax.score a ⟨b.val * 4224 + r.val, by omega⟩ ⟨h.val * 256 + g.val * 128 + d.val, by omega⟩ s * Ideal.log ((2 : ℝ) : EReal) := by
  rw [scores_at, two]
  congr 1
  unfold Softmax.score
  refine Finset.sum_congr rfl fun e _ => ?_
  rw [proj_at, proj_at]
  refine congrArg₂ (fun i j => a i * a j) (congrArg₂ ix2 (Fin.ext ?_) (Fin.ext ?_)) (congrArg₂ ix2 rfl (Fin.ext ?_))
  · dsimp only; omega
  · dsimp only; omega
  · dsimp only; omega

/-- The plain attention, entry by entry. -/
theorem attention_at (a : Vec Ideal S16896x6144 .bf16) (hf : Softmax.Finite a) (R : Fin 16896) (C : Fin 2048) :
    gated (proj a) (means (proj a) (weights (exps (scores (proj a)) (tops (scores (proj a)))))) (ix2 R C) = Softmax.entry a R C := by
  obtain ⟨x, hx⟩ := Softmax.score_real a hf
  obtain ⟨y, hy⟩ : ∃ y : S4x8x2x4224x4112.Idx → ℝ, scores (proj a) = fun i => (y i : EReal) := by
    refine ⟨fun i => x ⟨(i 0).val * 4224 + (i 3).val, ?_⟩ ⟨(i 1).val * 256 + (i 2).val * 128 + (0 : Fin 128).val, ?_⟩ (i 4) * Real.log 2, ?_⟩
    · have h0 : (i 0).val < 4 := (i 0).isLt
      have h3 : (i 3).val < 4224 := (i 3).isLt
      omega
    · have h1 : (i 1).val < 8 := (i 1).isLt
      have h2 : (i 2).val < 2 := (i 2).isLt
      show (i 1).val * 256 + (i 2).val * 128 + 0 < 2048
      omega
    · funext i
      idx_vars i
      rw [scores_eq a _ _ _ _ _ 0, hx, Softmax.log_two, ← EReal.coe_mul]
  obtain ⟨r, hr⟩ := tops_real y (ix4 ⟨R.val / 4224, by omega⟩ ⟨C.val / 256, by omega⟩ ⟨C.val / 128 % 2, by omega⟩ ⟨R.val % 4224, by omega⟩)
  rw [← hy] at hr
  have hs : ∀ s : Fin 4112, scores (proj a) (ix5 ⟨R.val / 4224, by omega⟩ ⟨C.val / 256, by omega⟩ ⟨C.val / 128 % 2, by omega⟩ ⟨R.val % 4224, by omega⟩ s)
      = (x R C s : EReal) * Ideal.log ((2 : ℝ) : EReal) := fun s => by
    rw [scores_eq a _ _ _ _ _ ⟨C.val % 128, by omega⟩, ← hx]
    refine congrArg₂ (fun R C => Softmax.score a R C s * Ideal.log ((2 : ℝ) : EReal)) (Fin.ext ?_) (Fin.ext ?_)
    · dsimp only; omega
    · dsimp only; omega
  obtain ⟨t, ht, hT⟩ := Softmax.total_pos (by decide) (x R C)
  rw [gated_at, means_at]
  unfold Softmax.entry
  simp only [weights_at, exps_at, hr, hs, proj_at, hx]
  rw [hT, Softmax.div_pos_real _ _ ht]
  have hR : (⟨R.val / 4224 * 4224 + R.val % 4224, by omega⟩ : Fin 16896) = R := Fin.ext (by dsimp only; omega)
  rw [hR]
  exact congrArg (fun z : EReal => z * (Softmax.gate a R C * Ideal.logistic (Softmax.gate a R C))) (Softmax.softmax_mean (x R C) _ r t ht hT)

/-- What the reference returns, entry by entry. -/
theorem result_at (m : (ℓ : Loc nD τ sig) → Buf (Elt Ideal) ℓ) (c : Dev nD) (hf : Softmax.Finite (m ((c.tc : Thread nD τ).loc main_arg0))) (R : Fin 16896) (C : Fin 2048) :
    res_main_v33 m c (ix2 R C) = Softmax.entry (m ((c.tc : Thread nD τ).loc main_arg0)) R C :=
  (congrFun (result_eq m c) _).trans (attention_at _ hf R C)

end Cert.ReferenceIdeal.Value

end
-- ==== Proof.Columns.lean ====
module

public import proofs.«01_k».proof.Proof.Online
public import proofs.«01_k».proof.Proof.Transposed
public import proofs.«01_k».proof.Proof.Softmax
public import Idealize.ShloMosaic.Lib.Pointwise

/-! The blocks read at one entry, and what the bounded step computes there. -/

@[expose] public section

set_option maxRecDepth 65536

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

/-- Element `d` of the query of stacked row `J`: the first head's rows stand above the second's. -/
def query (q : Vec Ideal S384x256 .bf16) (J : Fin 768) (d : Fin 128) : EReal := q (ix2 ⟨J.val % 384, by omega⟩ ⟨J.val / 384 * 128 + d.val, by omega⟩)

/-- The score of key `s` for stacked row `J`. -/
def col (q : Vec Ideal S384x256 .bf16) (k : Vec Ideal S4224x128 .bf16) (J : Fin 768) (s : Fin 4112) : EReal :=
  ∑ d : Fin 128, k (ix2 ⟨s.val, by omega⟩ d) * query q J d

theorem half0_at (q : Vec Ideal S384x256 .bf16) (r : Fin 384) (d : Fin 128) : half0 q (ix2 r d) = q (ix2 r ⟨d.val, by omega⟩) := by
  unfold half0
  pointwise

theorem half1_at (q : Vec Ideal S384x256 .bf16) (r : Fin 384) (d : Fin 128) : half1 q (ix2 r d) = q (ix2 r ⟨128 + d.val, by omega⟩) := by
  unfold half1
  pointwise

/-- The stacked queries. -/
theorem stacked_at (q : Vec Ideal S384x256 .bf16) (J : Fin 768) (d : Fin 128) : k0_pay31 (half0 q) (half1 q) (ix2 J d) = query q J d := by
  unfold query
  pointwise [k0_pay31]
  split_ifs with h
  · rw [half0_at]
    exact congrArg₂ (fun i j => q (ix2 i j)) (Fin.ext (by dsimp only; omega)) (Fin.ext (by dsimp only; omega))
  · rw [half1_at]
    exact congrArg₂ (fun i j => q (ix2 i j)) (Fin.ext (by dsimp only; omega)) (Fin.ext (by dsimp only; omega))
  · rename_i h'
    exact absurd rfl h'

theorem heads_at (q : Vec Ideal S384x256 .bf16) (J : Fin 768) (d : Fin 128) : heads q (ix2 J d) = query q J d := stacked_at q J d

/-- A sum over all keys, chunk by chunk. -/
theorem sum_chunks (f : Fin 4112 → EReal) :
    ∑ s, f s = ∑ s : Fin 1024, f ⟨s.val, by omega⟩ + ∑ s : Fin 1024, f ⟨1024 + s.val, by omega⟩ + ∑ s : Fin 1024, f ⟨2048 + s.val, by omega⟩
      + ∑ s : Fin 1040, f ⟨3072 + s.val, by omega⟩ := by
  rw [Fin.sum_univ_add (a := 3072) (b := 1040) f, Fin.sum_univ_add (a := 2048) (b := 1024), Fin.sum_univ_add (a := 1024) (b := 1024)]
  rfl

/-- The bounded tile's sum of one stacked row. -/
theorem boundedSum_at (q : Vec Ideal S384x256 .bf16) (k : Vec Ideal S4224x128 .bf16) (J : Fin 768) :
    boundedSum q k (ix2 0 J) = ∑ s, Ideal.exp2 (col q k J s) := by
  rw [sum_chunks]
  unfold boundedSum
  pointwise [k0_pay40, k0_pay38, k0_pay37, k0_pay36, k0_pay34, k0_pay33, k0_pay32, key0, key1, key2, key3]
  simp only [stacked_at]
  rfl

/-- The bounded tile's product of one stacked row and one column of the values. -/
theorem boundedProd_at (q : Vec Ideal S384x256 .bf16) (k : Vec Ideal S4224x128 .bf16) (vt : Vec Ideal S128x4224 .bf16) (d : Fin 128) (J : Fin 768) :
    boundedProd q k vt (ix2 d J) = ∑ s : Fin 4112, vt (ix2 d ⟨s.val, by omega⟩) * Ideal.exp2 (col q k J s) := by
  rw [sum_chunks]
  unfold boundedProd
  pointwise [k0_pay39, k0_pay38, k0_pay36, k0_pay35, k0_pay33, k0_pay32, key0, key1, key2, key3, val0, val1, val2, val3]
  simp only [stacked_at]
  rfl

end Cert.KernelIdeal.Body

end
-- ==== Proof.Chunks.lean ====
module

public import proofs.«01_k».proof.Proof.Columns

/-! The running maximum, sum and product read at one entry. -/

@[expose] public section

set_option maxRecDepth 65536

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable (q : Vec Ideal S384x256 .bf16) (k : Vec Ideal S4224x128 .bf16) (vt : Vec Ideal S128x4224 .bf16)

theorem negInf : Ideal.ofBits .f32 0xFF800000#32 = (⊥ : EReal) := by
  simp [Ideal.ofBits, Ideal.ieee]

theorem score0_at (s : Fin 1024) (J : Fin 768) : score0 q k (ix2 s J) = col q k J ⟨s.val, by omega⟩ := by
  unfold score0 col
  pointwise [k0_pay54, k0_pay53, key0]
  simp only [heads_at]

theorem top0_at (J : Fin 768) : top0 q k (ix2 0 J) = Finset.univ.fold max (Ideal.ofBits .f32 0xFF800000#32) (fun s : Fin 1024 => col q k J ⟨s.val, by omega⟩) := by
  unfold top0 col
  pointwise [k0_pay55, k0_pay53, key0]
  simp only [heads_at]

theorem top0_real (J : Fin 768) (x : Fin 4112 → ℝ) (hx : ∀ s, col q k J s = (x s : EReal)) : ∃ t : ℝ, top0 q k (ix2 0 J) = (t : EReal) := by
  rw [top0_at, negInf]
  simp only [hx]
  exact Softmax.fold_max_real (Finset.univ : Finset (Fin 1024)) ⟨0, Finset.mem_univ _⟩ _

theorem score1_at (s : Fin 1024) (J : Fin 768) : score1 q k (ix2 s J) = col q k J ⟨1024 + s.val, by omega⟩ := by
  unfold score1 col
  pointwise [k0_pay57, k0_pay56, key1]
  simp only [heads_at]

theorem top1_at (J : Fin 768) : top1 q k (ix2 0 J) = Finset.univ.fold max (Ideal.ofBits .f32 0xFF800000#32) (fun s : Fin 1024 => col q k J ⟨1024 + s.val, by omega⟩) := by
  unfold top1 col
  pointwise [k0_pay58, k0_pay56, key1]
  simp only [heads_at]

theorem top1_real (J : Fin 768) (x : Fin 4112 → ℝ) (hx : ∀ s, col q k J s = (x s : EReal)) : ∃ t : ℝ, top1 q k (ix2 0 J) = (t : EReal) := by
  rw [top1_at, negInf]
  simp only [hx]
  exact Softmax.fold_max_real (Finset.univ : Finset (Fin 1024)) ⟨0, Finset.mem_univ _⟩ _

theorem score2_at (s : Fin 1024) (J : Fin 768) : score2 q k (ix2 s J) = col q k J ⟨2048 + s.val, by omega⟩ := by
  unfold score2 col
  pointwise [k0_pay67, k0_pay66, key2]
  simp only [heads_at]

theorem top2_at (J : Fin 768) : top2 q k (ix2 0 J) = Finset.univ.fold max (Ideal.ofBits .f32 0xFF800000#32) (fun s : Fin 1024 => col q k J ⟨2048 + s.val, by omega⟩) := by
  unfold top2 col
  pointwise [k0_pay68, k0_pay66, key2]
  simp only [heads_at]

theorem top2_real (J : Fin 768) (x : Fin 4112 → ℝ) (hx : ∀ s, col q k J s = (x s : EReal)) : ∃ t : ℝ, top2 q k (ix2 0 J) = (t : EReal) := by
  rw [top2_at, negInf]
  simp only [hx]
  exact Softmax.fold_max_real (Finset.univ : Finset (Fin 1024)) ⟨0, Finset.mem_univ _⟩ _

theorem score3_at (s : Fin 1040) (J : Fin 768) : score3 q k (ix2 s J) = col q k J ⟨3072 + s.val, by omega⟩ := by
  unfold score3 col
  pointwise [k0_pay76, k0_pay75, key3]
  simp only [heads_at]

theorem top3_at (J : Fin 768) : top3 q k (ix2 0 J) = Finset.univ.fold max (Ideal.ofBits .f32 0xFF800000#32) (fun s : Fin 1040 => col q k J ⟨3072 + s.val, by omega⟩) := by
  unfold top3 col
  pointwise [k0_pay77, k0_pay75, key3]
  simp only [heads_at]

theorem top3_real (J : Fin 768) (x : Fin 4112 → ℝ) (hx : ∀ s, col q k J s = (x s : EReal)) : ∃ t : ℝ, top3 q k (ix2 0 J) = (t : EReal) := by
  rw [top3_at, negInf]
  simp only [hx]
  exact Softmax.fold_max_real (Finset.univ : Finset (Fin 1040)) ⟨0, Finset.mem_univ _⟩ _

theorem max0_at (J : Fin 768) : max0 (F := Ideal) (ix2 0 J) = (⊥ : EReal) := by
  unfold max0
  pointwise [k0_pay49]
  exact negInf

theorem greater1 (a b : Vec Ideal S1x768 .f32) (J : Fin 768) : k0_pay65 (k0_pay59 a b) (ix2 0 J) = max (a (ix2 0 J) : EReal) (b (ix2 0 J)) := by
  pointwise [k0_pay65, k0_pay59]

theorem greater2 (a b : Vec Ideal S1x768 .f32) (J : Fin 768) : k0_pay74 a b (ix2 0 J) = max (a (ix2 0 J) : EReal) (b (ix2 0 J)) := by
  pointwise [k0_pay74, k0_pay69]

theorem greater3 (a b : Vec Ideal S1x768 .f32) (J : Fin 768) : k0_pay83 (k0_pay78 a b) (ix2 0 J) = max (a (ix2 0 J) : EReal) (b (ix2 0 J)) := by
  pointwise [k0_pay83, k0_pay78]

theorem addSum1 (a b l : Vec Ideal S1x768 .f32) (x : Vec Ideal S1024x768 .f32) (J : Fin 768) : k0_pay63 (k0_pay60 a b) (k0_pay61 a b x) l (ix2 0 J)
    = Ideal.exp2 ((a (ix2 0 J) : EReal) - max (a (ix2 0 J) : EReal) (b (ix2 0 J))) * l (ix2 0 J) + ∑ s : Fin 1024, Ideal.exp2 ((x (ix2 s J) : EReal) - max (a (ix2 0 J) : EReal) (b (ix2 0 J))) := by
  pointwise [k0_pay63, k0_pay62, k0_pay61, k0_pay60, k0_pay59]
  rfl

theorem addProd1 (a b : Vec Ideal S1x768 .f32) (x : Vec Ideal S1024x768 .f32) (p : Vec Ideal S128x768 .f32) (y : Vec Ideal S128x1024 .bf16) (d : Fin 128) (J : Fin 768) : k0_pay64 (k0_pay60 a b) (k0_pay61 a b x) p y (ix2 d J)
    = Ideal.exp2 ((a (ix2 0 J) : EReal) - max (a (ix2 0 J) : EReal) (b (ix2 0 J))) * p (ix2 d J) + ∑ s : Fin 1024, (y (ix2 d s) : EReal) * Ideal.exp2 ((x (ix2 s J) : EReal) - max (a (ix2 0 J) : EReal) (b (ix2 0 J))) := by
  pointwise [k0_pay64, k0_pay62, k0_pay61, k0_pay60, k0_pay59]
  rfl

theorem addSum2 (a b l : Vec Ideal S1x768 .f32) (x : Vec Ideal S1024x768 .f32) (J : Fin 768) : k0_pay72 a b x l (ix2 0 J)
    = Ideal.exp2 ((a (ix2 0 J) : EReal) - max (a (ix2 0 J) : EReal) (b (ix2 0 J))) * l (ix2 0 J) + ∑ s : Fin 1024, Ideal.exp2 ((x (ix2 s J) : EReal) - max (a (ix2 0 J) : EReal) (b (ix2 0 J))) := by
  pointwise [k0_pay72, k0_pay71, k0_pay70, k0_pay69]
  rfl

theorem addProd2 (a b : Vec Ideal S1x768 .f32) (x : Vec Ideal S1024x768 .f32) (p : Vec Ideal S128x768 .f32) (y : Vec Ideal S128x1024 .bf16) (d : Fin 128) (J : Fin 768) : k0_pay73 a b x p y (ix2 d J)
    = Ideal.exp2 ((a (ix2 0 J) : EReal) - max (a (ix2 0 J) : EReal) (b (ix2 0 J))) * p (ix2 d J) + ∑ s : Fin 1024, (y (ix2 d s) : EReal) * Ideal.exp2 ((x (ix2 s J) : EReal) - max (a (ix2 0 J) : EReal) (b (ix2 0 J))) := by
  pointwise [k0_pay73, k0_pay71, k0_pay70, k0_pay69]
  rfl

theorem addSum3 (a b l : Vec Ideal S1x768 .f32) (x : Vec Ideal S1024x768 .f32) (J : Fin 768) : k0_pay81 a b x l (ix2 0 J)
    = Ideal.exp2 ((a (ix2 0 J) : EReal) - max (a (ix2 0 J) : EReal) (b (ix2 0 J))) * l (ix2 0 J) + ∑ s : Fin 1024, Ideal.exp2 ((x (ix2 s J) : EReal) - max (a (ix2 0 J) : EReal) (b (ix2 0 J))) := by
  pointwise [k0_pay81, k0_pay80, k0_pay79, k0_pay78]
  rfl

theorem addProd3 (a b : Vec Ideal S1x768 .f32) (x : Vec Ideal S1024x768 .f32) (p : Vec Ideal S128x768 .f32) (y : Vec Ideal S128x1024 .bf16) (d : Fin 128) (J : Fin 768) : k0_pay82 a b x p y (ix2 d J)
    = Ideal.exp2 ((a (ix2 0 J) : EReal) - max (a (ix2 0 J) : EReal) (b (ix2 0 J))) * p (ix2 d J) + ∑ s : Fin 1024, (y (ix2 d s) : EReal) * Ideal.exp2 ((x (ix2 s J) : EReal) - max (a (ix2 0 J) : EReal) (b (ix2 0 J))) := by
  pointwise [k0_pay82, k0_pay80, k0_pay79, k0_pay78]
  rfl

theorem addSum4 (a b l : Vec Ideal S1x768 .f32) (x : Vec Ideal S1040x768 .f32) (J : Fin 768) : k0_pay87 a b x l (ix2 0 J)
    = Ideal.exp2 ((a (ix2 0 J) : EReal) - max (a (ix2 0 J) : EReal) (b (ix2 0 J))) * l (ix2 0 J) + ∑ s : Fin 1040, Ideal.exp2 ((x (ix2 s J) : EReal) - max (a (ix2 0 J) : EReal) (b (ix2 0 J))) := by
  pointwise [k0_pay87, k0_pay86, k0_pay85, k0_pay84]
  rfl

theorem addProd4 (a b : Vec Ideal S1x768 .f32) (x : Vec Ideal S1040x768 .f32) (p : Vec Ideal S128x768 .f32) (y : Vec Ideal S128x1040 .bf16) (d : Fin 128) (J : Fin 768) : k0_pay88 a b x p y (ix2 d J)
    = Ideal.exp2 ((a (ix2 0 J) : EReal) - max (a (ix2 0 J) : EReal) (b (ix2 0 J))) * p (ix2 d J) + ∑ s : Fin 1040, (y (ix2 d s) : EReal) * Ideal.exp2 ((x (ix2 s J) : EReal) - max (a (ix2 0 J) : EReal) (b (ix2 0 J))) := by
  pointwise [k0_pay88, k0_pay86, k0_pay85, k0_pay84]
  rfl

theorem val0_at (d : Fin 128) (s : Fin 1024) : val0 vt (ix2 d s) = vt (ix2 d ⟨s.val, by omega⟩) := by
  pointwise [val0]

theorem val1_at (d : Fin 128) (s : Fin 1024) : val1 vt (ix2 d s) = vt (ix2 d ⟨1024 + s.val, by omega⟩) := by
  pointwise [val1]

theorem val2_at (d : Fin 128) (s : Fin 1024) : val2 vt (ix2 d s) = vt (ix2 d ⟨2048 + s.val, by omega⟩) := by
  pointwise [val2]

theorem val3_at (d : Fin 128) (s : Fin 1040) : val3 vt (ix2 d s) = vt (ix2 d ⟨3072 + s.val, by omega⟩) := by
  pointwise [val3]

theorem max1_at (J : Fin 768) : max1 q k (ix2 0 J) = max (max0 (F := Ideal) (ix2 0 J) : EReal) (top0 q k (ix2 0 J)) := greater1 _ _ J

theorem max2_at (J : Fin 768) : max2 q k (ix2 0 J) = max (max1 q k (ix2 0 J) : EReal) (top1 q k (ix2 0 J)) := greater2 _ _ J

theorem max3_at (J : Fin 768) : max3 q k (ix2 0 J) = max (max2 q k (ix2 0 J) : EReal) (top2 q k (ix2 0 J)) := greater3 _ _ J

variable (J : Fin 768) (x : Fin 4112 → ℝ) (hx : ∀ s, col q k J s = (x s : EReal))
include hx

theorem sum1_scaled : Softmax.Scaled (max1 q k (ix2 0 J)) (sum1 q k (ix2 0 J)) ((∑ s : Fin 1024, Ideal.exp2 (x ⟨s.val, by omega⟩ : EReal))) := by
  unfold sum1
  rw [max1_at, addSum1]
  exact Softmax.first_sum (fun s : Fin 1024 => score0 q k (ix2 s J)) (fun s => x ⟨s.val, by omega⟩) (fun s => (score0_at q k s J).trans (hx _)) _ _ _ (max0_at J) (top0_real q k J x hx)

theorem prod1_scaled (d : Fin 128) : Softmax.Scaled (max1 q k (ix2 0 J)) (prod1 q k vt (ix2 d J)) ((∑ s : Fin 1024, vt (ix2 d ⟨s.val, by omega⟩) * Ideal.exp2 (x ⟨s.val, by omega⟩ : EReal))) := by
  unfold prod1
  rw [max1_at, addProd1]
  exact Softmax.first_prod (fun s : Fin 1024 => score0 q k (ix2 s J)) (fun s => val0 vt (ix2 d s)) (fun s => vt (ix2 d ⟨s.val, by omega⟩)) (fun s => x ⟨s.val, by omega⟩) (fun s => (score0_at q k s J).trans (hx _)) (fun s => val0_at vt d s) _ _ _ (max0_at J) (top0_real q k J x hx)

theorem sum2_scaled : Softmax.Scaled (max2 q k (ix2 0 J)) (sum2 q k (ix2 0 J)) ((∑ s : Fin 1024, Ideal.exp2 (x ⟨s.val, by omega⟩ : EReal)) + (∑ s : Fin 1024, Ideal.exp2 (x ⟨1024 + s.val, by omega⟩ : EReal))) := by
  unfold sum2
  rw [max2_at, addSum2]
  exact Softmax.next_sum (fun s : Fin 1024 => score1 q k (ix2 s J)) (fun s => x ⟨1024 + s.val, by omega⟩) (fun s => (score1_at q k s J).trans (hx _)) _ _ _ _ (top1_real q k J x hx) (sum1_scaled q k J x hx)

theorem prod2_scaled (d : Fin 128) : Softmax.Scaled (max2 q k (ix2 0 J)) (prod2 q k vt (ix2 d J)) ((∑ s : Fin 1024, vt (ix2 d ⟨s.val, by omega⟩) * Ideal.exp2 (x ⟨s.val, by omega⟩ : EReal)) + (∑ s : Fin 1024, vt (ix2 d ⟨1024 + s.val, by omega⟩) * Ideal.exp2 (x ⟨1024 + s.val, by omega⟩ : EReal))) := by
  unfold prod2
  rw [max2_at, addProd2]
  exact Softmax.next_prod (fun s : Fin 1024 => score1 q k (ix2 s J)) (fun s => val1 vt (ix2 d s)) (fun s => vt (ix2 d ⟨1024 + s.val, by omega⟩)) (fun s => x ⟨1024 + s.val, by omega⟩) (fun s => (score1_at q k s J).trans (hx _)) (fun s => val1_at vt d s) _ _ _ _ (top1_real q k J x hx) (prod1_scaled q k vt J x hx d)

theorem sum3_scaled : Softmax.Scaled (max3 q k (ix2 0 J)) (sum3 q k (ix2 0 J)) ((∑ s : Fin 1024, Ideal.exp2 (x ⟨s.val, by omega⟩ : EReal)) + (∑ s : Fin 1024, Ideal.exp2 (x ⟨1024 + s.val, by omega⟩ : EReal)) + (∑ s : Fin 1024, Ideal.exp2 (x ⟨2048 + s.val, by omega⟩ : EReal))) := by
  unfold sum3
  rw [max3_at, addSum3]
  exact Softmax.next_sum (fun s : Fin 1024 => score2 q k (ix2 s J)) (fun s => x ⟨2048 + s.val, by omega⟩) (fun s => (score2_at q k s J).trans (hx _)) _ _ _ _ (top2_real q k J x hx) (sum2_scaled q k J x hx)

theorem prod3_scaled (d : Fin 128) : Softmax.Scaled (max3 q k (ix2 0 J)) (prod3 q k vt (ix2 d J)) ((∑ s : Fin 1024, vt (ix2 d ⟨s.val, by omega⟩) * Ideal.exp2 (x ⟨s.val, by omega⟩ : EReal)) + (∑ s : Fin 1024, vt (ix2 d ⟨1024 + s.val, by omega⟩) * Ideal.exp2 (x ⟨1024 + s.val, by omega⟩ : EReal)) + (∑ s : Fin 1024, vt (ix2 d ⟨2048 + s.val, by omega⟩) * Ideal.exp2 (x ⟨2048 + s.val, by omega⟩ : EReal))) := by
  unfold prod3
  rw [max3_at, addProd3]
  exact Softmax.next_prod (fun s : Fin 1024 => score2 q k (ix2 s J)) (fun s => val2 vt (ix2 d s)) (fun s => vt (ix2 d ⟨2048 + s.val, by omega⟩)) (fun s => x ⟨2048 + s.val, by omega⟩) (fun s => (score2_at q k s J).trans (hx _)) (fun s => val2_at vt d s) _ _ _ _ (top2_real q k J x hx) (prod2_scaled q k vt J x hx d)

theorem sum4_scaled : Softmax.Scaled ((max (max3 q k (ix2 0 J) : EReal) (top3 q k (ix2 0 J)))) (sum4 q k (ix2 0 J)) ((∑ s : Fin 1024, Ideal.exp2 (x ⟨s.val, by omega⟩ : EReal)) + (∑ s : Fin 1024, Ideal.exp2 (x ⟨1024 + s.val, by omega⟩ : EReal)) + (∑ s : Fin 1024, Ideal.exp2 (x ⟨2048 + s.val, by omega⟩ : EReal)) + (∑ s : Fin 1040, Ideal.exp2 (x ⟨3072 + s.val, by omega⟩ : EReal))) := by
  unfold sum4
  rw [addSum4]
  exact Softmax.next_sum (fun s : Fin 1040 => score3 q k (ix2 s J)) (fun s => x ⟨3072 + s.val, by omega⟩) (fun s => (score3_at q k s J).trans (hx _)) _ _ _ _ (top3_real q k J x hx) (sum3_scaled q k J x hx)

theorem prod4_scaled (d : Fin 128) : Softmax.Scaled ((max (max3 q k (ix2 0 J) : EReal) (top3 q k (ix2 0 J)))) (prod4 q k vt (ix2 d J)) ((∑ s : Fin 1024, vt (ix2 d ⟨s.val, by omega⟩) * Ideal.exp2 (x ⟨s.val, by omega⟩ : EReal)) + (∑ s : Fin 1024, vt (ix2 d ⟨1024 + s.val, by omega⟩) * Ideal.exp2 (x ⟨1024 + s.val, by omega⟩ : EReal)) + (∑ s : Fin 1024, vt (ix2 d ⟨2048 + s.val, by omega⟩) * Ideal.exp2 (x ⟨2048 + s.val, by omega⟩ : EReal)) + (∑ s : Fin 1040, vt (ix2 d ⟨3072 + s.val, by omega⟩) * Ideal.exp2 (x ⟨3072 + s.val, by omega⟩ : EReal))) := by
  unfold prod4
  rw [addProd4]
  exact Softmax.next_prod (fun s : Fin 1040 => score3 q k (ix2 s J)) (fun s => val3 vt (ix2 d s)) (fun s => vt (ix2 d ⟨3072 + s.val, by omega⟩)) (fun s => x ⟨3072 + s.val, by omega⟩) (fun s => (score3_at q k s J).trans (hx _)) (fun s => val3_at vt d s) _ _ _ _ (top3_real q k J x hx) (prod3_scaled q k vt J x hx d)

/-- The unbounded tile's quotient at one entry. -/
theorem online_div (d : Fin 128) : Ideal.div (prod4 q k vt (ix2 d J)) (sum4 q k (ix2 0 J))
    = Ideal.div (∑ s : Fin 4112, vt (ix2 d ⟨s.val, by omega⟩) * Ideal.exp2 (x s : EReal)) (∑ s, Ideal.exp2 (x s : EReal)) := by
  obtain ⟨t, ht, hT⟩ := Softmax.total_pos (by decide) x
  rw [hT, Softmax.div_pos_real _ _ ht, sum_chunks (fun s : Fin 4112 => vt (ix2 d ⟨s.val, by omega⟩) * Ideal.exp2 (x s : EReal))]
  have hs := sum4_scaled q k J x hx
  rw [← sum_chunks (fun s : Fin 4112 => Ideal.exp2 (x s : EReal)), hT] at hs
  exact Softmax.scaled_div _ _ _ _ t ht hs (prod4_scaled q k vt J x hx d)

end Cert.KernelIdeal.Body

end
-- ==== Proof.Tile.lean ====
module

public import proofs.«01_k».proof.Proof.Chunks
public import proofs.«01_k».proof.Proof.Closed

/-! A finished tile at one entry: the attention of its row and column. -/

@[expose] public section

set_option maxRecDepth 65536

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

theorem lower_at (acc : Vec Ideal S128x768 .f32) (l : Vec Ideal S1x768 .f32) (g : Vec Ideal S384x128 .bf16) (r : Fin 384) (d : Fin 128) :
    k0_pay97 acc l g (ix2 r d) = Ideal.div (acc (ix2 d ⟨r.val, by omega⟩)) (l (ix2 0 ⟨r.val, by omega⟩)) * ((g (ix2 r d) : EReal) * Ideal.logistic (g (ix2 r d))) := by
  pointwise [k0_pay97, k0_pay96]

theorem upper_at (acc : Vec Ideal S128x768 .f32) (l : Vec Ideal S1x768 .f32) (g : Vec Ideal S384x128 .bf16) (r : Fin 384) (d : Fin 128) :
    k0_pay98 acc l g (ix2 r d) = Ideal.div (acc (ix2 d ⟨384 + r.val, by omega⟩)) (l (ix2 0 ⟨384 + r.val, by omega⟩)) * ((g (ix2 r d) : EReal) * Ideal.logistic (g (ix2 r d))) := by
  pointwise [k0_pay98, k0_pay96]

/-- The stacked row of an entry of the block. -/
def stackedRow (r : Fin 384) (C : Fin 256) : Fin 768 := ⟨C.val / 128 * 384 + r.val, by omega⟩

/-- A tile finished entry by entry. -/
def finishedAt (acc : Vec Ideal S128x768 .f32) (l : Vec Ideal S1x768 .f32) (g : Vec Ideal S384x256 .bf16) (r : Fin 384) (C : Fin 256) : EReal :=
  Ideal.div (acc (ix2 ⟨C.val % 128, by omega⟩ (stackedRow r C))) (l (ix2 0 (stackedRow r C))) * ((g (ix2 r C) : EReal) * Ideal.logistic (g (ix2 r C)))

theorem lower_piece (acc : Vec Ideal S128x768 .f32) (l : Vec Ideal S1x768 .f32) (g : Vec Ideal S384x256 .bf16) (r : Fin 384) (d : Fin 128) :
    k0_pay97 acc l (half0 g) (ix2 r d) = finishedAt acc l g r ⟨d.val, by omega⟩ := by
  have hJ : stackedRow r ⟨d.val, by omega⟩ = ⟨r.val, by omega⟩ := Fin.ext (by unfold stackedRow; dsimp only; omega)
  have hd : (⟨d.val % 128, by omega⟩ : Fin 128) = d := Fin.ext (by dsimp only; omega)
  rw [lower_at, half0_at]
  unfold finishedAt
  rw [hJ, hd]

theorem upper_piece (acc : Vec Ideal S128x768 .f32) (l : Vec Ideal S1x768 .f32) (g : Vec Ideal S384x256 .bf16) (r : Fin 384) (d : Fin 128) :
    k0_pay98 acc l (half1 g) (ix2 r d) = finishedAt acc l g r ⟨128 + d.val, by omega⟩ := by
  have hJ : stackedRow r ⟨128 + d.val, by omega⟩ = ⟨384 + r.val, by omega⟩ := Fin.ext (by unfold stackedRow; dsimp only; omega)
  have hd : (⟨(128 + d.val) % 128, by omega⟩ : Fin 128) = d := Fin.ext (by dsimp only; omega)
  rw [upper_at, half1_at]
  unfold finishedAt
  rw [hJ, hd]

/-- A finished tile is finished entry by entry. -/
theorem finished_eq (acc : Vec Ideal S128x768 .f32) (l : Vec Ideal S1x768 .f32) (g : Vec Ideal S384x256 .bf16) (y : S384x256.Idx) :
    finished acc l g y = finishedAt acc l g (y 0) (y 1) := by
  refine View.canon_append_of_piecesOf (Val := Elt Ideal) (e := .bf16) (fun z : S384x256.Idx => finishedAt acc l g (z 0) (z 1)) []
    [⟨Rect.unit (s := S384x256) ![0, 128] S384x128.size inb_S384x256_S384x128_0_128, k0_pay98 acc l (half1 g)⟩,
      ⟨Rect.unit (s := S384x256) ![0, 0] S384x128.size inb_S384x256_S384x128_0_0, k0_pay97 acc l (half0 g)⟩] (And.intro (fun x => ?_) (And.intro (fun x => ?_) trivial)) y (halves_cover _ _ y)
  · idx_vars x
    refine (upper_piece acc l g x0 x1).trans (congrArg₂ (finishedAt acc l g) (Fin.ext ?_) (Fin.ext ?_))
    · show x0.val = 0 + 1 * x0.val; rw [Nat.one_mul, Nat.zero_add]
    · show 128 + x1.val = 128 + 1 * x1.val; rw [Nat.one_mul]
  · idx_vars x
    refine (lower_piece acc l g x0 x1).trans (congrArg₂ (finishedAt acc l g) (Fin.ext ?_) (Fin.ext ?_))
    · show x0.val = 0 + 1 * x0.val; rw [Nat.one_mul, Nat.zero_add]
    · show x1.val = 0 + 1 * x1.val; rw [Nat.one_mul, Nat.zero_add]

/-- A finished tile of attention at one entry, whichever step made it. -/
theorem tile_at (w : Vec Ideal S1 .i32) (q : Vec Ideal S384x256 .bf16) (k v : Vec Ideal S4224x128 .bf16) (g : Vec Ideal S384x256 .bf16) (r : Fin 384) (C : Fin 256)
    (x : Fin 4112 → ℝ) (hx : ∀ s, col q k (stackedRow r C) s = (x s : EReal)) :
    finished (prodOf w q k (vtOf v)) (sumOf w q k) g (ix2 r C)
      = Ideal.div (∑ s : Fin 4112, v (ix2 ⟨s.val, by omega⟩ ⟨C.val % 128, by omega⟩) * Ideal.exp2 (col q k (stackedRow r C) s)) (∑ s, Ideal.exp2 (col q k (stackedRow r C) s))
        * ((g (ix2 r C) : EReal) * Ideal.logistic (g (ix2 r C))) := by
  rw [finished_eq]
  refine congrArg (fun z : EReal => z * ((g (ix2 r C) : EReal) * Ideal.logistic (g (ix2 r C)))) ?_
  show Ideal.div (prodOf w q k (vtOf v) (ix2 ⟨C.val % 128, by omega⟩ (stackedRow r C))) (sumOf w q k (ix2 0 (stackedRow r C))) = _
  unfold prodOf sumOf
  split_ifs with h
  · rw [online_div q k (vtOf v) _ x hx]
    simp only [hx]
    rfl
  · rw [boundedSum_at, boundedProd_at]
    rfl

end Cert.KernelIdeal.Body

end
-- ==== Proof.Output.lean ====
module

public import proofs.«01_k».proof.Proof.Tile
public import proofs.«01_k».proof.Proof.Launched
public import proofs.«01_k».proof.Proof.Attention
public import Idealize.ShloMosaic.Lib.Pipeline.ValueKit

/-! The output array: every written-back block is the attention of its rows and columns. -/

@[expose] public section

set_option maxRecDepth 65536

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

open Idealize.ShloMosaic.Pipeline (Dat Cfg Window BodyObligation cellOf)

variable (m : (ℓ : Loc nD τ sig) → Buf (Elt Ideal) ℓ)

/-- The result, entry by entry. -/
def result (a : Vec Ideal S16896x6144 .bf16) : S16896x2048.Idx → EReal := fun y => Softmax.entry a (y 0) (y 1)

theorem blkQ_at (c : Dev nD) (t : Fin cfg0.N) (r : Fin 384) (C : Fin 256) (R : Fin 16896) (D : Fin 6144)
    (hR : R.val = (tile t.val / 88 * 11 + tile t.val % 11) * 384 + r.val) (hD : D.val = (tile t.val / 11 % 8) * 256 + C.val) :
    blkQ m c t (ix2 r C) = m ((c.tc : Thread nD τ).loc main_arg0) (ix2 R D) := by
  unfold blkQ
  blk_simp [iblk]
  show m ((c.tc : Thread nD τ).loc main_arg0) ((win0_1.blk t).view.emb (ix2 r C)) = _
  refine congrArg _ ?_
  funext a
  apply Fin.ext
  match a with
  | ⟨0, _⟩ =>
    show win0_1.index t 0 * 384 + 1 * r.val = R.val
    rw [index1, hR, Nat.one_mul]; rfl
  | ⟨1, _⟩ =>
    show win0_1.index t 1 * 256 + 1 * C.val = D.val
    rw [index1, hD, Nat.one_mul]; rfl

theorem blkK_at (c : Dev nD) (t : Fin cfg0.N) (r : Fin 4224) (C : Fin 128) (R : Fin 16896) (D : Fin 6144)
    (hR : R.val = (tile t.val / 88) * 4224 + r.val) (hD : D.val = (16 + tile t.val / 11 % 8) * 128 + C.val) :
    blkK m c t (ix2 r C) = m ((c.tc : Thread nD τ).loc main_arg0) (ix2 R D) := by
  unfold blkK
  blk_simp [iblk]
  show m ((c.tc : Thread nD τ).loc main_arg0) ((win0_2.blk t).view.emb (ix2 r C)) = _
  refine congrArg _ ?_
  funext a
  apply Fin.ext
  match a with
  | ⟨0, _⟩ =>
    show win0_2.index t 0 * 4224 + 1 * r.val = R.val
    rw [index2, hR, Nat.one_mul]; rfl
  | ⟨1, _⟩ =>
    show win0_2.index t 1 * 128 + 1 * C.val = D.val
    rw [index2, hD, Nat.one_mul]; rfl

theorem blkV_at (c : Dev nD) (t : Fin cfg0.N) (r : Fin 4224) (C : Fin 128) (R : Fin 16896) (D : Fin 6144)
    (hR : R.val = (tile t.val / 88) * 4224 + r.val) (hD : D.val = (24 + tile t.val / 11 % 8) * 128 + C.val) :
    blkV m c t (ix2 r C) = m ((c.tc : Thread nD τ).loc main_arg0) (ix2 R D) := by
  unfold blkV
  blk_simp [iblk]
  show m ((c.tc : Thread nD τ).loc main_arg0) ((win0_3.blk t).view.emb (ix2 r C)) = _
  refine congrArg _ ?_
  funext a
  apply Fin.ext
  match a with
  | ⟨0, _⟩ =>
    show win0_3.index t 0 * 4224 + 1 * r.val = R.val
    rw [index3, hR, Nat.one_mul]; rfl
  | ⟨1, _⟩ =>
    show win0_3.index t 1 * 128 + 1 * C.val = D.val
    rw [index3, hD, Nat.one_mul]; rfl

theorem blkG_at (c : Dev nD) (t : Fin cfg0.N) (r : Fin 384) (C : Fin 256) (R : Fin 16896) (D : Fin 6144)
    (hR : R.val = ((t.val - 1) / 88 * 11 + (t.val - 1) % 11) * 384 + r.val) (hD : D.val = (16 + (t.val - 1) / 11 % 8) * 256 + C.val) :
    blkG m c t (ix2 r C) = m ((c.tc : Thread nD τ).loc main_arg0) (ix2 R D) := by
  unfold blkG
  blk_simp [iblk]
  show m ((c.tc : Thread nD τ).loc main_arg0) ((win0_4.blk t).view.emb (ix2 r C)) = _
  refine congrArg _ ?_
  funext a
  apply Fin.ext
  match a with
  | ⟨0, _⟩ =>
    show win0_4.index t 0 * 384 + 1 * r.val = R.val
    rw [index4, hR, Nat.one_mul]; rfl
  | ⟨1, _⟩ =>
    show win0_4.index t 1 * 256 + 1 * C.val = D.val
    rw [index4, hD, Nat.one_mul]; rfl

/-- A tile's column of scores is the attention's, at the row and column where its entry goes. -/
theorem col_eq (c : Dev nD) (t : Fin cfg0.N) (ht : t.val < 352) (r : Fin 384) (C : Fin 256) (R : Fin 16896) (D : Fin 2048)
    (hR : R.val = (t.val / 88 * 11 + t.val % 11) * 384 + r.val) (hD : D.val = t.val / 11 % 8 * 256 + C.val) (s : Fin 4112) :
    col (blkQ m c t) (blkK m c t) (stackedRow r C) s = Softmax.score (m ((c.tc : Thread nD τ).loc main_arg0)) R D s := by
  have e : tile t.val = t.val := by unfold tile; omega
  unfold col Softmax.score query
  refine Finset.sum_congr rfl fun d _ => congrArg₂ (fun z z' : EReal => z * z') ?_ ?_
  · refine blkK_at m c t _ _ _ _ ?_ ?_
    · dsimp only; rw [e]; omega
    · dsimp only; rw [e]; omega
  · refine blkQ_at m c t _ _ _ _ ?_ ?_
    · unfold stackedRow; dsimp only; rw [e]; omega
    · unfold stackedRow; dsimp only; rw [e]; omega

/-- The tile finished at a point, entry by entry. -/
theorem outBlk_at (c : Dev nD) (hf : Softmax.Finite (m ((c.tc : Thread nD τ).loc main_arg0))) (t : Fin cfg0.N) (ht : t.val ≠ 0) (r : Fin 384) (C : Fin 256)
    (R : Fin 16896) (D : Fin 2048) (hR : R.val = ((t.val - 1) / 88 * 11 + (t.val - 1) % 11) * 384 + r.val) (hD : D.val = (t.val - 1) / 11 % 8 * 256 + C.val) :
    outBlk m c t (ix2 r C) = Softmax.entry (m ((c.tc : Thread nD τ).loc main_arg0)) R D := by
  have hN : t.val < 353 := lt_of_lt_of_eq t.isLt (show cfg0.N = 353 from N_0)
  have hp : (prev t).val < 352 := by show t.val - 1 < 352; omega
  have e : tile (t.val - 1) = t.val - 1 := by unfold tile; omega
  obtain ⟨x, hx⟩ := Softmax.score_real _ hf
  have hc : ∀ s, col (blkQ m c (prev t)) (blkK m c (prev t)) (stackedRow r C) s = Softmax.score (m ((c.tc : Thread nD τ).loc main_arg0)) R D s :=
    col_eq m c (prev t) hp r C R D hR hD
  unfold outBlk
  rw [if_neg ht, tile_at _ _ _ _ _ r C (x R D) fun s => (hc s).trans (hx R D s)]
  simp only [hc]
  unfold Softmax.entry
  have hg : blkG m c t (ix2 r C) = Softmax.gate (m ((c.tc : Thread nD τ).loc main_arg0)) R D := by
    unfold Softmax.gate
    refine blkG_at m c t _ _ _ _ ?_ ?_
    · exact hR
    · dsimp only; omega
  have hv : ∀ s : Fin 4112, blkV m c (prev t) (ix2 ⟨s.val, by omega⟩ ⟨C.val % 128, by omega⟩) = Softmax.value (m ((c.tc : Thread nD τ).loc main_arg0)) R D s := fun s => by
    unfold Softmax.value
    refine blkV_at m c (prev t) _ _ _ _ ?_ ?_
    · show _ = tile (t.val - 1) / 88 * 4224 + s.val
      dsimp only; rw [e]; omega
    · show _ = (24 + tile (t.val - 1) / 11 % 8) * 128 + C.val % 128
      dsimp only; rw [e]; omega
  simp only [hv]
  rw [hg]

/-- A block is written back at a later point than the first. -/
theorem flushed_later : ∀ t : Fin cfg0.N, (cfg0.win 5).flush t = true → t.val ≠ 0 := by decide +kernel

/-- The output array. -/
theorem final (c : Dev nD) (hf : Softmax.Finite (m ((c.tc : Thread nD τ).loc main_arg0))) :
    (dats m 0 c).arrAt 5 cfg0.N = result (m ((c.tc : Thread nD τ).loc main_arg0)) := by
  refine (dats m 0 c).arrAt_eq_of_covers 5 _ (by decide +kernel) fun t hfl y => ?_
  have ht := flushed_later t hfl
  blk_simp
  rw [after0_5]
  unfold result
  have hy : (ix2 (y 0) (y 1) : S384x256.Idx) = y := by
    funext a
    match a with
    | ⟨0, _⟩ => rfl
    | ⟨1, _⟩ => rfl
  refine (congrArg (outBlk m c t) hy.symm).trans (outBlk_at m c hf t ht (y 0) (y 1) _ _ ?_ ?_)
  · show win0_5.index t 0 * 384 + 1 * (y 0).val = _
    rw [index5, Nat.one_mul]; rfl
  · show win0_5.index t 1 * 256 + 1 * (y 1).val = _
    rw [index5, Nat.one_mul]; rfl

end Cert.KernelIdeal.Body

end
-- ==== Proof.Finite.lean ====
module

public import proofs.«01_k».proof.Pre_finite_queries_and_keys
public import proofs.«01_k».proof.Proof.Attention
public import Idealize.ShloMosaic.Lib.Pointwise

/-! What the precondition says of the extended reals: the query and key columns hold real numbers. -/

@[expose] public section

noncomputable section

namespace Cert.Softmax

open Idealize.ShloMosaic Idealize.ShloMosaic.Tactic

/-- The side conditions of the precondition. -/
theorem pre_facts : Cert.Pre_finite_queries_and_keys.Facts where
  slices_S16896x6144_S16896x3072_0_0 := by decide
  bitsLt_bf16_f32 := by decide
  bcast_S_S16896x3072 := by decide

theorem posInf : Ideal.ofBits .f32 0x7F800000#32 = (⊤ : EReal) := by
  simp [Ideal.ofBits, Ideal.ieee]

/-- An extended real below infinity in magnitude is a real. -/
theorem real_of_abs (x : EReal) (h : max x (-x) < ⊤) : ∃ r : ℝ, x = (r : EReal) := by
  induction x with
  | bot => simp at h
  | coe r => exact ⟨r, rfl⟩
  | top => simp at h

/-- The precondition at one entry. -/
theorem finite_of_pre (hp : Cert.Pre_finite_queries_and_keys.Facts) (a : Vec Ideal Cert.Pre_finite_queries_and_keys.S16896x6144 .bf16)
    (w : IVec Cert.Pre_finite_queries_and_keys.S1 32)
    (h : Cert.Pre_finite_queries_and_keys.fn (F := Ideal) a w = fun _ => 1#1) : Finite a := by
  intro R C hC
  have e := congrFun h (ix2 R ⟨C.val, hC⟩ : Cert.Pre_finite_queries_and_keys.S16896x3072.Idx)
  have e2 : Cert.Pre_finite_queries_and_keys.fn (F := Ideal) a w (ix2 R ⟨C.val, hC⟩ : Cert.Pre_finite_queries_and_keys.S16896x3072.Idx)
      = Ideal.cmp .olt (max (a (ix2 R C)) (-(a (ix2 R C)))) (Ideal.ofBits .f32 0x7F800000#32) := by
    pointwise [Cert.Pre_finite_queries_and_keys.fn]
    rfl
  rw [e2, posInf] at e
  refine real_of_abs _ ?_
  by_contra hn
  simp [Ideal.cmp, hn] at e

end Cert.Softmax

end
-- ==== Proof.Residual.lean ====
module

public import Idealize.ShloMosaic.PureOps
public import Idealize.ShloMosaic.Lib.Pointwise

/-! The output projection of a mixer, normalised and added to the residual, over the extended reals. -/

@[expose] public section

set_option maxRecDepth 65536

noncomputable section

namespace Cert.Residual

open Idealize.ShloMosaic Idealize.ShloMosaic.TcCoe Idealize.ShloMosaic.Tactic Idealize.SL.Sem

abbrev Rows := (⟨2, ![16896, 2048]⟩ : Shape).Idx → EReal
abbrev Weights := (⟨3, ![2, 2048, 2048]⟩ : Shape).Idx → EReal
abbrev Gain := (⟨1, ![2048]⟩ : Shape).Idx → EReal

/-- The projection of row `R` on column `C`, by the first layer's weights. -/
def project (x : Rows) (w : Weights) (R : Fin 16896) (C : Fin 2048) : EReal := ∑ d : Fin 2048, x (ix2 R d) * w (ix3 0 d C)

/-- The inverse of the root mean square of a row. -/
def inverseRms (y : Fin 2048 → EReal) : EReal :=
  Ideal.rsqrt (Ideal.div (∑ C : Fin 2048, y C * y C) (Ideal.ofBits .f32 0x45000000#32) + Ideal.ofBits .f32 0x358637BD#32)

/-- The residual plus the normalised projection. -/
def entry (x : Rows) (w : Weights) (h : Rows) (p : Gain) (R : Fin 16896) (C : Fin 2048) : EReal :=
  h (ix2 R C) + project x w R C * inverseRms (project x w R) * p (ix1 C)

/-- All of them, by batch row and token. -/
def result (x : Rows) (w : Weights) (h : Rows) (p : Gain) : (⟨3, ![4, 4224, 2048]⟩ : Shape).Idx → EReal :=
  fun y => entry x w h p ⟨(y 0).val * 4224 + (y 1).val, by have := (y 0).isLt; have := (y 1).isLt; simp only [Matrix.cons_val_zero, Matrix.cons_val_one] at *; omega⟩ (y 2)

theorem result_at (x : Rows) (w : Weights) (h : Rows) (p : Gain) (b : Fin 4) (r : Fin 4224) (C : Fin 2048) :
    result x w h p (ix3 b r C) = entry x w h p ⟨b.val * 4224 + r.val, by omega⟩ C := rfl

end Cert.Residual

end
-- ==== Proof.ResidualKernel.lean ====
module

public import proofs.«01_k».proof.Proof.Residual
public import proofs.«01_k».proof.Proof.Gen.Kernel2Ideal.Value
public import Idealize.ShloMosaic.Lib.Pipeline.ValueKit

/-! What the output projection's kernel leaves in its result. -/

@[expose] public section

set_option maxRecDepth 65536

noncomputable section

namespace Cert.Kernel2Ideal.Value

open Idealize.ShloMosaic Idealize.ShloMosaic.TcCoe Idealize.ShloMosaic.Tactic Idealize.SL.Sem

open Cert.Kernel2Ideal Cert.Kernel2Ideal.Gen

/-- A block's entry, from the four input blocks. -/
theorem pay_at (x : Vec Ideal S1x384x2048 .bf16) (w : Vec Ideal S1x2048x2048 .bf16) (h : Vec Ideal S1x384x2048 .f32) (p : Vec Ideal S1x2048 .f32) (r : Fin 384) (C : Fin 2048) :
    k0_pay1 x w h p (ix3 0 r C) = (h (ix3 0 r C) : EReal)
      + (∑ d : Fin 2048, (x (ix3 0 r d) : EReal) * w (ix3 0 d C))
        * Residual.inverseRms (fun D => ∑ d : Fin 2048, (x (ix3 0 r d) : EReal) * w (ix3 0 d D)) * p (ix2 0 C) := by
  unfold Residual.inverseRms
  pointwise [k0_pay1]

variable (m : (ℓ : Loc nD τ sig) → Buf (Elt Ideal) ℓ)

theorem V_v0 (c : Dev nD) : V m c main_v0 = shapeCast _ (m ((c.tc : Thread nD τ).loc main_arg0)) shapeCasts_S16896x2048_S4x4224x2048 := by
  unfold V; simp only [hostOps0]; after_results <;> rfl
theorem V_v1 (c : Dev nD) : V m c main_v1 = shapeCast _ (m ((c.tc : Thread nD τ).loc main_arg2)) shapeCasts_S16896x2048_S4x4224x2048 := by
  unfold V; simp only [hostOps0]; after_results <;> rfl
theorem V_v2 (c : Dev nD) : V m c main_v2 = shapeCast _ (m ((c.tc : Thread nD τ).loc main_arg3)) shapeCasts_S2048_S1x2048 := by
  unfold V; simp only [hostOps0]; after_results <;> rfl

theorem index0 : ∀ t : Fin cfg0.N, win0_0.index t = ![t.val / 11, t.val % 11, 0] := (by decide +kernel : ∀ t : Fin grid0.N, _)
theorem index1 : ∀ t : Fin cfg0.N, win0_1.index t = ![0, 0, 0] := (by decide +kernel : ∀ t : Fin grid0.N, _)
theorem index2 : ∀ t : Fin cfg0.N, win0_2.index t = ![t.val / 11, t.val % 11, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val / 11, t.val % 11, 0] := (by decide +kernel : ∀ t : Fin grid0.N, _)
theorem points (t : Fin cfg0.N) : t.val < 44 := lt_of_lt_of_eq t.isLt (by decide)

/-- The whole array, cast to three axes. -/
theorem cast_at {e : EltTy} (a : Vec Ideal S16896x2048 e) (b : Fin 4) (r : Fin 4224) (C : Fin 2048) :
    shapeCast S4x4224x2048 a shapeCasts_S16896x2048_S4x4224x2048 (ix3 b r C) = a (ix2 ⟨b.val * 4224 + r.val, by omega⟩ C) := by
  pointwise []
theorem gain_at {e : EltTy} (a : Vec Ideal S2048 e) (C : Fin 2048) :
    shapeCast S1x2048 a shapeCasts_S2048_S1x2048 (ix2 0 C) = a (ix1 C) := by
  pointwise []

theorem blkX_at (c : Dev nD) (t : Fin cfg0.N) (r : Fin 384) (C : Fin 2048) :
    iblk m c 0 t (ix3 0 r C : S1x384x2048.Idx) = m ((c.tc : Thread nD τ).loc main_arg0) (ix2 ⟨t.val / 11 * 4224 + (t.val % 11 * 384 + r.val), by have := points t; omega⟩ C : S16896x2048.Idx) := by
  have ht := points t
  show V m c main_v0 ((win0_0.blk t).view.emb (ix3 0 r C : S1x384x2048.Idx)) = _
  rw [V_v0]
  refine (congrArg _ ?_).trans (cast_at _ ⟨t.val / 11, by omega⟩ ⟨t.val % 11 * 384 + r.val, by omega⟩ C)
  funext a
  apply Fin.ext
  match a with
  | ⟨0, _⟩ => show win0_0.index t 0 * 1 + 1 * 0 = t.val / 11; rw [index0]; show t.val / 11 * 1 + 1 * 0 = _; omega
  | ⟨1, _⟩ => show win0_0.index t 1 * 384 + 1 * r.val = t.val % 11 * 384 + r.val; rw [index0, Nat.one_mul]; rfl
  | ⟨2, _⟩ => show win0_0.index t 2 * 2048 + 1 * C.val = C.val; rw [index0]; show 0 * 2048 + 1 * C.val = _; omega

theorem blkH_at (c : Dev nD) (t : Fin cfg0.N) (r : Fin 384) (C : Fin 2048) :
    iblk m c 2 t (ix3 0 r C : S1x384x2048.Idx) = m ((c.tc : Thread nD τ).loc main_arg2) (ix2 ⟨t.val / 11 * 4224 + (t.val % 11 * 384 + r.val), by have := points t; omega⟩ C : S16896x2048.Idx) := by
  have ht := points t
  show V m c main_v1 ((win0_2.blk t).view.emb (ix3 0 r C : S1x384x2048.Idx)) = _
  rw [V_v1]
  refine (congrArg _ ?_).trans (cast_at _ ⟨t.val / 11, by omega⟩ ⟨t.val % 11 * 384 + r.val, by omega⟩ C)
  funext a
  apply Fin.ext
  match a with
  | ⟨0, _⟩ => show win0_2.index t 0 * 1 + 1 * 0 = t.val / 11; rw [index2]; show t.val / 11 * 1 + 1 * 0 = _; omega
  | ⟨1, _⟩ => show win0_2.index t 1 * 384 + 1 * r.val = t.val % 11 * 384 + r.val; rw [index2, Nat.one_mul]; rfl
  | ⟨2, _⟩ => show win0_2.index t 2 * 2048 + 1 * C.val = C.val; rw [index2]; show 0 * 2048 + 1 * C.val = _; omega

theorem blkW_at (c : Dev nD) (t : Fin cfg0.N) (d : Fin 2048) (C : Fin 2048) :
    iblk m c 1 t (ix3 0 d C : S1x2048x2048.Idx) = m ((c.tc : Thread nD τ).loc main_arg1) (ix3 0 d C : S2x2048x2048.Idx) := by
  show V m c main_arg1 ((win0_1.blk t).view.emb (ix3 0 d C : S1x2048x2048.Idx)) = _
  rw [V_main_arg1]
  refine congrArg _ ?_
  funext a
  apply Fin.ext
  match a with
  | ⟨0, _⟩ => show win0_1.index t 0 * 1 + 1 * 0 = 0; rw [index1]; rfl
  | ⟨1, _⟩ => show win0_1.index t 1 * 2048 + 1 * d.val = d.val; rw [index1]; show 0 * 2048 + 1 * d.val = _; omega
  | ⟨2, _⟩ => show win0_1.index t 2 * 2048 + 1 * C.val = C.val; rw [index1]; show 0 * 2048 + 1 * C.val = _; omega

theorem blkP_at (c : Dev nD) (t : Fin cfg0.N) (C : Fin 2048) :
    iblk m c 3 t (ix2 0 C : S1x2048.Idx) = m ((c.tc : Thread nD τ).loc main_arg3) (ix1 C : S2048.Idx) := by
  show V m c main_v2 ((win0_3.blk t).view.emb (ix2 0 C : S1x2048.Idx)) = _
  rw [V_v2]
  refine (congrArg _ ?_).trans (gain_at _ C)
  funext a
  apply Fin.ext
  match a with
  | ⟨0, _⟩ => show win0_3.index t 0 * 1 + 1 * 0 = 0; rw [index3]; rfl
  | ⟨1, _⟩ => show win0_3.index t 1 * 2048 + 1 * C.val = C.val; rw [index3]; show 0 * 2048 + 1 * C.val = _; omega

theorem hz3 : (![0, 0, 0] : Fin 3 → Nat) = fun _ => 0 := by
  funext a
  match a with
  | ⟨0, _⟩ => rfl
  | ⟨1, _⟩ => rfl
  | ⟨2, _⟩ => rfl
theorem hz2 : (![0, 0] : Fin 2 → Nat) = fun _ => 0 := by
  funext a
  match a with
  | ⟨0, _⟩ => rfl
  | ⟨1, _⟩ => rfl

/-- What point `t` leaves in its block. -/
theorem out_at (c : Dev nD) (t : Fin cfg0.N) (r : Fin 384) (C : Fin 2048) :
    out0_4 (iblk m c 0 t) (iblk m c 1 t) (iblk m c 2 t) (iblk m c 3 t) (ix3 0 r C : S1x384x2048.Idx)
      = Residual.entry (m ((c.tc : Thread nD τ).loc main_arg0)) (m ((c.tc : Thread nD τ).loc main_arg1)) (m ((c.tc : Thread nD τ).loc main_arg2)) (m ((c.tc : Thread nD τ).loc main_arg3))
          ⟨t.val / 11 * 4224 + (t.val % 11 * 384 + r.val), by have := points t; omega⟩ C := by
  unfold out0_4
  rw [View.canon_unit_zero hz3, View.ld_unit_zero hz3, View.ld_unit_zero hz3, View.ld_unit_zero hz3, View.ld_unit_zero hz2]
  refine (pay_at _ _ _ _ r C).trans ?_
  unfold Residual.entry Residual.project
  simp only [blkX_at, blkW_at, blkH_at, blkP_at]

/-- The result array. -/
theorem final (c : Dev nD) : (dats m 0 c).arrAt 4 cfg0.N
    = Residual.result (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t hfl y => ?_
  blk_simp
  rw [after0_4]
  have ht := points t
  have hy : (ix3 0 (y 1) (y 2) : S1x384x2048.Idx) = y := by
    funext a
    match a with
    | ⟨0, _⟩ => exact (Fin.fin_one_eq_zero (y 0)).symm
    | ⟨1, _⟩ => rfl
    | ⟨2, _⟩ => rfl
  refine (congrArg (out0_4 (iblk m c 0 t) (iblk m c 1 t) (iblk m c 2 t) (iblk m c 3 t)) hy.symm).trans ((out_at m c t (y 1) (y 2)).trans ?_)
  refine (Residual.result_at _ _ _ _ ⟨t.val / 11, by omega⟩ ⟨t.val % 11 * 384 + (y 1).val, by have : (y 1).val < 384 := (y 1).isLt; omega⟩ (y 2)).symm.trans ?_
  refine congrArg _ ?_
  funext a
  apply Fin.ext
  match a with
  | ⟨0, _⟩ => show t.val / 11 = win0_4.index t 0 * 1 + 1 * (y 0).val; rw [index4, Fin.fin_one_eq_zero (y 0)]; show _ = t.val / 11 * 1 + 1 * 0; omega
  | ⟨1, _⟩ => show t.val % 11 * 384 + (y 1).val = win0_4.index t 1 * 384 + 1 * (y 1).val; rw [index4, Nat.one_mul]; rfl
  | ⟨2, _⟩ => show (y 2).val = win0_4.index t 2 * 2048 + 1 * (y 2).val; rw [index4]; show _ = 0 * 2048 + 1 * (y 2).val; omega

/-- The run of the kernel. -/
theorem run_result (ρ : Dev nD → PrngReg) :
    θ_run defs (onTc (τ := τ) (main (F := Ideal))) ⟨m, fun _ => 0, ρ⟩ fun r => ∀ c : Dev nD,
      r.2.mem ((c.tc : Thread nD τ).loc main_v3)
        = Residual.result (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (final m c), (h c).2⟩) (run_blocks (F := Ideal) m ρ)

end Cert.Kernel2Ideal.Value

end
-- ==== Proof.ResidualReference.lean ====
module

public import proofs.«01_k».proof.Proof.Residual
public import proofs.«01_k».proof.Proof.Gen.Reference2Ideal.Run

/-! What the reference of the output projection returns. -/

@[expose] public section

set_option maxRecDepth 65536

noncomputable section

namespace Cert.Reference2Ideal.Value

open Idealize.ShloMosaic Idealize.ShloMosaic.TcCoe Idealize.ShloMosaic.Tactic Idealize.SL.Sem

open Cert.Reference2Ideal Cert.Reference2Ideal.Gen

variable {F : FTy → Type} [FloatOps F]

def projected (x : Vec F S16896x2048 .bf16) (w : Vec F S2x2048x2048 .bf16) : Vec F S4x4224x2048 .f32 :=
  Host.dotGeneral dot_S4x4224x2048_S2048x2048_S4x4224x2048_2_0_01_1_n_n none
    (shapeCast _ (extf .f32 x bitsLt_bf16_f32) shapeCasts_S16896x2048_S4x4224x2048)
    (extf .f32 (shapeCast _ (extractStridedSlice S1x2048x2048 ![0, 0, 0] w slices_S2x2048x2048_S1x2048x2048_0_0_0) shapeCasts_S1x2048x2048_S2048x2048) bitsLt_bf16_f32)

def normalised (y : Vec F S4x4224x2048 .f32) (h : Vec F S16896x2048 .f32) (p : Vec F S2048 .f32) : Vec F S4x4224x2048 .f32 :=
  addf (shapeCast _ h shapeCasts_S16896x2048_S4x4224x2048)
    (mulf (mulf y (broadcastInDim S4x4224x2048 ![0, 1, 2] bcast_S4x4224x1_S4x4224x2048_0_1_2
        (Host.rsqrt (addf (Host.divf (broadcastInDim S4x4224x1 ![0, 1] bcast_S4x4224_S4x4224x1_0_1
            (Host.reduceAdd (mulf y y) (constant S_ .f32 0x00000000#32) reducesTo_S4x4224x2048_S4x4224_d2 h_S_))
          (broadcastInDim S4x4224x1 ![] bcast_S_S4x4224x1 (constant S_ .f32 0x45000000#32)))
          (broadcastInDim S4x4224x1 ![] bcast_S_S4x4224x1 (constant S_ .f32 0x358637BD#32))))))
      (broadcastInDim S4x4224x2048 ![0, 1, 2] bcast_S1x1x2048_S4x4224x2048_0_1_2 (broadcastInDim S1x1x2048 ![2] bcast_S2048_S1x1x2048_2 p)))

theorem projected_at (x : Vec Ideal S16896x2048 .bf16) (w : Vec Ideal S2x2048x2048 .bf16) (b : Fin 4) (r : Fin 4224) (C : Fin 2048) :
    projected x w (ix3 b r C) = Residual.project x w ⟨b.val * 4224 + r.val, by omega⟩ C := by
  unfold Residual.project
  pointwise [projected]

theorem normalised_at (y : Vec Ideal S4x4224x2048 .f32) (h : Vec Ideal S16896x2048 .f32) (p : Vec Ideal S2048 .f32) (b : Fin 4) (r : Fin 4224) (C : Fin 2048) :
    normalised y h p (ix3 b r C) = (h (ix2 ⟨b.val * 4224 + r.val, by omega⟩ C) : EReal)
      + (y (ix3 b r C) : EReal) * Residual.inverseRms (fun D => y (ix3 b r D)) * p (ix1 C) := by
  unfold Residual.inverseRms
  pointwise [normalised]

theorem result_eq (x : Vec Ideal S16896x2048 .bf16) (w : Vec Ideal S2x2048x2048 .bf16) (h : Vec Ideal S16896x2048 .f32) (p : Vec Ideal S2048 .f32) :
    normalised (projected x w) h p = Residual.result x w h p := by
  funext y
  idx_vars y
  rw [normalised_at, Residual.result_at, Residual.entry, projected_at]
  simp only [projected_at]

/-- The run of the reference. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v20)
        = Residual.result (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (result_eq _ _ _ _), (h c).2⟩) (run (F := Ideal) m ρ)

end Cert.Reference2Ideal.Value

end
-- ==== Proof.RopeSegs.lean ====
module

public import proofs.«01_k».proof.Proof.Gen.Kernel4Ideal.Frame

/-! The attention in-projection's body cut into its six conditional segments. -/

@[expose] public section

set_option maxRecDepth 65536

noncomputable section

namespace Cert.Kernel4Ideal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel4Ideal Cert.Kernel4Ideal.Gen

variable {F : FTy → Type} [FloatOps F]

/-- The first segment: at the first grid point the product is reset. -/
noncomputable def seg1 (i : grid0.Coords) (arg1 : Memref sig .tc .vmem S128x2048 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S1x1024 .f32) (harg5 : arg5.IsWhole) (arg6 : Memref sig .tc .vmem S1408x128 .f32) (harg6 : arg6.IsWhole) (arg7 : Memref sig .tc .vmem S1408x128 .f32) (harg7 : arg7.IsWhole) (arg8 : Memref sig .tc .vmem S1408x1024 .bf16) (harg8 : arg8.IsWhole) (arg9 : Memref sig .tc .vmem S1408x2048 .bf16) (harg9 : arg9.IsWhole) (arg10 : Memref sig .tc .vmem S1408x2048 .bf16) (harg10 : arg10.IsWhole) (arg11 : Memref sig .tc .vmem S1408x1024 .f32) (harg11 : arg11.IsWhole) :
    Prog (TpuEff nD τ sig (Elt F) Λ₀ .tc) PUnit := do
  let arg0 : BitVec 32 := BitVec.ofNat 32 (i 0).val
  let c6_i32 : BitVec 32 := 6#32
  let v0 : BitVec 32 := Scalar.subi arg0 c6_i32
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  if k0_h1 : v3 = 1#1 then do
    have cst : F .f32 := Scalar.ofBits .f32 0x00000000#32
    have v47 : FVec F S1408x1024 .f32 := broadcast S1408x1024 cst
    let c0 : Index := 0#32
    let c0_23 : Index := 0#32
    let v48 : Vec F S1408x1024 .f32 ← Prog.lift (.load arg11 (Rect.unit (s := S1408x1024) ![0, 0] S1408x1024.size inb_S1408x1024_S1408x1024_0_0).toLoadRect (View.loadsAt_vmem h_S1408x1024))
    have v49 : FVec F S1408x1024 .f32 := shapeCast S1408x1024 v48 shapeCasts_S1408x1024_S1408x1024
    have v50 : FVec F S1408x1024 .f32 := shapeCast S1408x1024 v47 shapeCasts_S1408x1024_S1408x1024
    Prog.lift (.store arg11 (Rect.unit (s := S1408x1024) ![0, 0] S1408x1024.size inb_S1408x1024_S1408x1024_0_0) v50 Finset.univ (View.stores_vmem_bits_univ h_S1408x1024 rfl) (.inl rfl))
    pure ⟨⟩
  else do
    pure ⟨⟩

/-- The second segment: the first six grid points normalise the first row tile, two chunks of 128 rows each. -/
noncomputable def seg2 (i : grid0.Coords) (arg1 : Memref sig .tc .vmem S128x2048 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S1x1024 .f32) (harg5 : arg5.IsWhole) (arg6 : Memref sig .tc .vmem S1408x128 .f32) (harg6 : arg6.IsWhole) (arg7 : Memref sig .tc .vmem S1408x128 .f32) (harg7 : arg7.IsWhole) (arg8 : Memref sig .tc .vmem S1408x1024 .bf16) (harg8 : arg8.IsWhole) (arg9 : Memref sig .tc .vmem S1408x2048 .bf16) (harg9 : arg9.IsWhole) (arg10 : Memref sig .tc .vmem S1408x2048 .bf16) (harg10 : arg10.IsWhole) (arg11 : Memref sig .tc .vmem S1408x1024 .f32) (harg11 : arg11.IsWhole) :
    Prog (TpuEff nD τ sig (Elt F) Λ₀ .tc) PUnit := do
  let arg0 : BitVec 32 := BitVec.ofNat 32 (i 0).val
  if k0_h2 : k0_cond2 i = 1#1 then do
    let ⟨v83, v84⟩ : Σ' (v83 : BitVec 32), BitVec 32 ← k0_part1 i arg1 harg1 arg2 harg2 arg3 harg3 arg4 harg4 arg5 harg5 arg6 harg6 arg7 harg7 arg8 harg8 arg9 harg9 arg10 harg10 arg11 harg11 arg0 k0_h2
    let c0_i32_39 : BitVec 32 := 0#32
    let v85 : BitVec 1 := Scalar.cmpi .ne v84 c0_i32_39
    let c0_i32_40 : BitVec 32 := 0#32
    let v86 : BitVec 1 := Scalar.cmpi .slt v84 c0_i32_40
    let c0_i32_41 : BitVec 32 := 0#32
    let v87 : BitVec 1 := Scalar.cmpi .slt v83 c0_i32_41
    let v88 : BitVec 1 := Scalar.xori v86 v87
    let v89 : BitVec 1 := Scalar.andi v88 v85
    let v90 : BitVec 32 := Scalar.addi v84 v83
    let v91 : BitVec 32 := Scalar.select v89 v90 v84
    let c2_i32_42 : BitVec 32 := 2#32
    let v92 : BitVec 32 := Scalar.muli v91 c2_i32_42
    let c1_i32_43 : BitVec 32 := 1#32
    let v93 : BitVec 32 := Scalar.addi v92 c1_i32_43
    let c10_i32_44 : BitVec 32 := 10#32
    let v94 : BitVec 32 := Scalar.minsi v93 c10_i32_44
    let c128_i32_45 : BitVec 32 := 128#32
    let v95 : BitVec 32 := Scalar.muli v94 c128_i32_45
    let v96 : BitVec 32 := v95
    let c0_46 : Index := 0#32
    let c0_47 : Index := 0#32
    let v97 : Vec F S128x2048 .f32 ← Prog.lift (.load arg2 (Rect.unit (s := S128x2048) ![0, 0] S128x2048.size inb_S128x2048_S128x2048_0_0).toLoadRect (View.loadsAt_vmem h_S128x2048))
    have v98 : FVec F S128x2048 .f32 := mulf v97 v97
    have cst_48 : FVec F S128 .f32 := constant S128 .f32 0x00000000#32
    have v99 : FVec F S128 .f32 := multiReduction .add [1] S128 v98 0x00000000#32 reduces_S128x2048_S128 (.inl rfl) rfl
    have v100 : FVec F S128x1 .f32 := shapeCast S128x1 v99 shapeCasts_S128_S128x1
    have cst_49 : F .f32 := Scalar.ofBits .f32 0x45000000#32
    have v101 : FVec F S128x1 .f32 := broadcast S128x1 cst_49
    have v102 : FVec F S128x1 .f32 := divf v100 v101
    have cst_50 : F .f32 := Scalar.ofBits .f32 0x358637BD#32
    have v103 : FVec F S128x1 .f32 := broadcast S128x1 cst_50
    have v104 : FVec F S128x1 .f32 := addf v102 v103
    have v105 : FVec F S128x1 .f32 := rsqrt v104
    have v106 : FVec F S128x2048 .f32 := broadcastTo S128x2048 v105 broadcasts_S128x1_S128x2048
    have v107 : FVec F S128x2048 .f32 := mulf v97 v106
    let c0_51 : Index := 0#32
    let c0_52 : Index := 0#32
    let v108 : Vec F S1x2048 .f32 ← Prog.lift (.load arg3 (Rect.unit (s := S1x2048) ![0, 0] S1x2048.size inb_S1x2048_S1x2048_0_0).toLoadRect (View.loadsAt_vmem h_S1x2048))
    have v109 : FVec F S1x2048 .f32 := shapeCast S1x2048 v108 shapeCasts_S1x2048_S1x2048
    have v110 : FVec F S128x2048 .f32 := broadcastTo S128x2048 v109 broadcasts_S1x2048_S128x2048
    have v111 : FVec F S128x2048 .f32 := mulf v107 v110
    have v112 : FVec F S128x2048 .bf16 := truncf .bf16 v111 bitsLt_bf16_f32
    let v113 : Index := Scalar.indexCast v96
    let c0_53 : Index := 0#32
    let v114 : Vec F S128x2048 .bf16 ← Prog.lift (.load arg10 (Rect.unit (s := S1408x2048) (k0_off1 i 1#32) S128x2048.size (k0_off1_inb i k0_h2 1)).toLoadRect (View.loadsAt_vmem h_S128x2048))
    have v115 : FVec F S128x2048 .bf16 := shapeCast S128x2048 v114 shapeCasts_S128x2048_S128x2048
    have v116 : FVec F S128x2048 .bf16 := shapeCast S128x2048 v112 shapeCasts_S128x2048_S128x2048
    Prog.lift (.store arg10 (Rect.unit (s := S1408x2048) (k0_off1 i 1#32) S128x2048.size (k0_off1_inb i k0_h2 1)) v116 Finset.univ (View.stores_vmem h_S128x2048 (harg10.storeExact_slice rfl _ (k0_off1_packedbf16 i k0_h2 1)) (fun _ => rfl)) (.inl rfl))
    pure ⟨⟩
  else do
    pure ⟨⟩

/-- The third segment: at the first of a row tile's six column tiles the normalised rows move over. -/
noncomputable def seg3 (i : grid0.Coords) (arg1 : Memref sig .tc .vmem S128x2048 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S1x1024 .f32) (harg5 : arg5.IsWhole) (arg6 : Memref sig .tc .vmem S1408x128 .f32) (harg6 : arg6.IsWhole) (arg7 : Memref sig .tc .vmem S1408x128 .f32) (harg7 : arg7.IsWhole) (arg8 : Memref sig .tc .vmem S1408x1024 .bf16) (harg8 : arg8.IsWhole) (arg9 : Memref sig .tc .vmem S1408x2048 .bf16) (harg9 : arg9.IsWhole) (arg10 : Memref sig .tc .vmem S1408x2048 .bf16) (harg10 : arg10.IsWhole) (arg11 : Memref sig .tc .vmem S1408x1024 .f32) (harg11 : arg11.IsWhole) :
    Prog (TpuEff nD τ sig (Elt F) Λ₀ .tc) PUnit := do
  let arg0 : BitVec 32 := BitVec.ofNat 32 (i 0).val
  let c6_i32 : BitVec 32 := 6#32
  let v0 : BitVec 32 := Scalar.subi arg0 c6_i32
  let c0_i32_3 : BitVec 32 := 0#32
  let v7 : BitVec 1 := Scalar.cmpi .sge v0 c0_i32_3
  let c72_i32 : BitVec 32 := 72#32
  let v8 : BitVec 1 := Scalar.cmpi .slt v0 c72_i32
  let v9 : BitVec 1 := Scalar.andi v7 v8
  let c6_i32_4 : BitVec 32 := 6#32
  let c0_i32_5 : BitVec 32 := 0#32
  let v10 : BitVec 1 := Scalar.cmpi .eq c6_i32_4 c0_i32_5
  let c1_i32 : BitVec 32 := 1#32
  let v11 : BitVec 32 := Scalar.select v10 c1_i32 c6_i32_4
  let v12 : BitVec 32 := Scalar.remsi v0 v11
  let c0_i32_6 : BitVec 32 := 0#32
  let v13 : BitVec 1 := Scalar.cmpi .ne v12 c0_i32_6
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let v17 : BitVec 1 := Scalar.andi v16 v13
  let v18 : BitVec 32 := Scalar.addi v12 v11
  let v19 : BitVec 32 := Scalar.select v17 v18 v12
  let c0_i32_9 : BitVec 32 := 0#32
  let v20 : BitVec 1 := Scalar.cmpi .eq v19 c0_i32_9
  let v21 : BitVec 1 := Scalar.andi v9 v20
  let v22 : BitVec 32 := Scalar.extui v21
  let c0_i32_10 : BitVec 32 := 0#32
  let v23 : BitVec 1 := Scalar.cmpi .ne v22 c0_i32_10
  if k0_h3 : v23 = 1#1 then do
    let c0 : Index := 0#32
    let c0_23 : Index := 0#32
    let v47 : Vec F S1408x2048 .bf16 ← Prog.lift (.load arg10 (Rect.unit (s := S1408x2048) ![0, 0] S1408x2048.size inb_S1408x2048_S1408x2048_0_0).toLoadRect (View.loadsAt_vmem h_S1408x2048))
    let c0_24 : Index := 0#32
    let c0_25 : Index := 0#32
    let v48 : Vec F S1408x2048 .bf16 ← Prog.lift (.load arg9 (Rect.unit (s := S1408x2048) ![0, 0] S1408x2048.size inb_S1408x2048_S1408x2048_0_0).toLoadRect (View.loadsAt_vmem h_S1408x2048))
    have v49 : FVec F S1408x2048 .bf16 := shapeCast S1408x2048 v48 shapeCasts_S1408x2048_S1408x2048
    have v50 : FVec F S1408x2048 .bf16 := shapeCast S1408x2048 v47 shapeCasts_S1408x2048_S1408x2048
    Prog.lift (.store arg9 (Rect.unit (s := S1408x2048) ![0, 0] S1408x2048.size inb_S1408x2048_S1408x2048_0_0) v50 Finset.univ (View.stores_vmem h_S1408x2048 (harg9.storeExact_slice rfl _ packedbf16_S1408x2048_S1408x2048_0_0) (fun _ => rfl)) (.inl rfl))
    pure ⟨⟩
  else do
    pure ⟨⟩

/-- The fourth segment: the last product, of queries or keys, is normalised head by head, turned and written out, the next product is taken, and two chunks of the next row tile are normalised. -/
noncomputable def seg4 (i : grid0.Coords) (arg1 : Memref sig .tc .vmem S128x2048 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S1x1024 .f32) (harg5 : arg5.IsWhole) (arg6 : Memref sig .tc .vmem S1408x128 .f32) (harg6 : arg6.IsWhole) (arg7 : Memref sig .tc .vmem S1408x128 .f32) (harg7 : arg7.IsWhole) (arg8 : Memref sig .tc .vmem S1408x1024 .bf16) (harg8 : arg8.IsWhole) (arg9 : Memref sig .tc .vmem S1408x2048 .bf16) (harg9 : arg9.IsWhole) (arg10 : Memref sig .tc .vmem S1408x2048 .bf16) (harg10 : arg10.IsWhole) (arg11 : Memref sig .tc .vmem S1408x1024 .f32) (harg11 : arg11.IsWhole) :
    Prog (TpuEff nD τ sig (Elt F) Λ₀ .tc) PUnit := do
  let arg0 : BitVec 32 := BitVec.ofNat 32 (i 0).val
  if k0_h4 : k0_cond4 i = 1#1 then do
    let ⟨v47, v55, v56, v77, v80, cst_43⟩ : Σ' (v47 : Vec F S1408x1024 .f32) (v55 : Vec F S1408x128 .f32) (v56 : Vec F S1408x128 .f32) (v77 : FVec F S1408x128 .f32) (v80 : FVec F S1408x1 .f32), F .f32 ← k0_part2 i arg1 harg1 arg2 harg2 arg3 harg3 arg4 harg4 arg5 harg5 arg6 harg6 arg7 harg7 arg8 harg8 arg9 harg9 arg10 harg10 arg11 harg11
    let ⟨v117, v122⟩ : Σ' (v117 : FVec F S1408x128 .f32), FVec F S1408x1 .f32 ← k0_part3 i arg1 harg1 arg2 harg2 arg3 harg3 arg4 harg4 arg5 harg5 arg6 harg6 arg7 harg7 arg8 harg8 arg9 harg9 arg10 harg10 arg11 harg11 v47 v55 v56 v77 v80 cst_43
    let ⟨v157, v162, v163⟩ : Σ' (v157 : FVec F S1408x128 .f32) (v162 : FVec F S1408x1 .f32), FVec F S1408x1 .f32 ← k0_part4 i arg1 harg1 arg2 harg2 arg3 harg3 arg4 harg4 arg5 harg5 arg6 harg6 arg7 harg7 arg8 harg8 arg9 harg9 arg10 harg10 arg11 harg11 v47 v55 v56 v117 v122
    let ⟨v197, v205⟩ : Σ' (v197 : FVec F S1408x128 .f32), FVec F S1408x1 .f32 ← k0_part5 i arg1 harg1 arg2 harg2 arg3 harg3 arg4 harg4 arg5 harg5 arg6 harg6 arg7 harg7 arg8 harg8 arg9 harg9 arg10 harg10 arg11 harg11 v47 v55 v56 v157 v162 v163
    let ⟨v231, v242⟩ : Σ' (v231 : BitVec 32), FVec F S128x2048 .f32 ← k0_part6 i arg1 harg1 arg2 harg2 arg3 harg3 arg4 harg4 arg5 harg5 arg6 harg6 arg7 harg7 arg8 harg8 arg9 harg9 arg10 harg10 arg11 harg11 arg0 v55 v56 v197 v205
    let v282 : FVec F S128x2048 .bf16 ← k0_part7 i arg1 harg1 arg2 harg2 arg3 harg3 arg4 harg4 arg5 harg5 arg6 harg6 arg7 harg7 arg8 harg8 arg9 harg9 arg10 harg10 arg11 harg11 arg0 k0_h4 v231 v242
    let c0_123 : Index := 0#32
    let v284 : Vec F S128x2048 .bf16 ← Prog.lift (.load arg10 (Rect.unit (s := S1408x2048) (k0_off2 i 1#32) S128x2048.size (k0_off2_inb i k0_h4 1)).toLoadRect (View.loadsAt_vmem h_S128x2048))
    have v285 : FVec F S128x2048 .bf16 := shapeCast S128x2048 v284 shapeCasts_S128x2048_S128x2048
    have v286 : FVec F S128x2048 .bf16 := shapeCast S128x2048 v282 shapeCasts_S128x2048_S128x2048
    Prog.lift (.store arg10 (Rect.unit (s := S1408x2048) (k0_off2 i 1#32) S128x2048.size (k0_off2_inb i k0_h4 1)) v286 Finset.univ (View.stores_vmem h_S128x2048 (harg10.storeExact_slice rfl _ (k0_off2_packedbf16 i k0_h4 1)) (fun _ => rfl)) (.inl rfl))
    pure ⟨⟩
  else do
    pure ⟨⟩

/-- The fifth segment: the same where the last product, of values or gate, is only rounded. -/
noncomputable def seg5 (i : grid0.Coords) (arg1 : Memref sig .tc .vmem S128x2048 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S1x1024 .f32) (harg5 : arg5.IsWhole) (arg6 : Memref sig .tc .vmem S1408x128 .f32) (harg6 : arg6.IsWhole) (arg7 : Memref sig .tc .vmem S1408x128 .f32) (harg7 : arg7.IsWhole) (arg8 : Memref sig .tc .vmem S1408x1024 .bf16) (harg8 : arg8.IsWhole) (arg9 : Memref sig .tc .vmem S1408x2048 .bf16) (harg9 : arg9.IsWhole) (arg10 : Memref sig .tc .vmem S1408x2048 .bf16) (harg10 : arg10.IsWhole) (arg11 : Memref sig .tc .vmem S1408x1024 .f32) (harg11 : arg11.IsWhole) :
    Prog (TpuEff nD τ sig (Elt F) Λ₀ .tc) PUnit := do
  let arg0 : BitVec 32 := BitVec.ofNat 32 (i 0).val
  if k0_h5 : k0_cond5 i = 1#1 then do
    let ⟨v71, v72, v77, cst_44⟩ : Σ' (v71 : BitVec 32) (v72 : Vec F S128x2048 .f32) (v77 : FVec F S128x1 .f32), F .f32 ← k0_part8 i arg1 harg1 arg2 harg2 arg3 harg3 arg4 harg4 arg5 harg5 arg6 harg6 arg7 harg7 arg8 harg8 arg9 harg9 arg10 harg10 arg11 harg11 arg0
    let ⟨v106, v117⟩ : Σ' (v106 : BitVec 32), FVec F S128x2048 .f32 ← k0_part9 i arg1 harg1 arg2 harg2 arg3 harg3 arg4 harg4 arg5 harg5 arg6 harg6 arg7 harg7 arg8 harg8 arg9 harg9 arg10 harg10 arg11 harg11 arg0 k0_h5 v71 v72 v77 cst_44
    let c0_64 : Index := 0#32
    let v118 : Vec F S1x2048 .f32 ← Prog.lift (.load arg3 (Rect.unit (s := S1x2048) ![0, 0] S1x2048.size inb_S1x2048_S1x2048_0_0).toLoadRect (View.loadsAt_vmem h_S1x2048))
    have v119 : FVec F S1x2048 .f32 := shapeCast S1x2048 v118 shapeCasts_S1x2048_S1x2048
    have v120 : FVec F S128x2048 .f32 := broadcastTo S128x2048 v119 broadcasts_S1x2048_S128x2048
    have v121 : FVec F S128x2048 .f32 := mulf v117 v120
    have v122 : FVec F S128x2048 .bf16 := truncf .bf16 v121 bitsLt_bf16_f32
    let v123 : Index := Scalar.indexCast v106
    let c0_65 : Index := 0#32
    let v124 : Vec F S128x2048 .bf16 ← Prog.lift (.load arg10 (Rect.unit (s := S1408x2048) (k0_off3 i 1#32) S128x2048.size (k0_off3_inb i k0_h5 1)).toLoadRect (View.loadsAt_vmem h_S128x2048))
    have v125 : FVec F S128x2048 .bf16 := shapeCast S128x2048 v124 shapeCasts_S128x2048_S128x2048
    have v126 : FVec F S128x2048 .bf16 := shapeCast S128x2048 v122 shapeCasts_S128x2048_S128x2048
    Prog.lift (.store arg10 (Rect.unit (s := S1408x2048) (k0_off3 i 1#32) S128x2048.size (k0_off3_inb i k0_h5 1)) v126 Finset.univ (View.stores_vmem h_S128x2048 (harg10.storeExact_slice rfl _ (k0_off3_packedbf16 i k0_h5 1)) (fun _ => rfl)) (.inl rfl))
    pure ⟨⟩
  else do
    pure ⟨⟩

/-- The sixth segment: the last grid point writes out the last product. -/
noncomputable def seg6 (i : grid0.Coords) (arg1 : Memref sig .tc .vmem S128x2048 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S1x1024 .f32) (harg5 : arg5.IsWhole) (arg6 : Memref sig .tc .vmem S1408x128 .f32) (harg6 : arg6.IsWhole) (arg7 : Memref sig .tc .vmem S1408x128 .f32) (harg7 : arg7.IsWhole) (arg8 : Memref sig .tc .vmem S1408x1024 .bf16) (harg8 : arg8.IsWhole) (arg9 : Memref sig .tc .vmem S1408x2048 .bf16) (harg9 : arg9.IsWhole) (arg10 : Memref sig .tc .vmem S1408x2048 .bf16) (harg10 : arg10.IsWhole) (arg11 : Memref sig .tc .vmem S1408x1024 .f32) (harg11 : arg11.IsWhole) :
    Prog (TpuEff nD τ sig (Elt F) Λ₀ .tc) PUnit := do
  let arg0 : BitVec 32 := BitVec.ofNat 32 (i 0).val
  if k0_h6 : k0_cond6 i = 1#1 then do
    let c0 : Index := 0#32
    let c0_23 : Index := 0#32
    let v47 : Vec F S1408x1024 .f32 ← Prog.lift (.load arg11 (Rect.unit (s := S1408x1024) ![0, 0] S1408x1024.size inb_S1408x1024_S1408x1024_0_0).toLoadRect (View.loadsAt_vmem h_S1408x1024))
    have v48 : FVec F S1408x1024 .bf16 := truncf .bf16 v47 bitsLt_bf16_f32
    let c0_24 : Index := 0#32
    let c0_25 : Index := 0#32
    let v49 : Vec F S1408x1024 .bf16 ← Prog.lift (.load arg8 (Rect.unit (s := S1408x1024) ![0, 0] S1408x1024.size inb_S1408x1024_S1408x1024_0_0).toLoadRect (View.loadsAt_vmem h_S1408x1024))
    Prog.lift (.store arg8 (Rect.unit (s := S1408x1024) ![0, 0] S1408x1024.size inb_S1408x1024_S1408x1024_0_0) v48 Finset.univ (View.stores_vmem h_S1408x1024 (harg8.storeExact_slice rfl _ packedbf16_S1408x1024_S1408x1024_0_0) (fun _ => rfl)) (.inl rfl))
    pure ⟨⟩
  else do
    pure ⟨⟩

/-- Whether the normalised rows move over at a grid point. -/
def advance (i : grid0.Coords) : BitVec 1 :=
  let arg0 : BitVec 32 := BitVec.ofNat 32 (i 0).val
  let c6_i32 : BitVec 32 := 6#32
  let v0 : BitVec 32 := Scalar.subi arg0 c6_i32
  let c0_i32_3 : BitVec 32 := 0#32
  let v7 : BitVec 1 := Scalar.cmpi .sge v0 c0_i32_3
  let c72_i32 : BitVec 32 := 72#32
  let v8 : BitVec 1 := Scalar.cmpi .slt v0 c72_i32
  let v9 : BitVec 1 := Scalar.andi v7 v8
  let c6_i32_4 : BitVec 32 := 6#32
  let c0_i32_5 : BitVec 32 := 0#32
  let v10 : BitVec 1 := Scalar.cmpi .eq c6_i32_4 c0_i32_5
  let c1_i32 : BitVec 32 := 1#32
  let v11 : BitVec 32 := Scalar.select v10 c1_i32 c6_i32_4
  let v12 : BitVec 32 := Scalar.remsi v0 v11
  let c0_i32_6 : BitVec 32 := 0#32
  let v13 : BitVec 1 := Scalar.cmpi .ne v12 c0_i32_6
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let v17 : BitVec 1 := Scalar.andi v16 v13
  let v18 : BitVec 32 := Scalar.addi v12 v11
  let v19 : BitVec 32 := Scalar.select v17 v18 v12
  let c0_i32_9 : BitVec 32 := 0#32
  let v20 : BitVec 1 := Scalar.cmpi .eq v19 c0_i32_9
  let v21 : BitVec 1 := Scalar.andi v9 v20
  let v22 : BitVec 32 := Scalar.extui v21
  let c0_i32_10 : BitVec 32 := 0#32
  let v23 : BitVec 1 := Scalar.cmpi .ne v22 c0_i32_10
  v23

/-- A conditional whose two branches end by the same continuation is the conditional followed by it, the condition's proof used or not. -/
theorem dite_then.{v} {E : Type → Type v} {c : Prop} [Decidable c] {α : Type} (a : c → Prog E PUnit) (k : PUnit → Prog E α) :
    (if h : c then a h >>= k else k ⟨⟩) = (if h : c then a h else pure ⟨⟩) >>= k := by
  split
  · rfl
  · exact (pure_bind _ _).symm

/-- The body is its six segments in order. -/
theorem body_eq (i : grid0.Coords) (arg1 : Memref sig .tc .vmem S128x2048 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S1x1024 .f32) (harg5 : arg5.IsWhole) (arg6 : Memref sig .tc .vmem S1408x128 .f32) (harg6 : arg6.IsWhole) (arg7 : Memref sig .tc .vmem S1408x128 .f32) (harg7 : arg7.IsWhole) (arg8 : Memref sig .tc .vmem S1408x1024 .bf16) (harg8 : arg8.IsWhole) (arg9 : Memref sig .tc .vmem S1408x2048 .bf16) (harg9 : arg9.IsWhole) (arg10 : Memref sig .tc .vmem S1408x2048 .bf16) (harg10 : arg10.IsWhole) (arg11 : Memref sig .tc .vmem S1408x1024 .f32) (harg11 : arg11.IsWhole) :
    cc0_inproj_rope (F := F) i arg1 harg1 arg2 harg2 arg3 harg3 arg4 harg4 arg5 harg5 arg6 harg6 arg7 harg7 arg8 harg8 arg9 harg9 arg10 harg10 arg11 harg11 = (do
      seg1 i arg1 harg1 arg2 harg2 arg3 harg3 arg4 harg4 arg5 harg5 arg6 harg6 arg7 harg7 arg8 harg8 arg9 harg9 arg10 harg10 arg11 harg11
      seg2 i arg1 harg1 arg2 harg2 arg3 harg3 arg4 harg4 arg5 harg5 arg6 harg6 arg7 harg7 arg8 harg8 arg9 harg9 arg10 harg10 arg11 harg11
      seg3 i arg1 harg1 arg2 harg2 arg3 harg3 arg4 harg4 arg5 harg5 arg6 harg6 arg7 harg7 arg8 harg8 arg9 harg9 arg10 harg10 arg11 harg11
      seg4 i arg1 harg1 arg2 harg2 arg3 harg3 arg4 harg4 arg5 harg5 arg6 harg6 arg7 harg7 arg8 harg8 arg9 harg9 arg10 harg10 arg11 harg11
      seg5 i arg1 harg1 arg2 harg2 arg3 harg3 arg4 harg4 arg5 harg5 arg6 harg6 arg7 harg7 arg8 harg8 arg9 harg9 arg10 harg10 arg11 harg11
      seg6 i arg1 harg1 arg2 harg2 arg3 harg3 arg4 harg4 arg5 harg5 arg6 harg6 arg7 harg7 arg8 harg8 arg9 harg9 arg10 harg10 arg11 harg11
      pure ⟨⟩) := by
  unfold cc0_inproj_rope
  unfold k0_part10 seg1 seg2 seg3 seg4 seg5 seg6
  simp only [← dite_then, bind_assoc, pure_bind]
  by_cases h1 : Scalar.cmpi .ne (Scalar.extui (Scalar.cmpi .eq (BitVec.ofNat 32 (i 0).val) 0#32) : BitVec 32) 0#32 = 1#1 <;>
  by_cases h2 : k0_cond2 i = 1#1 <;>
  by_cases h3 : advance i = 1#1 <;>
  by_cases h4 : k0_cond4 i = 1#1 <;>
  by_cases h5 : k0_cond5 i = 1#1 <;>
  by_cases h6 : k0_cond6 i = 1#1 <;>
  (unfold advance at h3; simp only [h1, h2, h3, h4, h5, h6, dite_true, dite_false]) <;> rfl

end Cert.Kernel4Ideal.Body

end
-- ==== Proof.RopeGrid.lean ====
module

public import proofs.«01_k».proof.Proof.RopeSegs

/-! The attention in-projection's grid: which segments run at a point, and where its chunks are stored. -/

@[expose] public section

set_option maxRecDepth 65536

noncomputable section

namespace Cert.Kernel4Ideal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel4Ideal Cert.Kernel4Ideal.Gen

/-- The grid point of a number. -/
def pt (n : Fin 79) : grid0.Coords := fun a => match a with | ⟨0, _⟩ => n

theorem eq_pt (i : grid0.Coords) : i = pt (i 0) := by
  funext a
  match a with
  | ⟨0, _⟩ => rfl

/-- What holds at every number holds at every point. -/
theorem forall_pt {P : grid0.Coords → Prop} (h : ∀ n : Fin 79, P (pt n)) (i : grid0.Coords) : P i := by
  rw [eq_pt i]
  exact h _

/-- Where chunk 0 of a point is stored (`k0_off1`). -/
theorem off1_0 (i : grid0.Coords) : k0_off1 i 0#32 = ![128 * min (2 * ((i 0).val % 6) + 0) 10, 0] := by
  refine forall_pt (P := fun i => k0_off1 i 0#32 = ![128 * min (2 * ((i 0).val % 6) + 0) 10, 0]) ?_ i
  decide +kernel

instance closed1_0 (i : grid0.Coords) : ClosedOff (k0_off1 i 0#32) := ⟨![128 * min (2 * ((i 0).val % 6) + 0) 10, 0], off1_0 i⟩

/-- Where chunk 1 of a point is stored (`k0_off1`). -/
theorem off1_1 (i : grid0.Coords) : k0_off1 i 1#32 = ![128 * min (2 * ((i 0).val % 6) + 1) 10, 0] := by
  refine forall_pt (P := fun i => k0_off1 i 1#32 = ![128 * min (2 * ((i 0).val % 6) + 1) 10, 0]) ?_ i
  decide +kernel

instance closed1_1 (i : grid0.Coords) : ClosedOff (k0_off1 i 1#32) := ⟨![128 * min (2 * ((i 0).val % 6) + 1) 10, 0], off1_1 i⟩

/-- Where chunk 0 of a point is stored (`k0_off2`). -/
theorem off2_0 (i : grid0.Coords) : k0_off2 i 0#32 = ![128 * min (2 * ((i 0).val % 6) + 0) 10, 0] := by
  refine forall_pt (P := fun i => k0_off2 i 0#32 = ![128 * min (2 * ((i 0).val % 6) + 0) 10, 0]) ?_ i
  decide +kernel

instance closed2_0 (i : grid0.Coords) : ClosedOff (k0_off2 i 0#32) := ⟨![128 * min (2 * ((i 0).val % 6) + 0) 10, 0], off2_0 i⟩

/-- Where chunk 1 of a point is stored (`k0_off2`). -/
theorem off2_1 (i : grid0.Coords) : k0_off2 i 1#32 = ![128 * min (2 * ((i 0).val % 6) + 1) 10, 0] := by
  refine forall_pt (P := fun i => k0_off2 i 1#32 = ![128 * min (2 * ((i 0).val % 6) + 1) 10, 0]) ?_ i
  decide +kernel

instance closed2_1 (i : grid0.Coords) : ClosedOff (k0_off2 i 1#32) := ⟨![128 * min (2 * ((i 0).val % 6) + 1) 10, 0], off2_1 i⟩

/-- Where chunk 0 of a point is stored (`k0_off3`). -/
theorem off3_0 (i : grid0.Coords) : k0_off3 i 0#32 = ![128 * min (2 * ((i 0).val % 6) + 0) 10, 0] := by
  refine forall_pt (P := fun i => k0_off3 i 0#32 = ![128 * min (2 * ((i 0).val % 6) + 0) 10, 0]) ?_ i
  decide +kernel

instance closed3_0 (i : grid0.Coords) : ClosedOff (k0_off3 i 0#32) := ⟨![128 * min (2 * ((i 0).val % 6) + 0) 10, 0], off3_0 i⟩

/-- Where chunk 1 of a point is stored (`k0_off3`). -/
theorem off3_1 (i : grid0.Coords) : k0_off3 i 1#32 = ![128 * min (2 * ((i 0).val % 6) + 1) 10, 0] := by
  refine forall_pt (P := fun i => k0_off3 i 1#32 = ![128 * min (2 * ((i 0).val % 6) + 1) 10, 0]) ?_ i
  decide +kernel

instance closed3_1 (i : grid0.Coords) : ClosedOff (k0_off3 i 1#32) := ⟨![128 * min (2 * ((i 0).val % 6) + 1) 10, 0], off3_1 i⟩

/-- When the second segment runs. -/
theorem cond2_iff (i : grid0.Coords) : k0_cond2 i = 1#1 ↔ (i 0).val < 6 := by
  refine forall_pt (P := fun i => k0_cond2 i = 1#1 ↔ (i 0).val < 6) ?_ i
  decide +kernel

/-- When the third segment runs. -/
theorem cond3_iff (i : grid0.Coords) : advance i = 1#1 ↔ 6 ≤ (i 0).val ∧ (i 0).val < 78 ∧ (i 0).val % 6 = 0 := by
  refine forall_pt (P := fun i => advance i = 1#1 ↔ 6 ≤ (i 0).val ∧ (i 0).val < 78 ∧ (i 0).val % 6 = 0) ?_ i
  decide +kernel

/-- When the fourth segment runs. -/
theorem cond4_iff (i : grid0.Coords) : k0_cond4 i = 1#1 ↔ 6 ≤ (i 0).val ∧ (i 0).val < 78 ∧ ((i 0).val - 7) % 6 < 3 := by
  refine forall_pt (P := fun i => k0_cond4 i = 1#1 ↔ 6 ≤ (i 0).val ∧ (i 0).val < 78 ∧ ((i 0).val - 7) % 6 < 3) ?_ i
  decide +kernel

/-- When the fifth segment runs. -/
theorem cond5_iff (i : grid0.Coords) : k0_cond5 i = 1#1 ↔ 6 ≤ (i 0).val ∧ (i 0).val < 78 ∧ ¬((i 0).val - 7) % 6 < 3 := by
  refine forall_pt (P := fun i => k0_cond5 i = 1#1 ↔ 6 ≤ (i 0).val ∧ (i 0).val < 78 ∧ ¬((i 0).val - 7) % 6 < 3) ?_ i
  decide +kernel

/-- When the sixth segment runs. -/
theorem cond6_iff (i : grid0.Coords) : k0_cond6 i = 1#1 ↔ (i 0).val = 78 := by
  refine forall_pt (P := fun i => k0_cond6 i = 1#1 ↔ (i 0).val = 78) ?_ i
  decide +kernel

end Cert.Kernel4Ideal.Body

end
-- ==== Proof.RopeHeld.lean ====
module

public import proofs.«01_k».proof.Proof.RopeGrid
public import Idealize.ShloMosaic.Lib.VecWindow
public import Idealize.ShloMosaic.Lib.Pointwise

/-! What the attention in-projection's body holds while it runs: the seven input blocks, the output block, and its scratch buffers. -/

@[expose] public section

set_option maxRecDepth 65536

noncomputable section

namespace Cert.Kernel4Ideal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel4Ideal Cert.Kernel4Ideal.Gen

variable {F : FTy → Type} [FloatOps F]

local notation "𝕄" => MT nD τ sig Unit (Elt F) ℕ (UR sig nD τ) ℕ

/-- What a grid point may change: its output block, the normalised row tile in use, the one being normalised, and the product. -/
structure St (F : FTy → Type) where
  o : Vec F S1408x1024 .bf16
  xn : Vec F S1408x2048 .bf16
  next : Vec F S1408x2048 .bf16
  acc : Vec F S1408x1024 .f32

variable (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S1x1024 .f32) (harg5 : arg5.IsWhole) (arg6 : Memref sig .tc .vmem S1408x128 .f32) (harg6 : arg6.IsWhole) (arg7 : Memref sig .tc .vmem S1408x128 .f32) (harg7 : arg7.IsWhole) (arg8 : Memref sig .tc .vmem S1408x1024 .bf16) (harg8 : arg8.IsWhole) (arg9 : Memref sig .tc .vmem S1408x2048 .bf16) (harg9 : arg9.IsWhole) (arg10 : Memref sig .tc .vmem S1408x2048 .bf16) (harg10 : arg10.IsWhole) (arg11 : Memref sig .tc .vmem S1408x1024 .f32) (harg11 : arg11.IsWhole)

/-- The seven input blocks at their contents, the output block and the scratch buffers at the state's. -/
def Held (x1 x2 : Vec F S128x2048 .f32) (pw : Vec F S1x2048 .f32) (w : Vec F S1x2048x1024 .bf16) (g : Vec F S1x1024 .f32) (cs sn : Vec F S1408x128 .f32) (s : St F) : sProp 𝕄 :=
  iprop(owns (c : Thread nD τ) arg1 fullShare x1
    ∗ owns (c : Thread nD τ) arg2 fullShare x2
    ∗ owns (c : Thread nD τ) arg3 fullShare pw
    ∗ owns (c : Thread nD τ) arg4 fullShare w
    ∗ owns (c : Thread nD τ) arg5 fullShare g
    ∗ owns (c : Thread nD τ) arg6 fullShare cs
    ∗ owns (c : Thread nD τ) arg7 fullShare sn
    ∗ owns (c : Thread nD τ) arg8 fullShare s.o
    ∗ owns (c : Thread nD τ) arg9 fullShare s.xn
    ∗ owns (c : Thread nD τ) arg10 fullShare s.next
    ∗ owns (c : Thread nD τ) arg11 fullShare s.acc)

/-- The eleven buffers at given contents. -/
abbrev Cells (f1 : arg1.view.ty.Contents (Elt F)) (f2 : arg2.view.ty.Contents (Elt F)) (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) (f11 : arg11.view.ty.Contents (Elt F)) : sProp 𝕄 :=
  iprop((View.loc (c : Thread nD τ) arg1.view ↦[arg1.view.set]{fullShare} f1)
    ∗ (View.loc (c : Thread nD τ) arg2.view ↦[arg2.view.set]{fullShare} f2)
    ∗ (View.loc (c : Thread nD τ) arg3.view ↦[arg3.view.set]{fullShare} f3)
    ∗ (View.loc (c : Thread nD τ) arg4.view ↦[arg4.view.set]{fullShare} f4)
    ∗ (View.loc (c : Thread nD τ) arg5.view ↦[arg5.view.set]{fullShare} f5)
    ∗ (View.loc (c : Thread nD τ) arg6.view ↦[arg6.view.set]{fullShare} f6)
    ∗ (View.loc (c : Thread nD τ) arg7.view ↦[arg7.view.set]{fullShare} f7)
    ∗ (View.loc (c : Thread nD τ) arg8.view ↦[arg8.view.set]{fullShare} f8)
    ∗ (View.loc (c : Thread nD τ) arg9.view ↦[arg9.view.set]{fullShare} f9)
    ∗ (View.loc (c : Thread nD τ) arg10.view ↦[arg10.view.set]{fullShare} f10)
    ∗ (View.loc (c : Thread nD τ) arg11.view ↦[arg11.view.set]{fullShare} f11))

variable (x1 x2 : Vec F S128x2048 .f32) (pw : Vec F S1x2048 .f32) (w : Vec F S1x2048x1024 .bf16) (g : Vec F S1x1024 .f32) (cs sn : Vec F S1408x128 .f32) (s : St F)

/-- Whatever follows from the buffers at contents that read as the state follows from the state. -/
theorem held_elim {Q : sProp 𝕄} (h : ∀ (f1 : arg1.view.ty.Contents (Elt F)) (f2 : arg2.view.ty.Contents (Elt F)) (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) (f11 : arg11.view.ty.Contents (Elt F)), arg1.view.read (Elt F) f1 = x1 → arg2.view.read (Elt F) f2 = x2 → arg3.view.read (Elt F) f3 = pw → arg4.view.read (Elt F) f4 = w → arg5.view.read (Elt F) f5 = g → arg6.view.read (Elt F) f6 = cs → arg7.view.read (Elt F) f7 = sn → arg8.view.read (Elt F) f8 = s.o → arg9.view.read (Elt F) f9 = s.xn → arg10.view.read (Elt F) f10 = s.next → arg11.view.read (Elt F) f11 = s.acc → (Cells c arg1 arg2 arg3 arg4 arg5 arg6 arg7 arg8 arg9 arg10 arg11 f1 f2 f3 f4 f5 f6 f7 f8 f9 f10 f11 ⊢ Q)) :
    Held c arg1 arg2 arg3 arg4 arg5 arg6 arg7 arg8 arg9 arg10 arg11 x1 x2 pw w g cs sn s ⊢ Q := by
  unfold Held owns
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩⟩
  iapply (h f1 f2 f3 f4 f5 f6 f7 f8 f9 f10 f11 h1 h2 h3 h4 h5 h6 h7 h8 h9 h10 h11)
  iframe H1 H2 H3 H4 H5 H6 H7 H8 H9 H10 H11

/-- The buffers at contents that read as the state are the state. -/
theorem held_intro (f1 : arg1.view.ty.Contents (Elt F)) (f2 : arg2.view.ty.Contents (Elt F)) (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) (f11 : arg11.view.ty.Contents (Elt F)) (h1 : arg1.view.read (Elt F) f1 = x1) (h2 : arg2.view.read (Elt F) f2 = x2) (h3 : arg3.view.read (Elt F) f3 = pw) (h4 : arg4.view.read (Elt F) f4 = w) (h5 : arg5.view.read (Elt F) f5 = g) (h6 : arg6.view.read (Elt F) f6 = cs) (h7 : arg7.view.read (Elt F) f7 = sn) (h8 : arg8.view.read (Elt F) f8 = s.o) (h9 : arg9.view.read (Elt F) f9 = s.xn) (h10 : arg10.view.read (Elt F) f10 = s.next) (h11 : arg11.view.read (Elt F) f11 = s.acc) :
    Cells c arg1 arg2 arg3 arg4 arg5 arg6 arg7 arg8 arg9 arg10 arg11 f1 f2 f3 f4 f5 f6 f7 f8 f9 f10 f11 ⊢ Held c arg1 arg2 arg3 arg4 arg5 arg6 arg7 arg8 arg9 arg10 arg11 x1 x2 pw w g cs sn s := by
  unfold Held owns
  iintro ⟨H1, H2, H3, H4, H5, H6, H7, H8, H9, H10, H11⟩
  isplitl [H1]
  · iexists _; isplitr; · ipureintro; exact h1
    iexact H1
  isplitl [H2]
  · iexists _; isplitr; · ipureintro; exact h2
    iexact H2
  isplitl [H3]
  · iexists _; isplitr; · ipureintro; exact h3
    iexact H3
  isplitl [H4]
  · iexists _; isplitr; · ipureintro; exact h4
    iexact H4
  isplitl [H5]
  · iexists _; isplitr; · ipureintro; exact h5
    iexact H5
  isplitl [H6]
  · iexists _; isplitr; · ipureintro; exact h6
    iexact H6
  isplitl [H7]
  · iexists _; isplitr; · ipureintro; exact h7
    iexact H7
  isplitl [H8]
  · iexists _; isplitr; · ipureintro; exact h8
    iexact H8
  isplitl [H9]
  · iexists _; isplitr; · ipureintro; exact h9
    iexact H9
  isplitl [H10]
  · iexists _; isplitr; · ipureintro; exact h10
    iexact H10
  · iexists _; isplitr; · ipureintro; exact h11
    iexact H11

/-- The same, with the equations asked for last. -/
theorem held_intro' (f1 : arg1.view.ty.Contents (Elt F)) (f2 : arg2.view.ty.Contents (Elt F)) (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) (f11 : arg11.view.ty.Contents (Elt F)) :
    iprop((Cells c arg1 arg2 arg3 arg4 arg5 arg6 arg7 arg8 arg9 arg10 arg11 f1 f2 f3 f4 f5 f6 f7 f8 f9 f10 f11) ∗ ⌜arg1.view.read (Elt F) f1 = x1 ∧ arg2.view.read (Elt F) f2 = x2 ∧ arg3.view.read (Elt F) f3 = pw ∧ arg4.view.read (Elt F) f4 = w ∧ arg5.view.read (Elt F) f5 = g ∧ arg6.view.read (Elt F) f6 = cs ∧ arg7.view.read (Elt F) f7 = sn ∧ arg8.view.read (Elt F) f8 = s.o ∧ arg9.view.read (Elt F) f9 = s.xn ∧ arg10.view.read (Elt F) f10 = s.next ∧ arg11.view.read (Elt F) f11 = s.acc⌝) ⊢ Held c arg1 arg2 arg3 arg4 arg5 arg6 arg7 arg8 arg9 arg10 arg11 x1 x2 pw w g cs sn s := by
  iintro ⟨H, %h⟩
  obtain ⟨h1, h2, h3, h4, h5, h6, h7, h8, h9, h10, h11⟩ := h
  iapply (held_intro c arg1 arg2 arg3 arg4 arg5 arg6 arg7 arg8 arg9 arg10 arg11 x1 x2 pw w g cs sn s f1 f2 f3 f4 f5 f6 f7 f8 f9 f10 f11 h1 h2 h3 h4 h5 h6 h7 h8 h9 h10 h11)
  iexact H

end Cert.Kernel4Ideal.Body

end
-- ==== Proof.RopeSteps.lean ====
module

public import proofs.«01_k».proof.Proof.RopeHeld

/-! The attention in-projection's payloads, and its first, third and sixth segments. -/

@[expose] public section

set_option maxRecDepth 65536

noncomputable section

namespace Cert.Kernel4Ideal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel4Ideal Cert.Kernel4Ideal.Gen

variable {F : FTy → Type} [FloatOps F]

local notation "𝕄" => MT nD τ sig Unit (Elt F) ℕ (UR sig nD τ) ℕ

/-- The rows of a chunk, normalised: divided by the root of the mean square, scaled, rounded. -/
def normRows (x : Vec F S128x2048 .f32) (pw : Vec F S1x2048 .f32) : Vec F S128x2048 .bf16 :=
  truncf .bf16 (mulf (mulf x (broadcastTo S128x2048 (rsqrt (addf (divf (shapeCast S128x1 (multiReduction .add [1] S128 (mulf x x) 0x00000000#32 reduces_S128x2048_S128 (.inl rfl) rfl) shapeCasts_S128_S128x1)
    (broadcast S128x1 (Scalar.ofBits .f32 0x45000000#32))) (broadcast S128x1 (Scalar.ofBits .f32 0x358637BD#32)))) broadcasts_S128x1_S128x2048))
    (broadcastTo S128x2048 pw broadcasts_S1x2048_S128x2048)) bitsLt_bf16_f32

/-- A normalised row tile times a column tile's weights. -/
def prodOf (n : Vec F S1408x2048 .bf16) (w : Vec F S1x2048x1024 .bf16) : Vec F S1408x1024 .f32 :=
  matmul dot_S1408x2048_S2048x1024_S1408x1024_1_0_0_1_n_n none n (shapeCast S2048x1024 w shapeCasts_S1x2048x1024_S2048x1024) (constant S1408x1024 .f32 0x00000000#32)

/-- The product, rounded. -/
def rounded (a : Vec F S1408x1024 .f32) : Vec F S1408x1024 .bf16 := truncf .bf16 a bitsLt_bf16_f32

/-- One head of the product, normalised and scaled. -/
def headNorm (p : Vec F S1408x128 .f32) (gk : Vec F S1x128 .f32) : Vec F S1408x128 .f32 :=
  mulf (mulf p (broadcastTo S1408x128 (rsqrt (addf (divf (shapeCast S1408x1 (multiReduction .add [1] S1408 (mulf p p) 0x00000000#32 reduces_S1408x128_S1408 (.inl rfl) rfl) shapeCasts_S1408_S1408x1)
    (broadcast S1408x1 (Scalar.ofBits .f32 0x43000000#32))) (broadcast S1408x1 (Scalar.ofBits .f32 0x358637BD#32)))) broadcasts_S1408x1_S1408x128))
    (broadcastTo S1408x128 gk broadcasts_S1x128_S1408x128)

/-- One head of the product, normalised, scaled, turned and rounded. -/
def headOut (p : Vec F S1408x128 .f32) (gk : Vec F S1x128 .f32) (cs sn : Vec F S1408x128 .f32) : Vec F S1408x128 .bf16 :=
  truncf .bf16 (addf (mulf (headNorm p gk) cs) (mulf (dynamicRotate 1 64#32 none (headNorm p gk) rotates_S1408x128_d1) sn)) bitsLt_bf16_f32

/-- The eight heads of a product put into the output block. -/
def turned (o : Vec F S1408x1024 .bf16) (a : Vec F S1408x1024 .f32) (g : Vec F S1x1024 .f32) (cs sn : Vec F S1408x128 .f32) : Vec F S1408x1024 .bf16 :=
  VecWindow.put (VecWindow.put (VecWindow.put (VecWindow.put (VecWindow.put (VecWindow.put (VecWindow.put (VecWindow.put (o) ![0, 0] S1408x128.size (headOut (extractStridedSlice S1408x128 ![0, 0] a slices_S1408x1024_o0_0_S1408x128) (VecWindow.window g ![0, 0] S1x128.size inb_S1x1024_S1x128_0_0) cs sn)) ![0, 128] S1408x128.size (headOut (extractStridedSlice S1408x128 ![0, 128] a slices_S1408x1024_o0_128_S1408x128) (VecWindow.window g ![0, 128] S1x128.size inb_S1x1024_S1x128_0_128) cs sn)) ![0, 256] S1408x128.size (headOut (extractStridedSlice S1408x128 ![0, 256] a slices_S1408x1024_o0_256_S1408x128) (VecWindow.window g ![0, 256] S1x128.size inb_S1x1024_S1x128_0_256) cs sn)) ![0, 384] S1408x128.size (headOut (extractStridedSlice S1408x128 ![0, 384] a slices_S1408x1024_o0_384_S1408x128) (VecWindow.window g ![0, 384] S1x128.size inb_S1x1024_S1x128_0_384) cs sn)) ![0, 512] S1408x128.size (headOut (extractStridedSlice S1408x128 ![0, 512] a slices_S1408x1024_o0_512_S1408x128) (VecWindow.window g ![0, 512] S1x128.size inb_S1x1024_S1x128_0_512) cs sn)) ![0, 640] S1408x128.size (headOut (extractStridedSlice S1408x128 ![0, 640] a slices_S1408x1024_o0_640_S1408x128) (VecWindow.window g ![0, 640] S1x128.size inb_S1x1024_S1x128_0_640) cs sn)) ![0, 768] S1408x128.size (headOut (extractStridedSlice S1408x128 ![0, 768] a slices_S1408x1024_o0_768_S1408x128) (VecWindow.window g ![0, 768] S1x128.size inb_S1x1024_S1x128_0_768) cs sn)) ![0, 896] S1408x128.size (headOut (extractStridedSlice S1408x128 ![0, 896] a slices_S1408x1024_o0_896_S1408x128) (VecWindow.window g ![0, 896] S1x128.size inb_S1x1024_S1x128_0_896) cs sn)

variable (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S1x1024 .f32) (harg5 : arg5.IsWhole) (arg6 : Memref sig .tc .vmem S1408x128 .f32) (harg6 : arg6.IsWhole) (arg7 : Memref sig .tc .vmem S1408x128 .f32) (harg7 : arg7.IsWhole) (arg8 : Memref sig .tc .vmem S1408x1024 .bf16) (harg8 : arg8.IsWhole) (arg9 : Memref sig .tc .vmem S1408x2048 .bf16) (harg9 : arg9.IsWhole) (arg10 : Memref sig .tc .vmem S1408x2048 .bf16) (harg10 : arg10.IsWhole) (arg11 : Memref sig .tc .vmem S1408x1024 .f32) (harg11 : arg11.IsWhole)
variable (x1 x2 : Vec F S128x2048 .f32) (pw : Vec F S1x2048 .f32) (w : Vec F S1x2048x1024 .bf16) (g : Vec F S1x1024 .f32) (cs sn : Vec F S1408x128 .f32)

/-- The condition of the first segment: the first grid point. -/
abbrev cond1 (i : grid0.Coords) : Prop :=
  Scalar.cmpi .ne (Scalar.extui (Scalar.cmpi .eq (BitVec.ofNat 32 (i 0).val) 0#32) : BitVec 32) 0#32 = 1#1

/-- The state after the first segment. -/
def St.step1 (s : St F) (i : grid0.Coords) (x1 x2 : Vec F S128x2048 .f32) (pw : Vec F S1x2048 .f32) (w : Vec F S1x2048x1024 .bf16) (g : Vec F S1x1024 .f32) (cs sn : Vec F S1408x128 .f32) : St F :=
  if cond1 i then { s with acc := broadcast S1408x1024 (Scalar.ofBits .f32 0x00000000#32 : F .f32) } else s

set_option maxHeartbeats 8000000 in
/-- What the state is after the segment. -/
theorem triple1 (E : Set ℕ) (s : St F) :
    Held c arg1 arg2 arg3 arg4 arg5 arg6 arg7 arg8 arg9 arg10 arg11 x1 x2 pw w g cs sn s
      ⊢ wp frame (wpE (defs₀ (F := F)) Variants.none c none) E (seg1 i arg1 harg1 arg2 harg2 arg3 harg3 arg4 harg4 arg5 harg5 arg6 harg6 arg7 harg7 arg8 harg8 arg9 harg9 arg10 harg10 arg11 harg11)
          (fun _ => Held c arg1 arg2 arg3 arg4 arg5 arg6 arg7 arg8 arg9 arg10 arg11 x1 x2 pw w g cs sn (s.step1 i x1 x2 pw w g cs sn)) := by
  refine held_elim c arg1 arg2 arg3 arg4 arg5 arg6 arg7 arg8 arg9 arg10 arg11 x1 x2 pw w g cs sn s fun f1 f2 f3 f4 f5 f6 f7 f8 f9 f10 f11 h1 h2 h3 h4 h5 h6 h7 h8 h9 h10 h11 => ?_
  iintro ⟨H1, H2, H3, H4, H5, H6, H7, H8, H9, H10, H11⟩
  unfold seg1 St.step1
  by_cases hc : cond1 i
  · sl_exec (disch := sl_exact hc)
    sl_step
    rw [if_pos hc]
    iapply (held_intro' c arg1 arg2 arg3 arg4 arg5 arg6 arg7 arg8 arg9 arg10 arg11 x1 x2 pw w g cs sn { s with acc := broadcast S1408x1024 (Scalar.ofBits .f32 0x00000000#32 : F .f32) } _ _ _ _ _ _ _ _ _ _ _)
    isplitl
    · iframe H1 H2 H3 H4 H5 H6 H7 H8 H9 H10 H11
    ipureintro
    refine ⟨h1, h2, h3, h4, h5, h6, h7, h8, h9, h10, ?_⟩
    refine (View.read_writes_full _ _ _ _ _).trans ?_
    exact shapeCast_id _ _
  · sl_exec (disch := sl_exact hc)
    sl_step
    rw [if_neg hc]
    iapply (held_intro c arg1 arg2 arg3 arg4 arg5 arg6 arg7 arg8 arg9 arg10 arg11 x1 x2 pw w g cs sn s _ _ _ _ _ _ _ _ _ _ _ h1 h2 h3 h4 h5 h6 h7 h8 h9 h10 h11)
    iframe H1 H2 H3 H4 H5 H6 H7 H8 H9 H10 H11

/-- The state after the third segment. -/
def St.step3 (s : St F) (i : grid0.Coords) (x1 x2 : Vec F S128x2048 .f32) (pw : Vec F S1x2048 .f32) (w : Vec F S1x2048x1024 .bf16) (g : Vec F S1x1024 .f32) (cs sn : Vec F S1408x128 .f32) : St F :=
  if advance i = 1#1 then { s with xn := s.next } else s

set_option maxHeartbeats 8000000 in
/-- What the state is after the segment. -/
theorem triple3 (E : Set ℕ) (s : St F) :
    Held c arg1 arg2 arg3 arg4 arg5 arg6 arg7 arg8 arg9 arg10 arg11 x1 x2 pw w g cs sn s
      ⊢ wp frame (wpE (defs₀ (F := F)) Variants.none c none) E (seg3 i arg1 harg1 arg2 harg2 arg3 harg3 arg4 harg4 arg5 harg5 arg6 harg6 arg7 harg7 arg8 harg8 arg9 harg9 arg10 harg10 arg11 harg11)
          (fun _ => Held c arg1 arg2 arg3 arg4 arg5 arg6 arg7 arg8 arg9 arg10 arg11 x1 x2 pw w g cs sn (s.step3 i x1 x2 pw w g cs sn)) := by
  refine held_elim c arg1 arg2 arg3 arg4 arg5 arg6 arg7 arg8 arg9 arg10 arg11 x1 x2 pw w g cs sn s fun f1 f2 f3 f4 f5 f6 f7 f8 f9 f10 f11 h1 h2 h3 h4 h5 h6 h7 h8 h9 h10 h11 => ?_
  iintro ⟨H1, H2, H3, H4, H5, H6, H7, H8, H9, H10, H11⟩
  unfold seg3 St.step3
  by_cases hc : advance i = 1#1
  · sl_exec (disch := sl_exact hc)
    sl_step
    rw [if_pos hc]
    iapply (held_intro' c arg1 arg2 arg3 arg4 arg5 arg6 arg7 arg8 arg9 arg10 arg11 x1 x2 pw w g cs sn { s with xn := s.next } _ _ _ _ _ _ _ _ _ _ _)
    isplitl
    · iframe H1 H2 H3 H4 H5 H6 H7 H8 H9 H10 H11
    ipureintro
    refine ⟨h1, h2, h3, h4, h5, h6, h7, h8, ?_, h10, h11⟩
    refine (View.read_writes_full _ _ _ _ _).trans ?_
    rw [← h10, ← View.readAt_full arg10.view f10 inb_S1408x2048_S1408x2048_0_0]
    exact shapeCast_id _ _
  · sl_exec (disch := sl_exact hc)
    sl_step
    rw [if_neg hc]
    iapply (held_intro c arg1 arg2 arg3 arg4 arg5 arg6 arg7 arg8 arg9 arg10 arg11 x1 x2 pw w g cs sn s _ _ _ _ _ _ _ _ _ _ _ h1 h2 h3 h4 h5 h6 h7 h8 h9 h10 h11)
    iframe H1 H2 H3 H4 H5 H6 H7 H8 H9 H10 H11

/-- The state after the sixth segment. -/
def St.step6 (s : St F) (i : grid0.Coords) (x1 x2 : Vec F S128x2048 .f32) (pw : Vec F S1x2048 .f32) (w : Vec F S1x2048x1024 .bf16) (g : Vec F S1x1024 .f32) (cs sn : Vec F S1408x128 .f32) : St F :=
  if k0_cond6 i = 1#1 then { s with o := rounded s.acc } else s

set_option maxHeartbeats 8000000 in
/-- What the state is after the segment. -/
theorem triple6 (E : Set ℕ) (s : St F) :
    Held c arg1 arg2 arg3 arg4 arg5 arg6 arg7 arg8 arg9 arg10 arg11 x1 x2 pw w g cs sn s
      ⊢ wp frame (wpE (defs₀ (F := F)) Variants.none c none) E (seg6 i arg1 harg1 arg2 harg2 arg3 harg3 arg4 harg4 arg5 harg5 arg6 harg6 arg7 harg7 arg8 harg8 arg9 harg9 arg10 harg10 arg11 harg11)
          (fun _ => Held c arg1 arg2 arg3 arg4 arg5 arg6 arg7 arg8 arg9 arg10 arg11 x1 x2 pw w g cs sn (s.step6 i x1 x2 pw w g cs sn)) := by
  refine held_elim c arg1 arg2 arg3 arg4 arg5 arg6 arg7 arg8 arg9 arg10 arg11 x1 x2 pw w g cs sn s fun f1 f2 f3 f4 f5 f6 f7 f8 f9 f10 f11 h1 h2 h3 h4 h5 h6 h7 h8 h9 h10 h11 => ?_
  iintro ⟨H1, H2, H3, H4, H5, H6, H7, H8, H9, H10, H11⟩
  unfold seg6 St.step6
  by_cases hc : k0_cond6 i = 1#1
  · sl_exec (disch := sl_exact hc)
    sl_step
    rw [if_pos hc]
    iapply (held_intro' c arg1 arg2 arg3 arg4 arg5 arg6 arg7 arg8 arg9 arg10 arg11 x1 x2 pw w g cs sn { s with o := rounded s.acc } _ _ _ _ _ _ _ _ _ _ _)
    isplitl
    · iframe H1 H2 H3 H4 H5 H6 H7 H8 H9 H10 H11
    ipureintro
    refine ⟨h1, h2, h3, h4, h5, h6, h7, ?_, h9, h10, h11⟩
    rw [← h11]
    refine (View.read_writes_full _ _ _ _ _).trans ?_
    rw [← View.readAt_full arg11.view f11 inb_S1408x1024_S1408x1024_0_0]
    rfl
  · sl_exec (disch := sl_exact hc)
    sl_step
    rw [if_neg hc]
    iapply (held_intro c arg1 arg2 arg3 arg4 arg5 arg6 arg7 arg8 arg9 arg10 arg11 x1 x2 pw w g cs sn s _ _ _ _ _ _ _ _ _ _ _ h1 h2 h3 h4 h5 h6 h7 h8 h9 h10 h11)
    iframe H1 H2 H3 H4 H5 H6 H7 H8 H9 H10 H11

end Cert.Kernel4Ideal.Body

end
-- ==== Proof.RopeStep2.lean ====
module

public import proofs.«01_k».proof.Proof.RopeSteps

/-! The attention in-projection's second segment: the first row tile's chunks are normalised. -/

@[expose] public section

set_option maxRecDepth 65536

noncomputable section

namespace Cert.Kernel4Ideal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel4Ideal Cert.Kernel4Ideal.Gen

variable {F : FTy → Type} [FloatOps F]

local notation "𝕄" => MT nD τ sig Unit (Elt F) ℕ (UR sig nD τ) ℕ

variable (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S1x1024 .f32) (harg5 : arg5.IsWhole) (arg6 : Memref sig .tc .vmem S1408x128 .f32) (harg6 : arg6.IsWhole) (arg7 : Memref sig .tc .vmem S1408x128 .f32) (harg7 : arg7.IsWhole) (arg8 : Memref sig .tc .vmem S1408x1024 .bf16) (harg8 : arg8.IsWhole) (arg9 : Memref sig .tc .vmem S1408x2048 .bf16) (harg9 : arg9.IsWhole) (arg10 : Memref sig .tc .vmem S1408x2048 .bf16) (harg10 : arg10.IsWhole) (arg11 : Memref sig .tc .vmem S1408x1024 .f32) (harg11 : arg11.IsWhole)
variable (x1 x2 : Vec F S128x2048 .f32) (pw : Vec F S1x2048 .f32) (w : Vec F S1x2048x1024 .bf16) (g : Vec F S1x1024 .f32) (cs sn : Vec F S1408x128 .f32)

/-- The state after the second segment. -/
def St.step2 (s : St F) (i : grid0.Coords) (x1 x2 : Vec F S128x2048 .f32) (pw : Vec F S1x2048 .f32) (w : Vec F S1x2048x1024 .bf16) (g : Vec F S1x1024 .f32) (cs sn : Vec F S1408x128 .f32) : St F :=
  if k0_cond2 i = 1#1 then { s with next := VecWindow.put (VecWindow.put s.next (k0_off1 i 0#32) S128x2048.size (normRows x1 pw)) (k0_off1 i 1#32) S128x2048.size (normRows x2 pw) } else s

set_option maxHeartbeats 8000000 in
/-- What the state is after the segment. -/
theorem triple2 (E : Set ℕ) (s : St F) :
    Held c arg1 arg2 arg3 arg4 arg5 arg6 arg7 arg8 arg9 arg10 arg11 x1 x2 pw w g cs sn s
      ⊢ wp frame (wpE (defs₀ (F := F)) Variants.none c none) E (seg2 i arg1 harg1 arg2 harg2 arg3 harg3 arg4 harg4 arg5 harg5 arg6 harg6 arg7 harg7 arg8 harg8 arg9 harg9 arg10 harg10 arg11 harg11)
          (fun _ => Held c arg1 arg2 arg3 arg4 arg5 arg6 arg7 arg8 arg9 arg10 arg11 x1 x2 pw w g cs sn (s.step2 i x1 x2 pw w g cs sn)) := by
  refine held_elim c arg1 arg2 arg3 arg4 arg5 arg6 arg7 arg8 arg9 arg10 arg11 x1 x2 pw w g cs sn s fun f1 f2 f3 f4 f5 f6 f7 f8 f9 f10 f11 h1 h2 h3 h4 h5 h6 h7 h8 h9 h10 h11 => ?_
  iintro ⟨H1, H2, H3, H4, H5, H6, H7, H8, H9, H10, H11⟩
  unfold seg2 St.step2
  unfold k0_part1
  by_cases hc : k0_cond2 i = 1#1
  · sl_exec (disch := sl_exact hc)
    sl_step
    rw [if_pos hc]
    iapply (held_intro' c arg1 arg2 arg3 arg4 arg5 arg6 arg7 arg8 arg9 arg10 arg11 x1 x2 pw w g cs sn { s with next := VecWindow.put (VecWindow.put s.next (k0_off1 i 0#32) S128x2048.size (normRows x1 pw)) (k0_off1 i 1#32) S128x2048.size (normRows x2 pw) } _ _ _ _ _ _ _ _ _ _ _)
    isplitl
    · iframe H1 H2 H3 H4 H5 H6 H7 H8 H9 H10 H11
    ipureintro
    have e1 : arg1.view.readAt (Elt F) (Rect.unit (s := S128x2048) ![0, 0] S128x2048.size inb_S128x2048_S128x2048_0_0).toLoadRect f1 = x1 := (View.readAt_full _ _ _).trans h1
    have e2 : arg2.view.readAt (Elt F) (Rect.unit (s := S128x2048) ![0, 0] S128x2048.size inb_S128x2048_S128x2048_0_0).toLoadRect f2 = x2 := (View.readAt_full _ _ _).trans h2
    have e3 : arg3.view.readAt (Elt F) (Rect.unit (s := S1x2048) ![0, 0] S1x2048.size inb_S1x2048_S1x2048_0_0).toLoadRect f3 = pw := (View.readAt_full _ _ _).trans h3
    refine ⟨h1, h2, h3, h4, h5, h6, h7, h8, h9, ?_, h11⟩
    · rw [← h10]
      refine (View.read_writes_cons_put _ _ _ _ _ rfl).trans ?_
      try unfold triple2.sl.H10_1
      rw [View.read_writes_cons_put _ _ _ _ _ rfl, View.writes_nil]
      rw [← e1, ← e2, ← e3]
      repeat first | unfold triple2.sl.v62 | unfold triple2.sl.v63 | unfold triple2.sl.v64 | unfold triple2.sl.v65 | unfold triple2.sl.v66 | unfold triple2.sl.v67 | unfold triple2.sl.v68 | unfold triple2.sl.v69 | unfold triple2.sl.v70 | unfold triple2.sl.v71 | unfold triple2.sl.v72 | unfold triple2.sl.v73 | unfold triple2.sl.v74 | unfold triple2.sl.v75 | unfold triple2.sl.v76 | unfold triple2.sl.v77 | unfold triple2.sl.v78 | unfold triple2.sl.v79 | unfold triple2.sl.v80 | unfold triple2.sl.v81 | unfold triple2.sl.v82 | unfold triple2.sl.v83 | unfold triple2.sl.v84 | unfold triple2.sl.v85 | unfold triple2.sl.v86 | unfold triple2.sl.v87 | unfold triple2.sl.v88 | unfold triple2.sl.v89 | unfold triple2.sl.v90 | unfold triple2.sl.v91 | unfold triple2.sl.v92 | unfold triple2.sl.v93 | unfold triple2.sl.v94 | unfold triple2.sl.v95 | unfold triple2.sl.v96 | unfold triple2.sl.v97 | unfold triple2.sl.v98 | unfold triple2.sl.v99 | unfold triple2.sl.v100 | unfold triple2.sl.v101 | unfold triple2.sl.v102 | unfold triple2.sl.v103 | unfold triple2.sl.v104 | unfold triple2.sl.v105 | unfold triple2.sl.v106 | unfold triple2.sl.v107 | unfold triple2.sl.v108 | unfold triple2.sl.v109 | unfold triple2.sl.v110 | unfold triple2.sl.v111 | unfold triple2.sl.v112 | unfold triple2.sl.v113 | unfold triple2.sl.v114 | unfold triple2.sl.v115 | unfold triple2.sl.v116 | unfold triple2.sl.v117 | unfold triple2.sl.v118 | unfold triple2.sl.v119 | unfold triple2.sl.v120 | unfold triple2.sl.v121 | unfold triple2.sl.v122 | unfold triple2.sl.v123 | unfold triple2.sl.v124 | unfold triple2.sl.v125 | unfold triple2.sl.v126 | unfold triple2.sl.v127 | unfold triple2.sl.v128 | unfold triple2.sl.v129
      (try simp only [shapeCast_id])
      rfl

  · sl_exec (disch := sl_exact hc)
    sl_step
    rw [if_neg hc]
    iapply (held_intro c arg1 arg2 arg3 arg4 arg5 arg6 arg7 arg8 arg9 arg10 arg11 x1 x2 pw w g cs sn s _ _ _ _ _ _ _ _ _ _ _ h1 h2 h3 h4 h5 h6 h7 h8 h9 h10 h11)
    iframe H1 H2 H3 H4 H5 H6 H7 H8 H9 H10 H11

end Cert.Kernel4Ideal.Body

end
-- ==== Proof.RopeStep4.lean ====
module

public import proofs.«01_k».proof.Proof.RopeSteps

/-! The attention in-projection's fourth segment: eight heads turned, a product, and two chunks of the next row tile. -/

@[expose] public section

set_option maxRecDepth 65536

noncomputable section

namespace Cert.Kernel4Ideal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel4Ideal Cert.Kernel4Ideal.Gen

variable {F : FTy → Type} [FloatOps F]

local notation "𝕄" => MT nD τ sig Unit (Elt F) ℕ (UR sig nD τ) ℕ

variable (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S1x1024 .f32) (harg5 : arg5.IsWhole) (arg6 : Memref sig .tc .vmem S1408x128 .f32) (harg6 : arg6.IsWhole) (arg7 : Memref sig .tc .vmem S1408x128 .f32) (harg7 : arg7.IsWhole) (arg8 : Memref sig .tc .vmem S1408x1024 .bf16) (harg8 : arg8.IsWhole) (arg9 : Memref sig .tc .vmem S1408x2048 .bf16) (harg9 : arg9.IsWhole) (arg10 : Memref sig .tc .vmem S1408x2048 .bf16) (harg10 : arg10.IsWhole) (arg11 : Memref sig .tc .vmem S1408x1024 .f32) (harg11 : arg11.IsWhole)
variable (x1 x2 : Vec F S128x2048 .f32) (pw : Vec F S1x2048 .f32) (w : Vec F S1x2048x1024 .bf16) (g : Vec F S1x1024 .f32) (cs sn : Vec F S1408x128 .f32)

/-- The state after the fourth segment. -/
def St.step4 (s : St F) (i : grid0.Coords) (x1 x2 : Vec F S128x2048 .f32) (pw : Vec F S1x2048 .f32) (w : Vec F S1x2048x1024 .bf16) (g : Vec F S1x1024 .f32) (cs sn : Vec F S1408x128 .f32) : St F :=
  if k0_cond4 i = 1#1 then { s with o := turned s.o s.acc g cs sn, acc := prodOf s.xn w, next := VecWindow.put (VecWindow.put s.next (k0_off2 i 0#32) S128x2048.size (normRows x1 pw)) (k0_off2 i 1#32) S128x2048.size (normRows x2 pw) } else s

set_option maxHeartbeats 8000000 in
/-- What the state is after the segment. -/
theorem triple4 (E : Set ℕ) (s : St F) :
    Held c arg1 arg2 arg3 arg4 arg5 arg6 arg7 arg8 arg9 arg10 arg11 x1 x2 pw w g cs sn s
      ⊢ wp frame (wpE (defs₀ (F := F)) Variants.none c none) E (seg4 i arg1 harg1 arg2 harg2 arg3 harg3 arg4 harg4 arg5 harg5 arg6 harg6 arg7 harg7 arg8 harg8 arg9 harg9 arg10 harg10 arg11 harg11)
          (fun _ => Held c arg1 arg2 arg3 arg4 arg5 arg6 arg7 arg8 arg9 arg10 arg11 x1 x2 pw w g cs sn (s.step4 i x1 x2 pw w g cs sn)) := by
  refine held_elim c arg1 arg2 arg3 arg4 arg5 arg6 arg7 arg8 arg9 arg10 arg11 x1 x2 pw w g cs sn s fun f1 f2 f3 f4 f5 f6 f7 f8 f9 f10 f11 h1 h2 h3 h4 h5 h6 h7 h8 h9 h10 h11 => ?_
  iintro ⟨H1, H2, H3, H4, H5, H6, H7, H8, H9, H10, H11⟩
  unfold seg4 St.step4
  unfold k0_part2 k0_part3 k0_part4 k0_part5 k0_part6 k0_part7
  by_cases hc : k0_cond4 i = 1#1
  · sl_exec (disch := sl_exact hc)
    sl_step
    rw [if_pos hc]
    iapply (held_intro' c arg1 arg2 arg3 arg4 arg5 arg6 arg7 arg8 arg9 arg10 arg11 x1 x2 pw w g cs sn { s with o := turned s.o s.acc g cs sn, acc := prodOf s.xn w, next := VecWindow.put (VecWindow.put s.next (k0_off2 i 0#32) S128x2048.size (normRows x1 pw)) (k0_off2 i 1#32) S128x2048.size (normRows x2 pw) } _ _ _ _ _ _ _ _ _ _ _)
    isplitl
    · iframe H1 H2 H3 H4 H5 H6 H7 H8 H9 H10 H11
    ipureintro
    have e1 : arg1.view.readAt (Elt F) (Rect.unit (s := S128x2048) ![0, 0] S128x2048.size inb_S128x2048_S128x2048_0_0).toLoadRect f1 = x1 := (View.readAt_full _ _ _).trans h1
    have e2 : arg2.view.readAt (Elt F) (Rect.unit (s := S128x2048) ![0, 0] S128x2048.size inb_S128x2048_S128x2048_0_0).toLoadRect f2 = x2 := (View.readAt_full _ _ _).trans h2
    have e3 : arg3.view.readAt (Elt F) (Rect.unit (s := S1x2048) ![0, 0] S1x2048.size inb_S1x2048_S1x2048_0_0).toLoadRect f3 = pw := (View.readAt_full _ _ _).trans h3
    have e4 : arg4.view.readAt (Elt F) (Rect.unit (s := S1x2048x1024) ![0, 0, 0] S1x2048x1024.size inb_S1x2048x1024_S1x2048x1024_0_0_0).toLoadRect f4 = w := (View.readAt_full _ _ _).trans h4
    have e9 : arg9.view.readAt (Elt F) (Rect.unit (s := S1408x2048) ![0, 0] S1408x2048.size inb_S1408x2048_S1408x2048_0_0).toLoadRect f9 = s.xn := (View.readAt_full _ _ _).trans h9
    have e11 : arg11.view.readAt (Elt F) (Rect.unit (s := S1408x1024) ![0, 0] S1408x1024.size inb_S1408x1024_S1408x1024_0_0).toLoadRect f11 = s.acc := (View.readAt_full _ _ _).trans h11
    have e6 : arg6.view.readAt (Elt F) (Rect.unit (s := S1408x128) ![0, 0] S1408x128.size inb_S1408x128_S1408x128_0_0).toLoadRect f6 = cs := (View.readAt_full _ _ _).trans h6
    have e7 : arg7.view.readAt (Elt F) (Rect.unit (s := S1408x128) ![0, 0] S1408x128.size inb_S1408x128_S1408x128_0_0).toLoadRect f7 = sn := (View.readAt_full _ _ _).trans h7
    have g0 : arg5.view.readAt (Elt F) (Rect.unit (s := S1x1024) ![0, 0] S1x128.size inb_S1x1024_S1x128_0_0).toLoadRect f5 = VecWindow.window g ![0, 0] S1x128.size inb_S1x1024_S1x128_0_0 := (View.readAt_unit _ _ _ rfl _).trans (by rw [h5])
    have g1 : arg5.view.readAt (Elt F) (Rect.unit (s := S1x1024) ![0, 128] S1x128.size inb_S1x1024_S1x128_0_128).toLoadRect f5 = VecWindow.window g ![0, 128] S1x128.size inb_S1x1024_S1x128_0_128 := (View.readAt_unit _ _ _ rfl _).trans (by rw [h5])
    have g2 : arg5.view.readAt (Elt F) (Rect.unit (s := S1x1024) ![0, 256] S1x128.size inb_S1x1024_S1x128_0_256).toLoadRect f5 = VecWindow.window g ![0, 256] S1x128.size inb_S1x1024_S1x128_0_256 := (View.readAt_unit _ _ _ rfl _).trans (by rw [h5])
    have g3 : arg5.view.readAt (Elt F) (Rect.unit (s := S1x1024) ![0, 384] S1x128.size inb_S1x1024_S1x128_0_384).toLoadRect f5 = VecWindow.window g ![0, 384] S1x128.size inb_S1x1024_S1x128_0_384 := (View.readAt_unit _ _ _ rfl _).trans (by rw [h5])
    have g4 : arg5.view.readAt (Elt F) (Rect.unit (s := S1x1024) ![0, 512] S1x128.size inb_S1x1024_S1x128_0_512).toLoadRect f5 = VecWindow.window g ![0, 512] S1x128.size inb_S1x1024_S1x128_0_512 := (View.readAt_unit _ _ _ rfl _).trans (by rw [h5])
    have g5 : arg5.view.readAt (Elt F) (Rect.unit (s := S1x1024) ![0, 640] S1x128.size inb_S1x1024_S1x128_0_640).toLoadRect f5 = VecWindow.window g ![0, 640] S1x128.size inb_S1x1024_S1x128_0_640 := (View.readAt_unit _ _ _ rfl _).trans (by rw [h5])
    have g6 : arg5.view.readAt (Elt F) (Rect.unit (s := S1x1024) ![0, 768] S1x128.size inb_S1x1024_S1x128_0_768).toLoadRect f5 = VecWindow.window g ![0, 768] S1x128.size inb_S1x1024_S1x128_0_768 := (View.readAt_unit _ _ _ rfl _).trans (by rw [h5])
    have g7 : arg5.view.readAt (Elt F) (Rect.unit (s := S1x1024) ![0, 896] S1x128.size inb_S1x1024_S1x128_0_896).toLoadRect f5 = VecWindow.window g ![0, 896] S1x128.size inb_S1x1024_S1x128_0_896 := (View.readAt_unit _ _ _ rfl _).trans (by rw [h5])
    refine ⟨h1, h2, h3, h4, h5, h6, h7, ?_, h9, ?_, ?_⟩
    · unfold turned
      rw [← h8, ← e11, ← e6, ← e7, ← g0, ← g1, ← g2, ← g3, ← g4, ← g5, ← g6, ← g7]
      refine (View.read_writes_cons_put _ _ _ _ _ rfl).trans ?_
      refine congrArg₂ (fun a b => VecWindow.put a _ _ b) ?_ rfl
      try unfold triple4.sl.H8_7
      refine (View.read_writes_cons_put _ _ _ _ _ rfl).trans ?_
      refine congrArg₂ (fun a b => VecWindow.put a _ _ b) ?_ rfl
      try unfold triple4.sl.H8_6
      refine (View.read_writes_cons_put _ _ _ _ _ rfl).trans ?_
      refine congrArg₂ (fun a b => VecWindow.put a _ _ b) ?_ rfl
      try unfold triple4.sl.H8_5
      refine (View.read_writes_cons_put _ _ _ _ _ rfl).trans ?_
      refine congrArg₂ (fun a b => VecWindow.put a _ _ b) ?_ rfl
      try unfold triple4.sl.H8_4
      refine (View.read_writes_cons_put _ _ _ _ _ rfl).trans ?_
      refine congrArg₂ (fun a b => VecWindow.put a _ _ b) ?_ rfl
      try unfold triple4.sl.H8_3
      refine (View.read_writes_cons_put _ _ _ _ _ rfl).trans ?_
      refine congrArg₂ (fun a b => VecWindow.put a _ _ b) ?_ rfl
      try unfold triple4.sl.H8_2
      refine (View.read_writes_cons_put _ _ _ _ _ rfl).trans ?_
      refine congrArg₂ (fun a b => VecWindow.put a _ _ b) ?_ rfl
      try unfold triple4.sl.H8_1
      refine (View.read_writes_cons_put _ _ _ _ _ rfl).trans ?_
      refine congrArg₂ (fun a b => VecWindow.put a _ _ b) ?_ rfl
      rw [View.writes_nil]
    · rw [← h10]
      refine (View.read_writes_cons_put _ _ _ _ _ rfl).trans ?_
      try unfold triple4.sl.H10_1
      rw [View.read_writes_cons_put _ _ _ _ _ rfl, View.writes_nil]
      rw [← e1, ← e2, ← e3]
      repeat first | unfold triple4.sl.v47 | unfold triple4.sl.v48 | unfold triple4.sl.v49 | unfold triple4.sl.v50 | unfold triple4.sl.v51 | unfold triple4.sl.v52 | unfold triple4.sl.v53 | unfold triple4.sl.v54 | unfold triple4.sl.v55 | unfold triple4.sl.v56 | unfold triple4.sl.v57 | unfold triple4.sl.v58 | unfold triple4.sl.v59 | unfold triple4.sl.v60 | unfold triple4.sl.v61 | unfold triple4.sl.v62 | unfold triple4.sl.v63 | unfold triple4.sl.v64 | unfold triple4.sl.v65 | unfold triple4.sl.v66 | unfold triple4.sl.v67 | unfold triple4.sl.v68 | unfold triple4.sl.v69 | unfold triple4.sl.v70 | unfold triple4.sl.v71 | unfold triple4.sl.v72 | unfold triple4.sl.v73 | unfold triple4.sl.v74 | unfold triple4.sl.v75 | unfold triple4.sl.v76 | unfold triple4.sl.v77 | unfold triple4.sl.v78 | unfold triple4.sl.v79 | unfold triple4.sl.v80 | unfold triple4.sl.v81 | unfold triple4.sl.v82 | unfold triple4.sl.v83 | unfold triple4.sl.v84 | unfold triple4.sl.v85 | unfold triple4.sl.v86 | unfold triple4.sl.v87 | unfold triple4.sl.v88 | unfold triple4.sl.v89 | unfold triple4.sl.v90 | unfold triple4.sl.v91 | unfold triple4.sl.v92 | unfold triple4.sl.v93 | unfold triple4.sl.v94 | unfold triple4.sl.v95 | unfold triple4.sl.v96 | unfold triple4.sl.v97 | unfold triple4.sl.v98 | unfold triple4.sl.v99 | unfold triple4.sl.v100 | unfold triple4.sl.v101 | unfold triple4.sl.v102 | unfold triple4.sl.v103 | unfold triple4.sl.v104 | unfold triple4.sl.v105 | unfold triple4.sl.v106 | unfold triple4.sl.v107 | unfold triple4.sl.v108 | unfold triple4.sl.v109 | unfold triple4.sl.v110 | unfold triple4.sl.v111 | unfold triple4.sl.v112 | unfold triple4.sl.v113 | unfold triple4.sl.v114 | unfold triple4.sl.v115 | unfold triple4.sl.v116 | unfold triple4.sl.v117 | unfold triple4.sl.v118 | unfold triple4.sl.v119 | unfold triple4.sl.v120 | unfold triple4.sl.v121 | unfold triple4.sl.v122 | unfold triple4.sl.v123 | unfold triple4.sl.v124 | unfold triple4.sl.v125 | unfold triple4.sl.v126 | unfold triple4.sl.v127 | unfold triple4.sl.v128 | unfold triple4.sl.v129 | unfold triple4.sl.v130 | unfold triple4.sl.v131 | unfold triple4.sl.v132 | unfold triple4.sl.v133 | unfold triple4.sl.v134 | unfold triple4.sl.v135 | unfold triple4.sl.v136 | unfold triple4.sl.v137 | unfold triple4.sl.v138 | unfold triple4.sl.v139 | unfold triple4.sl.v140 | unfold triple4.sl.v141 | unfold triple4.sl.v142 | unfold triple4.sl.v143 | unfold triple4.sl.v144 | unfold triple4.sl.v145 | unfold triple4.sl.v146 | unfold triple4.sl.v147 | unfold triple4.sl.v148 | unfold triple4.sl.v149 | unfold triple4.sl.v150 | unfold triple4.sl.v151 | unfold triple4.sl.v152 | unfold triple4.sl.v153 | unfold triple4.sl.v154 | unfold triple4.sl.v155 | unfold triple4.sl.v156 | unfold triple4.sl.v157 | unfold triple4.sl.v158 | unfold triple4.sl.v159 | unfold triple4.sl.v160 | unfold triple4.sl.v161 | unfold triple4.sl.v162 | unfold triple4.sl.v163 | unfold triple4.sl.v164 | unfold triple4.sl.v165 | unfold triple4.sl.v166 | unfold triple4.sl.v167 | unfold triple4.sl.v168 | unfold triple4.sl.v169 | unfold triple4.sl.v170 | unfold triple4.sl.v171 | unfold triple4.sl.v172 | unfold triple4.sl.v173 | unfold triple4.sl.v174 | unfold triple4.sl.v175 | unfold triple4.sl.v176 | unfold triple4.sl.v177 | unfold triple4.sl.v178 | unfold triple4.sl.v179 | unfold triple4.sl.v180 | unfold triple4.sl.v181 | unfold triple4.sl.v182 | unfold triple4.sl.v183 | unfold triple4.sl.v184 | unfold triple4.sl.v185 | unfold triple4.sl.v186 | unfold triple4.sl.v187 | unfold triple4.sl.v188 | unfold triple4.sl.v189 | unfold triple4.sl.v190 | unfold triple4.sl.v191 | unfold triple4.sl.v192 | unfold triple4.sl.v193 | unfold triple4.sl.v194 | unfold triple4.sl.v195 | unfold triple4.sl.v196 | unfold triple4.sl.v197 | unfold triple4.sl.v198 | unfold triple4.sl.v199 | unfold triple4.sl.v200 | unfold triple4.sl.v201 | unfold triple4.sl.v202 | unfold triple4.sl.v203 | unfold triple4.sl.v204 | unfold triple4.sl.v205 | unfold triple4.sl.v206 | unfold triple4.sl.v207 | unfold triple4.sl.v208 | unfold triple4.sl.v209 | unfold triple4.sl.v210 | unfold triple4.sl.v211 | unfold triple4.sl.v212 | unfold triple4.sl.v213 | unfold triple4.sl.v214 | unfold triple4.sl.v215 | unfold triple4.sl.v216 | unfold triple4.sl.v217 | unfold triple4.sl.v218 | unfold triple4.sl.v219 | unfold triple4.sl.v220 | unfold triple4.sl.v221 | unfold triple4.sl.v222 | unfold triple4.sl.v223 | unfold triple4.sl.v224 | unfold triple4.sl.v225 | unfold triple4.sl.v226 | unfold triple4.sl.v227 | unfold triple4.sl.v228 | unfold triple4.sl.v229 | unfold triple4.sl.v230 | unfold triple4.sl.v231 | unfold triple4.sl.v232 | unfold triple4.sl.v233 | unfold triple4.sl.v234 | unfold triple4.sl.v235 | unfold triple4.sl.v236 | unfold triple4.sl.v237 | unfold triple4.sl.v238 | unfold triple4.sl.v239 | unfold triple4.sl.v240 | unfold triple4.sl.v241 | unfold triple4.sl.v242 | unfold triple4.sl.v243 | unfold triple4.sl.v244 | unfold triple4.sl.v245 | unfold triple4.sl.v246 | unfold triple4.sl.v247 | unfold triple4.sl.v248 | unfold triple4.sl.v249 | unfold triple4.sl.v250 | unfold triple4.sl.v251 | unfold triple4.sl.v252 | unfold triple4.sl.v253 | unfold triple4.sl.v254 | unfold triple4.sl.v255 | unfold triple4.sl.v256 | unfold triple4.sl.v257 | unfold triple4.sl.v258 | unfold triple4.sl.v259 | unfold triple4.sl.v260 | unfold triple4.sl.v261 | unfold triple4.sl.v262 | unfold triple4.sl.v263 | unfold triple4.sl.v264 | unfold triple4.sl.v265 | unfold triple4.sl.v266 | unfold triple4.sl.v267 | unfold triple4.sl.v268 | unfold triple4.sl.v269 | unfold triple4.sl.v270 | unfold triple4.sl.v271 | unfold triple4.sl.v272 | unfold triple4.sl.v273 | unfold triple4.sl.v274 | unfold triple4.sl.v275 | unfold triple4.sl.v276 | unfold triple4.sl.v277 | unfold triple4.sl.v278 | unfold triple4.sl.v279 | unfold triple4.sl.v280 | unfold triple4.sl.v281 | unfold triple4.sl.v282 | unfold triple4.sl.v283 | unfold triple4.sl.v284 | unfold triple4.sl.v285 | unfold triple4.sl.v286 | unfold triple4.sl.v287 | unfold triple4.sl.v288 | unfold triple4.sl.v289 | unfold triple4.sl.v290 | unfold triple4.sl.v291 | unfold triple4.sl.v292 | unfold triple4.sl.v293 | unfold triple4.sl.v294 | unfold triple4.sl.v295 | unfold triple4.sl.v296 | unfold triple4.sl.v297 | unfold triple4.sl.v298 | unfold triple4.sl.v299
      (try simp only [shapeCast_id])
      rfl
    · refine (View.read_writes_full _ _ _ _ _).trans ?_
      rw [← e4, ← e9]
      repeat first | unfold triple4.sl.v47 | unfold triple4.sl.v48 | unfold triple4.sl.v49 | unfold triple4.sl.v50 | unfold triple4.sl.v51 | unfold triple4.sl.v52 | unfold triple4.sl.v53 | unfold triple4.sl.v54 | unfold triple4.sl.v55 | unfold triple4.sl.v56 | unfold triple4.sl.v57 | unfold triple4.sl.v58 | unfold triple4.sl.v59 | unfold triple4.sl.v60 | unfold triple4.sl.v61 | unfold triple4.sl.v62 | unfold triple4.sl.v63 | unfold triple4.sl.v64 | unfold triple4.sl.v65 | unfold triple4.sl.v66 | unfold triple4.sl.v67 | unfold triple4.sl.v68 | unfold triple4.sl.v69 | unfold triple4.sl.v70 | unfold triple4.sl.v71 | unfold triple4.sl.v72 | unfold triple4.sl.v73 | unfold triple4.sl.v74 | unfold triple4.sl.v75 | unfold triple4.sl.v76 | unfold triple4.sl.v77 | unfold triple4.sl.v78 | unfold triple4.sl.v79 | unfold triple4.sl.v80 | unfold triple4.sl.v81 | unfold triple4.sl.v82 | unfold triple4.sl.v83 | unfold triple4.sl.v84 | unfold triple4.sl.v85 | unfold triple4.sl.v86 | unfold triple4.sl.v87 | unfold triple4.sl.v88 | unfold triple4.sl.v89 | unfold triple4.sl.v90 | unfold triple4.sl.v91 | unfold triple4.sl.v92 | unfold triple4.sl.v93 | unfold triple4.sl.v94 | unfold triple4.sl.v95 | unfold triple4.sl.v96 | unfold triple4.sl.v97 | unfold triple4.sl.v98 | unfold triple4.sl.v99 | unfold triple4.sl.v100 | unfold triple4.sl.v101 | unfold triple4.sl.v102 | unfold triple4.sl.v103 | unfold triple4.sl.v104 | unfold triple4.sl.v105 | unfold triple4.sl.v106 | unfold triple4.sl.v107 | unfold triple4.sl.v108 | unfold triple4.sl.v109 | unfold triple4.sl.v110 | unfold triple4.sl.v111 | unfold triple4.sl.v112 | unfold triple4.sl.v113 | unfold triple4.sl.v114 | unfold triple4.sl.v115 | unfold triple4.sl.v116 | unfold triple4.sl.v117 | unfold triple4.sl.v118 | unfold triple4.sl.v119 | unfold triple4.sl.v120 | unfold triple4.sl.v121 | unfold triple4.sl.v122 | unfold triple4.sl.v123 | unfold triple4.sl.v124 | unfold triple4.sl.v125 | unfold triple4.sl.v126 | unfold triple4.sl.v127 | unfold triple4.sl.v128 | unfold triple4.sl.v129 | unfold triple4.sl.v130 | unfold triple4.sl.v131 | unfold triple4.sl.v132 | unfold triple4.sl.v133 | unfold triple4.sl.v134 | unfold triple4.sl.v135 | unfold triple4.sl.v136 | unfold triple4.sl.v137 | unfold triple4.sl.v138 | unfold triple4.sl.v139 | unfold triple4.sl.v140 | unfold triple4.sl.v141 | unfold triple4.sl.v142 | unfold triple4.sl.v143 | unfold triple4.sl.v144 | unfold triple4.sl.v145 | unfold triple4.sl.v146 | unfold triple4.sl.v147 | unfold triple4.sl.v148 | unfold triple4.sl.v149 | unfold triple4.sl.v150 | unfold triple4.sl.v151 | unfold triple4.sl.v152 | unfold triple4.sl.v153 | unfold triple4.sl.v154 | unfold triple4.sl.v155 | unfold triple4.sl.v156 | unfold triple4.sl.v157 | unfold triple4.sl.v158 | unfold triple4.sl.v159 | unfold triple4.sl.v160 | unfold triple4.sl.v161 | unfold triple4.sl.v162 | unfold triple4.sl.v163 | unfold triple4.sl.v164 | unfold triple4.sl.v165 | unfold triple4.sl.v166 | unfold triple4.sl.v167 | unfold triple4.sl.v168 | unfold triple4.sl.v169 | unfold triple4.sl.v170 | unfold triple4.sl.v171 | unfold triple4.sl.v172 | unfold triple4.sl.v173 | unfold triple4.sl.v174 | unfold triple4.sl.v175 | unfold triple4.sl.v176 | unfold triple4.sl.v177 | unfold triple4.sl.v178 | unfold triple4.sl.v179 | unfold triple4.sl.v180 | unfold triple4.sl.v181 | unfold triple4.sl.v182 | unfold triple4.sl.v183 | unfold triple4.sl.v184 | unfold triple4.sl.v185 | unfold triple4.sl.v186 | unfold triple4.sl.v187 | unfold triple4.sl.v188 | unfold triple4.sl.v189 | unfold triple4.sl.v190 | unfold triple4.sl.v191 | unfold triple4.sl.v192 | unfold triple4.sl.v193 | unfold triple4.sl.v194 | unfold triple4.sl.v195 | unfold triple4.sl.v196 | unfold triple4.sl.v197 | unfold triple4.sl.v198 | unfold triple4.sl.v199 | unfold triple4.sl.v200 | unfold triple4.sl.v201 | unfold triple4.sl.v202 | unfold triple4.sl.v203 | unfold triple4.sl.v204 | unfold triple4.sl.v205 | unfold triple4.sl.v206 | unfold triple4.sl.v207 | unfold triple4.sl.v208 | unfold triple4.sl.v209 | unfold triple4.sl.v210 | unfold triple4.sl.v211 | unfold triple4.sl.v212 | unfold triple4.sl.v213 | unfold triple4.sl.v214 | unfold triple4.sl.v215 | unfold triple4.sl.v216 | unfold triple4.sl.v217 | unfold triple4.sl.v218 | unfold triple4.sl.v219 | unfold triple4.sl.v220 | unfold triple4.sl.v221 | unfold triple4.sl.v222 | unfold triple4.sl.v223 | unfold triple4.sl.v224 | unfold triple4.sl.v225 | unfold triple4.sl.v226 | unfold triple4.sl.v227 | unfold triple4.sl.v228 | unfold triple4.sl.v229 | unfold triple4.sl.v230 | unfold triple4.sl.v231 | unfold triple4.sl.v232 | unfold triple4.sl.v233 | unfold triple4.sl.v234 | unfold triple4.sl.v235 | unfold triple4.sl.v236 | unfold triple4.sl.v237 | unfold triple4.sl.v238 | unfold triple4.sl.v239 | unfold triple4.sl.v240 | unfold triple4.sl.v241 | unfold triple4.sl.v242 | unfold triple4.sl.v243 | unfold triple4.sl.v244 | unfold triple4.sl.v245 | unfold triple4.sl.v246 | unfold triple4.sl.v247 | unfold triple4.sl.v248 | unfold triple4.sl.v249 | unfold triple4.sl.v250 | unfold triple4.sl.v251 | unfold triple4.sl.v252 | unfold triple4.sl.v253 | unfold triple4.sl.v254 | unfold triple4.sl.v255 | unfold triple4.sl.v256 | unfold triple4.sl.v257 | unfold triple4.sl.v258 | unfold triple4.sl.v259 | unfold triple4.sl.v260 | unfold triple4.sl.v261 | unfold triple4.sl.v262 | unfold triple4.sl.v263 | unfold triple4.sl.v264 | unfold triple4.sl.v265 | unfold triple4.sl.v266 | unfold triple4.sl.v267 | unfold triple4.sl.v268 | unfold triple4.sl.v269 | unfold triple4.sl.v270 | unfold triple4.sl.v271 | unfold triple4.sl.v272 | unfold triple4.sl.v273 | unfold triple4.sl.v274 | unfold triple4.sl.v275 | unfold triple4.sl.v276 | unfold triple4.sl.v277 | unfold triple4.sl.v278 | unfold triple4.sl.v279 | unfold triple4.sl.v280 | unfold triple4.sl.v281 | unfold triple4.sl.v282 | unfold triple4.sl.v283 | unfold triple4.sl.v284 | unfold triple4.sl.v285 | unfold triple4.sl.v286 | unfold triple4.sl.v287 | unfold triple4.sl.v288 | unfold triple4.sl.v289 | unfold triple4.sl.v290 | unfold triple4.sl.v291 | unfold triple4.sl.v292 | unfold triple4.sl.v293 | unfold triple4.sl.v294 | unfold triple4.sl.v295 | unfold triple4.sl.v296 | unfold triple4.sl.v297 | unfold triple4.sl.v298 | unfold triple4.sl.v299
      (try simp only [shapeCast_id])
      rfl

  · sl_exec (disch := sl_exact hc)
    sl_step
    rw [if_neg hc]
    iapply (held_intro c arg1 arg2 arg3 arg4 arg5 arg6 arg7 arg8 arg9 arg10 arg11 x1 x2 pw w g cs sn s _ _ _ _ _ _ _ _ _ _ _ h1 h2 h3 h4 h5 h6 h7 h8 h9 h10 h11)
    iframe H1 H2 H3 H4 H5 H6 H7 H8 H9 H10 H11

end Cert.Kernel4Ideal.Body

end
-- ==== Proof.RopeStep5.lean ====
module

public import proofs.«01_k».proof.Proof.RopeSteps

/-! The attention in-projection's fifth segment: a product, and two chunks of the next row tile. -/

@[expose] public section

set_option maxRecDepth 65536

noncomputable section

namespace Cert.Kernel4Ideal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel4Ideal Cert.Kernel4Ideal.Gen

variable {F : FTy → Type} [FloatOps F]

local notation "𝕄" => MT nD τ sig Unit (Elt F) ℕ (UR sig nD τ) ℕ

variable (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S1x1024 .f32) (harg5 : arg5.IsWhole) (arg6 : Memref sig .tc .vmem S1408x128 .f32) (harg6 : arg6.IsWhole) (arg7 : Memref sig .tc .vmem S1408x128 .f32) (harg7 : arg7.IsWhole) (arg8 : Memref sig .tc .vmem S1408x1024 .bf16) (harg8 : arg8.IsWhole) (arg9 : Memref sig .tc .vmem S1408x2048 .bf16) (harg9 : arg9.IsWhole) (arg10 : Memref sig .tc .vmem S1408x2048 .bf16) (harg10 : arg10.IsWhole) (arg11 : Memref sig .tc .vmem S1408x1024 .f32) (harg11 : arg11.IsWhole)
variable (x1 x2 : Vec F S128x2048 .f32) (pw : Vec F S1x2048 .f32) (w : Vec F S1x2048x1024 .bf16) (g : Vec F S1x1024 .f32) (cs sn : Vec F S1408x128 .f32)

/-- The state after the fifth segment. -/
def St.step5 (s : St F) (i : grid0.Coords) (x1 x2 : Vec F S128x2048 .f32) (pw : Vec F S1x2048 .f32) (w : Vec F S1x2048x1024 .bf16) (g : Vec F S1x1024 .f32) (cs sn : Vec F S1408x128 .f32) : St F :=
  if k0_cond5 i = 1#1 then { s with o := rounded s.acc, acc := prodOf s.xn w, next := VecWindow.put (VecWindow.put s.next (k0_off3 i 0#32) S128x2048.size (normRows x1 pw)) (k0_off3 i 1#32) S128x2048.size (normRows x2 pw) } else s

set_option maxHeartbeats 8000000 in
/-- What the state is after the segment. -/
theorem triple5 (E : Set ℕ) (s : St F) :
    Held c arg1 arg2 arg3 arg4 arg5 arg6 arg7 arg8 arg9 arg10 arg11 x1 x2 pw w g cs sn s
      ⊢ wp frame (wpE (defs₀ (F := F)) Variants.none c none) E (seg5 i arg1 harg1 arg2 harg2 arg3 harg3 arg4 harg4 arg5 harg5 arg6 harg6 arg7 harg7 arg8 harg8 arg9 harg9 arg10 harg10 arg11 harg11)
          (fun _ => Held c arg1 arg2 arg3 arg4 arg5 arg6 arg7 arg8 arg9 arg10 arg11 x1 x2 pw w g cs sn (s.step5 i x1 x2 pw w g cs sn)) := by
  refine held_elim c arg1 arg2 arg3 arg4 arg5 arg6 arg7 arg8 arg9 arg10 arg11 x1 x2 pw w g cs sn s fun f1 f2 f3 f4 f5 f6 f7 f8 f9 f10 f11 h1 h2 h3 h4 h5 h6 h7 h8 h9 h10 h11 => ?_
  iintro ⟨H1, H2, H3, H4, H5, H6, H7, H8, H9, H10, H11⟩
  unfold seg5 St.step5
  unfold k0_part8 k0_part9
  by_cases hc : k0_cond5 i = 1#1
  · sl_exec (disch := sl_exact hc)
    sl_step
    rw [if_pos hc]
    iapply (held_intro' c arg1 arg2 arg3 arg4 arg5 arg6 arg7 arg8 arg9 arg10 arg11 x1 x2 pw w g cs sn { s with o := rounded s.acc, acc := prodOf s.xn w, next := VecWindow.put (VecWindow.put s.next (k0_off3 i 0#32) S128x2048.size (normRows x1 pw)) (k0_off3 i 1#32) S128x2048.size (normRows x2 pw) } _ _ _ _ _ _ _ _ _ _ _)
    isplitl
    · iframe H1 H2 H3 H4 H5 H6 H7 H8 H9 H10 H11
    ipureintro
    have e1 : arg1.view.readAt (Elt F) (Rect.unit (s := S128x2048) ![0, 0] S128x2048.size inb_S128x2048_S128x2048_0_0).toLoadRect f1 = x1 := (View.readAt_full _ _ _).trans h1
    have e2 : arg2.view.readAt (Elt F) (Rect.unit (s := S128x2048) ![0, 0] S128x2048.size inb_S128x2048_S128x2048_0_0).toLoadRect f2 = x2 := (View.readAt_full _ _ _).trans h2
    have e3 : arg3.view.readAt (Elt F) (Rect.unit (s := S1x2048) ![0, 0] S1x2048.size inb_S1x2048_S1x2048_0_0).toLoadRect f3 = pw := (View.readAt_full _ _ _).trans h3
    have e4 : arg4.view.readAt (Elt F) (Rect.unit (s := S1x2048x1024) ![0, 0, 0] S1x2048x1024.size inb_S1x2048x1024_S1x2048x1024_0_0_0).toLoadRect f4 = w := (View.readAt_full _ _ _).trans h4
    have e9 : arg9.view.readAt (Elt F) (Rect.unit (s := S1408x2048) ![0, 0] S1408x2048.size inb_S1408x2048_S1408x2048_0_0).toLoadRect f9 = s.xn := (View.readAt_full _ _ _).trans h9
    have e11 : arg11.view.readAt (Elt F) (Rect.unit (s := S1408x1024) ![0, 0] S1408x1024.size inb_S1408x1024_S1408x1024_0_0).toLoadRect f11 = s.acc := (View.readAt_full _ _ _).trans h11
    refine ⟨h1, h2, h3, h4, h5, h6, h7, ?_, h9, ?_, ?_⟩
    · refine (View.read_writes_full _ _ _ _ _).trans ?_
      rw [← e11]
      repeat first | unfold triple5.sl.v47 | unfold triple5.sl.v48 | unfold triple5.sl.v49 | unfold triple5.sl.v50 | unfold triple5.sl.v51 | unfold triple5.sl.v52 | unfold triple5.sl.v53 | unfold triple5.sl.v54 | unfold triple5.sl.v55 | unfold triple5.sl.v56 | unfold triple5.sl.v57 | unfold triple5.sl.v58 | unfold triple5.sl.v59 | unfold triple5.sl.v60 | unfold triple5.sl.v61 | unfold triple5.sl.v62 | unfold triple5.sl.v63 | unfold triple5.sl.v64 | unfold triple5.sl.v65 | unfold triple5.sl.v66 | unfold triple5.sl.v67 | unfold triple5.sl.v68 | unfold triple5.sl.v69 | unfold triple5.sl.v70 | unfold triple5.sl.v71 | unfold triple5.sl.v72 | unfold triple5.sl.v73 | unfold triple5.sl.v74 | unfold triple5.sl.v75 | unfold triple5.sl.v76 | unfold triple5.sl.v77 | unfold triple5.sl.v78 | unfold triple5.sl.v79 | unfold triple5.sl.v80 | unfold triple5.sl.v81 | unfold triple5.sl.v82 | unfold triple5.sl.v83 | unfold triple5.sl.v84 | unfold triple5.sl.v85 | unfold triple5.sl.v86 | unfold triple5.sl.v87 | unfold triple5.sl.v88 | unfold triple5.sl.v89 | unfold triple5.sl.v90 | unfold triple5.sl.v91 | unfold triple5.sl.v92 | unfold triple5.sl.v93 | unfold triple5.sl.v94 | unfold triple5.sl.v95 | unfold triple5.sl.v96 | unfold triple5.sl.v97 | unfold triple5.sl.v98 | unfold triple5.sl.v99 | unfold triple5.sl.v100 | unfold triple5.sl.v101 | unfold triple5.sl.v102 | unfold triple5.sl.v103 | unfold triple5.sl.v104 | unfold triple5.sl.v105 | unfold triple5.sl.v106 | unfold triple5.sl.v107 | unfold triple5.sl.v108 | unfold triple5.sl.v109 | unfold triple5.sl.v110 | unfold triple5.sl.v111 | unfold triple5.sl.v112 | unfold triple5.sl.v113 | unfold triple5.sl.v114 | unfold triple5.sl.v115 | unfold triple5.sl.v116 | unfold triple5.sl.v117 | unfold triple5.sl.v118 | unfold triple5.sl.v119 | unfold triple5.sl.v120 | unfold triple5.sl.v121 | unfold triple5.sl.v122 | unfold triple5.sl.v123 | unfold triple5.sl.v124 | unfold triple5.sl.v125 | unfold triple5.sl.v126 | unfold triple5.sl.v127 | unfold triple5.sl.v128 | unfold triple5.sl.v129 | unfold triple5.sl.v130 | unfold triple5.sl.v131 | unfold triple5.sl.v132 | unfold triple5.sl.v133 | unfold triple5.sl.v134 | unfold triple5.sl.v135 | unfold triple5.sl.v136 | unfold triple5.sl.v137 | unfold triple5.sl.v138 | unfold triple5.sl.v139
      (try simp only [shapeCast_id])
      rfl
    · rw [← h10]
      refine (View.read_writes_cons_put _ _ _ _ _ rfl).trans ?_
      try unfold triple5.sl.H10_1
      rw [View.read_writes_cons_put _ _ _ _ _ rfl, View.writes_nil]
      rw [← e1, ← e2, ← e3]
      repeat first | unfold triple5.sl.v47 | unfold triple5.sl.v48 | unfold triple5.sl.v49 | unfold triple5.sl.v50 | unfold triple5.sl.v51 | unfold triple5.sl.v52 | unfold triple5.sl.v53 | unfold triple5.sl.v54 | unfold triple5.sl.v55 | unfold triple5.sl.v56 | unfold triple5.sl.v57 | unfold triple5.sl.v58 | unfold triple5.sl.v59 | unfold triple5.sl.v60 | unfold triple5.sl.v61 | unfold triple5.sl.v62 | unfold triple5.sl.v63 | unfold triple5.sl.v64 | unfold triple5.sl.v65 | unfold triple5.sl.v66 | unfold triple5.sl.v67 | unfold triple5.sl.v68 | unfold triple5.sl.v69 | unfold triple5.sl.v70 | unfold triple5.sl.v71 | unfold triple5.sl.v72 | unfold triple5.sl.v73 | unfold triple5.sl.v74 | unfold triple5.sl.v75 | unfold triple5.sl.v76 | unfold triple5.sl.v77 | unfold triple5.sl.v78 | unfold triple5.sl.v79 | unfold triple5.sl.v80 | unfold triple5.sl.v81 | unfold triple5.sl.v82 | unfold triple5.sl.v83 | unfold triple5.sl.v84 | unfold triple5.sl.v85 | unfold triple5.sl.v86 | unfold triple5.sl.v87 | unfold triple5.sl.v88 | unfold triple5.sl.v89 | unfold triple5.sl.v90 | unfold triple5.sl.v91 | unfold triple5.sl.v92 | unfold triple5.sl.v93 | unfold triple5.sl.v94 | unfold triple5.sl.v95 | unfold triple5.sl.v96 | unfold triple5.sl.v97 | unfold triple5.sl.v98 | unfold triple5.sl.v99 | unfold triple5.sl.v100 | unfold triple5.sl.v101 | unfold triple5.sl.v102 | unfold triple5.sl.v103 | unfold triple5.sl.v104 | unfold triple5.sl.v105 | unfold triple5.sl.v106 | unfold triple5.sl.v107 | unfold triple5.sl.v108 | unfold triple5.sl.v109 | unfold triple5.sl.v110 | unfold triple5.sl.v111 | unfold triple5.sl.v112 | unfold triple5.sl.v113 | unfold triple5.sl.v114 | unfold triple5.sl.v115 | unfold triple5.sl.v116 | unfold triple5.sl.v117 | unfold triple5.sl.v118 | unfold triple5.sl.v119 | unfold triple5.sl.v120 | unfold triple5.sl.v121 | unfold triple5.sl.v122 | unfold triple5.sl.v123 | unfold triple5.sl.v124 | unfold triple5.sl.v125 | unfold triple5.sl.v126 | unfold triple5.sl.v127 | unfold triple5.sl.v128 | unfold triple5.sl.v129 | unfold triple5.sl.v130 | unfold triple5.sl.v131 | unfold triple5.sl.v132 | unfold triple5.sl.v133 | unfold triple5.sl.v134 | unfold triple5.sl.v135 | unfold triple5.sl.v136 | unfold triple5.sl.v137 | unfold triple5.sl.v138 | unfold triple5.sl.v139
      (try simp only [shapeCast_id])
      rfl
    · refine (View.read_writes_full _ _ _ _ _).trans ?_
      rw [← e4, ← e9]
      repeat first | unfold triple5.sl.v47 | unfold triple5.sl.v48 | unfold triple5.sl.v49 | unfold triple5.sl.v50 | unfold triple5.sl.v51 | unfold triple5.sl.v52 | unfold triple5.sl.v53 | unfold triple5.sl.v54 | unfold triple5.sl.v55 | unfold triple5.sl.v56 | unfold triple5.sl.v57 | unfold triple5.sl.v58 | unfold triple5.sl.v59 | unfold triple5.sl.v60 | unfold triple5.sl.v61 | unfold triple5.sl.v62 | unfold triple5.sl.v63 | unfold triple5.sl.v64 | unfold triple5.sl.v65 | unfold triple5.sl.v66 | unfold triple5.sl.v67 | unfold triple5.sl.v68 | unfold triple5.sl.v69 | unfold triple5.sl.v70 | unfold triple5.sl.v71 | unfold triple5.sl.v72 | unfold triple5.sl.v73 | unfold triple5.sl.v74 | unfold triple5.sl.v75 | unfold triple5.sl.v76 | unfold triple5.sl.v77 | unfold triple5.sl.v78 | unfold triple5.sl.v79 | unfold triple5.sl.v80 | unfold triple5.sl.v81 | unfold triple5.sl.v82 | unfold triple5.sl.v83 | unfold triple5.sl.v84 | unfold triple5.sl.v85 | unfold triple5.sl.v86 | unfold triple5.sl.v87 | unfold triple5.sl.v88 | unfold triple5.sl.v89 | unfold triple5.sl.v90 | unfold triple5.sl.v91 | unfold triple5.sl.v92 | unfold triple5.sl.v93 | unfold triple5.sl.v94 | unfold triple5.sl.v95 | unfold triple5.sl.v96 | unfold triple5.sl.v97 | unfold triple5.sl.v98 | unfold triple5.sl.v99 | unfold triple5.sl.v100 | unfold triple5.sl.v101 | unfold triple5.sl.v102 | unfold triple5.sl.v103 | unfold triple5.sl.v104 | unfold triple5.sl.v105 | unfold triple5.sl.v106 | unfold triple5.sl.v107 | unfold triple5.sl.v108 | unfold triple5.sl.v109 | unfold triple5.sl.v110 | unfold triple5.sl.v111 | unfold triple5.sl.v112 | unfold triple5.sl.v113 | unfold triple5.sl.v114 | unfold triple5.sl.v115 | unfold triple5.sl.v116 | unfold triple5.sl.v117 | unfold triple5.sl.v118 | unfold triple5.sl.v119 | unfold triple5.sl.v120 | unfold triple5.sl.v121 | unfold triple5.sl.v122 | unfold triple5.sl.v123 | unfold triple5.sl.v124 | unfold triple5.sl.v125 | unfold triple5.sl.v126 | unfold triple5.sl.v127 | unfold triple5.sl.v128 | unfold triple5.sl.v129 | unfold triple5.sl.v130 | unfold triple5.sl.v131 | unfold triple5.sl.v132 | unfold triple5.sl.v133 | unfold triple5.sl.v134 | unfold triple5.sl.v135 | unfold triple5.sl.v136 | unfold triple5.sl.v137 | unfold triple5.sl.v138 | unfold triple5.sl.v139
      (try simp only [shapeCast_id])
      rfl

  · sl_exec (disch := sl_exact hc)
    sl_step
    rw [if_neg hc]
    iapply (held_intro c arg1 arg2 arg3 arg4 arg5 arg6 arg7 arg8 arg9 arg10 arg11 x1 x2 pw w g cs sn s _ _ _ _ _ _ _ _ _ _ _ h1 h2 h3 h4 h5 h6 h7 h8 h9 h10 h11)
    iframe H1 H2 H3 H4 H5 H6 H7 H8 H9 H10 H11

end Cert.Kernel4Ideal.Body

end
-- ==== Proof.RopeBody.lean ====
module

public import proofs.«01_k».proof.Proof.RopeStep2
public import proofs.«01_k».proof.Proof.RopeStep4
public import proofs.«01_k».proof.Proof.RopeStep5

/-! The attention in-projection's body: its six segments in order. -/

@[expose] public section

set_option maxRecDepth 65536

noncomputable section

namespace Cert.Kernel4Ideal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel4Ideal Cert.Kernel4Ideal.Gen

variable {F : FTy → Type} [FloatOps F]

local notation "𝕄" => MT nD τ sig Unit (Elt F) ℕ (UR sig nD τ) ℕ

variable (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S1x1024 .f32) (harg5 : arg5.IsWhole) (arg6 : Memref sig .tc .vmem S1408x128 .f32) (harg6 : arg6.IsWhole) (arg7 : Memref sig .tc .vmem S1408x128 .f32) (harg7 : arg7.IsWhole) (arg8 : Memref sig .tc .vmem S1408x1024 .bf16) (harg8 : arg8.IsWhole) (arg9 : Memref sig .tc .vmem S1408x2048 .bf16) (harg9 : arg9.IsWhole) (arg10 : Memref sig .tc .vmem S1408x2048 .bf16) (harg10 : arg10.IsWhole) (arg11 : Memref sig .tc .vmem S1408x1024 .f32) (harg11 : arg11.IsWhole)
variable (x1 x2 : Vec F S128x2048 .f32) (pw : Vec F S1x2048 .f32) (w : Vec F S1x2048x1024 .bf16) (g : Vec F S1x1024 .f32) (cs sn : Vec F S1408x128 .f32)

/-- What the body makes of the state. -/
def St.step (s : St F) (i : grid0.Coords) (x1 x2 : Vec F S128x2048 .f32) (pw : Vec F S1x2048 .f32) (w : Vec F S1x2048x1024 .bf16) (g : Vec F S1x1024 .f32) (cs sn : Vec F S1408x128 .f32) : St F :=
  (((((s.step1 i x1 x2 pw w g cs sn).step2 i x1 x2 pw w g cs sn).step3 i x1 x2 pw w g cs sn).step4 i x1 x2 pw w g cs sn).step5 i x1 x2 pw w g cs sn).step6 i x1 x2 pw w g cs sn

/-- The body's triple: the six segments' in order. -/
theorem body_triple (E : Set ℕ) (s : St F) :
    Held c arg1 arg2 arg3 arg4 arg5 arg6 arg7 arg8 arg9 arg10 arg11 x1 x2 pw w g cs sn s
      ⊢ wp frame (wpE (defs₀ (F := F)) Variants.none c none) E (cc0_inproj_rope i arg1 harg1 arg2 harg2 arg3 harg3 arg4 harg4 arg5 harg5 arg6 harg6 arg7 harg7 arg8 harg8 arg9 harg9 arg10 harg10 arg11 harg11)
          (fun _ => Held c arg1 arg2 arg3 arg4 arg5 arg6 arg7 arg8 arg9 arg10 arg11 x1 x2 pw w g cs sn (s.step i x1 x2 pw w g cs sn)) := by
  rw [body_eq]
  rw [wp_bind]
  refine (triple1 c i arg1 harg1 arg2 harg2 arg3 harg3 arg4 harg4 arg5 harg5 arg6 harg6 arg7 harg7 arg8 harg8 arg9 harg9 arg10 harg10 arg11 harg11 x1 x2 pw w g cs sn E _).trans (wp_mono _ _ _ fun _ => ?_)
  rw [wp_bind]
  refine (triple2 c i arg1 harg1 arg2 harg2 arg3 harg3 arg4 harg4 arg5 harg5 arg6 harg6 arg7 harg7 arg8 harg8 arg9 harg9 arg10 harg10 arg11 harg11 x1 x2 pw w g cs sn E _).trans (wp_mono _ _ _ fun _ => ?_)
  rw [wp_bind]
  refine (triple3 c i arg1 harg1 arg2 harg2 arg3 harg3 arg4 harg4 arg5 harg5 arg6 harg6 arg7 harg7 arg8 harg8 arg9 harg9 arg10 harg10 arg11 harg11 x1 x2 pw w g cs sn E _).trans (wp_mono _ _ _ fun _ => ?_)
  rw [wp_bind]
  refine (triple4 c i arg1 harg1 arg2 harg2 arg3 harg3 arg4 harg4 arg5 harg5 arg6 harg6 arg7 harg7 arg8 harg8 arg9 harg9 arg10 harg10 arg11 harg11 x1 x2 pw w g cs sn E _).trans (wp_mono _ _ _ fun _ => ?_)
  rw [wp_bind]
  refine (triple5 c i arg1 harg1 arg2 harg2 arg3 harg3 arg4 harg4 arg5 harg5 arg6 harg6 arg7 harg7 arg8 harg8 arg9 harg9 arg10 harg10 arg11 harg11 x1 x2 pw w g cs sn E _).trans (wp_mono _ _ _ fun _ => ?_)
  rw [wp_bind]
  refine (triple6 c i arg1 harg1 arg2 harg2 arg3 harg3 arg4 harg4 arg5 harg5 arg6 harg6 arg7 harg7 arg8 harg8 arg9 harg9 arg10 harg10 arg11 harg11 x1 x2 pw w g cs sn E _).trans (wp_mono _ _ _ fun _ => ?_)
  iintro H
  sl_step
  iexact H

end Cert.Kernel4Ideal.Body

end
-- ==== Proof.RopeRows.lean ====
module

public import proofs.«01_k».proof.Proof.RopeBody
public import Idealize.ShloMosaic.Lib.Pointwise

/-! The rows of the tiles: where the blocks lie, and what two chunks stored at a point make of a tile, and what eight heads make of a block. -/

@[expose] public section

set_option maxRecDepth 65536

noncomputable section

namespace Cert.Kernel4Ideal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel4Ideal Cert.Kernel4Ideal.Gen

variable {F : FTy → Type} [FloatOps F]

local notation "𝕄" => MT nD τ sig Unit (Elt F) ℕ (UR sig nD τ) ℕ

/-- A chunk put into a tile of width 2048: its rows are the chunk's, the others are kept. -/
theorem put_rows_2048 {α : Type} (x : S1408x2048.Idx → α) (k : ℕ) (w : S128x2048.Idx → α) (y : S1408x2048.Idx) :
    VecWindow.put x ![128 * k, 0] S128x2048.size w y
      = if h : 128 * k ≤ (y 0).val ∧ (y 0).val < 128 * k + 128 then w (ix2 ⟨(y 0).val - 128 * k, by omega⟩ (y 1)) else x y := by
  unfold VecWindow.put
  by_cases h : 128 * k ≤ (y 0).val ∧ (y 0).val < 128 * k + 128
  · rw [dif_pos h, dif_pos (by
      intro a
      match a with
      | ⟨0, _⟩ => exact h
      | ⟨1, _⟩ => exact ⟨Nat.zero_le _, by have := (y 1).isLt; exact lt_of_lt_of_eq this (Nat.zero_add _).symm⟩)]
    refine congrArg w ?_
    funext a
    match a with
    | ⟨0, _⟩ => rfl
    | ⟨1, _⟩ => rfl
  · rw [dif_neg h, dif_neg (fun hh => h (hh 0))]

/-- Two chunks put into a tile: the rows so far are the wanted ones, and so are the chunks' rows. -/
theorem put_pair_2048 {α : Type} (x : S1408x2048.Idx → α) (u : ℕ) (hu : u < 6) (w1 w2 : S128x2048.Idx → α) (T : ℕ → Fin 2048 → α)
    (h1 : ∀ z, w1 z = T (128 * min (2 * u + 0) 10 + (z 0).val) (z 1)) (h2 : ∀ z, w2 z = T (128 * min (2 * u + 1) 10 + (z 0).val) (z 1))
    (hx : ∀ y, (y 0).val < 256 * u → x y = T (y 0).val (y 1)) (y : S1408x2048.Idx) (hy : (y 0).val < 128 * min (2 * u + 2) 11) :
    VecWindow.put (VecWindow.put x ![128 * min (2 * u + 0) 10, 0] S128x2048.size w1) ![128 * min (2 * u + 1) 10, 0] S128x2048.size w2 y = T (y 0).val (y 1) := by
  rw [put_rows_2048]
  split
  · next h =>
    rw [h2]
    show T (128 * min (2 * u + 1) 10 + ((y 0).val - 128 * min (2 * u + 1) 10)) (y 1) = _
    rw [Nat.add_sub_cancel' h.1]
  · next h =>
    rw [put_rows_2048]
    split
    · next h' =>
      rw [h1]
      show T (128 * min (2 * u + 0) 10 + ((y 0).val - 128 * min (2 * u + 0) 10)) (y 1) = _
      rw [Nat.add_sub_cancel' h'.1]
    · next h' => exact hx y (by omega)

/-- A head put into a block: its columns are the head's, the others are kept. -/
theorem put_cols {α : Type} (x : S1408x1024.Idx → α) (q : ℕ) (w : S1408x128.Idx → α) (y : S1408x1024.Idx) :
    VecWindow.put x ![0, q] S1408x128.size w y
      = if h : q ≤ (y 1).val ∧ (y 1).val < q + 128 then w (ix2 (y 0) ⟨(y 1).val - q, by omega⟩) else x y := by
  unfold VecWindow.put
  by_cases h : q ≤ (y 1).val ∧ (y 1).val < q + 128
  · rw [dif_pos h, dif_pos (by
      intro a
      match a with
      | ⟨0, _⟩ => exact ⟨Nat.zero_le _, by have := (y 0).isLt; exact lt_of_lt_of_eq this (Nat.zero_add _).symm⟩
      | ⟨1, _⟩ => exact h)]
    refine congrArg w ?_
    funext a
    match a with
    | ⟨0, _⟩ => rfl
    | ⟨1, _⟩ => rfl
  · rw [dif_neg h, dif_neg (fun hh => h (hh 1))]

/-- The columns of a head. -/
def headSlice (a : Vec F S1408x1024 .f32) (k : Fin 8) : Vec F S1408x128 .f32 :=
  fun z => a (ix2 (z 0) ⟨128 * k.val + (z 1).val, by have h : (z 1).val < 128 := (z 1).isLt; omega⟩)
/-- The weights of a head. -/
def headGain (g : Vec F S1x1024 .f32) (k : Fin 8) : Vec F S1x128 .f32 :=
  fun z => g (ix2 (z 0) ⟨128 * k.val + (z 1).val, by have h : (z 1).val < 128 := (z 1).isLt; omega⟩)
/-- The head of a column. -/
def headOf (y : Fin 1024) : Fin 8 := ⟨y.val / 128, by omega⟩
/-- The eight heads side by side. -/
def heads (a : Vec F S1408x1024 .f32) (g : Vec F S1x1024 .f32) (cs sn : Vec F S1408x128 .f32) : Vec F S1408x1024 .bf16 :=
  fun y => headOut (headSlice a (headOf (y 1))) (headGain g (headOf (y 1))) cs sn (ix2 (y 0) ⟨(y 1).val % 128, Nat.mod_lt _ (by decide)⟩)

/-- One head's columns are the heads' there. -/
theorem heads_piece (a : Vec F S1408x1024 .f32) (g : Vec F S1x1024 .f32) (cs sn : Vec F S1408x128 .f32) (y : S1408x1024.Idx) (k : Fin 8) (q : ℕ)
    (hq : q = 128 * k.val) (hs : S1408x1024.Slices ![0, q] S1408x128) (hi : ∀ a, (![0, q] : Fin 2 → Nat) a + S1x128.size a ≤ S1x1024.size a) (h : q ≤ (y 1).val ∧ (y 1).val < q + 128) :
    headOut (extractStridedSlice S1408x128 ![0, q] a hs) (VecWindow.window g ![0, q] S1x128.size hi) cs sn (ix2 (y 0) ⟨(y 1).val - q, by omega⟩)
      = heads a g cs sn y := by
  have hk : headOf (y 1) = k := Fin.ext (by show (y 1).val / 128 = k.val; omega)
  have h1 : extractStridedSlice S1408x128 ![0, q] a hs = headSlice a k := by
    subst hq
    funext z
    show a _ = a _
    refine congrArg a ?_
    funext d
    apply Fin.ext
    match d with
    | ⟨0, _⟩ => exact Nat.zero_add _
    | ⟨1, _⟩ => rfl
  have h2 : VecWindow.window g ![0, q] S1x128.size hi = headGain g k := by
    subst hq
    funext z
    show g _ = g _
    refine congrArg g ?_
    funext d
    apply Fin.ext
    match d with
    | ⟨0, _⟩ =>
      show 0 + 1 * (z 0).val = (z 0).val
      omega
    | ⟨1, _⟩ =>
      show 128 * k.val + 1 * (z 1).val = 128 * k.val + (z 1).val
      omega
  unfold heads
  rw [hk, h1, h2]
  refine congrArg _ ?_
  refine congrArg (ix2 (y 0)) (Fin.ext ?_)
  show (y 1).val - q = (y 1).val % 128
  omega

/-- Eight heads put into a block fill it. -/
theorem turned_eq (o : Vec F S1408x1024 .bf16) (a : Vec F S1408x1024 .f32) (g : Vec F S1x1024 .f32) (cs sn : Vec F S1408x128 .f32) :
    turned o a g cs sn = heads a g cs sn := by
  funext y
  have hy : (y 1).val < 1024 := (y 1).isLt
  unfold turned
  rw [put_cols]
  split
  · next h => exact heads_piece a g cs sn y 7 896 rfl _ _ h
  next h7 =>
  rw [put_cols]
  split
  · next h => exact heads_piece a g cs sn y 6 768 rfl _ _ h
  next h6 =>
  rw [put_cols]
  split
  · next h => exact heads_piece a g cs sn y 5 640 rfl _ _ h
  next h5 =>
  rw [put_cols]
  split
  · next h => exact heads_piece a g cs sn y 4 512 rfl _ _ h
  next h4 =>
  rw [put_cols]
  split
  · next h => exact heads_piece a g cs sn y 3 384 rfl _ _ h
  next h3 =>
  rw [put_cols]
  split
  · next h => exact heads_piece a g cs sn y 2 256 rfl _ _ h
  next h2 =>
  rw [put_cols]
  split
  · next h => exact heads_piece a g cs sn y 1 128 rfl _ _ h
  next h1 =>
  rw [put_cols]
  split
  · next h => exact heads_piece a g cs sn y 0 0 rfl _ _ h
  next h0 =>
  omega

/-! ## Where each window's block lies -/

/-- The row tile that a point normalises: the last points normalise the last tile again. -/
def tile (n : ℕ) : ℕ := min (n / 6) 11

theorem index0 : ∀ t : Fin cfg0.N, win0_0.index t = ![11 * tile t.val + min (2 * (t.val % 6) + 0) 10, 0] :=
  (by decide +kernel : ∀ t : Fin grid0.N, _)
theorem index1 : ∀ t : Fin cfg0.N, win0_1.index t = ![11 * tile t.val + min (2 * (t.val % 6) + 1) 10, 0] :=
  (by decide +kernel : ∀ t : Fin grid0.N, _)
theorem index2 : ∀ t : Fin cfg0.N, win0_2.index t = ![0, 0] :=
  (by decide +kernel : ∀ t : Fin grid0.N, _)
theorem index3 : ∀ t : Fin cfg0.N, 6 ≤ t.val → t.val < 78 → win0_3.index t = ![0, 0, t.val % 6] :=
  (by decide +kernel : ∀ t : Fin grid0.N, _)
theorem index4 : ∀ t : Fin cfg0.N, 7 ≤ t.val → win0_4.index t = ![0, min ((t.val - 1) % 6) 2] :=
  (by decide +kernel : ∀ t : Fin grid0.N, _)
theorem index5 : ∀ t : Fin cfg0.N, 7 ≤ t.val → win0_5.index t = ![((t.val - 1) / 6 - 1) % 3, 0] :=
  (by decide +kernel : ∀ t : Fin grid0.N, _)
theorem index6 : ∀ t : Fin cfg0.N, 7 ≤ t.val → win0_6.index t = ![((t.val - 1) / 6 - 1) % 3, 0] :=
  (by decide +kernel : ∀ t : Fin grid0.N, _)
theorem index7 : ∀ t : Fin cfg0.N, 7 ≤ t.val → win0_7.index t = ![(t.val - 1) / 6 - 1, (t.val - 1) % 6] :=
  (by decide +kernel : ∀ t : Fin grid0.N, _)

theorem coords_val : ∀ t : Fin cfg0.N, (grid0.coords t 0).val = t.val :=
  (by decide +kernel : ∀ t : Fin grid0.N, _)

variable (m : (ℓ : Loc nD τ sig) → Buf (Elt F) ℓ)

/-- The seven blocks at a point, at the body's own types. -/
def blkX1 (c : Dev nD) (t : Fin cfg0.N) : Vec F S128x2048 .f32 := iblk m c 0 t
def blkX2 (c : Dev nD) (t : Fin cfg0.N) : Vec F S128x2048 .f32 := iblk m c 1 t
def blkP (c : Dev nD) (t : Fin cfg0.N) : Vec F S1x2048 .f32 := iblk m c 2 t
def blkW (c : Dev nD) (t : Fin cfg0.N) : Vec F S1x2048x1024 .bf16 := iblk m c 3 t
def blkG (c : Dev nD) (t : Fin cfg0.N) : Vec F S1x1024 .f32 := iblk m c 4 t
def blkC (c : Dev nD) (t : Fin cfg0.N) : Vec F S1408x128 .f32 := iblk m c 5 t
def blkS (c : Dev nD) (t : Fin cfg0.N) : Vec F S1408x128 .f32 := iblk m c 6 t

/-- A chunk of the hidden rows, by its number. -/
def chunk (c : Dev nD) (q : ℕ) : Vec F S128x2048 .f32 :=
  fun z => (V m c main_arg0 : Vec F S16896x2048 .f32) (ix2 ⟨(128 * q + (z 0).val) % 16896, Nat.mod_lt _ (by decide)⟩ (z 1))
/-- The scale. -/
def scale (c : Dev nD) : Vec F S1x2048 .f32 := V m c main_v0
/-- The first layer's weights, a column tile by its number. -/
def wcol (c : Dev nD) (q : ℕ) : Vec F S1x2048x1024 .bf16 :=
  fun z => (V m c main_arg2 : Vec F S2x2048x6144 .bf16) (ix3 (0 : Fin 2) (z 1) ⟨(1024 * q + (z 2).val) % 6144, Nat.mod_lt _ (by decide)⟩)
/-- The head weights, a column tile by its number. -/
def gcol (c : Dev nD) (q : ℕ) : Vec F S1x1024 .f32 :=
  fun z => (V m c main_arg3 : Vec F S1x3072 .f32) (ix2 (0 : Fin 1) ⟨(1024 * q + (z 1).val) % 3072, Nat.mod_lt _ (by decide)⟩)
/-- The cosines of a row tile, and the sines. -/
def cosRows (c : Dev nD) (q : ℕ) : Vec F S1408x128 .f32 :=
  fun z => (V m c main_arg4 : Vec F S4224x128 .f32) (ix2 ⟨(1408 * q + (z 0).val) % 4224, Nat.mod_lt _ (by decide)⟩ (z 1))
def sinRows (c : Dev nD) (q : ℕ) : Vec F S1408x128 .f32 :=
  fun z => (V m c main_arg5 : Vec F S4224x128 .f32) (ix2 ⟨(1408 * q + (z 0).val) % 4224, Nat.mod_lt _ (by decide)⟩ (z 1))

theorem tile_le (n : ℕ) : tile n ≤ 11 := Nat.min_le_right _ _

theorem blkX1_eq (c : Dev nD) (t : Fin cfg0.N) : blkX1 m c t = chunk m c (11 * tile t.val + min (2 * (t.val % 6) + 0) 10) := by
  funext y
  show V m c main_arg0 ((win0_0.blk t).view.emb y) = V m c main_arg0 _
  refine congrArg _ ?_
  have hr : ∀ a : Fin 2, ((win0_0.blk t).view.emb y a).val = win0_0.index t a * win0_0.size a + 1 * (y a).val := fun _ => rfl
  have hT := tile_le t.val
  have hy : (y 0).val < 128 := (y 0).isLt
  funext a
  apply Fin.ext
  rw [hr, index0]
  match a with
  | ⟨0, _⟩ =>
    show (11 * tile t.val + min (2 * (t.val % 6) + 0) 10) * 128 + 1 * (y 0).val = (128 * (11 * tile t.val + min (2 * (t.val % 6) + 0) 10) + (y 0).val) % 16896
    omega
  | ⟨1, _⟩ =>
    show 0 * 2048 + 1 * (y 1).val = (y 1).val
    omega

theorem blkX2_eq (c : Dev nD) (t : Fin cfg0.N) : blkX2 m c t = chunk m c (11 * tile t.val + min (2 * (t.val % 6) + 1) 10) := by
  funext y
  show V m c main_arg0 ((win0_1.blk t).view.emb y) = V m c main_arg0 _
  refine congrArg _ ?_
  have hr : ∀ a : Fin 2, ((win0_1.blk t).view.emb y a).val = win0_1.index t a * win0_1.size a + 1 * (y a).val := fun _ => rfl
  have hT := tile_le t.val
  have hy : (y 0).val < 128 := (y 0).isLt
  funext a
  apply Fin.ext
  rw [hr, index1]
  match a with
  | ⟨0, _⟩ =>
    show (11 * tile t.val + min (2 * (t.val % 6) + 1) 10) * 128 + 1 * (y 0).val = (128 * (11 * tile t.val + min (2 * (t.val % 6) + 1) 10) + (y 0).val) % 16896
    omega
  | ⟨1, _⟩ =>
    show 0 * 2048 + 1 * (y 1).val = (y 1).val
    omega

theorem blkP_eq (c : Dev nD) (t : Fin cfg0.N) : blkP m c t = scale m c := by
  funext y
  show V m c main_v0 ((win0_2.blk t).view.emb y) = V m c main_v0 y
  refine congrArg _ ?_
  have hr : ∀ a : Fin 2, ((win0_2.blk t).view.emb y a).val = win0_2.index t a * win0_2.size a + 1 * (y a).val := fun _ => rfl
  funext a
  apply Fin.ext
  rw [hr, index2]
  match a with
  | ⟨0, _⟩ =>
    show 0 * 1 + 1 * (y 0).val = (y 0).val
    omega
  | ⟨1, _⟩ =>
    show 0 * 2048 + 1 * (y 1).val = (y 1).val
    omega

theorem blkW_eq (c : Dev nD) (t : Fin cfg0.N) (h6 : 6 ≤ t.val) (h78 : t.val < 78) : blkW m c t = wcol m c (t.val % 6) := by
  funext y
  show V m c main_arg2 ((win0_3.blk t).view.emb y) = V m c main_arg2 _
  refine congrArg _ ?_
  have hr : ∀ a : Fin 3, ((win0_3.blk t).view.emb y a).val = win0_3.index t a * win0_3.size a + 1 * (y a).val := fun _ => rfl
  have hy : (y 2).val < 1024 := (y 2).isLt
  have hy0 : (y 0).val < 1 := (y 0).isLt
  funext a
  apply Fin.ext
  rw [hr, index3 t h6 h78]
  match a with
  | ⟨0, _⟩ =>
    show 0 * 1 + 1 * (y 0).val = 0
    omega
  | ⟨1, _⟩ =>
    show 0 * 2048 + 1 * (y 1).val = (y 1).val
    omega
  | ⟨2, _⟩ =>
    show t.val % 6 * 1024 + 1 * (y 2).val = (1024 * (t.val % 6) + (y 2).val) % 6144
    omega

theorem blkG_eq (c : Dev nD) (t : Fin cfg0.N) (h7 : 7 ≤ t.val) : blkG m c t = gcol m c (min ((t.val - 1) % 6) 2) := by
  funext y
  show V m c main_arg3 ((win0_4.blk t).view.emb y) = V m c main_arg3 _
  refine congrArg _ ?_
  have hr : ∀ a : Fin 2, ((win0_4.blk t).view.emb y a).val = win0_4.index t a * win0_4.size a + 1 * (y a).val := fun _ => rfl
  have hy : (y 1).val < 1024 := (y 1).isLt
  have hy0 : (y 0).val < 1 := (y 0).isLt
  funext a
  apply Fin.ext
  rw [hr, index4 t h7]
  match a with
  | ⟨0, _⟩ =>
    show 0 * 1 + 1 * (y 0).val = 0
    omega
  | ⟨1, _⟩ =>
    show min ((t.val - 1) % 6) 2 * 1024 + 1 * (y 1).val = (1024 * min ((t.val - 1) % 6) 2 + (y 1).val) % 3072
    omega

theorem blkC_eq (c : Dev nD) (t : Fin cfg0.N) (h7 : 7 ≤ t.val) : blkC m c t = cosRows m c (((t.val - 1) / 6 - 1) % 3) := by
  funext y
  show V m c main_arg4 ((win0_5.blk t).view.emb y) = V m c main_arg4 _
  refine congrArg _ ?_
  have hr : ∀ a : Fin 2, ((win0_5.blk t).view.emb y a).val = win0_5.index t a * win0_5.size a + 1 * (y a).val := fun _ => rfl
  have hy : (y 0).val < 1408 := (y 0).isLt
  funext a
  apply Fin.ext
  rw [hr, index5 t h7]
  match a with
  | ⟨0, _⟩ =>
    show ((t.val - 1) / 6 - 1) % 3 * 1408 + 1 * (y 0).val = (1408 * (((t.val - 1) / 6 - 1) % 3) + (y 0).val) % 4224
    omega
  | ⟨1, _⟩ =>
    show 0 * 128 + 1 * (y 1).val = (y 1).val
    omega

theorem blkS_eq (c : Dev nD) (t : Fin cfg0.N) (h7 : 7 ≤ t.val) : blkS m c t = sinRows m c (((t.val - 1) / 6 - 1) % 3) := by
  funext y
  show V m c main_arg5 ((win0_6.blk t).view.emb y) = V m c main_arg5 _
  refine congrArg _ ?_
  have hr : ∀ a : Fin 2, ((win0_6.blk t).view.emb y a).val = win0_6.index t a * win0_6.size a + 1 * (y a).val := fun _ => rfl
  have hy : (y 0).val < 1408 := (y 0).isLt
  funext a
  apply Fin.ext
  rw [hr, index6 t h7]
  match a with
  | ⟨0, _⟩ =>
    show ((t.val - 1) / 6 - 1) % 3 * 1408 + 1 * (y 0).val = (1408 * (((t.val - 1) / 6 - 1) % 3) + (y 0).val) % 4224
    omega
  | ⟨1, _⟩ =>
    show 0 * 128 + 1 * (y 1).val = (y 1).val
    omega

end Cert.Kernel4Ideal.Body

end
-- ==== Proof.RopeGood.lean ====
module

public import proofs.«01_k».proof.Proof.RopeRows

/-! What the state carries from point to point, and that a point keeps it. -/

@[expose] public section

set_option maxRecDepth 65536

noncomputable section

namespace Cert.Kernel4Ideal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel4Ideal Cert.Kernel4Ideal.Gen

variable {F : FTy → Type} [FloatOps F]

local notation "𝕄" => MT nD τ sig Unit (Elt F) ℕ (UR sig nD τ) ℕ

variable (m : (ℓ : Loc nD τ sig) → Buf (Elt F) ℓ)

/-- An element of a row of the hidden rows, normalised. -/
def nrow (c : Dev nD) (r : ℕ) (k : Fin 2048) : F .bf16 :=
  normRows (chunk m c (r / 128)) (scale m c) (ix2 ⟨r % 128, Nat.mod_lt _ (by decide)⟩ k)
/-- A normalised row tile. -/
def tileN (c : Dev nD) (j : ℕ) : Vec F S1408x2048 .bf16 := fun y => nrow m c (1408 * j + (y 0).val) (y 1)

/-- What the state carries after `n` points: the rows that the last of them has normalised so far; the row tile in use; the product. -/
def Good (c : Dev nD) (n : ℕ) (s : St F) : Prop :=
  ∀ t : ℕ, t + 1 = n → t < 78 →
    (∀ y : S1408x2048.Idx, (y 0).val < 128 * min (2 * (t % 6) + 2) 11 → s.next y = nrow m c (1408 * tile t + (y 0).val) (y 1))
      ∧ (6 ≤ t → s.xn = tileN m c (t / 6 - 1) ∧ s.acc = prodOf (tileN m c (t / 6 - 1)) (wcol m c (t % 6)))

/-- The product block that a point leaves: its heads turned, or the product rounded. -/
def outO (c : Dev nD) (t : ℕ) : Vec F S1408x1024 .bf16 :=
  if (t - 7) % 6 < 3 then
    heads (prodOf (tileN m c ((t - 1) / 6 - 1)) (wcol m c ((t - 1) % 6))) (gcol m c ((t - 1) % 6)) (cosRows m c (((t - 1) / 6 - 1) % 3)) (sinRows m c (((t - 1) / 6 - 1) % 3))
  else rounded (prodOf (tileN m c ((t - 1) / 6 - 1)) (wcol m c ((t - 1) % 6)))

/-- When the first segment runs. -/
theorem cond1_iff (i : grid0.Coords) : cond1 i ↔ (i 0).val = 0 := by
  refine forall_pt (P := fun i => cond1 i ↔ (i 0).val = 0) ?_ i
  decide +kernel

theorem chunk_row (c : Dev nD) (T u : ℕ) (z : S128x2048.Idx) :
    normRows (chunk m c (11 * T + u)) (scale m c) z = nrow m c (1408 * T + (128 * u + (z 0).val)) (z 1) := by
  have hz : (z 0).val < 128 := (z 0).isLt
  unfold nrow
  rw [show (1408 * T + (128 * u + (z 0).val)) / 128 = 11 * T + u by omega]
  refine congrArg _ ?_
  funext a
  apply Fin.ext
  match a with
  | ⟨0, _⟩ =>
    show (z 0).val = (1408 * T + (128 * u + (z 0).val)) % 128
    omega
  | ⟨1, _⟩ => rfl

variable (c : Dev nD) (t : Fin cfg0.N)

/-- The rows normalised so far, with a point's two chunks put in. -/
abbrev nextOf (x : Vec F S1408x2048 .bf16) : Vec F S1408x2048 .bf16 :=
  VecWindow.put (VecWindow.put x ![128 * min (2 * (t.val % 6) + 0) 10, 0] S128x2048.size (normRows (blkX1 m c t) (blkP m c t)))
    ![128 * min (2 * (t.val % 6) + 1) 10, 0] S128x2048.size (normRows (blkX2 m c t) (blkP m c t))
theorem nextOf_good (x : Vec F S1408x2048 .bf16)
    (hx : t.val % 6 ≠ 0 → ∀ y : S1408x2048.Idx, (y 0).val < 256 * (t.val % 6) → x y = nrow m c (1408 * tile t.val + (y 0).val) (y 1))
    (y : S1408x2048.Idx) (hy : (y 0).val < 128 * min (2 * (t.val % 6) + 2) 11) :
    nextOf m c t x y = nrow m c (1408 * tile t.val + (y 0).val) (y 1) := by
  refine put_pair_2048 x (t.val % 6) (Nat.mod_lt _ (by decide)) _ _ (fun r k => nrow m c (1408 * tile t.val + r) k) ?_ ?_ ?_ y hy
  · intro z
    rw [blkX1_eq, blkP_eq]
    exact chunk_row m c _ _ z
  · intro z
    rw [blkX2_eq, blkP_eq]
    exact chunk_row m c _ _ z
  · intro y hy
    exact hx (by intro h; rw [h] at hy; exact absurd hy (by omega)) y hy

/-- The step of a state by a point's blocks. -/
abbrev stepAt (s : St F) : St F := s.step (grid0.coords t) (blkX1 m c t) (blkX2 m c t) (blkP m c t) (blkW m c t) (blkG m c t) (blkC m c t) (blkS m c t)

/-- The first six points normalise only. -/
theorem step_early (h : t.val < 6) (s : St F) : (stepAt m c t s).next = nextOf m c t s.next := by
  have hi := coords_val t
  unfold stepAt St.step St.step6 St.step5 St.step4 St.step3 St.step2
  rw [if_neg (by rw [cond6_iff]; omega), if_neg (by rw [cond5_iff]; omega), if_neg (by rw [cond4_iff]; omega), if_neg (by rw [cond3_iff]; omega),
    if_pos ((cond2_iff _).mpr (by omega)), off1_0, off1_1, hi]
  unfold St.step1
  split <;> rfl

/-- The points between advance if the row tile changes, turn or round the last product, multiply, and normalise. -/
theorem step_mid (h6 : 6 ≤ t.val) (h78 : t.val < 78) (s : St F) :
    stepAt m c t s = St.mk (if (t.val - 7) % 6 < 3 then turned s.o s.acc (blkG m c t) (blkC m c t) (blkS m c t) else rounded s.acc)
      (if t.val % 6 = 0 then s.next else s.xn)
      (nextOf m c t s.next) (prodOf (if t.val % 6 = 0 then s.next else s.xn) (blkW m c t)) := by
  have hi := coords_val t
  unfold stepAt St.step St.step6
  rw [if_neg (by rw [cond6_iff]; omega)]
  unfold St.step5
  by_cases hr : (t.val - 7) % 6 < 3
  · rw [if_neg (by rw [cond5_iff, hi]; omega), if_pos hr]
    unfold St.step4
    rw [if_pos ((cond4_iff _).mpr (by rw [hi]; omega)), off2_0, off2_1, hi]
    unfold St.step2
    rw [if_neg (by rw [cond2_iff]; omega)]
    unfold St.step1
    rw [if_neg (by rw [cond1_iff]; omega)]
    unfold St.step3
    by_cases h0 : t.val % 6 = 0
    · rw [if_pos ((cond3_iff _).mpr (by omega)), if_pos h0]
    · rw [if_neg (by rw [cond3_iff]; omega), if_neg h0]
  · rw [if_pos ((cond5_iff _).mpr (by rw [hi]; omega)), if_neg hr, off3_0, off3_1, hi]
    unfold St.step4
    rw [if_neg (by rw [cond4_iff, hi]; omega)]
    unfold St.step2
    rw [if_neg (by rw [cond2_iff]; omega)]
    unfold St.step1
    rw [if_neg (by rw [cond1_iff]; omega)]
    unfold St.step3
    by_cases h0 : t.val % 6 = 0
    · rw [if_pos ((cond3_iff _).mpr (by omega)), if_pos h0]
    · rw [if_neg (by rw [cond3_iff]; omega), if_neg h0]

/-- The last point rounds the last product only. -/
theorem step_last (h : t.val = 78) (s : St F) : stepAt m c t s = { s with o := rounded s.acc } := by
  have hi := coords_val t
  unfold stepAt St.step St.step6
  rw [if_pos ((cond6_iff _).mpr (by omega))]
  unfold St.step5
  rw [if_neg (by rw [cond5_iff]; omega)]
  unfold St.step4
  rw [if_neg (by rw [cond4_iff]; omega)]
  unfold St.step3
  rw [if_neg (by rw [cond3_iff]; omega)]
  unfold St.step2
  rw [if_neg (by rw [cond2_iff]; omega)]
  unfold St.step1
  rw [if_neg (by rw [cond1_iff]; omega)]

/-- The rows normalised before a point inside a row tile are the tile's. -/
theorem next_before (s : St F) (hs : Good m c t.val s) (h78 : t.val < 78) (h0 : t.val % 6 ≠ 0) (y : S1408x2048.Idx)
    (hy : (y 0).val < 256 * (t.val % 6)) : s.next y = nrow m c (1408 * tile t.val + (y 0).val) (y 1) := by
  have h := (hs (t.val - 1) (by omega) (by omega)).1 y (by omega)
  rw [show tile (t.val - 1) = tile t.val by unfold tile; omega] at h
  exact h

/-- A good state steps to a good state, and the body leaves the block that it should. -/
theorem good_step (s : St F) (hs : Good m c t.val s) :
    Good m c (t.val + 1) (stepAt m c t s) ∧ (7 ≤ t.val → (stepAt m c t s).o = outO m c t.val) := by
  have hN : t.val < 79 := lt_of_lt_of_eq t.isLt (show cfg0.N = 79 from N_0)
  by_cases h6 : t.val < 6
  · have he := step_early m c t h6 s
    refine ⟨fun p hp hp78 => ?_, fun h => absurd h (by omega)⟩
    obtain rfl : p = t.val := by omega
    refine ⟨fun y hy => ?_, fun h => absurd h (by omega)⟩
    rw [he]
    exact nextOf_good m c t _ (fun h0 y hy => next_before m c t s hs hp78 h0 y hy) y hy
  by_cases h78 : t.val < 78
  · rw [step_mid m c t (by omega) h78 s]
    have hxn : (if t.val % 6 = 0 then s.next else s.xn) = tileN m c (t.val / 6 - 1) := by
      split
      · next h0 =>
        funext y
        have hy : (y 0).val < 1408 := (y 0).isLt
        have h := (hs (t.val - 1) (by omega) (by omega)).1 y (by omega)
        rw [show tile (t.val - 1) = t.val / 6 - 1 by unfold tile; omega] at h
        exact h
      · next h0 =>
        have h := ((hs (t.val - 1) (by omega) (by omega)).2 (by omega)).1
        rw [show (t.val - 1) / 6 = t.val / 6 by omega] at h
        exact h
    refine ⟨fun p hp hp78 => ?_, fun h => ?_⟩
    · obtain rfl : p = t.val := by omega
      refine ⟨fun y hy => ?_, fun _ => ⟨hxn, ?_⟩⟩
      · exact nextOf_good m c t _ (fun h0 y hy => next_before m c t s hs hp78 h0 y hy) y hy
      · show prodOf (F := F) _ _ = _
        rw [hxn, blkW_eq m c t (by omega) h78]
    · show (if (t.val - 7) % 6 < 3 then turned s.o s.acc (blkG m c t) (blkC m c t) (blkS m c t) else rounded s.acc) = _
      unfold outO
      rw [((hs (t.val - 1) (by omega) (by omega)).2 (by omega)).2]
      by_cases hr : (t.val - 7) % 6 < 3
      · rw [if_pos hr, if_pos hr, turned_eq, blkG_eq m c t h, blkC_eq m c t h, blkS_eq m c t h, show min ((t.val - 1) % 6) 2 = (t.val - 1) % 6 by omega]
      · rw [if_neg hr, if_neg hr]
  · have h : t.val = 78 := by omega
    rw [step_last m c t h s]
    refine ⟨fun p hp hp78 => absurd hp (by omega), fun _ => ?_⟩
    show rounded s.acc = _
    unfold outO
    rw [((hs (t.val - 1) (by omega) (by omega)).2 (by omega)).2, if_neg (by omega)]

end Cert.Kernel4Ideal.Body

end
-- ==== Proof.RopeLaunched.lean ====
module

public import proofs.«01_k».proof.Proof.RopeGood
public import Idealize.ShloMosaic.Lib.Claim
public import Idealize.ShloMosaic.Lib.Pipeline.ArrRel

/-! The launch: what holds between two points, the body at a point, and the run. -/

@[expose] public section

set_option maxRecDepth 65536

noncomputable section

namespace Cert.Kernel4Ideal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel4Ideal Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev scM0_0 : Memref sig .tc .vmem S1408x2048 .bf16 := Memref.whole cc0_scratch0
abbrev scM0_1 : Memref sig .tc .vmem S1408x2048 .bf16 := Memref.whole cc0_scratch1
abbrev scM0_2 : Memref sig .tc .vmem S1408x1024 .f32 := Memref.whole cc0_scratch2

theorem PhiA0_eq (c : Dev nD) : (Pipeline.ΦA spec0 c : sProp 𝕄)
    = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA
  rw [scopedRest0_eq]
  simp only [scM0_0, scM0_1, scM0_2, owns_whole]
  try rfl

/-- The scratch buffers at a state's. -/
def Rest (c : Dev nD) (s : St F) : sProp 𝕄 :=
  iprop(owns (c : Thread nD τ) scM0_0 fullShare s.xn ∗ owns (c : Thread nD τ) scM0_1 fullShare s.next ∗ owns (c : Thread nD τ) scM0_2 fullShare s.acc)

/-- What holds after `n` points. -/
def PhiS (c : Dev nD) (n : ℕ) (_ : n ≤ cfg0.N) : sProp 𝕄 :=
  iprop((∃ s : St F, iprop(⌜Good m c n s⌝ ∗ Rest c s)) ∗ (∃ r, prngReg c r))

/-- The proof data with every block named: each input's buffer at its block. Of the output only part of this holds at every point. -/
def named (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outO m c t.val
  Φ t := PhiS m c t.val (Nat.le_of_lt_succ t.isLt)
  q w := Pipeline.shareOf spec0 w
  owed _ := 0

/-- Of the product's block: from the seventh point on it is the last product, turned or rounded. -/
def RelO (c : Dev nD) (t : Fin cfg0.N) (X : Vec F S1408x1024 .bf16) : Prop := 7 ≤ t.val → X = outO m c t.val

/-- What is said of the output's block in place of naming it. -/
def said (c : Dev nD) : (w : Fin cfg0.W) → Option (Fin cfg0.N → (Y X : (cfg0.win w).block.Idx → Elt F (cfg0.win w).elt) → Prop)
  | ⟨0, _⟩ => none
  | ⟨1, _⟩ => none
  | ⟨2, _⟩ => none
  | ⟨3, _⟩ => none
  | ⟨4, _⟩ => none
  | ⟨5, _⟩ => none
  | ⟨6, _⟩ => none
  | ⟨7, _⟩ => some fun t _ X => RelO m c t X

/-- The proof data. -/
def rdat (c : Dev nD) : RDat τ (Elt F) Unit ℕ (UR sig nD τ) ℕ cfg0 c := (named m c).toR.override (said m c)

theorem named_A (c : Dev nD) (w : Fin cfg0.W) : (named m c).A w = V m c (Pipeline.arrRef spec0 w) := by
  dsimp only [named]

theorem A_eq (c : Dev nD) (w : Fin cfg0.W) : (rdat m c).A w = V m c (Pipeline.arrRef spec0 w) := named_A m c w

theorem named_after0 (c : Dev nD) (t : Fin cfg0.N) : (named m c).after 0 t = iblk m c 0 t := by dsimp only [named]
theorem finds0 (c : Dev nD) (t : Fin cfg0.N) (X : Vec F S128x2048 .f32) (h : (rdat m c).Finds 0 t X) : X = blkX1 m c t := by
  obtain ⟨d, hd⟩ := (named m c).toR_finds 0 t X ((RDat.override_finds (named m c).toR (ovr := said m c) (w := 0) rfl t X).mp h)
  exact hd.trans (before0_0_of m (named m c) (named_A m c 0) (named_after0 m c) t d)
theorem kept0 (c : Dev nD) (t : Fin cfg0.N) (Y : (cfg0.win 0).block.Idx → Elt F (cfg0.win 0).elt) : (rdat m c).after 0 t Y (blkX1 m c t) := by
  show (named m c).Leaves 0 t (blkX1 m c t)
  exact (Dat.Leaves.live_iff _ (.inl rfl)).mpr (named_after0 m c t).symm
theorem named_after1 (c : Dev nD) (t : Fin cfg0.N) : (named m c).after 1 t = iblk m c 1 t := by dsimp only [named]
theorem finds1 (c : Dev nD) (t : Fin cfg0.N) (X : Vec F S128x2048 .f32) (h : (rdat m c).Finds 1 t X) : X = blkX2 m c t := by
  obtain ⟨d, hd⟩ := (named m c).toR_finds 1 t X ((RDat.override_finds (named m c).toR (ovr := said m c) (w := 1) rfl t X).mp h)
  exact hd.trans (before0_1_of m (named m c) (named_A m c 1) (named_after1 m c) t d)
theorem kept1 (c : Dev nD) (t : Fin cfg0.N) (Y : (cfg0.win 1).block.Idx → Elt F (cfg0.win 1).elt) : (rdat m c).after 1 t Y (blkX2 m c t) := by
  show (named m c).Leaves 1 t (blkX2 m c t)
  exact (Dat.Leaves.live_iff _ (.inl rfl)).mpr (named_after1 m c t).symm
theorem named_after2 (c : Dev nD) (t : Fin cfg0.N) : (named m c).after 2 t = iblk m c 2 t := by dsimp only [named]
theorem finds2 (c : Dev nD) (t : Fin cfg0.N) (X : Vec F S1x2048 .f32) (h : (rdat m c).Finds 2 t X) : X = blkP m c t := by
  obtain ⟨d, hd⟩ := (named m c).toR_finds 2 t X ((RDat.override_finds (named m c).toR (ovr := said m c) (w := 2) rfl t X).mp h)
  exact hd.trans (before0_2_of m (named m c) (named_A m c 2) (named_after2 m c) t d)
theorem kept2 (c : Dev nD) (t : Fin cfg0.N) (Y : (cfg0.win 2).block.Idx → Elt F (cfg0.win 2).elt) : (rdat m c).after 2 t Y (blkP m c t) := by
  show (named m c).Leaves 2 t (blkP m c t)
  exact (Dat.Leaves.live_iff _ (.inl rfl)).mpr (named_after2 m c t).symm
theorem named_after3 (c : Dev nD) (t : Fin cfg0.N) : (named m c).after 3 t = iblk m c 3 t := by dsimp only [named]
theorem finds3 (c : Dev nD) (t : Fin cfg0.N) (X : Vec F S1x2048x1024 .bf16) (h : (rdat m c).Finds 3 t X) : X = blkW m c t := by
  obtain ⟨d, hd⟩ := (named m c).toR_finds 3 t X ((RDat.override_finds (named m c).toR (ovr := said m c) (w := 3) rfl t X).mp h)
  exact hd.trans (before0_3_of m (named m c) (named_A m c 3) (named_after3 m c) t d)
theorem kept3 (c : Dev nD) (t : Fin cfg0.N) (Y : (cfg0.win 3).block.Idx → Elt F (cfg0.win 3).elt) : (rdat m c).after 3 t Y (blkW m c t) := by
  show (named m c).Leaves 3 t (blkW m c t)
  exact (Dat.Leaves.live_iff _ (.inl rfl)).mpr (named_after3 m c t).symm
theorem named_after4 (c : Dev nD) (t : Fin cfg0.N) : (named m c).after 4 t = iblk m c 4 t := by dsimp only [named]
theorem finds4 (c : Dev nD) (t : Fin cfg0.N) (X : Vec F S1x1024 .f32) (h : (rdat m c).Finds 4 t X) : X = blkG m c t := by
  obtain ⟨d, hd⟩ := (named m c).toR_finds 4 t X ((RDat.override_finds (named m c).toR (ovr := said m c) (w := 4) rfl t X).mp h)
  exact hd.trans (before0_4_of m (named m c) (named_A m c 4) (named_after4 m c) t d)
theorem kept4 (c : Dev nD) (t : Fin cfg0.N) (Y : (cfg0.win 4).block.Idx → Elt F (cfg0.win 4).elt) : (rdat m c).after 4 t Y (blkG m c t) := by
  show (named m c).Leaves 4 t (blkG m c t)
  exact (Dat.Leaves.live_iff _ (.inl rfl)).mpr (named_after4 m c t).symm
theorem named_after5 (c : Dev nD) (t : Fin cfg0.N) : (named m c).after 5 t = iblk m c 5 t := by dsimp only [named]
theorem finds5 (c : Dev nD) (t : Fin cfg0.N) (X : Vec F S1408x128 .f32) (h : (rdat m c).Finds 5 t X) : X = blkC m c t := by
  obtain ⟨d, hd⟩ := (named m c).toR_finds 5 t X ((RDat.override_finds (named m c).toR (ovr := said m c) (w := 5) rfl t X).mp h)
  exact hd.trans (before0_5_of m (named m c) (named_A m c 5) (named_after5 m c) t d)
theorem kept5 (c : Dev nD) (t : Fin cfg0.N) (Y : (cfg0.win 5).block.Idx → Elt F (cfg0.win 5).elt) : (rdat m c).after 5 t Y (blkC m c t) := by
  show (named m c).Leaves 5 t (blkC m c t)
  exact (Dat.Leaves.live_iff _ (.inl rfl)).mpr (named_after5 m c t).symm
theorem named_after6 (c : Dev nD) (t : Fin cfg0.N) : (named m c).after 6 t = iblk m c 6 t := by dsimp only [named]
theorem finds6 (c : Dev nD) (t : Fin cfg0.N) (X : Vec F S1408x128 .f32) (h : (rdat m c).Finds 6 t X) : X = blkS m c t := by
  obtain ⟨d, hd⟩ := (named m c).toR_finds 6 t X ((RDat.override_finds (named m c).toR (ovr := said m c) (w := 6) rfl t X).mp h)
  exact hd.trans (before0_6_of m (named m c) (named_A m c 6) (named_after6 m c) t d)
theorem kept6 (c : Dev nD) (t : Fin cfg0.N) (Y : (cfg0.win 6).block.Idx → Elt F (cfg0.win 6).elt) : (rdat m c).after 6 t Y (blkS m c t) := by
  show (named m c).Leaves 6 t (blkS m c t)
  exact (Dat.Leaves.live_iff _ (.inl rfl)).mpr (named_after6 m c t).symm

/-- What the body is called with at a point, -/
def bodyPre (c : Dev nD) (t : Fin cfg0.N) (Y : (w : Fin cfg0.W) → (cfg0.win w).block.Idx → Elt F (cfg0.win w).elt) : sProp 𝕄 :=
  iprop((rdat m c).Φ t.castSucc ∗ (rdat m c).owesAt () t.castSucc
    ∗ owns (c : Thread nD τ) (st0_0 t) fullShare (Y 0)
    ∗ owns (c : Thread nD τ) (st0_1 t) fullShare (Y 1)
    ∗ owns (c : Thread nD τ) (st0_2 t) fullShare (Y 2)
    ∗ owns (c : Thread nD τ) (st0_3 t) fullShare (Y 3)
    ∗ owns (c : Thread nD τ) (st0_4 t) fullShare (Y 4)
    ∗ owns (c : Thread nD τ) (st0_5 t) fullShare (Y 5)
    ∗ owns (c : Thread nD τ) (st0_6 t) fullShare (Y 6)
    ∗ owns (c : Thread nD τ) (st0_7 t) fullShare (Y 7))

/-- and what it returns. -/
def bodyPost (c : Dev nD) (t : Fin cfg0.N) (Y : (w : Fin cfg0.W) → (cfg0.win w).block.Idx → Elt F (cfg0.win w).elt) : sProp 𝕄 :=
  iprop((rdat m c).Φ t.succ ∗ (rdat m c).owesAt () t.succ
    ∗ (∃ X, ⌜(rdat m c).after 0 t (Y 0) X⌝ ∗ owns (c : Thread nD τ) (st0_0 t) fullShare X)
    ∗ (∃ X, ⌜(rdat m c).after 1 t (Y 1) X⌝ ∗ owns (c : Thread nD τ) (st0_1 t) fullShare X)
    ∗ (∃ X, ⌜(rdat m c).after 2 t (Y 2) X⌝ ∗ owns (c : Thread nD τ) (st0_2 t) fullShare X)
    ∗ (∃ X, ⌜(rdat m c).after 3 t (Y 3) X⌝ ∗ owns (c : Thread nD τ) (st0_3 t) fullShare X)
    ∗ (∃ X, ⌜(rdat m c).after 4 t (Y 4) X⌝ ∗ owns (c : Thread nD τ) (st0_4 t) fullShare X)
    ∗ (∃ X, ⌜(rdat m c).after 5 t (Y 5) X⌝ ∗ owns (c : Thread nD τ) (st0_5 t) fullShare X)
    ∗ (∃ X, ⌜(rdat m c).after 6 t (Y 6) X⌝ ∗ owns (c : Thread nD τ) (st0_6 t) fullShare X)
    ∗ (∃ X, ⌜(rdat m c).after 7 t (Y 7) X⌝ ∗ owns (c : Thread nD τ) (st0_7 t) fullShare X))

theorem PhiS_castSucc (c : Dev nD) (t : Fin cfg0.N) :
    (rdat m c).Φ t.castSucc = PhiS m c t.val (Nat.le_of_lt t.isLt) := by
  show (named m c).Φ t.castSucc = _
  dsimp only [named]; exact Pipeline.Dat.Φ_castSucc (PhiS m c) t

/-- The body at any point. -/
theorem sound_body (c : Dev nD) (t : Fin cfg0.N) (Y : (w : Fin cfg0.W) → (cfg0.win w).block.Idx → Elt F (cfg0.win w).elt) (hY : ∀ w, (rdat m c).Finds w t (Y w)) :
    bodyPre m c t Y ⊢ wp frame (wpE (defs₀ (F := F)) Variants.none c none) Set.univ (bodyAt0 t) (fun _ => bodyPost m c t Y) := by
  have e0 : Y 0 = blkX1 m c t := finds0 m c t _ (hY 0)
  have e1 : Y 1 = blkX2 m c t := finds1 m c t _ (hY 1)
  have e2 : Y 2 = blkP m c t := finds2 m c t _ (hY 2)
  have e3 : Y 3 = blkW m c t := finds3 m c t _ (hY 3)
  have e4 : Y 4 = blkG m c t := finds4 m c t _ (hY 4)
  have e5 : Y 5 = blkC m c t := finds5 m c t _ (hY 5)
  have e6 : Y 6 = blkS m c t := finds6 m c t _ (hY 6)
  unfold bodyPre bodyPost bodyAt0
  rw [e0, e1, e2, e3, e4, e5, e6]
  rw [show (rdat m c).owesAt () t.succ = (rdat m c).owesAt () t.castSucc from rfl, PhiS_castSucc]
  rw [show (rdat m c).Φ t.succ = PhiS m c (t.val + 1) t.isLt from rfl]
  unfold PhiS Rest
  iintro ⟨⟨⟨%s, %hs, H0, H1, H2⟩, Hg⟩, Ho, A0, A1, A2, A3, A4, A5, A6, A7⟩
  have hstep := good_step m c t { s with o := Y 7 } hs
  iapply (wp_wand_r (Q := fun _ => Held c _ _ _ _ _ _ _ _ _ _ _ (blkX1 m c t) (blkX2 m c t) (blkP m c t) (blkW m c t) (blkG m c t) (blkC m c t) (blkS m c t) (stepAt m c t { s with o := Y 7 })) frame (wpE (defs₀ (F := F)) Variants.none c none))
  isplitl [A0 A1 A2 A3 A4 A5 A6 A7 H0 H1 H2]
  · iapply (body_triple c (grid0.coords t) _ _ _ _ _ _ _ _ _ _ _ _ _ _ _ _ _ _ _ _ _ _ (blkX1 m c t) (blkX2 m c t) (blkP m c t) (blkW m c t) (blkG m c t) (blkC m c t) (blkS m c t) Set.univ { s with o := Y 7 })
    unfold Held
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    iframe H0 H1 H2
  · generalize stepAt m c t _ = s' at hstep ⊢
    iintro %_ HH
    unfold Held
    icases HH with ⟨A0, A1, A2, A3, A4, A5, A6, A7, H0, H1, H2⟩
    isplitl [Hg H0 H1 H2]
    · isplitr [Hg]
      · iexists s'
        isplitr
        · ipureintro; exact hstep.1
        · iframe H0 H1 H2
      · iexact Hg
    isplitl [Ho]; · iexact Ho
    isplitl [A0]
    · iexists (blkX1 m c t)
      isplitr
      · ipureintro; exact kept0 m c t _
      · iexact A0
    isplitl [A1]
    · iexists (blkX2 m c t)
      isplitr
      · ipureintro; exact kept1 m c t _
      · iexact A1
    isplitl [A2]
    · iexists (blkP m c t)
      isplitr
      · ipureintro; exact kept2 m c t _
      · iexact A2
    isplitl [A3]
    · iexists (blkW m c t)
      isplitr
      · ipureintro; exact kept3 m c t _
      · iexact A3
    isplitl [A4]
    · iexists (blkG m c t)
      isplitr
      · ipureintro; exact kept4 m c t _
      · iexact A4
    isplitl [A5]
    · iexists (blkC m c t)
      isplitr
      · ipureintro; exact kept5 m c t _
      · iexact A5
    isplitl [A6]
    · iexists (blkS m c t)
      isplitr
      · ipureintro; exact kept6 m c t _
      · iexact A6
    iexists s'.o
    isplitr
    · ipureintro; exact hstep.2
    · iexact A7

theorem defs₀_row (t : Fin cfg0.N) :
    defs₀ (F := F) .tc cfg0.body (cfg0.bodyArgs t (cfg0.slots t)) = bodyAt0 t := by
  unfold defs₀; rw [Defs.onTc_tc]

theorem body_obligation (c : Dev nD) : (rdat (F := F) m c).BodyObligation (defs₀ (F := F)) Variants.none () Set.univ := fun t Y hY => by
  rw [bigSep_W0, bigSep_W0, defs₀_row]
  exact sound_body m c t Y hY

theorem hin (c : Dev nD) : Pipeline.ΦA spec0 c ⊢ (rdat m c).Φ 0 := by
  rw [show (rdat m c).Φ 0 = PhiS m c 0 (Nat.zero_le _) from rfl, PhiA0_eq]
  unfold PhiS Rest
  iintro ⟨⟨⟨%d0, H0⟩, ⟨%d1, H1⟩, ⟨%d2, H2⟩⟩, Hg⟩
  isplitr [Hg]
  · iexists (⟨outO m c 0, d0, d1, d2⟩ : St F)
    isplitr
    · ipureintro
      exact fun p hp _ => absurd hp (Nat.succ_ne_zero _)
    · iframe H0 H1 H2
  · iexact Hg

theorem hout (c : Dev nD) : (rdat m c).Φ (Fin.last cfg0.N) ⊢ Pipeline.ΦA spec0 c := by
  rw [show (rdat m c).Φ (Fin.last cfg0.N) = PhiS m c cfg0.N le_rfl from rfl, PhiA0_eq]
  unfold PhiS Rest
  iintro ⟨⟨%s, -, H0, H1, H2⟩, Hg⟩
  iframe Hg
  isplitl [H0]
  · iexists _; iexact H0
  isplitl [H1]
  · iexists _; iexact H1
  iexists _; iexact H2

set_option backward.isDefEq.respectTransparency.types false in
/-- The run: every array at what the points may have written back to it, every counter at zero. -/
theorem run_main_quiescent : θ_run defs (onTc (τ := τ) (main (F := F))) (s₀ m ρ) (fun r => (RDat.FramePost cfg0 (rdat m) (V m)) r ∧ r.2.sem = fun _ => 0) :=
  Pipeline.RDat.θ_run_frame_track_shared (Q' := _) cfgs (0 : Fin 1) launch₀0 defs₀ Variants.none (rdat m) m ρ main
    (hbody := body_obligation m) (hq := fun _ _ _ => rfl)
    (howed := fun _ _ => rfl) (V := V m) (hmain := hmain m Variants.none) (hA := A_eq m) (hin := hin m) (hout := hout m)

/-- The arguments end unchanged, and every counter at zero. -/
theorem frame_quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨
      (RDat.FramePost.arr_in h.1 c 1 rfl).trans ((A_eq m c 1).trans (V_main_arg0 m c)),
      ((h.1 c).2 main_arg1 (Pipeline.mem_restRefs_of main_arg1 (by decide) (by decide))).trans (V_main_arg1 m c),
      (RDat.FramePost.arr_in h.1 c 3 rfl).trans ((A_eq m c 3).trans (V_main_arg2 m c)),
      (RDat.FramePost.arr_in h.1 c 4 rfl).trans ((A_eq m c 4).trans (V_main_arg3 m c)),
      (RDat.FramePost.arr_in h.1 c 5 rfl).trans ((A_eq m c 5).trans (V_main_arg4 m c)),
      (RDat.FramePost.arr_in h.1 c 6 rfl).trans ((A_eq m c 6).trans (V_main_arg5 m c))⟩, h.2⟩) (run_main_quiescent m ρ)

end Cert.Kernel4Ideal.Body

end
-- ==== Proof.RopeSame.lean ====
module

public import proofs.«01_k».proof.Proof.Gen.Kernel4.Frame
public import proofs.«01_k».proof.Proof.RopeLaunched

/-! The attention in-projection's kernel and its idealisation are one program text: the frame of the one is the frame of the other. -/

@[expose] public section

set_option maxRecDepth 65536

noncomputable section

namespace Cert.Kernel4Ideal.Body

open Idealize.ShloMosaic Idealize.SL.Sem

variable {F : FTy → Type} [FloatOps F]

theorem same_bodies : (Cert.Kernel4Ideal.defs₀ (F := F)) = (Cert.Kernel4.defs₀ (F := F)) := by
  unfold Cert.Kernel4Ideal.defs₀ Cert.Kernel4.defs₀
  refine congrArg (Defs.onTc (sig := Cert.Kernel4.sig)) ?_
  funext x y
  match x, y with
  | ⟨0, _⟩, (t, s) => rfl
  | ⟨_ + 1, h⟩, _ => exact absurd h (Nat.not_lt.2 (Nat.le_add_left _ _))

theorem same_defs : (Cert.Kernel4Ideal.defs (F := F)) = (Cert.Kernel4.defs (F := F)) := by
  unfold Cert.Kernel4Ideal.defs Cert.Kernel4.defs
  exact congrArg (Idealize.ShloMosaic.Pipeline.defs Cert.Kernel4.pcfgs) same_bodies

theorem same_main : (Cert.Kernel4Ideal.main (F := F)) = (Cert.Kernel4.main (F := F)) := rfl

/-- The kernel's arguments end unchanged, and every counter at zero. -/
theorem frame_kernel (m : (ℓ : Loc Cert.Kernel4.nD Cert.Kernel4.τ Cert.Kernel4.sig) → Buf (Elt F) ℓ) (ρ : Dev Cert.Kernel4.nD → PrngReg) :
    θ_run (Cert.Kernel4.defs (F := F)) (onTc (τ := Cert.Kernel4.τ) (Cert.Kernel4.main (F := F))) ⟨m, fun _ => 0, ρ⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0) := by
  rw [← same_defs, ← same_main]
  exact frame_quiescent m ρ

end Cert.Kernel4Ideal.Body

end
-- ==== Proof.InProject.lean ====
module

public import proofs.«01_k».proof.Proof.Residual

/-! The in-projection of a mixer over the extended reals: each row normalised, then times two weight matrices. -/

@[expose] public section

set_option maxRecDepth 65536

noncomputable section

namespace Cert.Project

open Idealize.ShloMosaic Idealize.ShloMosaic.TcCoe Idealize.ShloMosaic.Tactic Idealize.SL.Sem

abbrev Rows := (⟨2, ![16896, 2048]⟩ : Shape).Idx → EReal
abbrev Gain := (⟨1, ![2048]⟩ : Shape).Idx → EReal
abbrev Weights := (⟨3, ![2, 6144, 2048]⟩ : Shape).Idx → EReal
abbrev LowRank := (⟨3, ![2, 128, 2048]⟩ : Shape).Idx → EReal

/-- An element of the normalised row `R`. -/
def normed (h : Rows) (p : Gain) (R : Fin 16896) (k : Fin 2048) : EReal :=
  h (ix2 R k) * Residual.inverseRms (fun d => h (ix2 R d)) * p (ix1 k)

/-- The projection: the normalised rows times the first layer's weights. -/
def product (h : Rows) (p : Gain) (w : Weights) : (⟨2, ![16896, 6144]⟩ : Shape).Idx → EReal :=
  fun y => ∑ d : Fin 2048, normed h p (y 0) d * w (ix3 0 (y 1) d)

/-- The low-rank projection. -/
def lowRank (h : Rows) (p : Gain) (l : LowRank) : (⟨2, ![16896, 128]⟩ : Shape).Idx → EReal :=
  fun y => ∑ d : Fin 2048, normed h p (y 0) d * l (ix3 0 (y 1) d)

theorem product_at (h : Rows) (p : Gain) (w : Weights) (R : Fin 16896) (C : Fin 6144) :
    product h p w (ix2 R C) = ∑ d : Fin 2048, normed h p R d * w (ix3 0 C d) := rfl
theorem lowRank_at (h : Rows) (p : Gain) (l : LowRank) (R : Fin 16896) (C : Fin 128) :
    lowRank h p l (ix2 R C) = ∑ d : Fin 2048, normed h p R d * l (ix3 0 C d) := rfl

end Cert.Project

end
-- ==== Proof.RopeMath.lean ====
module

public import proofs.«01_k».proof.Proof.InProject

/-! The attention in-projection over the extended reals: the product of the normalised rows, its first heads normalised and turned. -/

@[expose] public section

set_option maxRecDepth 65536

noncomputable section

namespace Cert.Turn

open Idealize.ShloMosaic Idealize.ShloMosaic.TcCoe Idealize.ShloMosaic.Tactic Idealize.SL.Sem

abbrev Weights := (⟨3, ![2, 2048, 6144]⟩ : Shape).Idx → EReal
abbrev HeadGain := (⟨2, ![1, 3072]⟩ : Shape).Idx → EReal
abbrev Table := (⟨2, ![4224, 128]⟩ : Shape).Idx → EReal

/-- An entry of the normalised rows times the first layer's weights. -/
def project (h : Project.Rows) (p : Project.Gain) (w : Weights) (R : Fin 16896) (C : Fin 6144) : EReal :=
  ∑ d : Fin 2048, Project.normed h p R d * w (ix3 0 d C)

/-- The inverse of the root mean square of a head. -/
def inverseRms (f : Fin 128 → EReal) : EReal :=
  Ideal.rsqrt (Ideal.div (∑ l : Fin 128, f l * f l) (Ideal.ofBits .f32 0x43000000#32) + Ideal.ofBits .f32 0x358637BD#32)

/-- A head, normalised and scaled. -/
def unit (f g : Fin 128 → EReal) (l : Fin 128) : EReal := f l * inverseRms f * g l

/-- The lane that a lane is turned with: the same place of the other half. -/
def other (l : Fin 128) : Fin 128 := ⟨(l.val + 64) % 128, Nat.mod_lt _ (by decide)⟩

/-- A head, normalised, scaled and turned. -/
def turn (f g cs sn : Fin 128 → EReal) (l : Fin 128) : EReal := unit f g l * cs l + unit f g (other l) * sn l

/-- The column of a lane of a head. -/
def col (k : Fin 24) (l : Fin 128) : Fin 6144 := ⟨k.val * 128 + l.val, by omega⟩
def gcol (k : Fin 24) (l : Fin 128) : Fin 3072 := ⟨k.val * 128 + l.val, by omega⟩

/-- A lane of a head of a row, turned by the row's token. -/
def turned (h : Project.Rows) (p : Project.Gain) (w : Weights) (g : HeadGain) (cs sn : Table) (R : Fin 16896) (k : Fin 24) (l : Fin 128) : EReal :=
  turn (fun l => project h p w R (col k l)) (fun l => g (ix2 0 (gcol k l)))
    (fun l => cs (ix2 ⟨R.val % 4224, Nat.mod_lt _ (by decide)⟩ l)) (fun l => sn (ix2 ⟨R.val % 4224, Nat.mod_lt _ (by decide)⟩ l)) l

/-- The result: the first twenty-four heads turned, the other columns as they are. -/
def result (h : Project.Rows) (p : Project.Gain) (w : Weights) (g : HeadGain) (cs sn : Table) : (⟨2, ![16896, 6144]⟩ : Shape).Idx → EReal :=
  fun y => if hc : (y 1).val < 3072 then turned h p w g cs sn (y 0) ⟨(y 1).val / 128, by omega⟩ ⟨(y 1).val % 128, Nat.mod_lt _ (by decide)⟩
    else project h p w (y 0) (y 1)

theorem result_head (h : Project.Rows) (p : Project.Gain) (w : Weights) (g : HeadGain) (cs sn : Table) (R : Fin 16896) (C : Fin 6144) (hc : C.val < 3072) :
    result h p w g cs sn (ix2 R C) = turned h p w g cs sn R ⟨C.val / 128, by omega⟩ ⟨C.val % 128, Nat.mod_lt _ (by decide)⟩ := dif_pos hc
theorem result_rest (h : Project.Rows) (p : Project.Gain) (w : Weights) (g : HeadGain) (cs sn : Table) (R : Fin 16896) (C : Fin 6144) (hc : ¬C.val < 3072) :
    result h p w g cs sn (ix2 R C) = project h p w R C := dif_neg hc

end Cert.Turn

end
-- ==== Proof.RopeReference.lean ====
module

public import proofs.«01_k».proof.Proof.RopeMath
public import proofs.«01_k».proof.Proof.Gen.Reference4Ideal.Run

/-! What the reference of the attention in-projection returns. -/

@[expose] public section

set_option maxRecDepth 65536

noncomputable section

namespace Cert.Reference4Ideal.Value

open Idealize.ShloMosaic Idealize.ShloMosaic.TcCoe Idealize.ShloMosaic.Tactic Idealize.SL.Sem

open Cert.Reference4Ideal Cert.Reference4Ideal.Gen

variable {F : FTy → Type} [FloatOps F]

def rows (h : Vec F S16896x2048 .f32) (p : Vec F S2048 .f32) : Vec F S16896x2048 .f32 :=
  mulf (mulf h (broadcastInDim S16896x2048 ![0, 1] bcast_S16896x1_S16896x2048_0_1 (Host.rsqrt (addf (Host.divf (broadcastInDim S16896x1 ![0] bcast_S16896_S16896x1_0
      (Host.reduceAdd (mulf h h) (constant S_ .f32 0x00000000#32) reducesTo_S16896x2048_S16896_d1 h_S_)) (broadcastInDim S16896x1 ![] bcast_S_S16896x1 (constant S_ .f32 0x45000000#32)))
      (broadcastInDim S16896x1 ![] bcast_S_S16896x1 (constant S_ .f32 0x358637BD#32))))))
    (broadcastInDim S16896x2048 ![0, 1] bcast_S1x2048_S16896x2048_0_1 (broadcastInDim S1x2048 ![1] bcast_S2048_S1x2048_1 p))

def times (n : Vec F S16896x2048 .f32) (w : Vec F S2x2048x6144 .bf16) : Vec F S16896x6144 .f32 :=
  Host.dotGeneral dot_S16896x2048_S2048x6144_S16896x6144_1_0_0_1_n_n none n
    (extf .f32 (shapeCast _ (extractStridedSlice S1x2048x6144 ![0, 0, 0] w slices_S2x2048x6144_S1x2048x6144_0_0_0) shapeCasts_S1x2048x6144_S2048x6144) bitsLt_bf16_f32)

/-- The first columns of a product, by batch row, token, head and lane. -/
def split (x : Vec F S16896x6144 .f32) : Vec F S4x4224x24x128 .f32 :=
  shapeCast _ (extractStridedSlice S16896x3072 ![0, 0] x slices_S16896x6144_S16896x3072_0_0) shapeCasts_S16896x3072_S4x4224x24x128

/-- The heads normalised and scaled. -/
def units (q : Vec F S4x4224x24x128 .f32) (g : Vec F S1x3072 .f32) : Vec F S4x4224x24x128 .f32 :=
  mulf (mulf q (broadcastInDim S4x4224x24x128 ![0, 1, 2, 3] bcast_S4x4224x24x1_S4x4224x24x128_0_1_2_3 (Host.rsqrt (addf (Host.divf
      (broadcastInDim S4x4224x24x1 ![0, 1, 2] bcast_S4x4224x24_S4x4224x24x1_0_1_2 (Host.reduceAdd (mulf q q) (constant S_ .f32 0x00000000#32) reducesTo_S4x4224x24x128_S4x4224x24_d3 h_S_))
      (broadcastInDim S4x4224x24x1 ![] bcast_S_S4x4224x24x1 (constant S_ .f32 0x43000000#32))) (broadcastInDim S4x4224x24x1 ![] bcast_S_S4x4224x24x1 (constant S_ .f32 0x358637BD#32))))))
    (broadcastInDim S4x4224x24x128 ![0, 1, 2, 3] bcast_S1x1x24x128_S4x4224x24x128_0_1_2_3 (broadcastInDim S1x1x24x128 ![2, 3] bcast_S24x128_S1x1x24x128_2_3 (shapeCast _ g shapeCasts_S1x3072_S24x128)))

/-- The halves of each head changed over. -/
def swapped (u : Vec F S4x4224x24x128 .f32) : Vec F S4x4224x24x128 .f32 :=
  concatenate S4x4224x24x128 3 [⟨S4x4224x24x64, extractStridedSlice S4x4224x24x64 ![0, 0, 0, 64] u slices_S4x4224x24x128_S4x4224x24x64_0_0_0_64⟩,
    ⟨S4x4224x24x64, extractStridedSlice S4x4224x24x64 ![0, 0, 0, 0] u slices_S4x4224x24x128_S4x4224x24x64_0_0_0_0⟩] concatenates_S4x4224x24x64_S4x4224x24x64_S4x4224x24x128_d3

/-- A table for every batch row and head. -/
def spread (t : Vec F S4224x128 .f32) : Vec F S4x4224x24x128 .f32 :=
  broadcastInDim S4x4224x24x128 ![0, 1, 2, 3] bcast_S1x4224x1x128_S4x4224x24x128_0_1_2_3 (broadcastInDim S1x4224x1x128 ![1, 3] bcast_S4224x128_S1x4224x1x128_1_3 t)

/-- The turned heads beside the other columns, rounded. -/
def joined (q : Vec F S4x4224x24x128 .f32) (x : Vec F S16896x6144 .f32) : Vec F S16896x6144 .bf16 :=
  truncf .bf16 (concatenate S16896x6144 1 [⟨S16896x3072, shapeCast _ q shapeCasts_S4x4224x24x128_S16896x3072⟩,
    ⟨S16896x3072, extractStridedSlice S16896x3072 ![0, 3072] x slices_S16896x6144_S16896x3072_0_3072⟩] concatenates_S16896x3072_S16896x3072_S16896x6144_d1) bitsLt_bf16_f32

/-- The reference as one term. -/
def whole (h : Vec F S16896x2048 .f32) (p : Vec F S2048 .f32) (w : Vec F S2x2048x6144 .bf16) (g : Vec F S1x3072 .f32) (cs sn : Vec F S4224x128 .f32) : Vec F S16896x6144 .bf16 :=
  joined (addf (mulf (units (split (times (rows h p) w)) g) (spread cs)) (mulf (swapped (units (split (times (rows h p) w)) g)) (spread sn))) (times (rows h p) w)

theorem rows_at (h : Vec Ideal S16896x2048 .f32) (p : Vec Ideal S2048 .f32) (R : Fin 16896) (k : Fin 2048) :
    rows h p (ix2 R k) = Project.normed h p R k := by
  unfold Project.normed Residual.inverseRms
  pointwise [rows]

theorem times_at (n : Vec Ideal S16896x2048 .f32) (w : Vec Ideal S2x2048x6144 .bf16) (R : Fin 16896) (C : Fin 6144) :
    times n w (ix2 R C) = ∑ d : Fin 2048, (n (ix2 R d) : EReal) * w (ix3 0 d C) := by
  pointwise [times]

theorem product_at (h : Vec Ideal S16896x2048 .f32) (p : Vec Ideal S2048 .f32) (w : Vec Ideal S2x2048x6144 .bf16) (R : Fin 16896) (C : Fin 6144) :
    times (rows h p) w (ix2 R C) = Turn.project h p w R C := by
  unfold Turn.project
  rw [times_at]
  simp only [rows_at]

theorem split_at (x : Vec Ideal S16896x6144 .f32) (b : Fin 4) (r : Fin 4224) (k : Fin 24) (l : Fin 128) :
    split x (ix4 b r k l) = x (ix2 ⟨b.val * 4224 + r.val, by omega⟩ (Turn.col k l)) := by
  unfold Turn.col
  pointwise [split]

theorem units_at (q : Vec Ideal S4x4224x24x128 .f32) (g : Vec Ideal S1x3072 .f32) (b : Fin 4) (r : Fin 4224) (k : Fin 24) (l : Fin 128) :
    units q g (ix4 b r k l) = Turn.unit (fun l => q (ix4 b r k l)) (fun l => g (ix2 0 (Turn.gcol k l))) l := by
  unfold Turn.unit Turn.inverseRms Turn.gcol
  pointwise [units]

theorem swapped_at (u : Vec Ideal S4x4224x24x128 .f32) (b : Fin 4) (r : Fin 4224) (k : Fin 24) (l : Fin 128) :
    swapped u (ix4 b r k l) = u (ix4 b r k (Turn.other l)) := by
  unfold Turn.other
  pointwise [swapped]
  split
  · refine congrArg (fun z => u (ix4 b r k z)) (Fin.ext ?_)
    show 64 + l.val = (l.val + 64) % 128
    omega
  · refine congrArg (fun z => u (ix4 b r k z)) (Fin.ext ?_)
    show l.val - 64 = (l.val + 64) % 128
    omega

theorem spread_at (t : Vec Ideal S4224x128 .f32) (b : Fin 4) (r : Fin 4224) (k : Fin 24) (l : Fin 128) :
    spread t (ix4 b r k l) = t (ix2 r l) := by
  pointwise [spread]

theorem joined_head (q : Vec Ideal S4x4224x24x128 .f32) (x : Vec Ideal S16896x6144 .f32) (R : Fin 16896) (C : Fin 6144) (hc : C.val < 3072) :
    joined q x (ix2 R C) = q (ix4 ⟨R.val / 4224, by omega⟩ ⟨R.val % 4224, Nat.mod_lt _ (by decide)⟩ ⟨C.val / 128, by omega⟩ ⟨C.val % 128, Nat.mod_lt _ (by decide)⟩) := by
  pointwise [joined]
  rw [dif_pos hc]

theorem joined_rest (q : Vec Ideal S4x4224x24x128 .f32) (x : Vec Ideal S16896x6144 .f32) (R : Fin 16896) (C : Fin 6144) (hc : ¬C.val < 3072) :
    joined q x (ix2 R C) = x (ix2 R C) := by
  pointwise [joined]
  rw [dif_neg hc]
  refine congrArg (fun z => x (ix2 R z)) (Fin.ext ?_)
  show 3072 + (C.val - 3072) = C.val
  omega

theorem whole_eq (h : Vec Ideal S16896x2048 .f32) (p : Vec Ideal S2048 .f32) (w : Vec Ideal S2x2048x6144 .bf16) (g : Vec Ideal S1x3072 .f32) (cs sn : Vec Ideal S4224x128 .f32) :
    whole h p w g cs sn = Turn.result h p w g cs sn := by
  suffices key : ∀ (R : Fin 16896) (C : Fin 6144), whole h p w g cs sn (ix2 R C) = Turn.result h p w g cs sn (ix2 R C) from
    funext fun y => by rw [← ix2_eta y]; exact key _ _
  intro R C
  unfold whole
  by_cases hc : C.val < 3072
  · rw [joined_head _ _ _ _ hc, Turn.result_head _ _ _ _ _ _ _ _ hc]
    simp only [addf_apply, mulf_apply, spread_at, swapped_at, units_at, split_at, product_at]
    simp only [show (⟨R.val / 4224 * 4224 + R.val % 4224, by omega⟩ : Fin 16896) = R from Fin.ext (by show R.val / 4224 * 4224 + R.val % 4224 = R.val; omega)]
    rfl
  · rw [joined_rest _ _ _ _ hc, Turn.result_rest _ _ _ _ _ _ _ _ hc, product_at]

/-- The run of the reference. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v46) = Turn.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (whole_eq _ _ _ _ _ _), (h c).2⟩) (run (F := Ideal) m ρ)

end Cert.Reference4Ideal.Value

end
-- ==== Proof.RopeOutput.lean ====
module

public import proofs.«01_k».proof.Proof.RopeMath
public import proofs.«01_k».proof.Proof.RopeLaunched
public import Idealize.ShloMosaic.Lib.Pipeline.ValueKit

/-! What the attention in-projection's kernel leaves in its result. -/

@[expose] public section

set_option maxRecDepth 65536

noncomputable section

namespace Cert.Kernel4Ideal.Body

open Idealize.ShloMosaic Idealize.ShloMosaic.TcCoe Idealize.ShloMosaic.Tactic Idealize.SL.Sem
open Idealize.ShloMosaic.Pipeline (Dat RDat)
open Cert.Kernel4Ideal Cert.Kernel4Ideal.Gen

theorem normRows_at (x : Vec Ideal S128x2048 .f32) (pw : Vec Ideal S1x2048 .f32) (r : Fin 128) (k : Fin 2048) :
    normRows x pw (ix2 r k) = (x (ix2 r k) : EReal) * Residual.inverseRms (fun d => x (ix2 r d)) * pw (ix2 0 k) := by
  unfold Residual.inverseRms
  pointwise [normRows]

theorem prodOf_at (n : Vec Ideal S1408x2048 .bf16) (w : Vec Ideal S1x2048x1024 .bf16) (r : Fin 1408) (C : Fin 1024) :
    prodOf n w (ix2 r C) = ∑ d : Fin 2048, (n (ix2 r d) : EReal) * w (ix3 0 d C) := by
  pointwise [prodOf]

theorem rounded_at (a : Vec Ideal S1408x1024 .f32) (y : S1408x1024.Idx) : rounded a y = a y := rfl

theorem headNorm_at (p : Vec Ideal S1408x128 .f32) (gk : Vec Ideal S1x128 .f32) (r : Fin 1408) (l : Fin 128) :
    headNorm p gk (ix2 r l) = Turn.unit (fun l => p (ix2 r l)) (fun l => gk (ix2 0 l)) l := by
  unfold Turn.unit Turn.inverseRms
  pointwise [headNorm]

theorem rolled_at (u : Vec Ideal S1408x128 .f32) (r : Fin 1408) (l : Fin 128) :
    dynamicRotate 1 64#32 none u rotates_S1408x128_d1 (ix2 r l) = u (ix2 r (Turn.other l)) := by
  unfold Turn.other
  pointwise []
  refine congrArg (fun z => u (ix2 r z)) (Fin.ext ?_)
  show (l.val + 128 - 64) % 128 = (l.val + 64) % 128
  omega

theorem headOut_at (p : Vec Ideal S1408x128 .f32) (gk : Vec Ideal S1x128 .f32) (cs sn : Vec Ideal S1408x128 .f32) (r : Fin 1408) (l : Fin 128) :
    headOut p gk cs sn (ix2 r l) = Turn.turn (fun l => p (ix2 r l)) (fun l => gk (ix2 0 l)) (fun l => cs (ix2 r l)) (fun l => sn (ix2 r l)) l := by
  show FloatOps.addf (F := Ideal) (FloatOps.mulf (headNorm p gk (ix2 r l)) (cs (ix2 r l)))
    (FloatOps.mulf (dynamicRotate 1 64#32 none (headNorm p gk) rotates_S1408x128_d1 (ix2 r l)) (sn (ix2 r l))) = _
  rw [rolled_at, headNorm_at, headNorm_at]
  rfl

theorem gain_at {e : EltTy} (a : Vec Ideal S2048 e) (C : Fin 2048) :
    shapeCast S1x2048 a shapeCasts_S2048_S1x2048 (ix2 0 C) = a (ix1 C) := by
  pointwise []

variable (m : (ℓ : Loc nD τ sig) → Buf (Elt Ideal) ℓ) (c : Dev nD)

theorem V_v0 : V m c main_v0 = shapeCast _ (m ((c.tc : Thread nD τ).loc main_arg1)) shapeCasts_S2048_S1x2048 := by
  unfold V; simp only [hostOps0]; after_results <;> rfl

theorem scale_at (k : Fin 2048) : scale m c (ix2 0 k) = m ((c.tc : Thread nD τ).loc main_arg1) (ix1 k) := by
  unfold scale
  rw [V_v0]
  exact gain_at _ k

theorem chunk_at (R : Fin 16896) (k : Fin 2048) :
    chunk m c (R.val / 128) (ix2 ⟨R.val % 128, Nat.mod_lt _ (by decide)⟩ k) = m ((c.tc : Thread nD τ).loc main_arg0) (ix2 R k) := by
  unfold chunk
  rw [V_main_arg0]
  refine congrArg _ ?_
  funext a
  apply Fin.ext
  match a with
  | ⟨0, _⟩ =>
    show (128 * (R.val / 128) + R.val % 128) % 16896 = R.val
    omega
  | ⟨1, _⟩ => rfl

/-- A normalised row is the mathematics'. -/
theorem nrow_at (R : Fin 16896) (k : Fin 2048) :
    nrow m c R.val k = Project.normed (m ((c.tc : Thread nD τ).loc main_arg0)) (m ((c.tc : Thread nD τ).loc main_arg1)) R k := by
  unfold nrow Project.normed
  rw [normRows_at, scale_at]
  simp only [chunk_at]

/-- A row tile's product, entry by entry. -/
theorem tile_at (j q : ℕ) (r : Fin 1408) (C : Fin 1024) (R : Fin 16896) (D : Fin 6144) (hR : R.val = 1408 * j + r.val) (hD : D.val = 1024 * q + C.val) :
    prodOf (tileN m c j) (wcol m c q) (ix2 r C) = Turn.project (m ((c.tc : Thread nD τ).loc main_arg0)) (m ((c.tc : Thread nD τ).loc main_arg1)) (m ((c.tc : Thread nD τ).loc main_arg2)) R D := by
  rw [prodOf_at]
  unfold Turn.project
  refine Finset.sum_congr rfl fun d _ => congrArg₂ (fun z z' : EReal => z * z') ?_ ?_
  · rw [← nrow_at, hR]
    rfl
  · unfold wcol
    rw [V_main_arg2]
    refine congrArg _ ?_
    funext a
    apply Fin.ext
    match a with
    | ⟨0, _⟩ => rfl
    | ⟨1, _⟩ => rfl
    | ⟨2, _⟩ =>
      show (1024 * q + C.val) % 6144 = D.val
      omega

theorem gcol_at (q : ℕ) (k : Fin 8) (l : Fin 128) (D : Fin 3072) (hD : D.val = 1024 * q + 128 * k.val + l.val) :
    headGain (gcol m c q) k (ix2 0 l) = m ((c.tc : Thread nD τ).loc main_arg3) (ix2 0 D) := by
  unfold headGain gcol
  rw [V_main_arg3]
  refine congrArg _ ?_
  funext a
  apply Fin.ext
  match a with
  | ⟨0, _⟩ => rfl
  | ⟨1, _⟩ =>
    show (1024 * q + (128 * k.val + l.val)) % 3072 = D.val
    omega

theorem cos_at (q : ℕ) (r : Fin 1408) (l : Fin 128) (D : Fin 4224) (hD : D.val = 1408 * q + r.val) :
    cosRows m c q (ix2 r l) = m ((c.tc : Thread nD τ).loc main_arg4) (ix2 D l) := by
  unfold cosRows
  rw [V_main_arg4]
  refine congrArg _ ?_
  funext a
  apply Fin.ext
  match a with
  | ⟨0, _⟩ =>
    show (1408 * q + r.val) % 4224 = D.val
    omega
  | ⟨1, _⟩ => rfl

theorem sin_at (q : ℕ) (r : Fin 1408) (l : Fin 128) (D : Fin 4224) (hD : D.val = 1408 * q + r.val) :
    sinRows m c q (ix2 r l) = m ((c.tc : Thread nD τ).loc main_arg5) (ix2 D l) := by
  unfold sinRows
  rw [V_main_arg5]
  refine congrArg _ ?_
  funext a
  apply Fin.ext
  match a with
  | ⟨0, _⟩ =>
    show (1408 * q + r.val) % 4224 = D.val
    omega
  | ⟨1, _⟩ => rfl

/-- The kernel's result by the mathematics. -/
abbrev wanted : (⟨2, ![16896, 6144]⟩ : Shape).Idx → EReal :=
  Turn.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

/-- A point's block, entry by entry. -/
theorem outO_at (t : ℕ) (ht : 7 ≤ t) (r : Fin 1408) (C : Fin 1024) (R : Fin 16896) (D : Fin 6144)
    (hR : R.val = 1408 * ((t - 1) / 6 - 1) + r.val) (hD : D.val = 1024 * ((t - 1) % 6) + C.val) :
    outO m c t (ix2 r C) = wanted m c (ix2 R D) := by
  have hr := r.isLt
  have hC := C.isLt
  unfold outO wanted
  by_cases hc : (t - 7) % 6 < 3
  · rw [if_pos hc, Turn.result_head _ _ _ _ _ _ _ _ (by omega)]
    show headOut (headSlice _ (headOf C)) (headGain _ (headOf C)) _ _ (ix2 r ⟨C.val % 128, Nat.mod_lt _ (by decide)⟩) = _
    rw [headOut_at]
    unfold Turn.turned
    have hl : (⟨C.val % 128, Nat.mod_lt _ (by decide)⟩ : Fin 128) = ⟨D.val % 128, Nat.mod_lt _ (by decide)⟩ := Fin.ext (by show C.val % 128 = D.val % 128; omega)
    rw [hl]
    refine congrFun (congr (congr (congrArg₂ Turn.turn ?_ ?_) ?_) ?_) _
    · funext l
      refine tile_at m c _ _ r _ R _ hR ?_
      show D.val / 128 * 128 + l.val = 1024 * ((t - 1) % 6) + (128 * (C.val / 128) + l.val)
      omega
    · funext l
      refine gcol_at m c _ _ l _ ?_
      show D.val / 128 * 128 + l.val = 1024 * ((t - 1) % 6) + 128 * (C.val / 128) + l.val
      omega
    · funext l
      refine cos_at m c _ r l _ ?_
      show R.val % 4224 = 1408 * (((t - 1) / 6 - 1) % 3) + r.val
      omega
    · funext l
      refine sin_at m c _ r l _ ?_
      show R.val % 4224 = 1408 * (((t - 1) / 6 - 1) % 3) + r.val
      omega
  · rw [if_neg hc, Turn.result_rest _ _ _ _ _ _ _ _ (by omega), rounded_at]
    exact tile_at m c _ _ r C R D hR hD

/-- When the blocks are written back. -/
theorem flushed7 : ∀ t : Fin cfg0.N, (cfg0.win 7).flush t = true → 7 ≤ t.val := by decide +kernel

variable (after : (w : Fin cfg0.W) → Fin cfg0.N → (cfg0.win w).block.Idx → Elt Ideal (cfg0.win w).elt)
  (hL : ∀ (w : Fin cfg0.W) (u : Fin cfg0.N), (cfg0.win w).flush u = true → (rdat m c).Leaves w u (after w u))

include hL in
theorem after7 (t : Fin cfg0.N) (hfl : (cfg0.win 7).flush t = true) : after 7 t = outO m c t.val := by
  obtain ⟨_, _, h⟩ := hL 7 t hfl
  exact h (flushed7 t hfl)

include hL in
/-- The result's array. -/
theorem final7 : ((rdat m c).withAfter after).arrAt 7 cfg0.N = wanted m c := by
  refine ((rdat m c).withAfter after).arrAt_eq_of_covers 7 _ (by decide +kernel) fun t hfl y => ?_
  have ht := flushed7 t hfl
  blk_simp
  rw [RDat.withAfter_after, after7 m c after hL t hfl]
  have hy : (ix2 (y 0) (y 1) : S1408x1024.Idx) = y := by
    funext a
    match a with
    | ⟨0, _⟩ => rfl
    | ⟨1, _⟩ => rfl
  refine (congrArg (outO m c t.val) hy.symm).trans ((outO_at m c t.val ht (y 0) (y 1) _ _ ?_ ?_).trans (congrArg _ (ix2_eta _)))
  · show win0_7.index t 0 * 1408 + 1 * (y 0).val = _
    rw [index7 t ht]
    show ((t.val - 1) / 6 - 1) * 1408 + 1 * (y 0).val = _
    omega
  · show win0_7.index t 1 * 1024 + 1 * (y 1).val = _
    rw [index7 t ht]
    show (t.val - 1) % 6 * 1024 + 1 * (y 1).val = _
    omega

/-- The run of the kernel. -/
theorem run_result (ρ : Dev nD → PrngReg) :
    θ_run defs (onTc (τ := τ) (main (F := Ideal))) ⟨m, fun _ => 0, ρ⟩ fun r => ∀ c : Dev nD,
      r.2.mem ((c.tc : Thread nD τ).loc main_v1) = wanted m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => by
    obtain ⟨after, hL, hA⟩ := RDat.FramePost.exists_exact h.1.1 c
    exact ⟨(hA 7).trans (final7 m c after hL), h.2.1 c⟩)
    (θ_run_and (run_main_quiescent m ρ) (frame_quiescent m ρ))

end Cert.Kernel4Ideal.Body

end
-- ==== Proof.InSegs.lean ====
module

public import proofs.«01_k».proof.Proof.Gen.Kernel3Ideal.Frame

/-! The in-projection's body cut into its five conditional segments. -/

@[expose] public section

set_option maxRecDepth 65536

noncomputable section

namespace Cert.Kernel3Ideal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3Ideal Cert.Kernel3Ideal.Gen

variable {F : FTy → Type} [FloatOps F]

/-- The first segment: at the first grid point the product is reset. -/
noncomputable def seg1 (i : grid0.Coords) (arg1 : Memref sig .tc .vmem S128x2048 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S1x1024x2048 .bf16) (harg4 : arg4.IsWhole) (arg5 : Memref sig .tc .vmem S1x128x2048 .bf16) (harg5 : arg5.IsWhole) (arg6 : Memref sig .tc .vmem S1408x1024 .bf16) (harg6 : arg6.IsWhole) (arg7 : Memref sig .tc .vmem S1408x128 .f32) (harg7 : arg7.IsWhole) (arg8 : Memref sig .tc .vmem S1408x2048 .bf16) (harg8 : arg8.IsWhole) (arg9 : Memref sig .tc .vmem S1408x2048 .bf16) (harg9 : arg9.IsWhole) (arg10 : Memref sig .tc .vmem S1408x1024 .f32) (harg10 : arg10.IsWhole) :
    Prog (TpuEff nD τ sig (Elt F) Λ₀ .tc) PUnit := do
  let arg0 : BitVec 32 := BitVec.ofNat 32 (i 0).val
  let c6_i32 : BitVec 32 := 6#32
  let v0 : BitVec 32 := Scalar.subi arg0 c6_i32
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  if k0_h1 : v3 = 1#1 then do
    have cst : F .f32 := Scalar.ofBits .f32 0x00000000#32
    have v44 : FVec F S1408x1024 .f32 := broadcast S1408x1024 cst
    let c0 : Index := 0#32
    let c0_23 : Index := 0#32
    let v45 : Vec F S1408x1024 .f32 ← Prog.lift (.load arg10 (Rect.unit (s := S1408x1024) ![0, 0] S1408x1024.size inb_S1408x1024_S1408x1024_0_0).toLoadRect (View.loadsAt_vmem h_S1408x1024))
    have v46 : FVec F S1408x1024 .f32 := shapeCast S1408x1024 v45 shapeCasts_S1408x1024_S1408x1024
    have v47 : FVec F S1408x1024 .f32 := shapeCast S1408x1024 v44 shapeCasts_S1408x1024_S1408x1024
    Prog.lift (.store arg10 (Rect.unit (s := S1408x1024) ![0, 0] S1408x1024.size inb_S1408x1024_S1408x1024_0_0) v47 Finset.univ (View.stores_vmem_bits_univ h_S1408x1024 rfl) (.inl rfl))
    pure ⟨⟩
  else do
    pure ⟨⟩

/-- The second segment: the first six grid points normalise the first row tile, two chunks of 128 rows each. -/
noncomputable def seg2 (i : grid0.Coords) (arg1 : Memref sig .tc .vmem S128x2048 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S1x1024x2048 .bf16) (harg4 : arg4.IsWhole) (arg5 : Memref sig .tc .vmem S1x128x2048 .bf16) (harg5 : arg5.IsWhole) (arg6 : Memref sig .tc .vmem S1408x1024 .bf16) (harg6 : arg6.IsWhole) (arg7 : Memref sig .tc .vmem S1408x128 .f32) (harg7 : arg7.IsWhole) (arg8 : Memref sig .tc .vmem S1408x2048 .bf16) (harg8 : arg8.IsWhole) (arg9 : Memref sig .tc .vmem S1408x2048 .bf16) (harg9 : arg9.IsWhole) (arg10 : Memref sig .tc .vmem S1408x1024 .f32) (harg10 : arg10.IsWhole) :
    Prog (TpuEff nD τ sig (Elt F) Λ₀ .tc) PUnit := do
  let arg0 : BitVec 32 := BitVec.ofNat 32 (i 0).val
  let c6_i32 : BitVec 32 := 6#32
  let v0 : BitVec 32 := Scalar.subi arg0 c6_i32
  let c0_i32_1 : BitVec 32 := 0#32
  let v4 : BitVec 1 := Scalar.cmpi .slt v0 c0_i32_1
  let v5 : BitVec 32 := Scalar.extui v4
  let c0_i32_2 : BitVec 32 := 0#32
  let v6 : BitVec 1 := Scalar.cmpi .ne v5 c0_i32_2
  if k0_h2 : k0_cond2 i = 1#1 then do
    let ⟨v58, v74, v80, cst_39⟩ : Σ' (v58 : BitVec 32) (v74 : FVec F S128x2048 .bf16) (v80 : FVec F S128x2048 .bf16), FVec F S128x128 .f32 ← k0_part1 i arg1 harg1 arg2 harg2 arg3 harg3 arg4 harg4 arg5 harg5 arg6 harg6 arg7 harg7 arg8 harg8 arg9 harg9 arg10 harg10 arg0 k0_h2
    let ⟨v98, v114⟩ : Σ' (v98 : BitVec 32), FVec F S128x2048 .bf16 ← k0_part2 i arg1 harg1 arg2 harg2 arg3 harg3 arg4 harg4 arg5 harg5 arg6 harg6 arg7 harg7 arg8 harg8 arg9 harg9 arg10 harg10 arg0 k0_h2 v58 v74 v80 cst_39
    let c0_60 : Index := 0#32
    let c0_61 : Index := 0#32
    let v119 : Vec F S1x128x2048 .bf16 ← Prog.lift (.load arg5 (Rect.unit (s := S1x128x2048) ![0, 0, 0] S1x128x2048.size inb_S1x128x2048_S1x128x2048_0_0_0).toLoadRect (View.loadsAt_vmem h_S1x128x2048))
    have v120 : FVec F S128x2048 .bf16 := shapeCast S128x2048 v119 shapeCasts_S1x128x2048_S128x2048
    have cst_62 : FVec F S128x128 .f32 := constant S128x128 .f32 0x00000000#32
    have v121 : FVec F S128x128 .f32 := matmul dot_S128x2048_S128x2048_S128x128_1_1_0_0_n_n none v114 v120 cst_62
    let v122 : Index := Scalar.indexCast v98
    let c0_63 : Index := 0#32
    let v123 : Vec F S128x128 .f32 ← Prog.lift (.load arg7 (Rect.unit (s := S1408x128) (k0_off2 i 1#32) S128x128.size (k0_off2_inb i k0_h2 1)).toLoadRect (View.loadsAt_vmem h_S128x128))
    Prog.lift (.store arg7 (Rect.unit (s := S1408x128) (k0_off2 i 1#32) S128x128.size (k0_off2_inb i k0_h2 1)) v121 Finset.univ (View.stores_vmem_bits_univ h_S128x128 rfl) (.inl rfl))
    pure ⟨⟩
  else do
    pure ⟨⟩

/-- The third segment: at the first of a row tile's six column tiles the normalised rows move over. -/
noncomputable def seg3 (i : grid0.Coords) (arg1 : Memref sig .tc .vmem S128x2048 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S1x1024x2048 .bf16) (harg4 : arg4.IsWhole) (arg5 : Memref sig .tc .vmem S1x128x2048 .bf16) (harg5 : arg5.IsWhole) (arg6 : Memref sig .tc .vmem S1408x1024 .bf16) (harg6 : arg6.IsWhole) (arg7 : Memref sig .tc .vmem S1408x128 .f32) (harg7 : arg7.IsWhole) (arg8 : Memref sig .tc .vmem S1408x2048 .bf16) (harg8 : arg8.IsWhole) (arg9 : Memref sig .tc .vmem S1408x2048 .bf16) (harg9 : arg9.IsWhole) (arg10 : Memref sig .tc .vmem S1408x1024 .f32) (harg10 : arg10.IsWhole) :
    Prog (TpuEff nD τ sig (Elt F) Λ₀ .tc) PUnit := do
  let arg0 : BitVec 32 := BitVec.ofNat 32 (i 0).val
  let c6_i32 : BitVec 32 := 6#32
  let v0 : BitVec 32 := Scalar.subi arg0 c6_i32
  let c0_i32_3 : BitVec 32 := 0#32
  let v7 : BitVec 1 := Scalar.cmpi .sge v0 c0_i32_3
  let c72_i32 : BitVec 32 := 72#32
  let v8 : BitVec 1 := Scalar.cmpi .slt v0 c72_i32
  let v9 : BitVec 1 := Scalar.andi v7 v8
  let c6_i32_4 : BitVec 32 := 6#32
  let c0_i32_5 : BitVec 32 := 0#32
  let v10 : BitVec 1 := Scalar.cmpi .eq c6_i32_4 c0_i32_5
  let c1_i32 : BitVec 32 := 1#32
  let v11 : BitVec 32 := Scalar.select v10 c1_i32 c6_i32_4
  let v12 : BitVec 32 := Scalar.remsi v0 v11
  let c0_i32_6 : BitVec 32 := 0#32
  let v13 : BitVec 1 := Scalar.cmpi .ne v12 c0_i32_6
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let v17 : BitVec 1 := Scalar.andi v16 v13
  let v18 : BitVec 32 := Scalar.addi v12 v11
  let v19 : BitVec 32 := Scalar.select v17 v18 v12
  let c0_i32_9 : BitVec 32 := 0#32
  let v20 : BitVec 1 := Scalar.cmpi .eq v19 c0_i32_9
  let v21 : BitVec 1 := Scalar.andi v9 v20
  let v22 : BitVec 32 := Scalar.extui v21
  let c0_i32_10 : BitVec 32 := 0#32
  let v23 : BitVec 1 := Scalar.cmpi .ne v22 c0_i32_10
  if k0_h3 : v23 = 1#1 then do
    let c0 : Index := 0#32
    let c0_23 : Index := 0#32
    let v44 : Vec F S1408x2048 .bf16 ← Prog.lift (.load arg9 (Rect.unit (s := S1408x2048) ![0, 0] S1408x2048.size inb_S1408x2048_S1408x2048_0_0).toLoadRect (View.loadsAt_vmem h_S1408x2048))
    let c0_24 : Index := 0#32
    let c0_25 : Index := 0#32
    let v45 : Vec F S1408x2048 .bf16 ← Prog.lift (.load arg8 (Rect.unit (s := S1408x2048) ![0, 0] S1408x2048.size inb_S1408x2048_S1408x2048_0_0).toLoadRect (View.loadsAt_vmem h_S1408x2048))
    have v46 : FVec F S1408x2048 .bf16 := shapeCast S1408x2048 v45 shapeCasts_S1408x2048_S1408x2048
    have v47 : FVec F S1408x2048 .bf16 := shapeCast S1408x2048 v44 shapeCasts_S1408x2048_S1408x2048
    Prog.lift (.store arg8 (Rect.unit (s := S1408x2048) ![0, 0] S1408x2048.size inb_S1408x2048_S1408x2048_0_0) v47 Finset.univ (View.stores_vmem h_S1408x2048 (harg8.storeExact_slice rfl _ packedbf16_S1408x2048_S1408x2048_0_0) (fun _ => rfl)) (.inl rfl))
    pure ⟨⟩
  else do
    pure ⟨⟩

/-- The fourth segment: the last product is rounded and written out, the next is taken, and two chunks of the next row tile are normalised. -/
noncomputable def seg4 (i : grid0.Coords) (arg1 : Memref sig .tc .vmem S128x2048 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S1x1024x2048 .bf16) (harg4 : arg4.IsWhole) (arg5 : Memref sig .tc .vmem S1x128x2048 .bf16) (harg5 : arg5.IsWhole) (arg6 : Memref sig .tc .vmem S1408x1024 .bf16) (harg6 : arg6.IsWhole) (arg7 : Memref sig .tc .vmem S1408x128 .f32) (harg7 : arg7.IsWhole) (arg8 : Memref sig .tc .vmem S1408x2048 .bf16) (harg8 : arg8.IsWhole) (arg9 : Memref sig .tc .vmem S1408x2048 .bf16) (harg9 : arg9.IsWhole) (arg10 : Memref sig .tc .vmem S1408x1024 .f32) (harg10 : arg10.IsWhole) :
    Prog (TpuEff nD τ sig (Elt F) Λ₀ .tc) PUnit := do
  let arg0 : BitVec 32 := BitVec.ofNat 32 (i 0).val
  let c6_i32 : BitVec 32 := 6#32
  let v0 : BitVec 32 := Scalar.subi arg0 c6_i32
  let c0_i32_3 : BitVec 32 := 0#32
  let v7 : BitVec 1 := Scalar.cmpi .sge v0 c0_i32_3
  let c72_i32 : BitVec 32 := 72#32
  let v8 : BitVec 1 := Scalar.cmpi .slt v0 c72_i32
  let v9 : BitVec 1 := Scalar.andi v7 v8
  let c1_i32_11 : BitVec 32 := 1#32
  let v24 : BitVec 32 := Scalar.subi v0 c1_i32_11
  let c0_i32_12 : BitVec 32 := 0#32
  let v25 : BitVec 32 := Scalar.maxsi v24 c0_i32_12
  let c6_i32_13 : BitVec 32 := 6#32
  let c0_i32_14 : BitVec 32 := 0#32
  let v26 : BitVec 1 := Scalar.cmpi .eq c6_i32_13 c0_i32_14
  let c1_i32_15 : BitVec 32 := 1#32
  let v27 : BitVec 32 := Scalar.select v26 c1_i32_15 c6_i32_13
  let v28 : BitVec 32 := Scalar.remsi v25 v27
  let c0_i32_16 : BitVec 32 := 0#32
  let v29 : BitVec 1 := Scalar.cmpi .ne v28 c0_i32_16
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let v33 : BitVec 1 := Scalar.andi v32 v29
  let v34 : BitVec 32 := Scalar.addi v28 v27
  let v35 : BitVec 32 := Scalar.select v33 v34 v28
  let c0_i32_19 : BitVec 32 := 0#32
  let v36 : BitVec 1 := Scalar.cmpi .slt v35 c0_i32_19
  let v_true : BitVec 1 := 1#1
  let v37 : BitVec 1 := Scalar.xori v36 v_true
  let v38 : BitVec 1 := Scalar.andi v9 v37
  let v39 : BitVec 32 := Scalar.extui v38
  let c0_i32_20 : BitVec 32 := 0#32
  let v40 : BitVec 1 := Scalar.cmpi .ne v39 c0_i32_20
  if k0_h4 : k0_cond4 i = 1#1 then do
    let ⟨v68, v69, v74, cst_44⟩ : Σ' (v68 : BitVec 32) (v69 : Vec F S128x2048 .f32) (v74 : FVec F S128x1 .f32), F .f32 ← k0_part3 i arg1 harg1 arg2 harg2 arg3 harg3 arg4 harg4 arg5 harg5 arg6 harg6 arg7 harg7 arg8 harg8 arg9 harg9 arg10 harg10 arg0
    let ⟨v108, v109, v111⟩ : Σ' (v108 : BitVec 32) (v109 : Vec F S128x2048 .f32), FVec F S128 .f32 ← k0_part4 i arg1 harg1 arg2 harg2 arg3 harg3 arg4 harg4 arg5 harg5 arg6 harg6 arg7 harg7 arg8 harg8 arg9 harg9 arg10 harg10 arg0 k0_h4 v68 v69 v74 cst_44
    have v112 : FVec F S128x1 .f32 := shapeCast S128x1 v111 shapeCasts_S128_S128x1
    have cst_66 : F .f32 := Scalar.ofBits .f32 0x45000000#32
    have v113 : FVec F S128x1 .f32 := broadcast S128x1 cst_66
    have v114 : FVec F S128x1 .f32 := divf v112 v113
    have cst_67 : F .f32 := Scalar.ofBits .f32 0x358637BD#32
    have v115 : FVec F S128x1 .f32 := broadcast S128x1 cst_67
    have v116 : FVec F S128x1 .f32 := addf v114 v115
    have v117 : FVec F S128x1 .f32 := rsqrt v116
    have v118 : FVec F S128x2048 .f32 := broadcastTo S128x2048 v117 broadcasts_S128x1_S128x2048
    have v119 : FVec F S128x2048 .f32 := mulf v109 v118
    let c0_68 : Index := 0#32
    let c0_69 : Index := 0#32
    let v120 : Vec F S1x2048 .f32 ← Prog.lift (.load arg3 (Rect.unit (s := S1x2048) ![0, 0] S1x2048.size inb_S1x2048_S1x2048_0_0).toLoadRect (View.loadsAt_vmem h_S1x2048))
    have v121 : FVec F S1x2048 .f32 := shapeCast S1x2048 v120 shapeCasts_S1x2048_S1x2048
    have v122 : FVec F S128x2048 .f32 := broadcastTo S128x2048 v121 broadcasts_S1x2048_S128x2048
    have v123 : FVec F S128x2048 .f32 := mulf v119 v122
    have v124 : FVec F S128x2048 .bf16 := truncf .bf16 v123 bitsLt_bf16_f32
    let v125 : Index := Scalar.indexCast v108
    let c0_70 : Index := 0#32
    let v126 : Vec F S128x2048 .bf16 ← Prog.lift (.load arg9 (Rect.unit (s := S1408x2048) (k0_off3 i 1#32) S128x2048.size (k0_off3_inb i k0_h4 1)).toLoadRect (View.loadsAt_vmem h_S128x2048))
    have v127 : FVec F S128x2048 .bf16 := shapeCast S128x2048 v126 shapeCasts_S128x2048_S128x2048
    have v128 : FVec F S128x2048 .bf16 := shapeCast S128x2048 v124 shapeCasts_S128x2048_S128x2048
    Prog.lift (.store arg9 (Rect.unit (s := S1408x2048) (k0_off3 i 1#32) S128x2048.size (k0_off3_inb i k0_h4 1)) v128 Finset.univ (View.stores_vmem h_S128x2048 (harg9.storeExact_slice rfl _ (k0_off3_packedbf16 i k0_h4 1)) (fun _ => rfl)) (.inl rfl))
    let c0_71 : Index := 0#32
    let c0_72 : Index := 0#32
    let c0_73 : Index := 0#32
    let v129 : Vec F S1x128x2048 .bf16 ← Prog.lift (.load arg5 (Rect.unit (s := S1x128x2048) ![0, 0, 0] S1x128x2048.size inb_S1x128x2048_S1x128x2048_0_0_0).toLoadRect (View.loadsAt_vmem h_S1x128x2048))
    have v130 : FVec F S128x2048 .bf16 := shapeCast S128x2048 v129 shapeCasts_S1x128x2048_S128x2048
    have cst_74 : FVec F S128x128 .f32 := constant S128x128 .f32 0x00000000#32
    have v131 : FVec F S128x128 .f32 := matmul dot_S128x2048_S128x2048_S128x128_1_1_0_0_n_n none v124 v130 cst_74
    let v132 : Index := Scalar.indexCast v108
    let c0_75 : Index := 0#32
    let v133 : Vec F S128x128 .f32 ← Prog.lift (.load arg7 (Rect.unit (s := S1408x128) (k0_off4 i 1#32) S128x128.size (k0_off4_inb i k0_h4 1)).toLoadRect (View.loadsAt_vmem h_S128x128))
    Prog.lift (.store arg7 (Rect.unit (s := S1408x128) (k0_off4 i 1#32) S128x128.size (k0_off4_inb i k0_h4 1)) v131 Finset.univ (View.stores_vmem_bits_univ h_S128x128 rfl) (.inl rfl))
    pure ⟨⟩
  else do
    pure ⟨⟩

/-- The fifth segment: the last grid point writes out the last product. -/
noncomputable def seg5 (i : grid0.Coords) (arg1 : Memref sig .tc .vmem S128x2048 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S1x1024x2048 .bf16) (harg4 : arg4.IsWhole) (arg5 : Memref sig .tc .vmem S1x128x2048 .bf16) (harg5 : arg5.IsWhole) (arg6 : Memref sig .tc .vmem S1408x1024 .bf16) (harg6 : arg6.IsWhole) (arg7 : Memref sig .tc .vmem S1408x128 .f32) (harg7 : arg7.IsWhole) (arg8 : Memref sig .tc .vmem S1408x2048 .bf16) (harg8 : arg8.IsWhole) (arg9 : Memref sig .tc .vmem S1408x2048 .bf16) (harg9 : arg9.IsWhole) (arg10 : Memref sig .tc .vmem S1408x1024 .f32) (harg10 : arg10.IsWhole) :
    Prog (TpuEff nD τ sig (Elt F) Λ₀ .tc) PUnit := do
  let arg0 : BitVec 32 := BitVec.ofNat 32 (i 0).val
  let c6_i32 : BitVec 32 := 6#32
  let v0 : BitVec 32 := Scalar.subi arg0 c6_i32
  let c72_i32_21 : BitVec 32 := 72#32
  let v41 : BitVec 1 := Scalar.cmpi .eq v0 c72_i32_21
  let v42 : BitVec 32 := Scalar.extui v41
  let c0_i32_22 : BitVec 32 := 0#32
  let v43 : BitVec 1 := Scalar.cmpi .ne v42 c0_i32_22
  if k0_h5 : k0_cond5 i = 1#1 then do
    let c0 : Index := 0#32
    let c0_23 : Index := 0#32
    let v44 : Vec F S1408x1024 .f32 ← Prog.lift (.load arg10 (Rect.unit (s := S1408x1024) ![0, 0] S1408x1024.size inb_S1408x1024_S1408x1024_0_0).toLoadRect (View.loadsAt_vmem h_S1408x1024))
    have v45 : FVec F S1408x1024 .bf16 := truncf .bf16 v44 bitsLt_bf16_f32
    let c0_24 : Index := 0#32
    let c0_25 : Index := 0#32
    let v46 : Vec F S1408x1024 .bf16 ← Prog.lift (.load arg6 (Rect.unit (s := S1408x1024) ![0, 0] S1408x1024.size inb_S1408x1024_S1408x1024_0_0).toLoadRect (View.loadsAt_vmem h_S1408x1024))
    Prog.lift (.store arg6 (Rect.unit (s := S1408x1024) ![0, 0] S1408x1024.size inb_S1408x1024_S1408x1024_0_0) v45 Finset.univ (View.stores_vmem h_S1408x1024 (harg6.storeExact_slice rfl _ packedbf16_S1408x1024_S1408x1024_0_0) (fun _ => rfl)) (.inl rfl))
    pure ⟨⟩
  else do
    pure ⟨⟩

/-- Whether the normalised rows move over at a grid point. -/
def advance (i : grid0.Coords) : BitVec 1 :=
  let arg0 : BitVec 32 := BitVec.ofNat 32 (i 0).val
  let c6_i32 : BitVec 32 := 6#32
  let v0 : BitVec 32 := Scalar.subi arg0 c6_i32
  let c0_i32_3 : BitVec 32 := 0#32
  let v7 : BitVec 1 := Scalar.cmpi .sge v0 c0_i32_3
  let c72_i32 : BitVec 32 := 72#32
  let v8 : BitVec 1 := Scalar.cmpi .slt v0 c72_i32
  let v9 : BitVec 1 := Scalar.andi v7 v8
  let c6_i32_4 : BitVec 32 := 6#32
  let c0_i32_5 : BitVec 32 := 0#32
  let v10 : BitVec 1 := Scalar.cmpi .eq c6_i32_4 c0_i32_5
  let c1_i32 : BitVec 32 := 1#32
  let v11 : BitVec 32 := Scalar.select v10 c1_i32 c6_i32_4
  let v12 : BitVec 32 := Scalar.remsi v0 v11
  let c0_i32_6 : BitVec 32 := 0#32
  let v13 : BitVec 1 := Scalar.cmpi .ne v12 c0_i32_6
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let v17 : BitVec 1 := Scalar.andi v16 v13
  let v18 : BitVec 32 := Scalar.addi v12 v11
  let v19 : BitVec 32 := Scalar.select v17 v18 v12
  let c0_i32_9 : BitVec 32 := 0#32
  let v20 : BitVec 1 := Scalar.cmpi .eq v19 c0_i32_9
  let v21 : BitVec 1 := Scalar.andi v9 v20
  let v22 : BitVec 32 := Scalar.extui v21
  let c0_i32_10 : BitVec 32 := 0#32
  let v23 : BitVec 1 := Scalar.cmpi .ne v22 c0_i32_10
  v23

/-- A conditional whose two branches end by the same continuation is the conditional followed by it, the condition's proof used or not. -/
theorem dite_then.{v} {E : Type → Type v} {c : Prop} [Decidable c] {α : Type} (a : c → Prog E PUnit) (k : PUnit → Prog E α) :
    (if h : c then a h >>= k else k ⟨⟩) = (if h : c then a h else pure ⟨⟩) >>= k := by
  split
  · rfl
  · exact (pure_bind _ _).symm

/-- The body is its five segments in order. -/
theorem body_eq (i : grid0.Coords) (arg1 : Memref sig .tc .vmem S128x2048 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S1x1024x2048 .bf16) (harg4 : arg4.IsWhole) (arg5 : Memref sig .tc .vmem S1x128x2048 .bf16) (harg5 : arg5.IsWhole) (arg6 : Memref sig .tc .vmem S1408x1024 .bf16) (harg6 : arg6.IsWhole) (arg7 : Memref sig .tc .vmem S1408x128 .f32) (harg7 : arg7.IsWhole) (arg8 : Memref sig .tc .vmem S1408x2048 .bf16) (harg8 : arg8.IsWhole) (arg9 : Memref sig .tc .vmem S1408x2048 .bf16) (harg9 : arg9.IsWhole) (arg10 : Memref sig .tc .vmem S1408x1024 .f32) (harg10 : arg10.IsWhole) :
    cc0_inproj_gla (F := F) i arg1 harg1 arg2 harg2 arg3 harg3 arg4 harg4 arg5 harg5 arg6 harg6 arg7 harg7 arg8 harg8 arg9 harg9 arg10 harg10 = (do
      seg1 i arg1 harg1 arg2 harg2 arg3 harg3 arg4 harg4 arg5 harg5 arg6 harg6 arg7 harg7 arg8 harg8 arg9 harg9 arg10 harg10
      seg2 i arg1 harg1 arg2 harg2 arg3 harg3 arg4 harg4 arg5 harg5 arg6 harg6 arg7 harg7 arg8 harg8 arg9 harg9 arg10 harg10
      seg3 i arg1 harg1 arg2 harg2 arg3 harg3 arg4 harg4 arg5 harg5 arg6 harg6 arg7 harg7 arg8 harg8 arg9 harg9 arg10 harg10
      seg4 i arg1 harg1 arg2 harg2 arg3 harg3 arg4 harg4 arg5 harg5 arg6 harg6 arg7 harg7 arg8 harg8 arg9 harg9 arg10 harg10
      seg5 i arg1 harg1 arg2 harg2 arg3 harg3 arg4 harg4 arg5 harg5 arg6 harg6 arg7 harg7 arg8 harg8 arg9 harg9 arg10 harg10
      pure ⟨⟩) := by
  unfold cc0_inproj_gla
  unfold k0_part5 seg1 seg2 seg3 seg4 seg5
  simp only [← dite_then, bind_assoc, pure_bind]
  repeat' split
  all_goals rfl

end Cert.Kernel3Ideal.Body

end
-- ==== Proof.InGrid.lean ====
module

public import proofs.«01_k».proof.Proof.InSegs

/-! The in-projection's grid: which segments run at a point, and where its chunks are stored. -/

@[expose] public section

set_option maxRecDepth 65536

noncomputable section

namespace Cert.Kernel3Ideal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3Ideal Cert.Kernel3Ideal.Gen

/-- The grid point of a number. -/
def pt (n : Fin 79) : grid0.Coords := fun a => match a with | ⟨0, _⟩ => n

theorem eq_pt (i : grid0.Coords) : i = pt (i 0) := by
  funext a
  match a with
  | ⟨0, _⟩ => rfl

/-- What holds at every number holds at every point. -/
theorem forall_pt {P : grid0.Coords → Prop} (h : ∀ n : Fin 79, P (pt n)) (i : grid0.Coords) : P i := by
  rw [eq_pt i]
  exact h _

/-- The first row of the first or second chunk of a point. -/
abbrev row (r n : ℕ) : ℕ := 128 * min (2 * (n % 6) + r) 10

/-- Where chunk 0 of a point is stored (`k0_off1`). -/
theorem off1_0 (i : grid0.Coords) : k0_off1 i 0#32 = ![128 * min (2 * ((i 0).val % 6) + 0) 10, 0] := by
  refine forall_pt (P := fun i => k0_off1 i 0#32 = ![128 * min (2 * ((i 0).val % 6) + 0) 10, 0]) ?_ i
  decide +kernel

instance closed1_0 (i : grid0.Coords) : ClosedOff (k0_off1 i 0#32) := ⟨![128 * min (2 * ((i 0).val % 6) + 0) 10, 0], off1_0 i⟩

/-- Where chunk 1 of a point is stored (`k0_off1`). -/
theorem off1_1 (i : grid0.Coords) : k0_off1 i 1#32 = ![128 * min (2 * ((i 0).val % 6) + 1) 10, 0] := by
  refine forall_pt (P := fun i => k0_off1 i 1#32 = ![128 * min (2 * ((i 0).val % 6) + 1) 10, 0]) ?_ i
  decide +kernel

instance closed1_1 (i : grid0.Coords) : ClosedOff (k0_off1 i 1#32) := ⟨![128 * min (2 * ((i 0).val % 6) + 1) 10, 0], off1_1 i⟩

/-- Where chunk 0 of a point is stored (`k0_off2`). -/
theorem off2_0 (i : grid0.Coords) : k0_off2 i 0#32 = ![128 * min (2 * ((i 0).val % 6) + 0) 10, 0] := by
  refine forall_pt (P := fun i => k0_off2 i 0#32 = ![128 * min (2 * ((i 0).val % 6) + 0) 10, 0]) ?_ i
  decide +kernel

instance closed2_0 (i : grid0.Coords) : ClosedOff (k0_off2 i 0#32) := ⟨![128 * min (2 * ((i 0).val % 6) + 0) 10, 0], off2_0 i⟩

/-- Where chunk 1 of a point is stored (`k0_off2`). -/
theorem off2_1 (i : grid0.Coords) : k0_off2 i 1#32 = ![128 * min (2 * ((i 0).val % 6) + 1) 10, 0] := by
  refine forall_pt (P := fun i => k0_off2 i 1#32 = ![128 * min (2 * ((i 0).val % 6) + 1) 10, 0]) ?_ i
  decide +kernel

instance closed2_1 (i : grid0.Coords) : ClosedOff (k0_off2 i 1#32) := ⟨![128 * min (2 * ((i 0).val % 6) + 1) 10, 0], off2_1 i⟩

/-- Where chunk 0 of a point is stored (`k0_off3`). -/
theorem off3_0 (i : grid0.Coords) : k0_off3 i 0#32 = ![128 * min (2 * ((i 0).val % 6) + 0) 10, 0] := by
  refine forall_pt (P := fun i => k0_off3 i 0#32 = ![128 * min (2 * ((i 0).val % 6) + 0) 10, 0]) ?_ i
  decide +kernel

instance closed3_0 (i : grid0.Coords) : ClosedOff (k0_off3 i 0#32) := ⟨![128 * min (2 * ((i 0).val % 6) + 0) 10, 0], off3_0 i⟩

/-- Where chunk 1 of a point is stored (`k0_off3`). -/
theorem off3_1 (i : grid0.Coords) : k0_off3 i 1#32 = ![128 * min (2 * ((i 0).val % 6) + 1) 10, 0] := by
  refine forall_pt (P := fun i => k0_off3 i 1#32 = ![128 * min (2 * ((i 0).val % 6) + 1) 10, 0]) ?_ i
  decide +kernel

instance closed3_1 (i : grid0.Coords) : ClosedOff (k0_off3 i 1#32) := ⟨![128 * min (2 * ((i 0).val % 6) + 1) 10, 0], off3_1 i⟩

/-- Where chunk 0 of a point is stored (`k0_off4`). -/
theorem off4_0 (i : grid0.Coords) : k0_off4 i 0#32 = ![128 * min (2 * ((i 0).val % 6) + 0) 10, 0] := by
  refine forall_pt (P := fun i => k0_off4 i 0#32 = ![128 * min (2 * ((i 0).val % 6) + 0) 10, 0]) ?_ i
  decide +kernel

instance closed4_0 (i : grid0.Coords) : ClosedOff (k0_off4 i 0#32) := ⟨![128 * min (2 * ((i 0).val % 6) + 0) 10, 0], off4_0 i⟩

/-- Where chunk 1 of a point is stored (`k0_off4`). -/
theorem off4_1 (i : grid0.Coords) : k0_off4 i 1#32 = ![128 * min (2 * ((i 0).val % 6) + 1) 10, 0] := by
  refine forall_pt (P := fun i => k0_off4 i 1#32 = ![128 * min (2 * ((i 0).val % 6) + 1) 10, 0]) ?_ i
  decide +kernel

instance closed4_1 (i : grid0.Coords) : ClosedOff (k0_off4 i 1#32) := ⟨![128 * min (2 * ((i 0).val % 6) + 1) 10, 0], off4_1 i⟩

/-- When the second segment runs. -/
theorem cond2_iff (i : grid0.Coords) : k0_cond2 i = 1#1 ↔ (i 0).val < 6 := by
  refine forall_pt (P := fun i => k0_cond2 i = 1#1 ↔ (i 0).val < 6) ?_ i
  decide +kernel

/-- When the third segment runs. -/
theorem cond3_iff (i : grid0.Coords) : advance i = 1#1 ↔ 6 ≤ (i 0).val ∧ (i 0).val < 78 ∧ (i 0).val % 6 = 0 := by
  refine forall_pt (P := fun i => advance i = 1#1 ↔ 6 ≤ (i 0).val ∧ (i 0).val < 78 ∧ (i 0).val % 6 = 0) ?_ i
  decide +kernel

/-- When the fourth segment runs. -/
theorem cond4_iff (i : grid0.Coords) : k0_cond4 i = 1#1 ↔ 6 ≤ (i 0).val ∧ (i 0).val < 78 := by
  refine forall_pt (P := fun i => k0_cond4 i = 1#1 ↔ 6 ≤ (i 0).val ∧ (i 0).val < 78) ?_ i
  decide +kernel

/-- When the fifth segment runs. -/
theorem cond5_iff (i : grid0.Coords) : k0_cond5 i = 1#1 ↔ (i 0).val = 78 := by
  refine forall_pt (P := fun i => k0_cond5 i = 1#1 ↔ (i 0).val = 78) ?_ i
  decide +kernel

end Cert.Kernel3Ideal.Body

end
-- ==== Proof.InHeld.lean ====
module

public import proofs.«01_k».proof.Proof.InGrid
public import Idealize.ShloMosaic.Lib.VecWindow
public import Idealize.ShloMosaic.Lib.Pointwise

/-! What the in-projection's body holds while it runs: the five input blocks, the two output blocks, and its scratch buffers. -/

@[expose] public section

set_option maxRecDepth 65536

noncomputable section

namespace Cert.Kernel3Ideal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3Ideal Cert.Kernel3Ideal.Gen

variable {F : FTy → Type} [FloatOps F]

local notation "𝕄" => MT nD τ sig Unit (Elt F) ℕ (UR sig nD τ) ℕ

/-- What a grid point may change: its two output blocks, the normalised row tile in use, the one being normalised, and the product. -/
structure St (F : FTy → Type) where
  o : Vec F S1408x1024 .bf16
  lr : Vec F S1408x128 .f32
  xn : Vec F S1408x2048 .bf16
  next : Vec F S1408x2048 .bf16
  acc : Vec F S1408x1024 .f32

variable (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S1x1024x2048 .bf16) (harg4 : arg4.IsWhole) (arg5 : Memref sig .tc .vmem S1x128x2048 .bf16) (harg5 : arg5.IsWhole) (arg6 : Memref sig .tc .vmem S1408x1024 .bf16) (harg6 : arg6.IsWhole) (arg7 : Memref sig .tc .vmem S1408x128 .f32) (harg7 : arg7.IsWhole) (arg8 : Memref sig .tc .vmem S1408x2048 .bf16) (harg8 : arg8.IsWhole) (arg9 : Memref sig .tc .vmem S1408x2048 .bf16) (harg9 : arg9.IsWhole) (arg10 : Memref sig .tc .vmem S1408x1024 .f32) (harg10 : arg10.IsWhole)

/-- The five input blocks at their contents, the output blocks and the scratch buffers at the state's. -/
def Held (x1 x2 : Vec F S128x2048 .f32) (pw : Vec F S1x2048 .f32) (w : Vec F S1x1024x2048 .bf16) (wl : Vec F S1x128x2048 .bf16) (s : St F) : sProp 𝕄 :=
  iprop(owns (c : Thread nD τ) arg1 fullShare x1
    ∗ owns (c : Thread nD τ) arg2 fullShare x2
    ∗ owns (c : Thread nD τ) arg3 fullShare pw
    ∗ owns (c : Thread nD τ) arg4 fullShare w
    ∗ owns (c : Thread nD τ) arg5 fullShare wl
    ∗ owns (c : Thread nD τ) arg6 fullShare s.o
    ∗ owns (c : Thread nD τ) arg7 fullShare s.lr
    ∗ owns (c : Thread nD τ) arg8 fullShare s.xn
    ∗ owns (c : Thread nD τ) arg9 fullShare s.next
    ∗ owns (c : Thread nD τ) arg10 fullShare s.acc)

/-- The ten buffers at given contents. -/
abbrev Cells (f1 : arg1.view.ty.Contents (Elt F)) (f2 : arg2.view.ty.Contents (Elt F)) (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) : sProp 𝕄 :=
  iprop((View.loc (c : Thread nD τ) arg1.view ↦[arg1.view.set]{fullShare} f1)
    ∗ (View.loc (c : Thread nD τ) arg2.view ↦[arg2.view.set]{fullShare} f2)
    ∗ (View.loc (c : Thread nD τ) arg3.view ↦[arg3.view.set]{fullShare} f3)
    ∗ (View.loc (c : Thread nD τ) arg4.view ↦[arg4.view.set]{fullShare} f4)
    ∗ (View.loc (c : Thread nD τ) arg5.view ↦[arg5.view.set]{fullShare} f5)
    ∗ (View.loc (c : Thread nD τ) arg6.view ↦[arg6.view.set]{fullShare} f6)
    ∗ (View.loc (c : Thread nD τ) arg7.view ↦[arg7.view.set]{fullShare} f7)
    ∗ (View.loc (c : Thread nD τ) arg8.view ↦[arg8.view.set]{fullShare} f8)
    ∗ (View.loc (c : Thread nD τ) arg9.view ↦[arg9.view.set]{fullShare} f9)
    ∗ (View.loc (c : Thread nD τ) arg10.view ↦[arg10.view.set]{fullShare} f10))

variable (x1 x2 : Vec F S128x2048 .f32) (pw : Vec F S1x2048 .f32) (w : Vec F S1x1024x2048 .bf16) (wl : Vec F S1x128x2048 .bf16) (s : St F)

/-- Whatever follows from the buffers at contents that read as the state follows from the state. -/
theorem held_elim {Q : sProp 𝕄} (h : ∀ (f1 : arg1.view.ty.Contents (Elt F)) (f2 : arg2.view.ty.Contents (Elt F)) (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)), arg1.view.read (Elt F) f1 = x1 → arg2.view.read (Elt F) f2 = x2 → arg3.view.read (Elt F) f3 = pw → arg4.view.read (Elt F) f4 = w → arg5.view.read (Elt F) f5 = wl → arg6.view.read (Elt F) f6 = s.o → arg7.view.read (Elt F) f7 = s.lr → arg8.view.read (Elt F) f8 = s.xn → arg9.view.read (Elt F) f9 = s.next → arg10.view.read (Elt F) f10 = s.acc → (Cells c arg1 arg2 arg3 arg4 arg5 arg6 arg7 arg8 arg9 arg10 f1 f2 f3 f4 f5 f6 f7 f8 f9 f10 ⊢ Q)) :
    Held c arg1 arg2 arg3 arg4 arg5 arg6 arg7 arg8 arg9 arg10 x1 x2 pw w wl s ⊢ Q := by
  unfold Held owns
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩⟩
  iapply (h f1 f2 f3 f4 f5 f6 f7 f8 f9 f10 h1 h2 h3 h4 h5 h6 h7 h8 h9 h10)
  iframe H1 H2 H3 H4 H5 H6 H7 H8 H9 H10

/-- The buffers at contents that read as the state are the state. -/
theorem held_intro (f1 : arg1.view.ty.Contents (Elt F)) (f2 : arg2.view.ty.Contents (Elt F)) (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) (h1 : arg1.view.read (Elt F) f1 = x1) (h2 : arg2.view.read (Elt F) f2 = x2) (h3 : arg3.view.read (Elt F) f3 = pw) (h4 : arg4.view.read (Elt F) f4 = w) (h5 : arg5.view.read (Elt F) f5 = wl) (h6 : arg6.view.read (Elt F) f6 = s.o) (h7 : arg7.view.read (Elt F) f7 = s.lr) (h8 : arg8.view.read (Elt F) f8 = s.xn) (h9 : arg9.view.read (Elt F) f9 = s.next) (h10 : arg10.view.read (Elt F) f10 = s.acc) :
    Cells c arg1 arg2 arg3 arg4 arg5 arg6 arg7 arg8 arg9 arg10 f1 f2 f3 f4 f5 f6 f7 f8 f9 f10 ⊢ Held c arg1 arg2 arg3 arg4 arg5 arg6 arg7 arg8 arg9 arg10 x1 x2 pw w wl s := by
  unfold Held owns
  iintro ⟨H1, H2, H3, H4, H5, H6, H7, H8, H9, H10⟩
  isplitl [H1]
  · iexists _; isplitr; · ipureintro; exact h1
    iexact H1
  isplitl [H2]
  · iexists _; isplitr; · ipureintro; exact h2
    iexact H2
  isplitl [H3]
  · iexists _; isplitr; · ipureintro; exact h3
    iexact H3
  isplitl [H4]
  · iexists _; isplitr; · ipureintro; exact h4
    iexact H4
  isplitl [H5]
  · iexists _; isplitr; · ipureintro; exact h5
    iexact H5
  isplitl [H6]
  · iexists _; isplitr; · ipureintro; exact h6
    iexact H6
  isplitl [H7]
  · iexists _; isplitr; · ipureintro; exact h7
    iexact H7
  isplitl [H8]
  · iexists _; isplitr; · ipureintro; exact h8
    iexact H8
  isplitl [H9]
  · iexists _; isplitr; · ipureintro; exact h9
    iexact H9
  · iexists _; isplitr; · ipureintro; exact h10
    iexact H10

/-- The same, with the equations asked for last. -/
theorem held_intro' (f1 : arg1.view.ty.Contents (Elt F)) (f2 : arg2.view.ty.Contents (Elt F)) (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) :
    iprop((Cells c arg1 arg2 arg3 arg4 arg5 arg6 arg7 arg8 arg9 arg10 f1 f2 f3 f4 f5 f6 f7 f8 f9 f10) ∗ ⌜arg1.view.read (Elt F) f1 = x1 ∧ arg2.view.read (Elt F) f2 = x2 ∧ arg3.view.read (Elt F) f3 = pw ∧ arg4.view.read (Elt F) f4 = w ∧ arg5.view.read (Elt F) f5 = wl ∧ arg6.view.read (Elt F) f6 = s.o ∧ arg7.view.read (Elt F) f7 = s.lr ∧ arg8.view.read (Elt F) f8 = s.xn ∧ arg9.view.read (Elt F) f9 = s.next ∧ arg10.view.read (Elt F) f10 = s.acc⌝) ⊢ Held c arg1 arg2 arg3 arg4 arg5 arg6 arg7 arg8 arg9 arg10 x1 x2 pw w wl s := by
  iintro ⟨H, %h⟩
  obtain ⟨h1, h2, h3, h4, h5, h6, h7, h8, h9, h10⟩ := h
  iapply (held_intro c arg1 arg2 arg3 arg4 arg5 arg6 arg7 arg8 arg9 arg10 x1 x2 pw w wl s f1 f2 f3 f4 f5 f6 f7 f8 f9 f10 h1 h2 h3 h4 h5 h6 h7 h8 h9 h10)
  iexact H

end Cert.Kernel3Ideal.Body

end
-- ==== Proof.InSteps.lean ====
module

public import proofs.«01_k».proof.Proof.InHeld

/-! The in-projection's payloads, and its first, third and fifth segments. -/

@[expose] public section

set_option maxRecDepth 65536

noncomputable section

namespace Cert.Kernel3Ideal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3Ideal Cert.Kernel3Ideal.Gen

variable {F : FTy → Type} [FloatOps F]

local notation "𝕄" => MT nD τ sig Unit (Elt F) ℕ (UR sig nD τ) ℕ

/-- The rows of a chunk, normalised: divided by the root of the mean square, scaled, rounded. -/
def normRows (x : Vec F S128x2048 .f32) (pw : Vec F S1x2048 .f32) : Vec F S128x2048 .bf16 :=
  truncf .bf16 (mulf (mulf x (broadcastTo S128x2048 (rsqrt (addf (divf (shapeCast S128x1 (multiReduction .add [1] S128 (mulf x x) 0x00000000#32 reduces_S128x2048_S128 (.inl rfl) rfl) shapeCasts_S128_S128x1)
    (broadcast S128x1 (Scalar.ofBits .f32 0x45000000#32))) (broadcast S128x1 (Scalar.ofBits .f32 0x358637BD#32)))) broadcasts_S128x1_S128x2048))
    (broadcastTo S128x2048 pw broadcasts_S1x2048_S128x2048)) bitsLt_bf16_f32

/-- A normalised chunk times the low-rank weights. -/
def lrOf (n : Vec F S128x2048 .bf16) (wl : Vec F S1x128x2048 .bf16) : Vec F S128x128 .f32 :=
  matmul dot_S128x2048_S128x2048_S128x128_1_1_0_0_n_n none n (shapeCast S128x2048 wl shapeCasts_S1x128x2048_S128x2048) (constant S128x128 .f32 0x00000000#32)

/-- A normalised row tile times a column tile's weights. -/
def prodOf (n : Vec F S1408x2048 .bf16) (w : Vec F S1x1024x2048 .bf16) : Vec F S1408x1024 .f32 :=
  matmul dot_S1408x2048_S1024x2048_S1408x1024_1_1_0_0_n_n none n (shapeCast S1024x2048 w shapeCasts_S1x1024x2048_S1024x2048) (constant S1408x1024 .f32 0x00000000#32)

/-- The product, rounded. -/
def rounded (a : Vec F S1408x1024 .f32) : Vec F S1408x1024 .bf16 := truncf .bf16 a bitsLt_bf16_f32

variable (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S1x1024x2048 .bf16) (harg4 : arg4.IsWhole) (arg5 : Memref sig .tc .vmem S1x128x2048 .bf16) (harg5 : arg5.IsWhole) (arg6 : Memref sig .tc .vmem S1408x1024 .bf16) (harg6 : arg6.IsWhole) (arg7 : Memref sig .tc .vmem S1408x128 .f32) (harg7 : arg7.IsWhole) (arg8 : Memref sig .tc .vmem S1408x2048 .bf16) (harg8 : arg8.IsWhole) (arg9 : Memref sig .tc .vmem S1408x2048 .bf16) (harg9 : arg9.IsWhole) (arg10 : Memref sig .tc .vmem S1408x1024 .f32) (harg10 : arg10.IsWhole)
variable (x1 x2 : Vec F S128x2048 .f32) (pw : Vec F S1x2048 .f32) (w : Vec F S1x1024x2048 .bf16) (wl : Vec F S1x128x2048 .bf16)

/-- The condition of the first segment: the first grid point. -/
abbrev cond1 (i : grid0.Coords) : Prop :=
  Scalar.cmpi .ne (Scalar.extui (Scalar.cmpi .eq (BitVec.ofNat 32 (i 0).val) 0#32) : BitVec 32) 0#32 = 1#1

/-- The state after the first segment. -/
def St.step1 (s : St F) (i : grid0.Coords) (x1 x2 : Vec F S128x2048 .f32) (pw : Vec F S1x2048 .f32) (w : Vec F S1x1024x2048 .bf16) (wl : Vec F S1x128x2048 .bf16) : St F :=
  if cond1 i then { s with acc := broadcast S1408x1024 (Scalar.ofBits .f32 0x00000000#32 : F .f32) } else s

set_option maxHeartbeats 2000000 in
/-- What the state is after the segment. -/
theorem triple1 (E : Set ℕ) (s : St F) :
    Held c arg1 arg2 arg3 arg4 arg5 arg6 arg7 arg8 arg9 arg10 x1 x2 pw w wl s
      ⊢ wp frame (wpE (defs₀ (F := F)) Variants.none c none) E (seg1 i arg1 harg1 arg2 harg2 arg3 harg3 arg4 harg4 arg5 harg5 arg6 harg6 arg7 harg7 arg8 harg8 arg9 harg9 arg10 harg10)
          (fun _ => Held c arg1 arg2 arg3 arg4 arg5 arg6 arg7 arg8 arg9 arg10 x1 x2 pw w wl (s.step1 i x1 x2 pw w wl)) := by
  refine held_elim c arg1 arg2 arg3 arg4 arg5 arg6 arg7 arg8 arg9 arg10 x1 x2 pw w wl s fun f1 f2 f3 f4 f5 f6 f7 f8 f9 f10 h1 h2 h3 h4 h5 h6 h7 h8 h9 h10 => ?_
  iintro ⟨H1, H2, H3, H4, H5, H6, H7, H8, H9, H10⟩
  unfold seg1 St.step1
  by_cases hc : cond1 i
  · sl_exec (disch := sl_exact hc)
    sl_step
    rw [if_pos hc]
    iapply (held_intro' c arg1 arg2 arg3 arg4 arg5 arg6 arg7 arg8 arg9 arg10 x1 x2 pw w wl { s with acc := broadcast S1408x1024 (Scalar.ofBits .f32 0x00000000#32 : F .f32) } _ _ _ _ _ _ _ _ _ _)
    isplitl
    · iframe H1 H2 H3 H4 H5 H6 H7 H8 H9 H10
    ipureintro
    refine ⟨h1, h2, h3, h4, h5, h6, h7, h8, h9, ?_⟩
    refine (View.read_writes_full _ _ _ _ _).trans ?_
    exact shapeCast_id _ _
  · sl_exec (disch := sl_exact hc)
    sl_step
    rw [if_neg hc]
    iapply (held_intro c arg1 arg2 arg3 arg4 arg5 arg6 arg7 arg8 arg9 arg10 x1 x2 pw w wl s _ _ _ _ _ _ _ _ _ _ h1 h2 h3 h4 h5 h6 h7 h8 h9 h10)
    iframe H1 H2 H3 H4 H5 H6 H7 H8 H9 H10

/-- The state after the third segment. -/
def St.step3 (s : St F) (i : grid0.Coords) (x1 x2 : Vec F S128x2048 .f32) (pw : Vec F S1x2048 .f32) (w : Vec F S1x1024x2048 .bf16) (wl : Vec F S1x128x2048 .bf16) : St F :=
  if advance i = 1#1 then { s with xn := s.next } else s

set_option maxHeartbeats 2000000 in
/-- What the state is after the segment. -/
theorem triple3 (E : Set ℕ) (s : St F) :
    Held c arg1 arg2 arg3 arg4 arg5 arg6 arg7 arg8 arg9 arg10 x1 x2 pw w wl s
      ⊢ wp frame (wpE (defs₀ (F := F)) Variants.none c none) E (seg3 i arg1 harg1 arg2 harg2 arg3 harg3 arg4 harg4 arg5 harg5 arg6 harg6 arg7 harg7 arg8 harg8 arg9 harg9 arg10 harg10)
          (fun _ => Held c arg1 arg2 arg3 arg4 arg5 arg6 arg7 arg8 arg9 arg10 x1 x2 pw w wl (s.step3 i x1 x2 pw w wl)) := by
  refine held_elim c arg1 arg2 arg3 arg4 arg5 arg6 arg7 arg8 arg9 arg10 x1 x2 pw w wl s fun f1 f2 f3 f4 f5 f6 f7 f8 f9 f10 h1 h2 h3 h4 h5 h6 h7 h8 h9 h10 => ?_
  iintro ⟨H1, H2, H3, H4, H5, H6, H7, H8, H9, H10⟩
  unfold seg3 St.step3
  by_cases hc : advance i = 1#1
  · sl_exec (disch := sl_exact hc)
    sl_step
    rw [if_pos hc]
    iapply (held_intro' c arg1 arg2 arg3 arg4 arg5 arg6 arg7 arg8 arg9 arg10 x1 x2 pw w wl { s with xn := s.next } _ _ _ _ _ _ _ _ _ _)
    isplitl
    · iframe H1 H2 H3 H4 H5 H6 H7 H8 H9 H10
    ipureintro
    refine ⟨h1, h2, h3, h4, h5, h6, h7, ?_, h9, h10⟩
    refine (View.read_writes_full _ _ _ _ _).trans ?_
    show triple3.sl.v47 arg9 f9 = s.next
    unfold triple3.sl.v47
    rw [← h9, shapeCast_id]
    exact View.readAt_full _ _ _
  · sl_exec (disch := sl_exact hc)
    sl_step
    rw [if_neg hc]
    iapply (held_intro c arg1 arg2 arg3 arg4 arg5 arg6 arg7 arg8 arg9 arg10 x1 x2 pw w wl s _ _ _ _ _ _ _ _ _ _ h1 h2 h3 h4 h5 h6 h7 h8 h9 h10)
    iframe H1 H2 H3 H4 H5 H6 H7 H8 H9 H10

/-- The state after the fifth segment. -/
def St.step5 (s : St F) (i : grid0.Coords) (x1 x2 : Vec F S128x2048 .f32) (pw : Vec F S1x2048 .f32) (w : Vec F S1x1024x2048 .bf16) (wl : Vec F S1x128x2048 .bf16) : St F :=
  if k0_cond5 i = 1#1 then { s with o := rounded s.acc } else s

set_option maxHeartbeats 2000000 in
/-- What the state is after the segment. -/
theorem triple5 (E : Set ℕ) (s : St F) :
    Held c arg1 arg2 arg3 arg4 arg5 arg6 arg7 arg8 arg9 arg10 x1 x2 pw w wl s
      ⊢ wp frame (wpE (defs₀ (F := F)) Variants.none c none) E (seg5 i arg1 harg1 arg2 harg2 arg3 harg3 arg4 harg4 arg5 harg5 arg6 harg6 arg7 harg7 arg8 harg8 arg9 harg9 arg10 harg10)
          (fun _ => Held c arg1 arg2 arg3 arg4 arg5 arg6 arg7 arg8 arg9 arg10 x1 x2 pw w wl (s.step5 i x1 x2 pw w wl)) := by
  refine held_elim c arg1 arg2 arg3 arg4 arg5 arg6 arg7 arg8 arg9 arg10 x1 x2 pw w wl s fun f1 f2 f3 f4 f5 f6 f7 f8 f9 f10 h1 h2 h3 h4 h5 h6 h7 h8 h9 h10 => ?_
  iintro ⟨H1, H2, H3, H4, H5, H6, H7, H8, H9, H10⟩
  unfold seg5 St.step5
  by_cases hc : k0_cond5 i = 1#1
  · sl_exec (disch := sl_exact hc)
    sl_step
    rw [if_pos hc]
    iapply (held_intro' c arg1 arg2 arg3 arg4 arg5 arg6 arg7 arg8 arg9 arg10 x1 x2 pw w wl { s with o := rounded s.acc } _ _ _ _ _ _ _ _ _ _)
    isplitl
    · iframe H1 H2 H3 H4 H5 H6 H7 H8 H9 H10
    ipureintro
    refine ⟨h1, h2, h3, h4, h5, ?_, h7, h8, h9, h10⟩
    rw [← h10]
    refine (View.read_writes_full _ _ _ _ _).trans ?_
    unfold triple5.sl.v45
    rw [View.readAt_full]
    rfl
  · sl_exec (disch := sl_exact hc)
    sl_step
    rw [if_neg hc]
    iapply (held_intro c arg1 arg2 arg3 arg4 arg5 arg6 arg7 arg8 arg9 arg10 x1 x2 pw w wl s _ _ _ _ _ _ _ _ _ _ h1 h2 h3 h4 h5 h6 h7 h8 h9 h10)
    iframe H1 H2 H3 H4 H5 H6 H7 H8 H9 H10

end Cert.Kernel3Ideal.Body

end
-- ==== Proof.InStep2.lean ====
module

public import proofs.«01_k».proof.Proof.InSteps

/-! The in-projection's second segment: the first row tile's chunks are normalised. -/

@[expose] public section

set_option maxRecDepth 65536

noncomputable section

namespace Cert.Kernel3Ideal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3Ideal Cert.Kernel3Ideal.Gen

variable {F : FTy → Type} [FloatOps F]

local notation "𝕄" => MT nD τ sig Unit (Elt F) ℕ (UR sig nD τ) ℕ

variable (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S1x1024x2048 .bf16) (harg4 : arg4.IsWhole) (arg5 : Memref sig .tc .vmem S1x128x2048 .bf16) (harg5 : arg5.IsWhole) (arg6 : Memref sig .tc .vmem S1408x1024 .bf16) (harg6 : arg6.IsWhole) (arg7 : Memref sig .tc .vmem S1408x128 .f32) (harg7 : arg7.IsWhole) (arg8 : Memref sig .tc .vmem S1408x2048 .bf16) (harg8 : arg8.IsWhole) (arg9 : Memref sig .tc .vmem S1408x2048 .bf16) (harg9 : arg9.IsWhole) (arg10 : Memref sig .tc .vmem S1408x1024 .f32) (harg10 : arg10.IsWhole)
variable (x1 x2 : Vec F S128x2048 .f32) (pw : Vec F S1x2048 .f32) (w : Vec F S1x1024x2048 .bf16) (wl : Vec F S1x128x2048 .bf16)

/-- The state after the second segment. -/
def St.step2 (s : St F) (i : grid0.Coords) (x1 x2 : Vec F S128x2048 .f32) (pw : Vec F S1x2048 .f32) (w : Vec F S1x1024x2048 .bf16) (wl : Vec F S1x128x2048 .bf16) : St F :=
  if k0_cond2 i = 1#1 then { s with next := VecWindow.put (VecWindow.put s.next (k0_off1 i 0#32) S128x2048.size (normRows x1 pw)) (k0_off1 i 1#32) S128x2048.size (normRows x2 pw), lr := VecWindow.put (VecWindow.put s.lr (k0_off2 i 0#32) S128x128.size (lrOf (normRows x1 pw) wl)) (k0_off2 i 1#32) S128x128.size (lrOf (normRows x2 pw) wl) } else s

set_option maxHeartbeats 2000000 in
/-- What the state is after the segment. -/
theorem triple2 (E : Set ℕ) (s : St F) :
    Held c arg1 arg2 arg3 arg4 arg5 arg6 arg7 arg8 arg9 arg10 x1 x2 pw w wl s
      ⊢ wp frame (wpE (defs₀ (F := F)) Variants.none c none) E (seg2 i arg1 harg1 arg2 harg2 arg3 harg3 arg4 harg4 arg5 harg5 arg6 harg6 arg7 harg7 arg8 harg8 arg9 harg9 arg10 harg10)
          (fun _ => Held c arg1 arg2 arg3 arg4 arg5 arg6 arg7 arg8 arg9 arg10 x1 x2 pw w wl (s.step2 i x1 x2 pw w wl)) := by
  refine held_elim c arg1 arg2 arg3 arg4 arg5 arg6 arg7 arg8 arg9 arg10 x1 x2 pw w wl s fun f1 f2 f3 f4 f5 f6 f7 f8 f9 f10 h1 h2 h3 h4 h5 h6 h7 h8 h9 h10 => ?_
  iintro ⟨H1, H2, H3, H4, H5, H6, H7, H8, H9, H10⟩
  unfold seg2 St.step2
  unfold k0_part1 k0_part2
  by_cases hc : k0_cond2 i = 1#1
  · sl_exec (disch := sl_exact hc)
    sl_step
    rw [if_pos hc]
    iapply (held_intro' c arg1 arg2 arg3 arg4 arg5 arg6 arg7 arg8 arg9 arg10 x1 x2 pw w wl { s with next := VecWindow.put (VecWindow.put s.next (k0_off1 i 0#32) S128x2048.size (normRows x1 pw)) (k0_off1 i 1#32) S128x2048.size (normRows x2 pw), lr := VecWindow.put (VecWindow.put s.lr (k0_off2 i 0#32) S128x128.size (lrOf (normRows x1 pw) wl)) (k0_off2 i 1#32) S128x128.size (lrOf (normRows x2 pw) wl) } _ _ _ _ _ _ _ _ _ _)
    isplitl
    · iframe H1 H2 H3 H4 H5 H6 H7 H8 H9 H10
    ipureintro
    have e1 : arg1.view.readAt (Elt F) (Rect.unit (s := S128x2048) ![0, 0] S128x2048.size inb_S128x2048_S128x2048_0_0).toLoadRect f1 = x1 := (View.readAt_full _ _ _).trans h1
    have e2 : arg2.view.readAt (Elt F) (Rect.unit (s := S128x2048) ![0, 0] S128x2048.size inb_S128x2048_S128x2048_0_0).toLoadRect f2 = x2 := (View.readAt_full _ _ _).trans h2
    have e3 : arg3.view.readAt (Elt F) (Rect.unit (s := S1x2048) ![0, 0] S1x2048.size inb_S1x2048_S1x2048_0_0).toLoadRect f3 = pw := (View.readAt_full _ _ _).trans h3
    have e5 : arg5.view.readAt (Elt F) (Rect.unit (s := S1x128x2048) ![0, 0, 0] S1x128x2048.size inb_S1x128x2048_S1x128x2048_0_0_0).toLoadRect f5 = wl := (View.readAt_full _ _ _).trans h5
    refine ⟨h1, h2, h3, h4, h5, h6, ?_, h8, ?_, h10⟩
    · rw [← h7]
      refine (View.read_writes_cons_put _ _ _ _ _ rfl).trans ?_
      try unfold triple2.sl.H9_1
      try unfold triple2.sl.H7_1
      rw [View.read_writes_cons_put _ _ _ _ _ rfl, View.writes_nil]
      rw [← e1, ← e2, ← e3, ← e5]
      repeat first | unfold triple2.sl.v44 | unfold triple2.sl.v45 | unfold triple2.sl.v46 | unfold triple2.sl.v47 | unfold triple2.sl.v48 | unfold triple2.sl.v49 | unfold triple2.sl.v50 | unfold triple2.sl.v51 | unfold triple2.sl.v52 | unfold triple2.sl.v53 | unfold triple2.sl.v54 | unfold triple2.sl.v55 | unfold triple2.sl.v56 | unfold triple2.sl.v57 | unfold triple2.sl.v58 | unfold triple2.sl.v59 | unfold triple2.sl.v60 | unfold triple2.sl.v61 | unfold triple2.sl.v62 | unfold triple2.sl.v63 | unfold triple2.sl.v64 | unfold triple2.sl.v65 | unfold triple2.sl.v66 | unfold triple2.sl.v67 | unfold triple2.sl.v68 | unfold triple2.sl.v69 | unfold triple2.sl.v70 | unfold triple2.sl.v71 | unfold triple2.sl.v72 | unfold triple2.sl.v73 | unfold triple2.sl.v74 | unfold triple2.sl.v75 | unfold triple2.sl.v76 | unfold triple2.sl.v77 | unfold triple2.sl.v78 | unfold triple2.sl.v79 | unfold triple2.sl.v80 | unfold triple2.sl.v81 | unfold triple2.sl.v82 | unfold triple2.sl.v83 | unfold triple2.sl.v84 | unfold triple2.sl.v85 | unfold triple2.sl.v86 | unfold triple2.sl.v87 | unfold triple2.sl.v88 | unfold triple2.sl.v89 | unfold triple2.sl.v90 | unfold triple2.sl.v91 | unfold triple2.sl.v92 | unfold triple2.sl.v93 | unfold triple2.sl.v94 | unfold triple2.sl.v95 | unfold triple2.sl.v96 | unfold triple2.sl.v97 | unfold triple2.sl.v98 | unfold triple2.sl.v99 | unfold triple2.sl.v100 | unfold triple2.sl.v101 | unfold triple2.sl.v102 | unfold triple2.sl.v103 | unfold triple2.sl.v104 | unfold triple2.sl.v105 | unfold triple2.sl.v106 | unfold triple2.sl.v107 | unfold triple2.sl.v108 | unfold triple2.sl.v109 | unfold triple2.sl.v110 | unfold triple2.sl.v111 | unfold triple2.sl.v112 | unfold triple2.sl.v113 | unfold triple2.sl.v114 | unfold triple2.sl.v115 | unfold triple2.sl.v116 | unfold triple2.sl.v117 | unfold triple2.sl.v118 | unfold triple2.sl.v119 | unfold triple2.sl.v120 | unfold triple2.sl.v121 | unfold triple2.sl.v122 | unfold triple2.sl.v123 | unfold triple2.sl.v124 | unfold triple2.sl.v125 | unfold triple2.sl.v126 | unfold triple2.sl.v127 | unfold triple2.sl.v128 | unfold triple2.sl.v129 | unfold triple2.sl.v130 | unfold triple2.sl.v131 | unfold triple2.sl.v132 | unfold triple2.sl.v133 | unfold triple2.sl.cst | unfold triple2.sl.cst_29 | unfold triple2.sl.cst_30 | unfold triple2.sl.cst_31 | unfold triple2.sl.cst_32 | unfold triple2.sl.cst_33 | unfold triple2.sl.cst_34 | unfold triple2.sl.cst_35 | unfold triple2.sl.cst_36 | unfold triple2.sl.cst_37 | unfold triple2.sl.cst_38 | unfold triple2.sl.cst_39 | unfold triple2.sl.cst_40 | unfold triple2.sl.cst_41 | unfold triple2.sl.cst_42 | unfold triple2.sl.cst_43 | unfold triple2.sl.cst_44 | unfold triple2.sl.cst_45 | unfold triple2.sl.cst_46 | unfold triple2.sl.cst_47 | unfold triple2.sl.cst_48 | unfold triple2.sl.cst_49 | unfold triple2.sl.cst_50 | unfold triple2.sl.cst_51 | unfold triple2.sl.cst_52 | unfold triple2.sl.cst_53 | unfold triple2.sl.cst_54 | unfold triple2.sl.cst_55 | unfold triple2.sl.cst_56 | unfold triple2.sl.cst_57 | unfold triple2.sl.cst_58 | unfold triple2.sl.cst_59 | unfold triple2.sl.cst_60 | unfold triple2.sl.cst_61 | unfold triple2.sl.cst_62 | unfold triple2.sl.cst_63 | unfold triple2.sl.cst_64 | unfold triple2.sl.cst_65 | unfold triple2.sl.cst_66 | unfold triple2.sl.cst_67 | unfold triple2.sl.cst_68 | unfold triple2.sl.cst_69 | unfold triple2.sl.cst_70 | unfold triple2.sl.cst_71 | unfold triple2.sl.cst_72 | unfold triple2.sl.cst_73 | unfold triple2.sl.cst_74 | unfold triple2.sl.cst_75
      (try simp only [shapeCast_id])
      rfl
    · rw [← h9]
      refine (View.read_writes_cons_put _ _ _ _ _ rfl).trans ?_
      try unfold triple2.sl.H9_1
      try unfold triple2.sl.H7_1
      rw [View.read_writes_cons_put _ _ _ _ _ rfl, View.writes_nil]
      rw [← e1, ← e2, ← e3]
      repeat first | unfold triple2.sl.v44 | unfold triple2.sl.v45 | unfold triple2.sl.v46 | unfold triple2.sl.v47 | unfold triple2.sl.v48 | unfold triple2.sl.v49 | unfold triple2.sl.v50 | unfold triple2.sl.v51 | unfold triple2.sl.v52 | unfold triple2.sl.v53 | unfold triple2.sl.v54 | unfold triple2.sl.v55 | unfold triple2.sl.v56 | unfold triple2.sl.v57 | unfold triple2.sl.v58 | unfold triple2.sl.v59 | unfold triple2.sl.v60 | unfold triple2.sl.v61 | unfold triple2.sl.v62 | unfold triple2.sl.v63 | unfold triple2.sl.v64 | unfold triple2.sl.v65 | unfold triple2.sl.v66 | unfold triple2.sl.v67 | unfold triple2.sl.v68 | unfold triple2.sl.v69 | unfold triple2.sl.v70 | unfold triple2.sl.v71 | unfold triple2.sl.v72 | unfold triple2.sl.v73 | unfold triple2.sl.v74 | unfold triple2.sl.v75 | unfold triple2.sl.v76 | unfold triple2.sl.v77 | unfold triple2.sl.v78 | unfold triple2.sl.v79 | unfold triple2.sl.v80 | unfold triple2.sl.v81 | unfold triple2.sl.v82 | unfold triple2.sl.v83 | unfold triple2.sl.v84 | unfold triple2.sl.v85 | unfold triple2.sl.v86 | unfold triple2.sl.v87 | unfold triple2.sl.v88 | unfold triple2.sl.v89 | unfold triple2.sl.v90 | unfold triple2.sl.v91 | unfold triple2.sl.v92 | unfold triple2.sl.v93 | unfold triple2.sl.v94 | unfold triple2.sl.v95 | unfold triple2.sl.v96 | unfold triple2.sl.v97 | unfold triple2.sl.v98 | unfold triple2.sl.v99 | unfold triple2.sl.v100 | unfold triple2.sl.v101 | unfold triple2.sl.v102 | unfold triple2.sl.v103 | unfold triple2.sl.v104 | unfold triple2.sl.v105 | unfold triple2.sl.v106 | unfold triple2.sl.v107 | unfold triple2.sl.v108 | unfold triple2.sl.v109 | unfold triple2.sl.v110 | unfold triple2.sl.v111 | unfold triple2.sl.v112 | unfold triple2.sl.v113 | unfold triple2.sl.v114 | unfold triple2.sl.v115 | unfold triple2.sl.v116 | unfold triple2.sl.v117 | unfold triple2.sl.v118 | unfold triple2.sl.v119 | unfold triple2.sl.v120 | unfold triple2.sl.v121 | unfold triple2.sl.v122 | unfold triple2.sl.v123 | unfold triple2.sl.v124 | unfold triple2.sl.v125 | unfold triple2.sl.v126 | unfold triple2.sl.v127 | unfold triple2.sl.v128 | unfold triple2.sl.v129 | unfold triple2.sl.v130 | unfold triple2.sl.v131 | unfold triple2.sl.v132 | unfold triple2.sl.v133 | unfold triple2.sl.cst | unfold triple2.sl.cst_29 | unfold triple2.sl.cst_30 | unfold triple2.sl.cst_31 | unfold triple2.sl.cst_32 | unfold triple2.sl.cst_33 | unfold triple2.sl.cst_34 | unfold triple2.sl.cst_35 | unfold triple2.sl.cst_36 | unfold triple2.sl.cst_37 | unfold triple2.sl.cst_38 | unfold triple2.sl.cst_39 | unfold triple2.sl.cst_40 | unfold triple2.sl.cst_41 | unfold triple2.sl.cst_42 | unfold triple2.sl.cst_43 | unfold triple2.sl.cst_44 | unfold triple2.sl.cst_45 | unfold triple2.sl.cst_46 | unfold triple2.sl.cst_47 | unfold triple2.sl.cst_48 | unfold triple2.sl.cst_49 | unfold triple2.sl.cst_50 | unfold triple2.sl.cst_51 | unfold triple2.sl.cst_52 | unfold triple2.sl.cst_53 | unfold triple2.sl.cst_54 | unfold triple2.sl.cst_55 | unfold triple2.sl.cst_56 | unfold triple2.sl.cst_57 | unfold triple2.sl.cst_58 | unfold triple2.sl.cst_59 | unfold triple2.sl.cst_60 | unfold triple2.sl.cst_61 | unfold triple2.sl.cst_62 | unfold triple2.sl.cst_63 | unfold triple2.sl.cst_64 | unfold triple2.sl.cst_65 | unfold triple2.sl.cst_66 | unfold triple2.sl.cst_67 | unfold triple2.sl.cst_68 | unfold triple2.sl.cst_69 | unfold triple2.sl.cst_70 | unfold triple2.sl.cst_71 | unfold triple2.sl.cst_72 | unfold triple2.sl.cst_73 | unfold triple2.sl.cst_74 | unfold triple2.sl.cst_75
      (try simp only [shapeCast_id])
      rfl
  · sl_exec (disch := sl_exact hc)
    sl_step
    rw [if_neg hc]
    iapply (held_intro c arg1 arg2 arg3 arg4 arg5 arg6 arg7 arg8 arg9 arg10 x1 x2 pw w wl s _ _ _ _ _ _ _ _ _ _ h1 h2 h3 h4 h5 h6 h7 h8 h9 h10)
    iframe H1 H2 H3 H4 H5 H6 H7 H8 H9 H10

end Cert.Kernel3Ideal.Body

end
-- ==== Proof.InStep4.lean ====
module

public import proofs.«01_k».proof.Proof.InSteps

/-! The in-projection's fourth segment: a product, and two chunks of the next row tile. -/

@[expose] public section

set_option maxRecDepth 65536

noncomputable section

namespace Cert.Kernel3Ideal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3Ideal Cert.Kernel3Ideal.Gen

variable {F : FTy → Type} [FloatOps F]

local notation "𝕄" => MT nD τ sig Unit (Elt F) ℕ (UR sig nD τ) ℕ

variable (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S1x1024x2048 .bf16) (harg4 : arg4.IsWhole) (arg5 : Memref sig .tc .vmem S1x128x2048 .bf16) (harg5 : arg5.IsWhole) (arg6 : Memref sig .tc .vmem S1408x1024 .bf16) (harg6 : arg6.IsWhole) (arg7 : Memref sig .tc .vmem S1408x128 .f32) (harg7 : arg7.IsWhole) (arg8 : Memref sig .tc .vmem S1408x2048 .bf16) (harg8 : arg8.IsWhole) (arg9 : Memref sig .tc .vmem S1408x2048 .bf16) (harg9 : arg9.IsWhole) (arg10 : Memref sig .tc .vmem S1408x1024 .f32) (harg10 : arg10.IsWhole)
variable (x1 x2 : Vec F S128x2048 .f32) (pw : Vec F S1x2048 .f32) (w : Vec F S1x1024x2048 .bf16) (wl : Vec F S1x128x2048 .bf16)

/-- The state after the fourth segment. -/
def St.step4 (s : St F) (i : grid0.Coords) (x1 x2 : Vec F S128x2048 .f32) (pw : Vec F S1x2048 .f32) (w : Vec F S1x1024x2048 .bf16) (wl : Vec F S1x128x2048 .bf16) : St F :=
  if k0_cond4 i = 1#1 then { s with o := rounded s.acc, acc := prodOf s.xn w, next := VecWindow.put (VecWindow.put s.next (k0_off3 i 0#32) S128x2048.size (normRows x1 pw)) (k0_off3 i 1#32) S128x2048.size (normRows x2 pw), lr := VecWindow.put (VecWindow.put s.lr (k0_off4 i 0#32) S128x128.size (lrOf (normRows x1 pw) wl)) (k0_off4 i 1#32) S128x128.size (lrOf (normRows x2 pw) wl) } else s

set_option maxHeartbeats 2000000 in
/-- What the state is after the segment. -/
theorem triple4 (E : Set ℕ) (s : St F) :
    Held c arg1 arg2 arg3 arg4 arg5 arg6 arg7 arg8 arg9 arg10 x1 x2 pw w wl s
      ⊢ wp frame (wpE (defs₀ (F := F)) Variants.none c none) E (seg4 i arg1 harg1 arg2 harg2 arg3 harg3 arg4 harg4 arg5 harg5 arg6 harg6 arg7 harg7 arg8 harg8 arg9 harg9 arg10 harg10)
          (fun _ => Held c arg1 arg2 arg3 arg4 arg5 arg6 arg7 arg8 arg9 arg10 x1 x2 pw w wl (s.step4 i x1 x2 pw w wl)) := by
  refine held_elim c arg1 arg2 arg3 arg4 arg5 arg6 arg7 arg8 arg9 arg10 x1 x2 pw w wl s fun f1 f2 f3 f4 f5 f6 f7 f8 f9 f10 h1 h2 h3 h4 h5 h6 h7 h8 h9 h10 => ?_
  iintro ⟨H1, H2, H3, H4, H5, H6, H7, H8, H9, H10⟩
  unfold seg4 St.step4
  unfold k0_part3 k0_part4
  by_cases hc : k0_cond4 i = 1#1
  · sl_exec (disch := sl_exact hc)
    sl_step
    rw [if_pos hc]
    iapply (held_intro' c arg1 arg2 arg3 arg4 arg5 arg6 arg7 arg8 arg9 arg10 x1 x2 pw w wl { s with o := rounded s.acc, acc := prodOf s.xn w, next := VecWindow.put (VecWindow.put s.next (k0_off3 i 0#32) S128x2048.size (normRows x1 pw)) (k0_off3 i 1#32) S128x2048.size (normRows x2 pw), lr := VecWindow.put (VecWindow.put s.lr (k0_off4 i 0#32) S128x128.size (lrOf (normRows x1 pw) wl)) (k0_off4 i 1#32) S128x128.size (lrOf (normRows x2 pw) wl) } _ _ _ _ _ _ _ _ _ _)
    isplitl
    · iframe H1 H2 H3 H4 H5 H6 H7 H8 H9 H10
    ipureintro
    have e1 : arg1.view.readAt (Elt F) (Rect.unit (s := S128x2048) ![0, 0] S128x2048.size inb_S128x2048_S128x2048_0_0).toLoadRect f1 = x1 := (View.readAt_full _ _ _).trans h1
    have e2 : arg2.view.readAt (Elt F) (Rect.unit (s := S128x2048) ![0, 0] S128x2048.size inb_S128x2048_S128x2048_0_0).toLoadRect f2 = x2 := (View.readAt_full _ _ _).trans h2
    have e3 : arg3.view.readAt (Elt F) (Rect.unit (s := S1x2048) ![0, 0] S1x2048.size inb_S1x2048_S1x2048_0_0).toLoadRect f3 = pw := (View.readAt_full _ _ _).trans h3
    have e5 : arg5.view.readAt (Elt F) (Rect.unit (s := S1x128x2048) ![0, 0, 0] S1x128x2048.size inb_S1x128x2048_S1x128x2048_0_0_0).toLoadRect f5 = wl := (View.readAt_full _ _ _).trans h5
    have e4 : arg4.view.readAt (Elt F) (Rect.unit (s := S1x1024x2048) ![0, 0, 0] S1x1024x2048.size inb_S1x1024x2048_S1x1024x2048_0_0_0).toLoadRect f4 = w := (View.readAt_full _ _ _).trans h4
    have e8 : arg8.view.readAt (Elt F) (Rect.unit (s := S1408x2048) ![0, 0] S1408x2048.size inb_S1408x2048_S1408x2048_0_0).toLoadRect f8 = s.xn := (View.readAt_full _ _ _).trans h8
    have e10 : arg10.view.readAt (Elt F) (Rect.unit (s := S1408x1024) ![0, 0] S1408x1024.size inb_S1408x1024_S1408x1024_0_0).toLoadRect f10 = s.acc := (View.readAt_full _ _ _).trans h10
    refine ⟨h1, h2, h3, h4, h5, ?_, ?_, h8, ?_, ?_⟩
    · refine (View.read_writes_full _ _ _ _ _).trans ?_
      rw [← e10]
      repeat first | unfold triple4.sl.v44 | unfold triple4.sl.v45 | unfold triple4.sl.v46 | unfold triple4.sl.v47 | unfold triple4.sl.v48 | unfold triple4.sl.v49 | unfold triple4.sl.v50 | unfold triple4.sl.v51 | unfold triple4.sl.v52 | unfold triple4.sl.v53 | unfold triple4.sl.v54 | unfold triple4.sl.v55 | unfold triple4.sl.v56 | unfold triple4.sl.v57 | unfold triple4.sl.v58 | unfold triple4.sl.v59 | unfold triple4.sl.v60 | unfold triple4.sl.v61 | unfold triple4.sl.v62 | unfold triple4.sl.v63 | unfold triple4.sl.v64 | unfold triple4.sl.v65 | unfold triple4.sl.v66 | unfold triple4.sl.v67 | unfold triple4.sl.v68 | unfold triple4.sl.v69 | unfold triple4.sl.v70 | unfold triple4.sl.v71 | unfold triple4.sl.v72 | unfold triple4.sl.v73 | unfold triple4.sl.v74 | unfold triple4.sl.v75 | unfold triple4.sl.v76 | unfold triple4.sl.v77 | unfold triple4.sl.v78 | unfold triple4.sl.v79 | unfold triple4.sl.v80 | unfold triple4.sl.v81 | unfold triple4.sl.v82 | unfold triple4.sl.v83 | unfold triple4.sl.v84 | unfold triple4.sl.v85 | unfold triple4.sl.v86 | unfold triple4.sl.v87 | unfold triple4.sl.v88 | unfold triple4.sl.v89 | unfold triple4.sl.v90 | unfold triple4.sl.v91 | unfold triple4.sl.v92 | unfold triple4.sl.v93 | unfold triple4.sl.v94 | unfold triple4.sl.v95 | unfold triple4.sl.v96 | unfold triple4.sl.v97 | unfold triple4.sl.v98 | unfold triple4.sl.v99 | unfold triple4.sl.v100 | unfold triple4.sl.v101 | unfold triple4.sl.v102 | unfold triple4.sl.v103 | unfold triple4.sl.v104 | unfold triple4.sl.v105 | unfold triple4.sl.v106 | unfold triple4.sl.v107 | unfold triple4.sl.v108 | unfold triple4.sl.v109 | unfold triple4.sl.v110 | unfold triple4.sl.v111 | unfold triple4.sl.v112 | unfold triple4.sl.v113 | unfold triple4.sl.v114 | unfold triple4.sl.v115 | unfold triple4.sl.v116 | unfold triple4.sl.v117 | unfold triple4.sl.v118 | unfold triple4.sl.v119 | unfold triple4.sl.v120 | unfold triple4.sl.v121 | unfold triple4.sl.v122 | unfold triple4.sl.v123 | unfold triple4.sl.v124 | unfold triple4.sl.v125 | unfold triple4.sl.v126 | unfold triple4.sl.v127 | unfold triple4.sl.v128 | unfold triple4.sl.v129 | unfold triple4.sl.v130 | unfold triple4.sl.v131 | unfold triple4.sl.v132 | unfold triple4.sl.v133 | unfold triple4.sl.cst | unfold triple4.sl.cst_29 | unfold triple4.sl.cst_30 | unfold triple4.sl.cst_31 | unfold triple4.sl.cst_32 | unfold triple4.sl.cst_33 | unfold triple4.sl.cst_34 | unfold triple4.sl.cst_35 | unfold triple4.sl.cst_36 | unfold triple4.sl.cst_37 | unfold triple4.sl.cst_38 | unfold triple4.sl.cst_39 | unfold triple4.sl.cst_40 | unfold triple4.sl.cst_41 | unfold triple4.sl.cst_42 | unfold triple4.sl.cst_43 | unfold triple4.sl.cst_44 | unfold triple4.sl.cst_45 | unfold triple4.sl.cst_46 | unfold triple4.sl.cst_47 | unfold triple4.sl.cst_48 | unfold triple4.sl.cst_49 | unfold triple4.sl.cst_50 | unfold triple4.sl.cst_51 | unfold triple4.sl.cst_52 | unfold triple4.sl.cst_53 | unfold triple4.sl.cst_54 | unfold triple4.sl.cst_55 | unfold triple4.sl.cst_56 | unfold triple4.sl.cst_57 | unfold triple4.sl.cst_58 | unfold triple4.sl.cst_59 | unfold triple4.sl.cst_60 | unfold triple4.sl.cst_61 | unfold triple4.sl.cst_62 | unfold triple4.sl.cst_63 | unfold triple4.sl.cst_64 | unfold triple4.sl.cst_65 | unfold triple4.sl.cst_66 | unfold triple4.sl.cst_67 | unfold triple4.sl.cst_68 | unfold triple4.sl.cst_69 | unfold triple4.sl.cst_70 | unfold triple4.sl.cst_71 | unfold triple4.sl.cst_72 | unfold triple4.sl.cst_73 | unfold triple4.sl.cst_74 | unfold triple4.sl.cst_75
      (try simp only [shapeCast_id])
      rfl
    · rw [← h7]
      refine (View.read_writes_cons_put _ _ _ _ _ rfl).trans ?_
      try unfold triple4.sl.H9_1
      try unfold triple4.sl.H7_1
      rw [View.read_writes_cons_put _ _ _ _ _ rfl, View.writes_nil]
      rw [← e1, ← e2, ← e3, ← e5]
      repeat first | unfold triple4.sl.v44 | unfold triple4.sl.v45 | unfold triple4.sl.v46 | unfold triple4.sl.v47 | unfold triple4.sl.v48 | unfold triple4.sl.v49 | unfold triple4.sl.v50 | unfold triple4.sl.v51 | unfold triple4.sl.v52 | unfold triple4.sl.v53 | unfold triple4.sl.v54 | unfold triple4.sl.v55 | unfold triple4.sl.v56 | unfold triple4.sl.v57 | unfold triple4.sl.v58 | unfold triple4.sl.v59 | unfold triple4.sl.v60 | unfold triple4.sl.v61 | unfold triple4.sl.v62 | unfold triple4.sl.v63 | unfold triple4.sl.v64 | unfold triple4.sl.v65 | unfold triple4.sl.v66 | unfold triple4.sl.v67 | unfold triple4.sl.v68 | unfold triple4.sl.v69 | unfold triple4.sl.v70 | unfold triple4.sl.v71 | unfold triple4.sl.v72 | unfold triple4.sl.v73 | unfold triple4.sl.v74 | unfold triple4.sl.v75 | unfold triple4.sl.v76 | unfold triple4.sl.v77 | unfold triple4.sl.v78 | unfold triple4.sl.v79 | unfold triple4.sl.v80 | unfold triple4.sl.v81 | unfold triple4.sl.v82 | unfold triple4.sl.v83 | unfold triple4.sl.v84 | unfold triple4.sl.v85 | unfold triple4.sl.v86 | unfold triple4.sl.v87 | unfold triple4.sl.v88 | unfold triple4.sl.v89 | unfold triple4.sl.v90 | unfold triple4.sl.v91 | unfold triple4.sl.v92 | unfold triple4.sl.v93 | unfold triple4.sl.v94 | unfold triple4.sl.v95 | unfold triple4.sl.v96 | unfold triple4.sl.v97 | unfold triple4.sl.v98 | unfold triple4.sl.v99 | unfold triple4.sl.v100 | unfold triple4.sl.v101 | unfold triple4.sl.v102 | unfold triple4.sl.v103 | unfold triple4.sl.v104 | unfold triple4.sl.v105 | unfold triple4.sl.v106 | unfold triple4.sl.v107 | unfold triple4.sl.v108 | unfold triple4.sl.v109 | unfold triple4.sl.v110 | unfold triple4.sl.v111 | unfold triple4.sl.v112 | unfold triple4.sl.v113 | unfold triple4.sl.v114 | unfold triple4.sl.v115 | unfold triple4.sl.v116 | unfold triple4.sl.v117 | unfold triple4.sl.v118 | unfold triple4.sl.v119 | unfold triple4.sl.v120 | unfold triple4.sl.v121 | unfold triple4.sl.v122 | unfold triple4.sl.v123 | unfold triple4.sl.v124 | unfold triple4.sl.v125 | unfold triple4.sl.v126 | unfold triple4.sl.v127 | unfold triple4.sl.v128 | unfold triple4.sl.v129 | unfold triple4.sl.v130 | unfold triple4.sl.v131 | unfold triple4.sl.v132 | unfold triple4.sl.v133 | unfold triple4.sl.cst | unfold triple4.sl.cst_29 | unfold triple4.sl.cst_30 | unfold triple4.sl.cst_31 | unfold triple4.sl.cst_32 | unfold triple4.sl.cst_33 | unfold triple4.sl.cst_34 | unfold triple4.sl.cst_35 | unfold triple4.sl.cst_36 | unfold triple4.sl.cst_37 | unfold triple4.sl.cst_38 | unfold triple4.sl.cst_39 | unfold triple4.sl.cst_40 | unfold triple4.sl.cst_41 | unfold triple4.sl.cst_42 | unfold triple4.sl.cst_43 | unfold triple4.sl.cst_44 | unfold triple4.sl.cst_45 | unfold triple4.sl.cst_46 | unfold triple4.sl.cst_47 | unfold triple4.sl.cst_48 | unfold triple4.sl.cst_49 | unfold triple4.sl.cst_50 | unfold triple4.sl.cst_51 | unfold triple4.sl.cst_52 | unfold triple4.sl.cst_53 | unfold triple4.sl.cst_54 | unfold triple4.sl.cst_55 | unfold triple4.sl.cst_56 | unfold triple4.sl.cst_57 | unfold triple4.sl.cst_58 | unfold triple4.sl.cst_59 | unfold triple4.sl.cst_60 | unfold triple4.sl.cst_61 | unfold triple4.sl.cst_62 | unfold triple4.sl.cst_63 | unfold triple4.sl.cst_64 | unfold triple4.sl.cst_65 | unfold triple4.sl.cst_66 | unfold triple4.sl.cst_67 | unfold triple4.sl.cst_68 | unfold triple4.sl.cst_69 | unfold triple4.sl.cst_70 | unfold triple4.sl.cst_71 | unfold triple4.sl.cst_72 | unfold triple4.sl.cst_73 | unfold triple4.sl.cst_74 | unfold triple4.sl.cst_75
      (try simp only [shapeCast_id])
      rfl
    · rw [← h9]
      refine (View.read_writes_cons_put _ _ _ _ _ rfl).trans ?_
      try unfold triple4.sl.H9_1
      try unfold triple4.sl.H7_1
      rw [View.read_writes_cons_put _ _ _ _ _ rfl, View.writes_nil]
      rw [← e1, ← e2, ← e3]
      repeat first | unfold triple4.sl.v44 | unfold triple4.sl.v45 | unfold triple4.sl.v46 | unfold triple4.sl.v47 | unfold triple4.sl.v48 | unfold triple4.sl.v49 | unfold triple4.sl.v50 | unfold triple4.sl.v51 | unfold triple4.sl.v52 | unfold triple4.sl.v53 | unfold triple4.sl.v54 | unfold triple4.sl.v55 | unfold triple4.sl.v56 | unfold triple4.sl.v57 | unfold triple4.sl.v58 | unfold triple4.sl.v59 | unfold triple4.sl.v60 | unfold triple4.sl.v61 | unfold triple4.sl.v62 | unfold triple4.sl.v63 | unfold triple4.sl.v64 | unfold triple4.sl.v65 | unfold triple4.sl.v66 | unfold triple4.sl.v67 | unfold triple4.sl.v68 | unfold triple4.sl.v69 | unfold triple4.sl.v70 | unfold triple4.sl.v71 | unfold triple4.sl.v72 | unfold triple4.sl.v73 | unfold triple4.sl.v74 | unfold triple4.sl.v75 | unfold triple4.sl.v76 | unfold triple4.sl.v77 | unfold triple4.sl.v78 | unfold triple4.sl.v79 | unfold triple4.sl.v80 | unfold triple4.sl.v81 | unfold triple4.sl.v82 | unfold triple4.sl.v83 | unfold triple4.sl.v84 | unfold triple4.sl.v85 | unfold triple4.sl.v86 | unfold triple4.sl.v87 | unfold triple4.sl.v88 | unfold triple4.sl.v89 | unfold triple4.sl.v90 | unfold triple4.sl.v91 | unfold triple4.sl.v92 | unfold triple4.sl.v93 | unfold triple4.sl.v94 | unfold triple4.sl.v95 | unfold triple4.sl.v96 | unfold triple4.sl.v97 | unfold triple4.sl.v98 | unfold triple4.sl.v99 | unfold triple4.sl.v100 | unfold triple4.sl.v101 | unfold triple4.sl.v102 | unfold triple4.sl.v103 | unfold triple4.sl.v104 | unfold triple4.sl.v105 | unfold triple4.sl.v106 | unfold triple4.sl.v107 | unfold triple4.sl.v108 | unfold triple4.sl.v109 | unfold triple4.sl.v110 | unfold triple4.sl.v111 | unfold triple4.sl.v112 | unfold triple4.sl.v113 | unfold triple4.sl.v114 | unfold triple4.sl.v115 | unfold triple4.sl.v116 | unfold triple4.sl.v117 | unfold triple4.sl.v118 | unfold triple4.sl.v119 | unfold triple4.sl.v120 | unfold triple4.sl.v121 | unfold triple4.sl.v122 | unfold triple4.sl.v123 | unfold triple4.sl.v124 | unfold triple4.sl.v125 | unfold triple4.sl.v126 | unfold triple4.sl.v127 | unfold triple4.sl.v128 | unfold triple4.sl.v129 | unfold triple4.sl.v130 | unfold triple4.sl.v131 | unfold triple4.sl.v132 | unfold triple4.sl.v133 | unfold triple4.sl.cst | unfold triple4.sl.cst_29 | unfold triple4.sl.cst_30 | unfold triple4.sl.cst_31 | unfold triple4.sl.cst_32 | unfold triple4.sl.cst_33 | unfold triple4.sl.cst_34 | unfold triple4.sl.cst_35 | unfold triple4.sl.cst_36 | unfold triple4.sl.cst_37 | unfold triple4.sl.cst_38 | unfold triple4.sl.cst_39 | unfold triple4.sl.cst_40 | unfold triple4.sl.cst_41 | unfold triple4.sl.cst_42 | unfold triple4.sl.cst_43 | unfold triple4.sl.cst_44 | unfold triple4.sl.cst_45 | unfold triple4.sl.cst_46 | unfold triple4.sl.cst_47 | unfold triple4.sl.cst_48 | unfold triple4.sl.cst_49 | unfold triple4.sl.cst_50 | unfold triple4.sl.cst_51 | unfold triple4.sl.cst_52 | unfold triple4.sl.cst_53 | unfold triple4.sl.cst_54 | unfold triple4.sl.cst_55 | unfold triple4.sl.cst_56 | unfold triple4.sl.cst_57 | unfold triple4.sl.cst_58 | unfold triple4.sl.cst_59 | unfold triple4.sl.cst_60 | unfold triple4.sl.cst_61 | unfold triple4.sl.cst_62 | unfold triple4.sl.cst_63 | unfold triple4.sl.cst_64 | unfold triple4.sl.cst_65 | unfold triple4.sl.cst_66 | unfold triple4.sl.cst_67 | unfold triple4.sl.cst_68 | unfold triple4.sl.cst_69 | unfold triple4.sl.cst_70 | unfold triple4.sl.cst_71 | unfold triple4.sl.cst_72 | unfold triple4.sl.cst_73 | unfold triple4.sl.cst_74 | unfold triple4.sl.cst_75
      (try simp only [shapeCast_id])
      rfl
    · refine (View.read_writes_full _ _ _ _ _).trans ?_
      rw [← e4, ← e8]
      repeat first | unfold triple4.sl.v44 | unfold triple4.sl.v45 | unfold triple4.sl.v46 | unfold triple4.sl.v47 | unfold triple4.sl.v48 | unfold triple4.sl.v49 | unfold triple4.sl.v50 | unfold triple4.sl.v51 | unfold triple4.sl.v52 | unfold triple4.sl.v53 | unfold triple4.sl.v54 | unfold triple4.sl.v55 | unfold triple4.sl.v56 | unfold triple4.sl.v57 | unfold triple4.sl.v58 | unfold triple4.sl.v59 | unfold triple4.sl.v60 | unfold triple4.sl.v61 | unfold triple4.sl.v62 | unfold triple4.sl.v63 | unfold triple4.sl.v64 | unfold triple4.sl.v65 | unfold triple4.sl.v66 | unfold triple4.sl.v67 | unfold triple4.sl.v68 | unfold triple4.sl.v69 | unfold triple4.sl.v70 | unfold triple4.sl.v71 | unfold triple4.sl.v72 | unfold triple4.sl.v73 | unfold triple4.sl.v74 | unfold triple4.sl.v75 | unfold triple4.sl.v76 | unfold triple4.sl.v77 | unfold triple4.sl.v78 | unfold triple4.sl.v79 | unfold triple4.sl.v80 | unfold triple4.sl.v81 | unfold triple4.sl.v82 | unfold triple4.sl.v83 | unfold triple4.sl.v84 | unfold triple4.sl.v85 | unfold triple4.sl.v86 | unfold triple4.sl.v87 | unfold triple4.sl.v88 | unfold triple4.sl.v89 | unfold triple4.sl.v90 | unfold triple4.sl.v91 | unfold triple4.sl.v92 | unfold triple4.sl.v93 | unfold triple4.sl.v94 | unfold triple4.sl.v95 | unfold triple4.sl.v96 | unfold triple4.sl.v97 | unfold triple4.sl.v98 | unfold triple4.sl.v99 | unfold triple4.sl.v100 | unfold triple4.sl.v101 | unfold triple4.sl.v102 | unfold triple4.sl.v103 | unfold triple4.sl.v104 | unfold triple4.sl.v105 | unfold triple4.sl.v106 | unfold triple4.sl.v107 | unfold triple4.sl.v108 | unfold triple4.sl.v109 | unfold triple4.sl.v110 | unfold triple4.sl.v111 | unfold triple4.sl.v112 | unfold triple4.sl.v113 | unfold triple4.sl.v114 | unfold triple4.sl.v115 | unfold triple4.sl.v116 | unfold triple4.sl.v117 | unfold triple4.sl.v118 | unfold triple4.sl.v119 | unfold triple4.sl.v120 | unfold triple4.sl.v121 | unfold triple4.sl.v122 | unfold triple4.sl.v123 | unfold triple4.sl.v124 | unfold triple4.sl.v125 | unfold triple4.sl.v126 | unfold triple4.sl.v127 | unfold triple4.sl.v128 | unfold triple4.sl.v129 | unfold triple4.sl.v130 | unfold triple4.sl.v131 | unfold triple4.sl.v132 | unfold triple4.sl.v133 | unfold triple4.sl.cst | unfold triple4.sl.cst_29 | unfold triple4.sl.cst_30 | unfold triple4.sl.cst_31 | unfold triple4.sl.cst_32 | unfold triple4.sl.cst_33 | unfold triple4.sl.cst_34 | unfold triple4.sl.cst_35 | unfold triple4.sl.cst_36 | unfold triple4.sl.cst_37 | unfold triple4.sl.cst_38 | unfold triple4.sl.cst_39 | unfold triple4.sl.cst_40 | unfold triple4.sl.cst_41 | unfold triple4.sl.cst_42 | unfold triple4.sl.cst_43 | unfold triple4.sl.cst_44 | unfold triple4.sl.cst_45 | unfold triple4.sl.cst_46 | unfold triple4.sl.cst_47 | unfold triple4.sl.cst_48 | unfold triple4.sl.cst_49 | unfold triple4.sl.cst_50 | unfold triple4.sl.cst_51 | unfold triple4.sl.cst_52 | unfold triple4.sl.cst_53 | unfold triple4.sl.cst_54 | unfold triple4.sl.cst_55 | unfold triple4.sl.cst_56 | unfold triple4.sl.cst_57 | unfold triple4.sl.cst_58 | unfold triple4.sl.cst_59 | unfold triple4.sl.cst_60 | unfold triple4.sl.cst_61 | unfold triple4.sl.cst_62 | unfold triple4.sl.cst_63 | unfold triple4.sl.cst_64 | unfold triple4.sl.cst_65 | unfold triple4.sl.cst_66 | unfold triple4.sl.cst_67 | unfold triple4.sl.cst_68 | unfold triple4.sl.cst_69 | unfold triple4.sl.cst_70 | unfold triple4.sl.cst_71 | unfold triple4.sl.cst_72 | unfold triple4.sl.cst_73 | unfold triple4.sl.cst_74 | unfold triple4.sl.cst_75
      (try simp only [shapeCast_id])
      rfl
  · sl_exec (disch := sl_exact hc)
    sl_step
    rw [if_neg hc]
    iapply (held_intro c arg1 arg2 arg3 arg4 arg5 arg6 arg7 arg8 arg9 arg10 x1 x2 pw w wl s _ _ _ _ _ _ _ _ _ _ h1 h2 h3 h4 h5 h6 h7 h8 h9 h10)
    iframe H1 H2 H3 H4 H5 H6 H7 H8 H9 H10

end Cert.Kernel3Ideal.Body

end
-- ==== Proof.InBody.lean ====
module

public import proofs.«01_k».proof.Proof.InStep2
public import proofs.«01_k».proof.Proof.InStep4

/-! The in-projection's body: its five segments in order. -/

@[expose] public section

set_option maxRecDepth 65536

noncomputable section

namespace Cert.Kernel3Ideal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3Ideal Cert.Kernel3Ideal.Gen

variable {F : FTy → Type} [FloatOps F]

local notation "𝕄" => MT nD τ sig Unit (Elt F) ℕ (UR sig nD τ) ℕ

variable (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S1x1024x2048 .bf16) (harg4 : arg4.IsWhole) (arg5 : Memref sig .tc .vmem S1x128x2048 .bf16) (harg5 : arg5.IsWhole) (arg6 : Memref sig .tc .vmem S1408x1024 .bf16) (harg6 : arg6.IsWhole) (arg7 : Memref sig .tc .vmem S1408x128 .f32) (harg7 : arg7.IsWhole) (arg8 : Memref sig .tc .vmem S1408x2048 .bf16) (harg8 : arg8.IsWhole) (arg9 : Memref sig .tc .vmem S1408x2048 .bf16) (harg9 : arg9.IsWhole) (arg10 : Memref sig .tc .vmem S1408x1024 .f32) (harg10 : arg10.IsWhole)
variable (x1 x2 : Vec F S128x2048 .f32) (pw : Vec F S1x2048 .f32) (w : Vec F S1x1024x2048 .bf16) (wl : Vec F S1x128x2048 .bf16)

/-- What the body makes of the state. -/
def St.step (s : St F) (i : grid0.Coords) (x1 x2 : Vec F S128x2048 .f32) (pw : Vec F S1x2048 .f32) (w : Vec F S1x1024x2048 .bf16) (wl : Vec F S1x128x2048 .bf16) : St F :=
  ((((s.step1 i x1 x2 pw w wl).step2 i x1 x2 pw w wl).step3 i x1 x2 pw w wl).step4 i x1 x2 pw w wl).step5 i x1 x2 pw w wl

/-- The body's triple: the five segments' in order. -/
theorem body_triple (E : Set ℕ) (s : St F) :
    Held c arg1 arg2 arg3 arg4 arg5 arg6 arg7 arg8 arg9 arg10 x1 x2 pw w wl s
      ⊢ wp frame (wpE (defs₀ (F := F)) Variants.none c none) E (cc0_inproj_gla i arg1 harg1 arg2 harg2 arg3 harg3 arg4 harg4 arg5 harg5 arg6 harg6 arg7 harg7 arg8 harg8 arg9 harg9 arg10 harg10)
          (fun _ => Held c arg1 arg2 arg3 arg4 arg5 arg6 arg7 arg8 arg9 arg10 x1 x2 pw w wl (s.step i x1 x2 pw w wl)) := by
  rw [body_eq]
  rw [wp_bind]
  refine (triple1 c i arg1 harg1 arg2 harg2 arg3 harg3 arg4 harg4 arg5 harg5 arg6 harg6 arg7 harg7 arg8 harg8 arg9 harg9 arg10 harg10 x1 x2 pw w wl E _).trans (wp_mono _ _ _ fun _ => ?_)
  rw [wp_bind]
  refine (triple2 c i arg1 harg1 arg2 harg2 arg3 harg3 arg4 harg4 arg5 harg5 arg6 harg6 arg7 harg7 arg8 harg8 arg9 harg9 arg10 harg10 x1 x2 pw w wl E _).trans (wp_mono _ _ _ fun _ => ?_)
  rw [wp_bind]
  refine (triple3 c i arg1 harg1 arg2 harg2 arg3 harg3 arg4 harg4 arg5 harg5 arg6 harg6 arg7 harg7 arg8 harg8 arg9 harg9 arg10 harg10 x1 x2 pw w wl E _).trans (wp_mono _ _ _ fun _ => ?_)
  rw [wp_bind]
  refine (triple4 c i arg1 harg1 arg2 harg2 arg3 harg3 arg4 harg4 arg5 harg5 arg6 harg6 arg7 harg7 arg8 harg8 arg9 harg9 arg10 harg10 x1 x2 pw w wl E _).trans (wp_mono _ _ _ fun _ => ?_)
  rw [wp_bind]
  refine (triple5 c i arg1 harg1 arg2 harg2 arg3 harg3 arg4 harg4 arg5 harg5 arg6 harg6 arg7 harg7 arg8 harg8 arg9 harg9 arg10 harg10 x1 x2 pw w wl E _).trans (wp_mono _ _ _ fun _ => ?_)
  iintro H
  sl_step
  iexact H

end Cert.Kernel3Ideal.Body

end
-- ==== Proof.InRows.lean ====
module

public import proofs.«01_k».proof.Proof.InBody
public import Idealize.ShloMosaic.Lib.Pointwise

/-! The rows of the tiles: where the blocks lie, and what two chunks stored at a point make of a tile. -/

@[expose] public section

set_option maxRecDepth 65536

noncomputable section

namespace Cert.Kernel3Ideal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3Ideal Cert.Kernel3Ideal.Gen

variable {F : FTy → Type} [FloatOps F]

local notation "𝕄" => MT nD τ sig Unit (Elt F) ℕ (UR sig nD τ) ℕ

/-- A chunk put into a tile of width 2048: its rows are the chunk's, the others are kept. -/
theorem put_rows_2048 {α : Type} (x : S1408x2048.Idx → α) (k : ℕ) (w : S128x2048.Idx → α) (y : S1408x2048.Idx) :
    VecWindow.put x ![128 * k, 0] S128x2048.size w y
      = if h : 128 * k ≤ (y 0).val ∧ (y 0).val < 128 * k + 128 then w (ix2 ⟨(y 0).val - 128 * k, by omega⟩ (y 1)) else x y := by
  unfold VecWindow.put
  by_cases h : 128 * k ≤ (y 0).val ∧ (y 0).val < 128 * k + 128
  · rw [dif_pos h, dif_pos (by
      intro a
      match a with
      | ⟨0, _⟩ => exact h
      | ⟨1, _⟩ => exact ⟨Nat.zero_le _, by have := (y 1).isLt; exact lt_of_lt_of_eq this (Nat.zero_add _).symm⟩)]
    refine congrArg w ?_
    funext a
    match a with
    | ⟨0, _⟩ => rfl
    | ⟨1, _⟩ => rfl
  · rw [dif_neg h, dif_neg (fun hh => h (hh 0))]

/-- Two chunks put into a tile: the rows so far are the wanted ones, and so are the chunks' rows. -/
theorem put_pair_2048 {α : Type} (x : S1408x2048.Idx → α) (u : ℕ) (hu : u < 6) (w1 w2 : S128x2048.Idx → α) (T : ℕ → Fin 2048 → α)
    (h1 : ∀ z, w1 z = T (128 * min (2 * u + 0) 10 + (z 0).val) (z 1)) (h2 : ∀ z, w2 z = T (128 * min (2 * u + 1) 10 + (z 0).val) (z 1))
    (hx : ∀ y, (y 0).val < 256 * u → x y = T (y 0).val (y 1)) (y : S1408x2048.Idx) (hy : (y 0).val < 128 * min (2 * u + 2) 11) :
    VecWindow.put (VecWindow.put x ![128 * min (2 * u + 0) 10, 0] S128x2048.size w1) ![128 * min (2 * u + 1) 10, 0] S128x2048.size w2 y = T (y 0).val (y 1) := by
  rw [put_rows_2048]
  split
  · next h =>
    rw [h2]
    show T (128 * min (2 * u + 1) 10 + ((y 0).val - 128 * min (2 * u + 1) 10)) (y 1) = _
    rw [Nat.add_sub_cancel' h.1]
  · next h =>
    rw [put_rows_2048]
    split
    · next h' =>
      rw [h1]
      show T (128 * min (2 * u + 0) 10 + ((y 0).val - 128 * min (2 * u + 0) 10)) (y 1) = _
      rw [Nat.add_sub_cancel' h'.1]
    · next h' => exact hx y (by omega)

/-- A chunk put into a tile of width 128: its rows are the chunk's, the others are kept. -/
theorem put_rows_128 {α : Type} (x : S1408x128.Idx → α) (k : ℕ) (w : S128x128.Idx → α) (y : S1408x128.Idx) :
    VecWindow.put x ![128 * k, 0] S128x128.size w y
      = if h : 128 * k ≤ (y 0).val ∧ (y 0).val < 128 * k + 128 then w (ix2 ⟨(y 0).val - 128 * k, by omega⟩ (y 1)) else x y := by
  unfold VecWindow.put
  by_cases h : 128 * k ≤ (y 0).val ∧ (y 0).val < 128 * k + 128
  · rw [dif_pos h, dif_pos (by
      intro a
      match a with
      | ⟨0, _⟩ => exact h
      | ⟨1, _⟩ => exact ⟨Nat.zero_le _, by have := (y 1).isLt; exact lt_of_lt_of_eq this (Nat.zero_add _).symm⟩)]
    refine congrArg w ?_
    funext a
    match a with
    | ⟨0, _⟩ => rfl
    | ⟨1, _⟩ => rfl
  · rw [dif_neg h, dif_neg (fun hh => h (hh 0))]

/-- Two chunks put into a tile: the rows so far are the wanted ones, and so are the chunks' rows. -/
theorem put_pair_128 {α : Type} (x : S1408x128.Idx → α) (u : ℕ) (hu : u < 6) (w1 w2 : S128x128.Idx → α) (T : ℕ → Fin 128 → α)
    (h1 : ∀ z, w1 z = T (128 * min (2 * u + 0) 10 + (z 0).val) (z 1)) (h2 : ∀ z, w2 z = T (128 * min (2 * u + 1) 10 + (z 0).val) (z 1))
    (hx : ∀ y, (y 0).val < 256 * u → x y = T (y 0).val (y 1)) (y : S1408x128.Idx) (hy : (y 0).val < 128 * min (2 * u + 2) 11) :
    VecWindow.put (VecWindow.put x ![128 * min (2 * u + 0) 10, 0] S128x128.size w1) ![128 * min (2 * u + 1) 10, 0] S128x128.size w2 y = T (y 0).val (y 1) := by
  rw [put_rows_128]
  split
  · next h =>
    rw [h2]
    show T (128 * min (2 * u + 1) 10 + ((y 0).val - 128 * min (2 * u + 1) 10)) (y 1) = _
    rw [Nat.add_sub_cancel' h.1]
  · next h =>
    rw [put_rows_128]
    split
    · next h' =>
      rw [h1]
      show T (128 * min (2 * u + 0) 10 + ((y 0).val - 128 * min (2 * u + 0) 10)) (y 1) = _
      rw [Nat.add_sub_cancel' h'.1]
    · next h' => exact hx y (by omega)

/-! ## Where each window's block lies -/

/-- The row tile that a point normalises: the last points normalise the last tile again. -/
def tile (n : ℕ) : ℕ := min (n / 6) 11

theorem index0 : ∀ t : Fin cfg0.N, win0_0.index t = ![11 * tile t.val + min (2 * (t.val % 6) + 0) 10, 0] :=
  (by decide +kernel : ∀ t : Fin grid0.N, _)
theorem index1 : ∀ t : Fin cfg0.N, win0_1.index t = ![11 * tile t.val + min (2 * (t.val % 6) + 1) 10, 0] :=
  (by decide +kernel : ∀ t : Fin grid0.N, _)
theorem index2 : ∀ t : Fin cfg0.N, win0_2.index t = ![0, 0] :=
  (by decide +kernel : ∀ t : Fin grid0.N, _)
theorem index3 : ∀ t : Fin cfg0.N, 6 ≤ t.val → t.val < 78 → win0_3.index t = ![0, t.val % 6, 0] :=
  (by decide +kernel : ∀ t : Fin grid0.N, _)
theorem index4 : ∀ t : Fin cfg0.N, win0_4.index t = ![0, 0, 0] :=
  (by decide +kernel : ∀ t : Fin grid0.N, _)
theorem index5 : ∀ t : Fin cfg0.N, 7 ≤ t.val → win0_5.index t = ![(t.val - 1) / 6 - 1, (t.val - 1) % 6] :=
  (by decide +kernel : ∀ t : Fin grid0.N, _)
theorem index6 : ∀ t : Fin cfg0.N, win0_6.index t = ![tile t.val, 0] :=
  (by decide +kernel : ∀ t : Fin grid0.N, _)

theorem coords_val : ∀ t : Fin cfg0.N, (grid0.coords t 0).val = t.val :=
  (by decide +kernel : ∀ t : Fin grid0.N, _)

variable (m : (ℓ : Loc nD τ sig) → Buf (Elt F) ℓ)

/-- The five blocks at a point, at the body's own types. -/
def blkX1 (c : Dev nD) (t : Fin cfg0.N) : Vec F S128x2048 .f32 := iblk m c 0 t
def blkX2 (c : Dev nD) (t : Fin cfg0.N) : Vec F S128x2048 .f32 := iblk m c 1 t
def blkP (c : Dev nD) (t : Fin cfg0.N) : Vec F S1x2048 .f32 := iblk m c 2 t
def blkW (c : Dev nD) (t : Fin cfg0.N) : Vec F S1x1024x2048 .bf16 := iblk m c 3 t
def blkL (c : Dev nD) (t : Fin cfg0.N) : Vec F S1x128x2048 .bf16 := iblk m c 4 t

/-- A chunk of the hidden rows, by its number. -/
def chunk (c : Dev nD) (q : ℕ) : Vec F S128x2048 .f32 :=
  fun z => (V m c main_arg0 : Vec F S16896x2048 .f32) (ix2 ⟨(128 * q + (z 0).val) % 16896, Nat.mod_lt _ (by decide)⟩ (z 1))
/-- The scale. -/
def scale (c : Dev nD) : Vec F S1x2048 .f32 := V m c main_v0
/-- The first layer's weights, a column tile by its number. -/
def wcol (c : Dev nD) (q : ℕ) : Vec F S1x1024x2048 .bf16 :=
  fun z => (V m c main_arg2 : Vec F S2x6144x2048 .bf16) (ix3 (0 : Fin 2) ⟨(1024 * q + (z 1).val) % 6144, Nat.mod_lt _ (by decide)⟩ (z 2))
/-- The first layer's low-rank weights. -/
def wlr (c : Dev nD) : Vec F S1x128x2048 .bf16 :=
  fun z => (V m c main_arg3 : Vec F S2x128x2048 .bf16) (ix3 (0 : Fin 2) (z 1) (z 2))

theorem tile_le (n : ℕ) : tile n ≤ 11 := Nat.min_le_right _ _

theorem blkX1_eq (c : Dev nD) (t : Fin cfg0.N) : blkX1 m c t = chunk m c (11 * tile t.val + min (2 * (t.val % 6) + 0) 10) := by
  funext y
  show V m c main_arg0 ((win0_0.blk t).view.emb y) = V m c main_arg0 _
  refine congrArg _ ?_
  have hr : ∀ a : Fin 2, ((win0_0.blk t).view.emb y a).val = win0_0.index t a * win0_0.size a + 1 * (y a).val := fun _ => rfl
  have hT := tile_le t.val
  have hy : (y 0).val < 128 := (y 0).isLt
  funext a
  apply Fin.ext
  rw [hr, index0]
  match a with
  | ⟨0, _⟩ =>
    show (11 * tile t.val + min (2 * (t.val % 6) + 0) 10) * 128 + 1 * (y 0).val = (128 * (11 * tile t.val + min (2 * (t.val % 6) + 0) 10) + (y 0).val) % 16896
    omega
  | ⟨1, _⟩ =>
    show 0 * 2048 + 1 * (y 1).val = (y 1).val
    omega

theorem blkX2_eq (c : Dev nD) (t : Fin cfg0.N) : blkX2 m c t = chunk m c (11 * tile t.val + min (2 * (t.val % 6) + 1) 10) := by
  funext y
  show V m c main_arg0 ((win0_1.blk t).view.emb y) = V m c main_arg0 _
  refine congrArg _ ?_
  have hr : ∀ a : Fin 2, ((win0_1.blk t).view.emb y a).val = win0_1.index t a * win0_1.size a + 1 * (y a).val := fun _ => rfl
  have hT := tile_le t.val
  have hy : (y 0).val < 128 := (y 0).isLt
  funext a
  apply Fin.ext
  rw [hr, index1]
  match a with
  | ⟨0, _⟩ =>
    show (11 * tile t.val + min (2 * (t.val % 6) + 1) 10) * 128 + 1 * (y 0).val = (128 * (11 * tile t.val + min (2 * (t.val % 6) + 1) 10) + (y 0).val) % 16896
    omega
  | ⟨1, _⟩ =>
    show 0 * 2048 + 1 * (y 1).val = (y 1).val
    omega

theorem blkP_eq (c : Dev nD) (t : Fin cfg0.N) : blkP m c t = scale m c := by
  funext y
  show V m c main_v0 ((win0_2.blk t).view.emb y) = V m c main_v0 y
  refine congrArg _ ?_
  have hr : ∀ a : Fin 2, ((win0_2.blk t).view.emb y a).val = win0_2.index t a * win0_2.size a + 1 * (y a).val := fun _ => rfl
  funext a
  apply Fin.ext
  rw [hr, index2]
  match a with
  | ⟨0, _⟩ =>
    show 0 * 1 + 1 * (y 0).val = (y 0).val
    omega
  | ⟨1, _⟩ =>
    show 0 * 2048 + 1 * (y 1).val = (y 1).val
    omega

theorem blkW_eq (c : Dev nD) (t : Fin cfg0.N) (h6 : 6 ≤ t.val) (h78 : t.val < 78) : blkW m c t = wcol m c (t.val % 6) := by
  funext y
  show V m c main_arg2 ((win0_3.blk t).view.emb y) = V m c main_arg2 _
  refine congrArg _ ?_
  have hr : ∀ a : Fin 3, ((win0_3.blk t).view.emb y a).val = win0_3.index t a * win0_3.size a + 1 * (y a).val := fun _ => rfl
  have hy : (y 1).val < 1024 := (y 1).isLt
  have hy0 : (y 0).val < 1 := (y 0).isLt
  funext a
  apply Fin.ext
  rw [hr, index3 t h6 h78]
  match a with
  | ⟨0, _⟩ =>
    show 0 * 1 + 1 * (y 0).val = 0
    omega
  | ⟨1, _⟩ =>
    show t.val % 6 * 1024 + 1 * (y 1).val = (1024 * (t.val % 6) + (y 1).val) % 6144
    omega
  | ⟨2, _⟩ =>
    show 0 * 2048 + 1 * (y 2).val = (y 2).val
    omega

theorem blkL_eq (c : Dev nD) (t : Fin cfg0.N) : blkL m c t = wlr m c := by
  funext y
  show V m c main_arg3 ((win0_4.blk t).view.emb y) = V m c main_arg3 _
  refine congrArg _ ?_
  have hr : ∀ a : Fin 3, ((win0_4.blk t).view.emb y a).val = win0_4.index t a * win0_4.size a + 1 * (y a).val := fun _ => rfl
  have hy0 : (y 0).val < 1 := (y 0).isLt
  funext a
  apply Fin.ext
  rw [hr, index4]
  match a with
  | ⟨0, _⟩ =>
    show 0 * 1 + 1 * (y 0).val = 0
    omega
  | ⟨1, _⟩ =>
    show 0 * 128 + 1 * (y 1).val = (y 1).val
    omega
  | ⟨2, _⟩ =>
    show 0 * 2048 + 1 * (y 2).val = (y 2).val
    omega

end Cert.Kernel3Ideal.Body

end
-- ==== Proof.InGood.lean ====
module

public import proofs.«01_k».proof.Proof.InRows

/-! What the state carries from point to point, and that a point keeps it. -/

@[expose] public section

set_option maxRecDepth 65536

noncomputable section

namespace Cert.Kernel3Ideal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3Ideal Cert.Kernel3Ideal.Gen

variable {F : FTy → Type} [FloatOps F]

local notation "𝕄" => MT nD τ sig Unit (Elt F) ℕ (UR sig nD τ) ℕ

variable (m : (ℓ : Loc nD τ sig) → Buf (Elt F) ℓ)

/-- An element of a row of the hidden rows, normalised. -/
def nrow (c : Dev nD) (r : ℕ) (k : Fin 2048) : F .bf16 :=
  normRows (chunk m c (r / 128)) (scale m c) (ix2 ⟨r % 128, Nat.mod_lt _ (by decide)⟩ k)
/-- An element of a normalised row times the low-rank weights. -/
def lrow (c : Dev nD) (r : ℕ) (k : Fin 128) : F .f32 :=
  lrOf (normRows (chunk m c (r / 128)) (scale m c)) (wlr m c) (ix2 ⟨r % 128, Nat.mod_lt _ (by decide)⟩ k)
/-- A normalised row tile. -/
def tileN (c : Dev nD) (j : ℕ) : Vec F S1408x2048 .bf16 := fun y => nrow m c (1408 * j + (y 0).val) (y 1)

/-- What the state carries after `n` points: the rows that the last of them has normalised so far; the row tile in use; the product. -/
def Good (c : Dev nD) (n : ℕ) (s : St F) : Prop :=
  ∀ t : ℕ, t + 1 = n → t < 78 →
    (∀ y : S1408x2048.Idx, (y 0).val < 128 * min (2 * (t % 6) + 2) 11 → s.next y = nrow m c (1408 * tile t + (y 0).val) (y 1))
      ∧ (6 ≤ t → s.xn = tileN m c (t / 6 - 1) ∧ s.acc = prodOf (tileN m c (t / 6 - 1)) (wcol m c (t % 6)))

/-- The low-rank block after a point: its rows so far. -/
def LrGood (c : Dev nD) (t : ℕ) (x : Vec F S1408x128 .f32) : Prop :=
  ∀ y : S1408x128.Idx, t = 78 ∨ (y 0).val < 128 * min (2 * (t % 6) + 2) 11 → x y = lrow m c (1408 * tile t + (y 0).val) (y 1)

/-- The product block that a point leaves. -/
def outO (c : Dev nD) (t : ℕ) : Vec F S1408x1024 .bf16 :=
  rounded (prodOf (tileN m c ((t - 1) / 6 - 1)) (wcol m c ((t - 1) % 6)))

/-- When the first segment runs. -/
theorem cond1_iff (i : grid0.Coords) : cond1 i ↔ (i 0).val = 0 := by
  refine forall_pt (P := fun i => cond1 i ↔ (i 0).val = 0) ?_ i
  decide +kernel

theorem chunk_row (c : Dev nD) (T u : ℕ) (z : S128x2048.Idx) :
    normRows (chunk m c (11 * T + u)) (scale m c) z = nrow m c (1408 * T + (128 * u + (z 0).val)) (z 1) := by
  have hz : (z 0).val < 128 := (z 0).isLt
  unfold nrow
  rw [show (1408 * T + (128 * u + (z 0).val)) / 128 = 11 * T + u by omega]
  refine congrArg _ ?_
  funext a
  apply Fin.ext
  match a with
  | ⟨0, _⟩ =>
    show (z 0).val = (1408 * T + (128 * u + (z 0).val)) % 128
    omega
  | ⟨1, _⟩ => rfl

theorem chunk_lr (c : Dev nD) (T u : ℕ) (z : S128x128.Idx) :
    lrOf (normRows (chunk m c (11 * T + u)) (scale m c)) (wlr m c) z = lrow m c (1408 * T + (128 * u + (z 0).val)) (z 1) := by
  have hz : (z 0).val < 128 := (z 0).isLt
  unfold lrow
  rw [show (1408 * T + (128 * u + (z 0).val)) / 128 = 11 * T + u by omega]
  refine congrArg _ ?_
  funext a
  apply Fin.ext
  match a with
  | ⟨0, _⟩ =>
    show (z 0).val = (1408 * T + (128 * u + (z 0).val)) % 128
    omega
  | ⟨1, _⟩ => rfl

variable (c : Dev nD) (t : Fin cfg0.N)

/-- The rows normalised so far, with a point's two chunks put in. -/
abbrev nextOf (x : Vec F S1408x2048 .bf16) : Vec F S1408x2048 .bf16 :=
  VecWindow.put (VecWindow.put x ![128 * min (2 * (t.val % 6) + 0) 10, 0] S128x2048.size (normRows (blkX1 m c t) (blkP m c t)))
    ![128 * min (2 * (t.val % 6) + 1) 10, 0] S128x2048.size (normRows (blkX2 m c t) (blkP m c t))
/-- The low-rank block, with a point's two chunks put in. -/
abbrev lrNext (x : Vec F S1408x128 .f32) : Vec F S1408x128 .f32 :=
  VecWindow.put (VecWindow.put x ![128 * min (2 * (t.val % 6) + 0) 10, 0] S128x128.size (lrOf (normRows (blkX1 m c t) (blkP m c t)) (blkL m c t)))
    ![128 * min (2 * (t.val % 6) + 1) 10, 0] S128x128.size (lrOf (normRows (blkX2 m c t) (blkP m c t)) (blkL m c t))

theorem nextOf_good (x : Vec F S1408x2048 .bf16)
    (hx : t.val % 6 ≠ 0 → ∀ y : S1408x2048.Idx, (y 0).val < 256 * (t.val % 6) → x y = nrow m c (1408 * tile t.val + (y 0).val) (y 1))
    (y : S1408x2048.Idx) (hy : (y 0).val < 128 * min (2 * (t.val % 6) + 2) 11) :
    nextOf m c t x y = nrow m c (1408 * tile t.val + (y 0).val) (y 1) := by
  refine put_pair_2048 x (t.val % 6) (Nat.mod_lt _ (by decide)) _ _ (fun r k => nrow m c (1408 * tile t.val + r) k) ?_ ?_ ?_ y hy
  · intro z
    rw [blkX1_eq, blkP_eq]
    exact chunk_row m c _ _ z
  · intro z
    rw [blkX2_eq, blkP_eq]
    exact chunk_row m c _ _ z
  · intro y hy
    exact hx (by intro h; rw [h] at hy; exact absurd hy (by omega)) y hy

theorem lrNext_good (x : Vec F S1408x128 .f32)
    (hx : t.val % 6 ≠ 0 → ∀ y : S1408x128.Idx, (y 0).val < 256 * (t.val % 6) → x y = lrow m c (1408 * tile t.val + (y 0).val) (y 1))
    (y : S1408x128.Idx) (hy : (y 0).val < 128 * min (2 * (t.val % 6) + 2) 11) :
    lrNext m c t x y = lrow m c (1408 * tile t.val + (y 0).val) (y 1) := by
  refine put_pair_128 x (t.val % 6) (Nat.mod_lt _ (by decide)) _ _ (fun r k => lrow m c (1408 * tile t.val + r) k) ?_ ?_ ?_ y hy
  · intro z
    rw [blkX1_eq, blkP_eq, blkL_eq]
    exact chunk_lr m c _ _ z
  · intro z
    rw [blkX2_eq, blkP_eq, blkL_eq]
    exact chunk_lr m c _ _ z
  · intro y hy
    exact hx (by intro h; rw [h] at hy; exact absurd hy (by omega)) y hy

/-- The step of a state by a point's blocks. -/
abbrev stepAt (s : St F) : St F := s.step (grid0.coords t) (blkX1 m c t) (blkX2 m c t) (blkP m c t) (blkW m c t) (blkL m c t)

/-- The first six points normalise only. -/
theorem step_early (h : t.val < 6) (s : St F) :
    (stepAt m c t s).next = nextOf m c t s.next ∧ (stepAt m c t s).lr = lrNext m c t s.lr := by
  have hi := coords_val t
  unfold stepAt St.step St.step5 St.step4 St.step3 St.step2
  rw [if_neg (by rw [cond5_iff]; omega), if_neg (by rw [cond4_iff]; omega), if_neg (by rw [cond3_iff]; omega),
    if_pos ((cond2_iff _).mpr (by omega)), off1_0, off1_1, off2_0, off2_1, hi]
  unfold St.step1
  constructor <;> split <;> rfl

/-- The points between advance if the row tile changes, round the last product, multiply, and normalise. -/
theorem step_mid (h6 : 6 ≤ t.val) (h78 : t.val < 78) (s : St F) :
    stepAt m c t s = St.mk (rounded s.acc) (lrNext m c t s.lr) (if t.val % 6 = 0 then s.next else s.xn)
      (nextOf m c t s.next) (prodOf (if t.val % 6 = 0 then s.next else s.xn) (blkW m c t)) := by
  have hi := coords_val t
  unfold stepAt St.step St.step5 St.step4
  rw [if_neg (by rw [cond5_iff]; omega), if_pos ((cond4_iff _).mpr (by omega)), off3_0, off3_1, off4_0, off4_1, hi]
  unfold St.step2
  rw [if_neg (by rw [cond2_iff]; omega)]
  unfold St.step1
  rw [if_neg (by rw [cond1_iff]; omega)]
  unfold St.step3
  by_cases h0 : t.val % 6 = 0
  · rw [if_pos ((cond3_iff _).mpr (by omega)), if_pos h0]
  · rw [if_neg (by rw [cond3_iff]; omega), if_neg h0]

/-- The last point rounds the last product only. -/
theorem step_last (h : t.val = 78) (s : St F) : stepAt m c t s = { s with o := rounded s.acc } := by
  have hi := coords_val t
  unfold stepAt St.step St.step5
  rw [if_pos ((cond5_iff _).mpr (by omega))]
  unfold St.step4
  rw [if_neg (by rw [cond4_iff]; omega)]
  unfold St.step3
  rw [if_neg (by rw [cond3_iff]; omega)]
  unfold St.step2
  rw [if_neg (by rw [cond2_iff]; omega)]
  unfold St.step1
  rw [if_neg (by rw [cond1_iff]; omega)]

/-- The rows normalised before a point inside a row tile are the tile's. -/
theorem next_before (s : St F) (hs : Good m c t.val s) (h78 : t.val < 78) (h0 : t.val % 6 ≠ 0) (y : S1408x2048.Idx)
    (hy : (y 0).val < 256 * (t.val % 6)) : s.next y = nrow m c (1408 * tile t.val + (y 0).val) (y 1) := by
  have h := (hs (t.val - 1) (by omega) (by omega)).1 y (by omega)
  rw [show tile (t.val - 1) = tile t.val by unfold tile; omega] at h
  exact h

theorem lr_before (x : Vec F S1408x128 .f32) (hl : t.val % 6 ≠ 0 ∨ t.val = 78 → LrGood m c (t.val - 1) x) (h78 : t.val < 78) (h0 : t.val % 6 ≠ 0)
    (y : S1408x128.Idx) (hy : (y 0).val < 256 * (t.val % 6)) : x y = lrow m c (1408 * tile t.val + (y 0).val) (y 1) := by
  have h := hl (.inl h0) y (.inr (by omega))
  rw [show tile (t.val - 1) = tile t.val by unfold tile; omega] at h
  exact h

/-- A good state steps to a good state, and the body leaves the blocks that it should. -/
theorem good_step (s : St F) (hs : Good m c t.val s) (hl : t.val % 6 ≠ 0 ∨ t.val = 78 → LrGood m c (t.val - 1) s.lr) :
    Good m c (t.val + 1) (stepAt m c t s) ∧ (7 ≤ t.val → (stepAt m c t s).o = outO m c t.val) ∧ LrGood m c t.val (stepAt m c t s).lr := by
  have hN : t.val < 79 := lt_of_lt_of_eq t.isLt (show cfg0.N = 79 from N_0)
  by_cases h6 : t.val < 6
  · have he := step_early m c t h6 s
    refine ⟨fun p hp hp78 => ?_, fun h => absurd h (by omega), ?_⟩
    · obtain rfl : p = t.val := by omega
      refine ⟨fun y hy => ?_, fun h => absurd h (by omega)⟩
      rw [he.1]
      exact nextOf_good m c t _ (fun h0 y hy => next_before m c t s hs hp78 h0 y hy) y hy
    · intro y hy
      rw [he.2]
      exact lrNext_good m c t _ (fun h0 y hy => lr_before m c t _ hl (by omega) h0 y hy) y (by omega)
  by_cases h78 : t.val < 78
  · rw [step_mid m c t (by omega) h78 s]
    have hxn : (if t.val % 6 = 0 then s.next else s.xn) = tileN m c (t.val / 6 - 1) := by
      split
      · next h0 =>
        funext y
        have hy : (y 0).val < 1408 := (y 0).isLt
        have h := (hs (t.val - 1) (by omega) (by omega)).1 y (by omega)
        rw [show tile (t.val - 1) = t.val / 6 - 1 by unfold tile; omega] at h
        exact h
      · next h0 =>
        have h := ((hs (t.val - 1) (by omega) (by omega)).2 (by omega)).1
        rw [show (t.val - 1) / 6 = t.val / 6 by omega] at h
        exact h
    refine ⟨fun p hp hp78 => ?_, fun h => ?_, ?_⟩
    · obtain rfl : p = t.val := by omega
      refine ⟨fun y hy => ?_, fun _ => ⟨hxn, ?_⟩⟩
      · exact nextOf_good m c t _ (fun h0 y hy => next_before m c t s hs hp78 h0 y hy) y hy
      · show prodOf (F := F) _ _ = _
        rw [hxn, blkW_eq m c t (by omega) h78]
    · show rounded s.acc = _
      rw [((hs (t.val - 1) (by omega) (by omega)).2 (by omega)).2]
      rfl
    · intro y hy
      exact lrNext_good m c t _ (fun h0 y hy => lr_before m c t _ hl h78 h0 y hy) y (by omega)
  · have h : t.val = 78 := by omega
    rw [step_last m c t h s]
    refine ⟨fun p hp hp78 => absurd hp (by omega), fun _ => ?_, fun y _ => ?_⟩
    · show rounded s.acc = _
      rw [((hs (t.val - 1) (by omega) (by omega)).2 (by omega)).2]
      rfl
    · have hy : (y 0).val < 1408 := (y 0).isLt
      have hh := hl (.inr h) y (.inr (by omega))
      rw [show tile (t.val - 1) = tile t.val by unfold tile; omega] at hh
      exact hh

end Cert.Kernel3Ideal.Body

end
-- ==== Proof.InLaunched.lean ====
module

public import proofs.«01_k».proof.Proof.InGood
public import Idealize.ShloMosaic.Lib.Claim
public import Idealize.ShloMosaic.Lib.Pipeline.ArrRel

/-! The launch: what holds between two points, the body at a point, and the run. -/

@[expose] public section

set_option maxRecDepth 65536

noncomputable section

namespace Cert.Kernel3Ideal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel3Ideal Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev scM0_0 : Memref sig .tc .vmem S1408x2048 .bf16 := Memref.whole cc0_scratch0
abbrev scM0_1 : Memref sig .tc .vmem S1408x2048 .bf16 := Memref.whole cc0_scratch1
abbrev scM0_2 : Memref sig .tc .vmem S1408x1024 .f32 := Memref.whole cc0_scratch2

theorem PhiA0_eq (c : Dev nD) : (Pipeline.ΦA spec0 c : sProp 𝕄)
    = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA
  rw [scopedRest0_eq]
  simp only [scM0_0, scM0_1, scM0_2, owns_whole]
  try rfl

/-- The scratch buffers at a state's. -/
def Rest (c : Dev nD) (s : St F) : sProp 𝕄 :=
  iprop(owns (c : Thread nD τ) scM0_0 fullShare s.xn ∗ owns (c : Thread nD τ) scM0_1 fullShare s.next ∗ owns (c : Thread nD τ) scM0_2 fullShare s.acc)

/-- What holds after `n` points. -/
def PhiS (c : Dev nD) (n : ℕ) (_ : n ≤ cfg0.N) : sProp 𝕄 :=
  iprop((∃ s : St F, iprop(⌜Good m c n s⌝ ∗ Rest c s)) ∗ (∃ r, prngReg c r))

/-- The low-rank block of a row tile, once it is whole. -/
def outL (c : Dev nD) (t : ℕ) : Vec F S1408x128 .f32 := fun y => lrow m c (1408 * tile t + (y 0).val) (y 1)

/-- The proof data with every block named: each input's buffer at its block. Of the outputs only part of this holds at every point. -/
def named (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outO m c t.val
    | ⟨6, _⟩ => outL m c t.val
  Φ t := PhiS m c t.val (Nat.le_of_lt_succ t.isLt)
  q w := Pipeline.shareOf spec0 w
  owed _ := 0

/-- Of the product's block: from the seventh point on it is the last product, rounded. -/
def RelO (c : Dev nD) (t : Fin cfg0.N) (X : Vec F S1408x1024 .bf16) : Prop := 7 ≤ t.val → X = outO m c t.val

/-- What is said of the two outputs' blocks in place of naming them. -/
def said (c : Dev nD) : (w : Fin cfg0.W) → Option (Fin cfg0.N → (Y X : (cfg0.win w).block.Idx → Elt F (cfg0.win w).elt) → Prop)
  | ⟨0, _⟩ => none
  | ⟨1, _⟩ => none
  | ⟨2, _⟩ => none
  | ⟨3, _⟩ => none
  | ⟨4, _⟩ => none
  | ⟨5, _⟩ => some fun t _ X => RelO m c t X
  | ⟨6, _⟩ => some fun t _ X => LrGood m c t.val X

/-- The proof data. -/
def rdat (c : Dev nD) : RDat τ (Elt F) Unit ℕ (UR sig nD τ) ℕ cfg0 c := (named m c).toR.override (said m c)

theorem named_A (c : Dev nD) (w : Fin cfg0.W) : (named m c).A w = V m c (Pipeline.arrRef spec0 w) := by
  dsimp only [named]

theorem A_eq (c : Dev nD) (w : Fin cfg0.W) : (rdat m c).A w = V m c (Pipeline.arrRef spec0 w) := named_A m c w

theorem named_after0 (c : Dev nD) (t : Fin cfg0.N) : (named m c).after 0 t = iblk m c 0 t := by dsimp only [named]
theorem finds0 (c : Dev nD) (t : Fin cfg0.N) (X : Vec F S128x2048 .f32) (h : (rdat m c).Finds 0 t X) : X = blkX1 m c t := by
  obtain ⟨d, hd⟩ := (named m c).toR_finds 0 t X ((RDat.override_finds (named m c).toR (ovr := said m c) (w := 0) rfl t X).mp h)
  exact hd.trans (before0_0_of m (named m c) (named_A m c 0) (named_after0 m c) t d)
theorem kept0 (c : Dev nD) (t : Fin cfg0.N) (Y : (cfg0.win 0).block.Idx → Elt F (cfg0.win 0).elt) : (rdat m c).after 0 t Y (blkX1 m c t) := by
  show (named m c).Leaves 0 t (blkX1 m c t)
  exact (Dat.Leaves.live_iff _ (.inl rfl)).mpr (named_after0 m c t).symm
theorem named_after1 (c : Dev nD) (t : Fin cfg0.N) : (named m c).after 1 t = iblk m c 1 t := by dsimp only [named]
theorem finds1 (c : Dev nD) (t : Fin cfg0.N) (X : Vec F S128x2048 .f32) (h : (rdat m c).Finds 1 t X) : X = blkX2 m c t := by
  obtain ⟨d, hd⟩ := (named m c).toR_finds 1 t X ((RDat.override_finds (named m c).toR (ovr := said m c) (w := 1) rfl t X).mp h)
  exact hd.trans (before0_1_of m (named m c) (named_A m c 1) (named_after1 m c) t d)
theorem kept1 (c : Dev nD) (t : Fin cfg0.N) (Y : (cfg0.win 1).block.Idx → Elt F (cfg0.win 1).elt) : (rdat m c).after 1 t Y (blkX2 m c t) := by
  show (named m c).Leaves 1 t (blkX2 m c t)
  exact (Dat.Leaves.live_iff _ (.inl rfl)).mpr (named_after1 m c t).symm
theorem named_after2 (c : Dev nD) (t : Fin cfg0.N) : (named m c).after 2 t = iblk m c 2 t := by dsimp only [named]
theorem finds2 (c : Dev nD) (t : Fin cfg0.N) (X : Vec F S1x2048 .f32) (h : (rdat m c).Finds 2 t X) : X = blkP m c t := by
  obtain ⟨d, hd⟩ := (named m c).toR_finds 2 t X ((RDat.override_finds (named m c).toR (ovr := said m c) (w := 2) rfl t X).mp h)
  exact hd.trans (before0_2_of m (named m c) (named_A m c 2) (named_after2 m c) t d)
theorem kept2 (c : Dev nD) (t : Fin cfg0.N) (Y : (cfg0.win 2).block.Idx → Elt F (cfg0.win 2).elt) : (rdat m c).after 2 t Y (blkP m c t) := by
  show (named m c).Leaves 2 t (blkP m c t)
  exact (Dat.Leaves.live_iff _ (.inl rfl)).mpr (named_after2 m c t).symm
theorem named_after3 (c : Dev nD) (t : Fin cfg0.N) : (named m c).after 3 t = iblk m c 3 t := by dsimp only [named]
theorem finds3 (c : Dev nD) (t : Fin cfg0.N) (X : Vec F S1x1024x2048 .bf16) (h : (rdat m c).Finds 3 t X) : X = blkW m c t := by
  obtain ⟨d, hd⟩ := (named m c).toR_finds 3 t X ((RDat.override_finds (named m c).toR (ovr := said m c) (w := 3) rfl t X).mp h)
  exact hd.trans (before0_3_of m (named m c) (named_A m c 3) (named_after3 m c) t d)
theorem kept3 (c : Dev nD) (t : Fin cfg0.N) (Y : (cfg0.win 3).block.Idx → Elt F (cfg0.win 3).elt) : (rdat m c).after 3 t Y (blkW m c t) := by
  show (named m c).Leaves 3 t (blkW m c t)
  exact (Dat.Leaves.live_iff _ (.inl rfl)).mpr (named_after3 m c t).symm
theorem named_after4 (c : Dev nD) (t : Fin cfg0.N) : (named m c).after 4 t = iblk m c 4 t := by dsimp only [named]
theorem finds4 (c : Dev nD) (t : Fin cfg0.N) (X : Vec F S1x128x2048 .bf16) (h : (rdat m c).Finds 4 t X) : X = blkL m c t := by
  obtain ⟨d, hd⟩ := (named m c).toR_finds 4 t X ((RDat.override_finds (named m c).toR (ovr := said m c) (w := 4) rfl t X).mp h)
  exact hd.trans (before0_4_of m (named m c) (named_A m c 4) (named_after4 m c) t d)
theorem kept4 (c : Dev nD) (t : Fin cfg0.N) (Y : (cfg0.win 4).block.Idx → Elt F (cfg0.win 4).elt) : (rdat m c).after 4 t Y (blkL m c t) := by
  show (named m c).Leaves 4 t (blkL m c t)
  exact (Dat.Leaves.live_iff _ (.inl rfl)).mpr (named_after4 m c t).symm

/-- The low-rank block is neither fetched nor, inside a row tile, written back. -/
theorem fetch6 : ∀ t : Fin cfg0.N, (cfg0.win 6).fetch t = false := fun _ => rfl
theorem flush6 : ∀ t : Fin cfg0.N, t.val + 1 < 79 → (t.val + 1) % 6 ≠ 0 ∨ t.val + 1 = 78 → (cfg0.win 6).flush t = false :=
  (by decide +kernel : ∀ t : Fin grid0.N, t.val + 1 < 79 → (t.val + 1) % 6 ≠ 0 ∨ t.val + 1 = 78 → win0_6.flush t = false)

theorem finds6 (c : Dev nD) (t : Fin cfg0.N) (X : Vec F S1408x128 .f32) (h : (rdat m c).Finds 6 t X) (ht : t.val % 6 ≠ 0 ∨ t.val = 78) :
    LrGood m c (t.val - 1) X := by
  have h0 : t.val ≠ 0 := by omega
  rcases (RDat.finds_of_pos (rdat m c) (fetch6 t) h0 X).mp h with hf | ⟨Y, _, hX⟩
  · have hN : t.val < 79 := lt_of_lt_of_eq t.isLt (show cfg0.N = 79 from N_0)
    rw [flush6 _ (by show t.val - 1 + 1 < 79; omega) (by show (t.val - 1 + 1) % 6 ≠ 0 ∨ t.val - 1 + 1 = 78; omega)] at hf
    exact absurd hf Bool.false_ne_true
  · exact hX

/-- What the body is called with at a point, -/
def bodyPre (c : Dev nD) (t : Fin cfg0.N) (Y : (w : Fin cfg0.W) → (cfg0.win w).block.Idx → Elt F (cfg0.win w).elt) : sProp 𝕄 :=
  iprop((rdat m c).Φ t.castSucc ∗ (rdat m c).owesAt () t.castSucc
    ∗ owns (c : Thread nD τ) (st0_0 t) fullShare (Y 0)
    ∗ owns (c : Thread nD τ) (st0_1 t) fullShare (Y 1)
    ∗ owns (c : Thread nD τ) (st0_2 t) fullShare (Y 2)
    ∗ owns (c : Thread nD τ) (st0_3 t) fullShare (Y 3)
    ∗ owns (c : Thread nD τ) (st0_4 t) fullShare (Y 4)
    ∗ owns (c : Thread nD τ) (st0_5 t) fullShare (Y 5)
    ∗ owns (c : Thread nD τ) (st0_6 t) fullShare (Y 6))

/-- and what it returns. -/
def bodyPost (c : Dev nD) (t : Fin cfg0.N) (Y : (w : Fin cfg0.W) → (cfg0.win w).block.Idx → Elt F (cfg0.win w).elt) : sProp 𝕄 :=
  iprop((rdat m c).Φ t.succ ∗ (rdat m c).owesAt () t.succ
    ∗ (∃ X, ⌜(rdat m c).after 0 t (Y 0) X⌝ ∗ owns (c : Thread nD τ) (st0_0 t) fullShare X)
    ∗ (∃ X, ⌜(rdat m c).after 1 t (Y 1) X⌝ ∗ owns (c : Thread nD τ) (st0_1 t) fullShare X)
    ∗ (∃ X, ⌜(rdat m c).after 2 t (Y 2) X⌝ ∗ owns (c : Thread nD τ) (st0_2 t) fullShare X)
    ∗ (∃ X, ⌜(rdat m c).after 3 t (Y 3) X⌝ ∗ owns (c : Thread nD τ) (st0_3 t) fullShare X)
    ∗ (∃ X, ⌜(rdat m c).after 4 t (Y 4) X⌝ ∗ owns (c : Thread nD τ) (st0_4 t) fullShare X)
    ∗ (∃ X, ⌜(rdat m c).after 5 t (Y 5) X⌝ ∗ owns (c : Thread nD τ) (st0_5 t) fullShare X)
    ∗ (∃ X, ⌜(rdat m c).after 6 t (Y 6) X⌝ ∗ owns (c : Thread nD τ) (st0_6 t) fullShare X))

theorem PhiS_castSucc (c : Dev nD) (t : Fin cfg0.N) :
    (rdat m c).Φ t.castSucc = PhiS m c t.val (Nat.le_of_lt t.isLt) := by
  show (named m c).Φ t.castSucc = _
  dsimp only [named]; exact Pipeline.Dat.Φ_castSucc (PhiS m c) t

/-- The body at any point. -/
theorem sound_body (c : Dev nD) (t : Fin cfg0.N) (Y : (w : Fin cfg0.W) → (cfg0.win w).block.Idx → Elt F (cfg0.win w).elt) (hY : ∀ w, (rdat m c).Finds w t (Y w)) :
    bodyPre m c t Y ⊢ wp frame (wpE (defs₀ (F := F)) Variants.none c none) Set.univ (bodyAt0 t) (fun _ => bodyPost m c t Y) := by
  have e0 : Y 0 = blkX1 m c t := finds0 m c t _ (hY 0)
  have e1 : Y 1 = blkX2 m c t := finds1 m c t _ (hY 1)
  have e2 : Y 2 = blkP m c t := finds2 m c t _ (hY 2)
  have e3 : Y 3 = blkW m c t := finds3 m c t _ (hY 3)
  have e4 : Y 4 = blkL m c t := finds4 m c t _ (hY 4)
  have h6 := finds6 m c t _ (hY 6)
  unfold bodyPre bodyPost bodyAt0
  rw [e0, e1, e2, e3, e4]
  rw [show (rdat m c).owesAt () t.succ = (rdat m c).owesAt () t.castSucc from rfl, PhiS_castSucc]
  rw [show (rdat m c).Φ t.succ = PhiS m c (t.val + 1) t.isLt from rfl]
  unfold PhiS Rest
  iintro ⟨⟨⟨%s, %hs, H0, H1, H2⟩, Hg⟩, Ho, A0, A1, A2, A3, A4, A5, A6⟩
  have hstep := good_step m c t { s with o := Y 5, lr := Y 6 } hs h6
  iapply (wp_wand_r (Q := fun _ => Held c _ _ _ _ _ _ _ _ _ _ (blkX1 m c t) (blkX2 m c t) (blkP m c t) (blkW m c t) (blkL m c t) (stepAt m c t { s with o := Y 5, lr := Y 6 })) frame (wpE (defs₀ (F := F)) Variants.none c none))
  isplitl [A0 A1 A2 A3 A4 A5 A6 H0 H1 H2]
  · iapply (body_triple c (grid0.coords t) _ _ _ _ _ _ _ _ _ _ _ _ _ _ _ _ _ _ _ _ (blkX1 m c t) (blkX2 m c t) (blkP m c t) (blkW m c t) (blkL m c t) Set.univ { s with o := Y 5, lr := Y 6 })
    unfold Held
    isplitl [A0]; · iexact A0
    isplitl [A1]; · iexact A1
    isplitl [A2]; · iexact A2
    isplitl [A3]; · iexact A3
    isplitl [A4]; · iexact A4
    isplitl [A5]; · iexact A5
    isplitl [A6]; · iexact A6
    iframe H0 H1 H2
  · generalize stepAt m c t _ = s' at hstep ⊢
    iintro %_ HH
    unfold Held
    icases HH with ⟨A0, A1, A2, A3, A4, A5, A6, H0, H1, H2⟩
    isplitl [Hg H0 H1 H2]
    · isplitr [Hg]
      · iexists s'
        isplitr
        · ipureintro; exact hstep.1
        · iframe H0 H1 H2
      · iexact Hg
    isplitl [Ho]; · iexact Ho
    isplitl [A0]
    · iexists (blkX1 m c t)
      isplitr
      · ipureintro; exact kept0 m c t _
      · iexact A0
    isplitl [A1]
    · iexists (blkX2 m c t)
      isplitr
      · ipureintro; exact kept1 m c t _
      · iexact A1
    isplitl [A2]
    · iexists (blkP m c t)
      isplitr
      · ipureintro; exact kept2 m c t _
      · iexact A2
    isplitl [A3]
    · iexists (blkW m c t)
      isplitr
      · ipureintro; exact kept3 m c t _
      · iexact A3
    isplitl [A4]
    · iexists (blkL m c t)
      isplitr
      · ipureintro; exact kept4 m c t _
      · iexact A4
    isplitl [A5]
    · iexists s'.o
      isplitr
      · ipureintro; exact hstep.2.1
      · iexact A5
    iexists s'.lr
    isplitr
    · ipureintro; exact hstep.2.2
    · iexact A6

theorem defs₀_row (t : Fin cfg0.N) :
    defs₀ (F := F) .tc cfg0.body (cfg0.bodyArgs t (cfg0.slots t)) = bodyAt0 t := by
  unfold defs₀; rw [Defs.onTc_tc]

theorem body_obligation (c : Dev nD) : (rdat (F := F) m c).BodyObligation (defs₀ (F := F)) Variants.none () Set.univ := fun t Y hY => by
  rw [bigSep_W0, bigSep_W0, defs₀_row]
  exact sound_body m c t Y hY

theorem hin (c : Dev nD) : Pipeline.ΦA spec0 c ⊢ (rdat m c).Φ 0 := by
  rw [show (rdat m c).Φ 0 = PhiS m c 0 (Nat.zero_le _) from rfl, PhiA0_eq]
  unfold PhiS Rest
  iintro ⟨⟨⟨%d0, H0⟩, ⟨%d1, H1⟩, ⟨%d2, H2⟩⟩, Hg⟩
  isplitr [Hg]
  · iexists (⟨outO m c 0, outL m c 0, d0, d1, d2⟩ : St F)
    isplitr
    · ipureintro
      exact fun p hp _ => absurd hp (Nat.succ_ne_zero _)
    · iframe H0 H1 H2
  · iexact Hg

theorem hout (c : Dev nD) : (rdat m c).Φ (Fin.last cfg0.N) ⊢ Pipeline.ΦA spec0 c := by
  rw [show (rdat m c).Φ (Fin.last cfg0.N) = PhiS m c cfg0.N le_rfl from rfl, PhiA0_eq]
  unfold PhiS Rest
  iintro ⟨⟨%s, -, H0, H1, H2⟩, Hg⟩
  iframe Hg
  isplitl [H0]
  · iexists _; iexact H0
  isplitl [H1]
  · iexists _; iexact H1
  iexists _; iexact H2

set_option backward.isDefEq.respectTransparency.types false in
/-- The run: every array at what the points may have written back to it, every counter at zero. -/
theorem run_main_quiescent : θ_run defs (onTc (τ := τ) (main (F := F))) (s₀ m ρ) (fun r => (RDat.FramePost cfg0 (rdat m) (V m)) r ∧ r.2.sem = fun _ => 0) :=
  Pipeline.RDat.θ_run_frame_track_shared (Q' := _) cfgs (0 : Fin 1) launch₀0 defs₀ Variants.none (rdat m) m ρ main
    (hbody := body_obligation m) (hq := fun _ _ _ => rfl)
    (howed := fun _ _ => rfl) (V := V m) (hmain := hmain m Variants.none) (hA := A_eq m) (hin := hin m) (hout := hout m)

/-- The arguments end unchanged, and every counter at zero. -/
theorem frame_quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨
      (RDat.FramePost.arr_in h.1 c 1 rfl).trans ((A_eq m c 1).trans (V_main_arg0 m c)),
      ((h.1 c).2 main_arg1 (Pipeline.mem_restRefs_of main_arg1 (by decide) (by decide))).trans (V_main_arg1 m c),
      (RDat.FramePost.arr_in h.1 c 3 rfl).trans ((A_eq m c 3).trans (V_main_arg2 m c)),
      (RDat.FramePost.arr_in h.1 c 4 rfl).trans ((A_eq m c 4).trans (V_main_arg3 m c))⟩, h.2⟩) (run_main_quiescent m ρ)

end Cert.Kernel3Ideal.Body

end
-- ==== Proof.InSame.lean ====
module

public import proofs.«01_k».proof.Proof.Gen.Kernel3.Frame
public import proofs.«01_k».proof.Proof.InLaunched

/-! The in-projection's kernel and its idealisation are one program text: the frame of the one is the frame of the other. -/

@[expose] public section

set_option maxRecDepth 65536

noncomputable section

namespace Cert.Kernel3Ideal.Body

open Idealize.ShloMosaic Idealize.SL.Sem

variable {F : FTy → Type} [FloatOps F]

theorem same_bodies : (Cert.Kernel3Ideal.defs₀ (F := F)) = (Cert.Kernel3.defs₀ (F := F)) := by
  unfold Cert.Kernel3Ideal.defs₀ Cert.Kernel3.defs₀
  refine congrArg (Defs.onTc (sig := Cert.Kernel3.sig)) ?_
  funext x y
  match x, y with
  | ⟨0, _⟩, (t, s) => rfl
  | ⟨_ + 1, h⟩, _ => exact absurd h (Nat.not_lt.2 (Nat.le_add_left _ _))

theorem same_defs : (Cert.Kernel3Ideal.defs (F := F)) = (Cert.Kernel3.defs (F := F)) := by
  unfold Cert.Kernel3Ideal.defs Cert.Kernel3.defs
  exact congrArg (Idealize.ShloMosaic.Pipeline.defs Cert.Kernel3.pcfgs) same_bodies

theorem same_main : (Cert.Kernel3Ideal.main (F := F)) = (Cert.Kernel3.main (F := F)) := rfl

/-- The kernel's arguments end unchanged, and every counter at zero. -/
theorem frame_kernel (m : (ℓ : Loc Cert.Kernel3.nD Cert.Kernel3.τ Cert.Kernel3.sig) → Buf (Elt F) ℓ) (ρ : Dev Cert.Kernel3.nD → PrngReg) :
    θ_run (Cert.Kernel3.defs (F := F)) (onTc (τ := Cert.Kernel3.τ) (Cert.Kernel3.main (F := F))) ⟨m, fun _ => 0, ρ⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0) := by
  rw [← same_defs, ← same_main]
  exact frame_quiescent m ρ

end Cert.Kernel3Ideal.Body

end
-- ==== Proof.InReference.lean ====
module

public import proofs.«01_k».proof.Proof.InProject
public import proofs.«01_k».proof.Proof.Gen.Reference3Ideal.Run

/-! What the reference of the in-projection returns. -/

@[expose] public section

set_option maxRecDepth 65536

noncomputable section

namespace Cert.Reference3Ideal.Value

open Idealize.ShloMosaic Idealize.ShloMosaic.TcCoe Idealize.ShloMosaic.Tactic Idealize.SL.Sem

open Cert.Reference3Ideal Cert.Reference3Ideal.Gen

variable {F : FTy → Type} [FloatOps F]

def rows (h : Vec F S16896x2048 .f32) (p : Vec F S2048 .f32) : Vec F S16896x2048 .f32 :=
  mulf (mulf h (broadcastInDim S16896x2048 ![0, 1] bcast_S16896x1_S16896x2048_0_1 (Host.rsqrt (addf (Host.divf (broadcastInDim S16896x1 ![0] bcast_S16896_S16896x1_0
      (Host.reduceAdd (mulf h h) (constant S_ .f32 0x00000000#32) reducesTo_S16896x2048_S16896_d1 h_S_)) (broadcastInDim S16896x1 ![] bcast_S_S16896x1 (constant S_ .f32 0x45000000#32)))
      (broadcastInDim S16896x1 ![] bcast_S_S16896x1 (constant S_ .f32 0x358637BD#32))))))
    (broadcastInDim S16896x2048 ![0, 1] bcast_S1x2048_S16896x2048_0_1 (broadcastInDim S1x2048 ![1] bcast_S2048_S1x2048_1 p))

def times (n : Vec F S16896x2048 .f32) (w : Vec F S2x6144x2048 .bf16) : Vec F S16896x6144 .bf16 :=
  truncf .bf16 (Host.dotGeneral dot_S16896x2048_S2048x6144_S16896x6144_1_0_0_1_n_n none n
    (transpose S2048x6144 [1, 0] (extf .f32 (shapeCast _ (extractStridedSlice S1x6144x2048 ![0, 0, 0] w slices_S2x6144x2048_S1x6144x2048_0_0_0) shapeCasts_S1x6144x2048_S6144x2048) bitsLt_bf16_f32) transposes_S6144x2048_S2048x6144_1_0)) bitsLt_bf16_f32

def timesLow (n : Vec F S16896x2048 .f32) (l : Vec F S2x128x2048 .bf16) : Vec F S16896x128 .f32 :=
  Host.dotGeneral dot_S16896x2048_S2048x128_S16896x128_1_0_0_1_n_n none n
    (transpose S2048x128 [1, 0] (extf .f32 (shapeCast _ (extractStridedSlice S1x128x2048 ![0, 0, 0] l slices_S2x128x2048_S1x128x2048_0_0_0) shapeCasts_S1x128x2048_S128x2048) bitsLt_bf16_f32) transposes_S128x2048_S2048x128_1_0)

theorem rows_at (h : Vec Ideal S16896x2048 .f32) (p : Vec Ideal S2048 .f32) (R : Fin 16896) (k : Fin 2048) :
    rows h p (ix2 R k) = Project.normed h p R k := by
  unfold Project.normed Residual.inverseRms
  pointwise [rows]

theorem times_at (n : Vec Ideal S16896x2048 .f32) (w : Vec Ideal S2x6144x2048 .bf16) (R : Fin 16896) (C : Fin 6144) :
    times n w (ix2 R C) = ∑ d : Fin 2048, (n (ix2 R d) : EReal) * w (ix3 0 C d) := by
  pointwise [times]

theorem timesLow_at (n : Vec Ideal S16896x2048 .f32) (l : Vec Ideal S2x128x2048 .bf16) (R : Fin 16896) (C : Fin 128) :
    timesLow n l (ix2 R C) = ∑ d : Fin 2048, (n (ix2 R d) : EReal) * l (ix3 0 C d) := by
  pointwise [timesLow]

theorem product_eq (h : Vec Ideal S16896x2048 .f32) (p : Vec Ideal S2048 .f32) (w : Vec Ideal S2x6144x2048 .bf16) :
    times (rows h p) w = Project.product h p w := by
  funext y
  idx_vars y
  rw [times_at, Project.product_at]
  simp only [rows_at]

theorem lowRank_eq (h : Vec Ideal S16896x2048 .f32) (p : Vec Ideal S2048 .f32) (l : Vec Ideal S2x128x2048 .bf16) :
    timesLow (rows h p) l = Project.lowRank h p l := by
  funext y
  idx_vars y
  rw [timesLow_at, Project.lowRank_at]
  simp only [rows_at]

/-- The run of the reference. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v18) = Project.product (m ((c.tc : Thread nD τ).loc main_arg0)) (m ((c.tc : Thread nD τ).loc main_arg1)) (m ((c.tc : Thread nD τ).loc main_arg2))
      ∧ r.2.mem ((c.tc : Thread nD τ).loc main_v23) = Project.lowRank (m ((c.tc : Thread nD τ).loc main_arg0)) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (product_eq _ _ _), (h c).2.1.trans (lowRank_eq _ _ _), (h c).2.2⟩) (run (F := Ideal) m ρ)

end Cert.Reference3Ideal.Value

end
-- ==== Proof.InOutput.lean ====
module

public import proofs.«01_k».proof.Proof.InProject
public import proofs.«01_k».proof.Proof.InLaunched
public import Idealize.ShloMosaic.Lib.Pipeline.ValueKit

/-! What the in-projection's kernel leaves in its two results. -/

@[expose] public section

set_option maxRecDepth 65536

noncomputable section

namespace Cert.Kernel3Ideal.Body

open Idealize.ShloMosaic Idealize.ShloMosaic.TcCoe Idealize.ShloMosaic.Tactic Idealize.SL.Sem
open Idealize.ShloMosaic.Pipeline (Dat RDat)
open Cert.Kernel3Ideal Cert.Kernel3Ideal.Gen

theorem normRows_at (x : Vec Ideal S128x2048 .f32) (pw : Vec Ideal S1x2048 .f32) (r : Fin 128) (k : Fin 2048) :
    normRows x pw (ix2 r k) = (x (ix2 r k) : EReal) * Residual.inverseRms (fun d => x (ix2 r d)) * pw (ix2 0 k) := by
  unfold Residual.inverseRms
  pointwise [normRows]

theorem lrOf_at (n : Vec Ideal S128x2048 .bf16) (wl : Vec Ideal S1x128x2048 .bf16) (r : Fin 128) (C : Fin 128) :
    lrOf n wl (ix2 r C) = ∑ d : Fin 2048, (n (ix2 r d) : EReal) * wl (ix3 0 C d) := by
  pointwise [lrOf]

theorem prodOf_at (n : Vec Ideal S1408x2048 .bf16) (w : Vec Ideal S1x1024x2048 .bf16) (r : Fin 1408) (C : Fin 1024) :
    rounded (prodOf n w) (ix2 r C) = ∑ d : Fin 2048, (n (ix2 r d) : EReal) * w (ix3 0 C d) := by
  pointwise [rounded, prodOf]

theorem gain_at {e : EltTy} (a : Vec Ideal S2048 e) (C : Fin 2048) :
    shapeCast S1x2048 a shapeCasts_S2048_S1x2048 (ix2 0 C) = a (ix1 C) := by
  pointwise []

variable (m : (ℓ : Loc nD τ sig) → Buf (Elt Ideal) ℓ) (c : Dev nD)

theorem V_v0 : V m c main_v0 = shapeCast _ (m ((c.tc : Thread nD τ).loc main_arg1)) shapeCasts_S2048_S1x2048 := by
  unfold V; simp only [hostOps0]; after_results <;> rfl

theorem scale_at (k : Fin 2048) : scale m c (ix2 0 k) = m ((c.tc : Thread nD τ).loc main_arg1) (ix1 k) := by
  unfold scale
  rw [V_v0]
  exact gain_at _ k

theorem chunk_at (R : Fin 16896) (k : Fin 2048) :
    chunk m c (R.val / 128) (ix2 ⟨R.val % 128, Nat.mod_lt _ (by decide)⟩ k) = m ((c.tc : Thread nD τ).loc main_arg0) (ix2 R k) := by
  unfold chunk
  rw [V_main_arg0]
  refine congrArg _ ?_
  funext a
  apply Fin.ext
  match a with
  | ⟨0, _⟩ =>
    show (128 * (R.val / 128) + R.val % 128) % 16896 = R.val
    omega
  | ⟨1, _⟩ => rfl

/-- A normalised row is the mathematics'. -/
theorem nrow_at (R : Fin 16896) (k : Fin 2048) :
    nrow m c R.val k = Project.normed (m ((c.tc : Thread nD τ).loc main_arg0)) (m ((c.tc : Thread nD τ).loc main_arg1)) R k := by
  unfold nrow Project.normed
  rw [normRows_at, scale_at]
  simp only [chunk_at]

theorem lrow_at (R : Fin 16896) (C : Fin 128) :
    lrow m c R.val C = Project.lowRank (m ((c.tc : Thread nD τ).loc main_arg0)) (m ((c.tc : Thread nD τ).loc main_arg1)) (m ((c.tc : Thread nD τ).loc main_arg3)) (ix2 R C) := by
  unfold lrow
  rw [lrOf_at, Project.lowRank_at]
  refine Finset.sum_congr rfl fun d _ => congrArg₂ (fun z z' : EReal => z * z') (nrow_at m c R d) ?_
  unfold wlr
  rw [V_main_arg3]
  rfl

/-- A point's product block, entry by entry. -/
theorem outO_at (t : ℕ) (r : Fin 1408) (C : Fin 1024) (R : Fin 16896) (D : Fin 6144)
    (hR : R.val = 1408 * ((t - 1) / 6 - 1) + r.val) (hD : D.val = 1024 * ((t - 1) % 6) + C.val) :
    outO m c t (ix2 r C) = Project.product (m ((c.tc : Thread nD τ).loc main_arg0)) (m ((c.tc : Thread nD τ).loc main_arg1)) (m ((c.tc : Thread nD τ).loc main_arg2)) (ix2 R D) := by
  unfold outO
  rw [prodOf_at, Project.product_at]
  refine Finset.sum_congr rfl fun d _ => congrArg₂ (fun z z' : EReal => z * z') ?_ ?_
  · rw [← nrow_at, hR]
    rfl
  · unfold wcol
    rw [V_main_arg2]
    refine congrArg _ ?_
    funext a
    apply Fin.ext
    match a with
    | ⟨0, _⟩ => rfl
    | ⟨1, _⟩ =>
      show (1024 * ((t - 1) % 6) + C.val) % 6144 = D.val
      omega
    | ⟨2, _⟩ => rfl

/-- When the blocks are written back. -/
theorem flushed5 : ∀ t : Fin cfg0.N, (cfg0.win 5).flush t = true → 7 ≤ t.val := by decide +kernel
theorem flushed6 : ∀ t : Fin cfg0.N, (cfg0.win 6).flush t = true → t.val = 78 ∨ t.val % 6 = 5 := by decide +kernel

variable (after : (w : Fin cfg0.W) → Fin cfg0.N → (cfg0.win w).block.Idx → Elt Ideal (cfg0.win w).elt)
  (hL : ∀ (w : Fin cfg0.W) (u : Fin cfg0.N), (cfg0.win w).flush u = true → (rdat m c).Leaves w u (after w u))

include hL in
theorem after5 (t : Fin cfg0.N) (hfl : (cfg0.win 5).flush t = true) : after 5 t = outO m c t.val := by
  obtain ⟨_, _, h⟩ := hL 5 t hfl
  exact h (flushed5 t hfl)

include hL in
theorem after6 (t : Fin cfg0.N) (hfl : (cfg0.win 6).flush t = true) : LrGood m c t.val (after 6 t) := by
  obtain ⟨_, _, h⟩ := hL 6 t hfl
  exact h

include hL in
/-- The first result's array. -/
theorem final5 : ((rdat m c).withAfter after).arrAt 5 cfg0.N = Project.product (m ((c.tc : Thread nD τ).loc main_arg0)) (m ((c.tc : Thread nD τ).loc main_arg1)) (m ((c.tc : Thread nD τ).loc main_arg2)) := by
  refine ((rdat m c).withAfter after).arrAt_eq_of_covers 5 _ (by decide +kernel) fun t hfl y => ?_
  have ht := flushed5 t hfl
  blk_simp
  rw [RDat.withAfter_after, after5 m c after hL t hfl]
  have hy : (ix2 (y 0) (y 1) : S1408x1024.Idx) = y := by
    funext a
    match a with
    | ⟨0, _⟩ => rfl
    | ⟨1, _⟩ => rfl
  refine (congrArg (outO m c t.val) hy.symm).trans ((outO_at m c t.val (y 0) (y 1) _ _ ?_ ?_).trans (congrArg _ (ix2_eta _)))
  · show win0_5.index t 0 * 1408 + 1 * (y 0).val = _
    rw [index5 t ht]
    show ((t.val - 1) / 6 - 1) * 1408 + 1 * (y 0).val = _
    omega
  · show win0_5.index t 1 * 1024 + 1 * (y 1).val = _
    rw [index5 t ht]
    show (t.val - 1) % 6 * 1024 + 1 * (y 1).val = _
    omega

include hL in
/-- The second result's array. -/
theorem final6 : ((rdat m c).withAfter after).arrAt 6 cfg0.N = Project.lowRank (m ((c.tc : Thread nD τ).loc main_arg0)) (m ((c.tc : Thread nD τ).loc main_arg1)) (m ((c.tc : Thread nD τ).loc main_arg3)) := by
  refine ((rdat m c).withAfter after).arrAt_eq_of_covers 6 _ (by decide +kernel) fun t hfl y => ?_
  have ht := flushed6 t hfl
  blk_simp
  rw [RDat.withAfter_after]
  have hy : (y 0).val < 1408 := (y 0).isLt
  refine (after6 m c after hL t hfl y ?_).trans ?_
  · rcases ht with h | h
    · exact .inl h
    · right; omega
  have hR : (((cfg0.win 6).blk t).view.emb y 0).val = 1408 * tile t.val + (y 0).val := by
    show win0_6.index t 0 * 1408 + 1 * (y 0).val = _
    rw [index6]
    show tile t.val * 1408 + 1 * (y 0).val = _
    omega
  rw [← hR]
  refine (lrow_at m c _ _).trans (congrArg _ ?_)
  funext a
  apply Fin.ext
  match a with
  | ⟨0, _⟩ => rfl
  | ⟨1, _⟩ =>
    show (y 1).val = win0_6.index t 1 * 128 + 1 * (y 1).val
    rw [index6]
    show _ = 0 * 128 + 1 * (y 1).val
    omega

/-- The run of the kernel. -/
theorem run_result (ρ : Dev nD → PrngReg) :
    θ_run defs (onTc (τ := τ) (main (F := Ideal))) ⟨m, fun _ => 0, ρ⟩ fun r => ∀ c : Dev nD,
      r.2.mem ((c.tc : Thread nD τ).loc main_v1_0) = Project.product (m ((c.tc : Thread nD τ).loc main_arg0)) (m ((c.tc : Thread nD τ).loc main_arg1)) (m ((c.tc : Thread nD τ).loc main_arg2))
      ∧ r.2.mem ((c.tc : Thread nD τ).loc main_v1_1) = Project.lowRank (m ((c.tc : Thread nD τ).loc main_arg0)) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => by
    obtain ⟨after, hL, hA⟩ := RDat.FramePost.exists_exact h.1.1 c
    exact ⟨(hA 5).trans (final5 m c after hL), (hA 6).trans (final6 m c after hL), h.2.1 c⟩)
    (θ_run_and (run_main_quiescent m ρ) (frame_quiescent m ρ))

end Cert.Kernel3Ideal.Body

end
-- ==== Proof.lean ====
/- The proof of the certificate's claims. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Same
public import proofs.«01_k».proof.Proof.Reference
public import proofs.«01_k».proof.Proof.Output
public import proofs.«01_k».proof.Proof.Finite
public import proofs.«01_k».proof.Proof.Gen.Kernel2.Frame
public import proofs.«01_k».proof.Proof.ResidualKernel
public import proofs.«01_k».proof.Proof.ResidualReference
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.RopeSame
public import proofs.«01_k».proof.Proof.RopeReference
public import proofs.«01_k».proof.Proof.RopeOutput
public import proofs.«01_k».proof.Proof.InSame
public import proofs.«01_k».proof.Proof.InReference
public import proofs.«01_k».proof.Proof.InOutput

@[expose] public section

noncomputable section

namespace Cert.Proof

open Idealize.ShloMosaic Idealize.SL.Sem

/-- The kernel's frame: `quiescent_Kernel`. -/
theorem frame_p : Cert.quiescent_Kernel := fun m g _ => Cert.KernelIdeal.Body.frame_kernel m g

/-- The idealised kernel's frame. -/
theorem frame_pi : Cert.quiescent_KernelIdeal := fun m g _ => Cert.KernelIdeal.Body.frame_quiescent m g

/-- The idealised reference's frame: it declares no semaphore. -/
theorem frame_ri : Cert.quiescent_ReferenceIdeal := fun m g _ =>
  (θ_run Cert.ReferenceIdeal.defs _ _).mono
    (fun r h => ⟨fun c => ⟨(h c).2.1, (h c).2.2⟩, sem_eq_zero_of_no_sems (by decide) r.2⟩)
    (Cert.ReferenceIdeal.Value.run (F := Ideal) m g)

/-- The idealised kernel's run: the attention of its projection, and its arguments unchanged. -/
theorem run_pi (m : (ℓ : Loc Cert.KernelIdeal.nD Cert.KernelIdeal.τ Cert.KernelIdeal.sig) → Buf (Elt Ideal) ℓ) (g : Dev Cert.KernelIdeal.nD → PrngReg)
    (hf : ∀ c : Dev Cert.KernelIdeal.nD, Cert.Softmax.Finite (m ((c.tc : Thread Cert.KernelIdeal.nD Cert.KernelIdeal.τ).loc Cert.KernelIdeal.main_arg0))) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v0)
        = Cert.KernelIdeal.Body.result (m ((c.tc : Thread Cert.KernelIdeal.nD Cert.KernelIdeal.τ).loc Cert.KernelIdeal.main_arg0))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) :=
  (θ_run Cert.KernelIdeal.defs _ _).mono (fun r h c => ⟨(h.1.out_eq c 5).trans (Cert.KernelIdeal.Body.final m c (hf c)), h.2.1 c⟩)
    (θ_run_and (Cert.KernelIdeal.Body.run_main m g) (Cert.KernelIdeal.Body.frame_quiescent m g))

/-- The idealised reference's result is the same function of its projection. -/
theorem result_ri (m : (ℓ : Loc Cert.ReferenceIdeal.nD Cert.ReferenceIdeal.τ Cert.ReferenceIdeal.sig) → Buf (Elt Ideal) ℓ) (c : Dev Cert.ReferenceIdeal.nD)
    (hf : Cert.Softmax.Finite (m ((c.tc : Thread Cert.ReferenceIdeal.nD Cert.ReferenceIdeal.τ).loc Cert.ReferenceIdeal.main_arg0))) :
    Cert.ReferenceIdeal.Value.res_main_v33 (F := Ideal) m c
      = Cert.KernelIdeal.Body.result (m ((c.tc : Thread Cert.ReferenceIdeal.nD Cert.ReferenceIdeal.τ).loc Cert.ReferenceIdeal.main_arg0)) := by
  funext y
  have hy : (Idealize.ShloMosaic.ix2 (y 0) (y 1) : Cert.ReferenceIdeal.S16896x2048.Idx) = y := by
    funext a
    match a with
    | ⟨0, _⟩ => rfl
    | ⟨1, _⟩ => rfl
  exact (congrArg (Cert.ReferenceIdeal.Value.res_main_v33 (F := Ideal) m c) hy.symm).trans (Cert.ReferenceIdeal.Value.result_at m c hf (y 0) (y 1))

/-- The kernel and the reference compute the same extended reals. -/
theorem algebraic (hp : Cert.Pre_finite_queries_and_keys.Facts) :
    Cert.algebraic_KernelIdeal_ReferenceIdeal_pre_finite_queries_and_keys := fun m g m' g' hpre hag => by
  have hf := fun c => Cert.Softmax.finite_of_pre hp _ _ (hpre c)
  refine ⟨fun c => Cert.KernelIdeal.Body.result (m ((c.tc : Thread Cert.KernelIdeal.nD Cert.KernelIdeal.τ).loc Cert.KernelIdeal.main_arg0)), run_pi m g hf, ?_⟩
  refine (θ_run Cert.ReferenceIdeal.defs _ _).mono (fun r h c => ?_) (Cert.ReferenceIdeal.Value.run (F := Ideal) m' g')
  have hf' : Cert.Softmax.Finite (m' ((c.tc : Thread Cert.ReferenceIdeal.nD Cert.ReferenceIdeal.τ).loc Cert.ReferenceIdeal.main_arg0)) := by
    rw [(hag c).1]; exact hf c
  refine ⟨(h c).1.trans ((result_ri m' c hf').trans ?_), (h c).2⟩
  rw [(hag c).1]

/-- The output projection's kernel: its frame. -/
theorem frame_p2 : Cert.quiescent_Kernel2 := fun m g _ => Cert.Kernel2.Gen.frame m g
theorem frame_pi2 : Cert.quiescent_Kernel2Ideal := fun m g _ => Cert.Kernel2Ideal.Gen.frame m g

/-- The output projection's reference: its frame. -/
theorem frame_ri2 : Cert.quiescent_Reference2Ideal := fun m g _ =>
  (θ_run Cert.Reference2Ideal.defs _ _).mono
    (fun r h => ⟨fun c => (h c).2, sem_eq_zero_of_no_sems (by decide) r.2⟩)
    (Cert.Reference2Ideal.Value.run (F := Ideal) m g)

/-- The output projection and its reference compute the same extended reals. -/
theorem algebraic2 : Cert.algebraic_Kernel2Ideal_Reference2Ideal := fun m g m' g' _ hag => by
  refine ⟨fun c => _, Cert.Kernel2Ideal.Value.run_result m g, ?_⟩
  refine (θ_run Cert.Reference2Ideal.defs _ _).mono (fun r h c => ⟨(h c).1.trans ?_, (h c).2⟩) (Cert.Reference2Ideal.Value.run_result m' g')
  rw [(hag c).1, (hag c).2.1, (hag c).2.2.1, (hag c).2.2.2]

/-- The in-projection's kernel: its frame. -/
theorem frame_p3 : Cert.quiescent_Kernel3 := fun m g _ => Cert.Kernel3Ideal.Body.frame_kernel m g
theorem frame_pi3 : Cert.quiescent_Kernel3Ideal := fun m g _ => Cert.Kernel3Ideal.Body.frame_quiescent m g

/-- The in-projection's reference: its frame. -/
theorem frame_ri3 : Cert.quiescent_Reference3Ideal := fun m g _ =>
  (θ_run Cert.Reference3Ideal.defs _ _).mono
    (fun r h => ⟨fun c => (h c).2.2, sem_eq_zero_of_no_sems (by decide) r.2⟩)
    (Cert.Reference3Ideal.Value.run (F := Ideal) m g)

/-- The in-projection and its reference compute the same extended reals, in both results. -/
theorem algebraic3 : Cert.algebraic_Kernel3Ideal_Reference3Ideal := fun m g m' g' _ hag => by
  refine ⟨fun c => _, fun c => _, Cert.Kernel3Ideal.Body.run_result m g, ?_⟩
  refine (θ_run Cert.Reference3Ideal.defs _ _).mono (fun r h c => ⟨(h c).1.trans ?_, (h c).2.1.trans ?_, (h c).2.2⟩) (Cert.Reference3Ideal.Value.run_result m' g')
  · rw [(hag c).1, (hag c).2.1, (hag c).2.2.1]
  · rw [(hag c).1, (hag c).2.1, (hag c).2.2.2]

/-- The attention in-projection's kernel: its frame. -/
theorem frame_p4 : Cert.quiescent_Kernel4 := fun m g _ => Cert.Kernel4Ideal.Body.frame_kernel m g
theorem frame_pi4 : Cert.quiescent_Kernel4Ideal := fun m g _ => Cert.Kernel4Ideal.Body.frame_quiescent m g

/-- The attention in-projection's reference: its frame. -/
theorem frame_ri4 : Cert.quiescent_Reference4Ideal := fun m g _ =>
  (θ_run Cert.Reference4Ideal.defs _ _).mono
    (fun r h => ⟨fun c => (h c).2, sem_eq_zero_of_no_sems (by decide) r.2⟩)
    (Cert.Reference4Ideal.Value.run (F := Ideal) m g)

/-- The attention in-projection and its reference compute the same extended reals. -/
theorem algebraic4 : Cert.algebraic_Kernel4Ideal_Reference4Ideal := fun m g m' g' _ hag => by
  refine ⟨fun c => _, Cert.Kernel4Ideal.Body.run_result m g, ?_⟩
  refine (θ_run Cert.Reference4Ideal.defs _ _).mono (fun r h c => ⟨(h c).1.trans ?_, (h c).2⟩) (Cert.Reference4Ideal.Value.run_result m' g')
  rw [(hag c).1, (hag c).2.1, (hag c).2.2.1, (hag c).2.2.2.1, (hag c).2.2.2.2.1, (hag c).2.2.2.2.2]

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Softmax.pre_facts,
  frame_p, frame_pi, fun m g _ => frame_pi m g trivial, frame_ri, fun m g _ => frame_ri m g trivial, frame_p2, frame_pi2, frame_ri2,
  frame_p3, frame_pi3, frame_ri3, frame_p4, frame_pi4, frame_ri4, trivial, algebraic Cert.Softmax.pre_facts, trivial, algebraic2, trivial, algebraic3, trivial, algebraic4⟩

end Cert.Proof

end
